-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_EvenQkv (m : (ℓ : Loc Cert.EvenQkv.nD Cert.EvenQkv.τ Cert.EvenQkv.sig) → Buf (Elt Bits) ℓ) : Prop :=
  True

def Pre_EvenQkvIdeal (m : (ℓ : Loc Cert.EvenQkvIdeal.nD Cert.EvenQkvIdeal.τ Cert.EvenQkvIdeal.sig) → Buf (Elt Ideal) ℓ) : Prop :=
  True

def Pre_EvenQkvRefIdeal (m : (ℓ : Loc Cert.EvenQkvRefIdeal.nD Cert.EvenQkvRefIdeal.τ Cert.EvenQkvRefIdeal.sig) → Buf (Elt Ideal) ℓ) : Prop :=
  True

def Pre_EvenF (m : (ℓ : Loc Cert.EvenF.nD Cert.EvenF.τ Cert.EvenF.sig) → Buf (Elt Bits) ℓ) : Prop :=
  True

def Pre_EvenFIdeal (m : (ℓ : Loc Cert.EvenFIdeal.nD Cert.EvenFIdeal.τ Cert.EvenFIdeal.sig) → Buf (Elt Ideal) ℓ) : Prop :=
  True

def Pre_EvenFRefIdeal (m : (ℓ : Loc Cert.EvenFRefIdeal.nD Cert.EvenFRefIdeal.τ Cert.EvenFRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_PeerIn (m : (ℓ : Loc Cert.PeerIn.nD Cert.PeerIn.τ Cert.PeerIn.sig) → Buf (Elt Bits) ℓ) : Prop :=
  True

def Pre_PeerInIdeal (m : (ℓ : Loc Cert.PeerInIdeal.nD Cert.PeerInIdeal.τ Cert.PeerInIdeal.sig) → Buf (Elt Ideal) ℓ) : Prop :=
  True

def Pre_PeerInRefIdeal (m : (ℓ : Loc Cert.PeerInRefIdeal.nD Cert.PeerInRefIdeal.τ Cert.PeerInRefIdeal.sig) → Buf (Elt Ideal) ℓ) : Prop :=
  True

def Pre_PeerLast (m : (ℓ : Loc Cert.PeerLast.nD Cert.PeerLast.τ Cert.PeerLast.sig) → Buf (Elt Bits) ℓ) : Prop :=
  True

def Pre_PeerLastIdeal (m : (ℓ : Loc Cert.PeerLastIdeal.nD Cert.PeerLastIdeal.τ Cert.PeerLastIdeal.sig) → Buf (Elt Ideal) ℓ) : Prop :=
  True

def Pre_PeerLastRefIdeal (m : (ℓ : Loc Cert.PeerLastRefIdeal.nD Cert.PeerLastRefIdeal.τ Cert.PeerLastRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutIdeal_finite_mix [hPre_finite_mix : Cert.Pre_finite_mix.Facts] (m : (ℓ : Loc Cert.EvenOutIdeal.nD Cert.EvenOutIdeal.τ Cert.EvenOutIdeal.sig) → Buf (Elt Ideal) ℓ) : Prop :=
  ∀ c : Dev Cert.EvenOutIdeal.nD,
    (Cert.Pre_finite_mix.fn (F := Ideal) (m ((c.tc : Thread Cert.EvenOutIdeal.nD Cert.EvenOutIdeal.τ).loc Cert.EvenOutIdeal.main_arg0)) (m ((c.tc : Thread Cert.EvenOutIdeal.nD Cert.EvenOutIdeal.τ).loc Cert.EvenOutIdeal.main_arg1)) (m ((c.tc : Thread Cert.EvenOutIdeal.nD Cert.EvenOutIdeal.τ).loc Cert.EvenOutIdeal.main_arg2)) (m ((c.tc : Thread Cert.EvenOutIdeal.nD Cert.EvenOutIdeal.τ).loc Cert.EvenOutIdeal.main_arg3)) (m ((c.tc : Thread Cert.EvenOutIdeal.nD Cert.EvenOutIdeal.τ).loc Cert.EvenOutIdeal.main_arg4))) = (fun _ => 1#1)

def Pre_EvenOutRefIdeal (m : (ℓ : Loc Cert.EvenOutRefIdeal.nD Cert.EvenOutRefIdeal.τ Cert.EvenOutRefIdeal.sig) → Buf (Elt Ideal) ℓ) : Prop :=
  True

def Pre_EvenOutRefIdeal_finite_mix [hPre_finite_mix : Cert.Pre_finite_mix.Facts] (m : (ℓ : Loc Cert.EvenOutRefIdeal.nD Cert.EvenOutRefIdeal.τ Cert.EvenOutRefIdeal.sig) → Buf (Elt Ideal) ℓ) : Prop :=
  ∀ c : Dev Cert.EvenOutRefIdeal.nD,
    (Cert.Pre_finite_mix.fn (F := Ideal) (m ((c.tc : Thread Cert.EvenOutRefIdeal.nD Cert.EvenOutRefIdeal.τ).loc Cert.EvenOutRefIdeal.main_arg0)) (m ((c.tc : Thread Cert.EvenOutRefIdeal.nD Cert.EvenOutRefIdeal.τ).loc Cert.EvenOutRefIdeal.main_arg1)) (m ((c.tc : Thread Cert.EvenOutRefIdeal.nD Cert.EvenOutRefIdeal.τ).loc Cert.EvenOutRefIdeal.main_arg2)) (m ((c.tc : Thread Cert.EvenOutRefIdeal.nD Cert.EvenOutRefIdeal.τ).loc Cert.EvenOutRefIdeal.main_arg3)) (m ((c.tc : Thread Cert.EvenOutRefIdeal.nD Cert.EvenOutRefIdeal.τ).loc Cert.EvenOutRefIdeal.main_arg4))) = (fun _ => 1#1)

def Pre_CtxAttn (m : (ℓ : Loc Cert.CtxAttn.nD Cert.CtxAttn.τ Cert.CtxAttn.sig) → Buf (Elt Bits) ℓ) : Prop :=
  True

def Pre_CtxAttnIdeal (m : (ℓ : Loc Cert.CtxAttnIdeal.nD Cert.CtxAttnIdeal.τ Cert.CtxAttnIdeal.sig) → Buf (Elt Ideal) ℓ) : Prop :=
  True

def Pre_CtxAttnIdeal_finite_ctx [hPre_finite_ctx : Cert.Pre_finite_ctx.Facts] (m : (ℓ : Loc Cert.CtxAttnIdeal.nD Cert.CtxAttnIdeal.τ Cert.CtxAttnIdeal.sig) → Buf (Elt Ideal) ℓ) : Prop :=
  ∀ c : Dev Cert.CtxAttnIdeal.nD,
    (Cert.Pre_finite_ctx.fn (F := Ideal) (m ((c.tc : Thread Cert.CtxAttnIdeal.nD Cert.CtxAttnIdeal.τ).loc Cert.CtxAttnIdeal.main_arg0))) = (fun _ => 1#1)

def Pre_CtxAttnRefIdeal (m : (ℓ : Loc Cert.CtxAttnRefIdeal.nD Cert.CtxAttnRefIdeal.τ Cert.CtxAttnRefIdeal.sig) → Buf (Elt Ideal) ℓ) : Prop :=
  True

def Pre_CtxAttnRefIdeal_finite_ctx [hPre_finite_ctx : Cert.Pre_finite_ctx.Facts] (m : (ℓ : Loc Cert.CtxAttnRefIdeal.nD Cert.CtxAttnRefIdeal.τ Cert.CtxAttnRefIdeal.sig) → Buf (Elt Ideal) ℓ) : Prop :=
  ∀ c : Dev Cert.CtxAttnRefIdeal.nD,
    (Cert.Pre_finite_ctx.fn (F := Ideal) (m ((c.tc : Thread Cert.CtxAttnRefIdeal.nD Cert.CtxAttnRefIdeal.τ).loc Cert.CtxAttnRefIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3)
      ∧ r.2.mem ((c.tc : Thread Cert.OddIn.nD Cert.OddIn.τ).loc Cert.OddIn.main_arg4) = m ((c.tc : Thread Cert.OddIn.nD Cert.OddIn.τ).loc Cert.OddIn.main_arg4))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
      ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2)
      ∧ r.2.mem ((c.tc : Thread Cert.OddInRefIdeal.nD Cert.OddInRefIdeal.τ).loc Cert.OddInRefIdeal.main_arg3) = m ((c.tc : Thread Cert.OddInRefIdeal.nD Cert.OddInRefIdeal.τ).loc Cert.OddInRefIdeal.main_arg3)
      ∧ r.2.mem ((c.tc : Thread Cert.OddInRefIdeal.nD Cert.OddInRefIdeal.τ).loc Cert.OddInRefIdeal.main_arg4) = m ((c.tc : Thread Cert.OddInRefIdeal.nD Cert.OddInRefIdeal.τ).loc Cert.OddInRefIdeal.main_arg4))
      ∧ r.2.sem = fun _ => 0)

def quiescent_EvenQkv [hEvenQkv : Cert.EvenQkv.Facts] : Prop :=
  ∀ (m : (ℓ : Loc Cert.EvenQkv.nD Cert.EvenQkv.τ Cert.EvenQkv.sig) → Buf (Elt Bits) ℓ) (g : Dev Cert.EvenQkv.nD → PrngReg), Pre_EvenQkv m →
    θ_run (Cert.EvenQkv.defs (F := Bits)) (onTc (τ := Cert.EvenQkv.τ) (Cert.EvenQkv.main (F := Bits))) ⟨m, fun _ => 0, g⟩ (fun r => (∀ c : Dev Cert.EvenQkv.nD,
      r.2.mem ((c.tc : Thread Cert.EvenQkv.nD Cert.EvenQkv.τ).loc Cert.EvenQkv.main_arg0) = m ((c.tc : Thread Cert.EvenQkv.nD Cert.EvenQkv.τ).loc Cert.EvenQkv.main_arg0)
      ∧ r.2.mem ((c.tc : Thread Cert.EvenQkv.nD Cert.EvenQkv.τ).loc Cert.EvenQkv.main_arg1) = m ((c.tc : Thread Cert.EvenQkv.nD Cert.EvenQkv.τ).loc Cert.EvenQkv.main_arg1)
      ∧ r.2.mem ((c.tc : Thread Cert.EvenQkv.nD Cert.EvenQkv.τ).loc Cert.EvenQkv.main_arg2) = m ((c.tc : Thread Cert.EvenQkv.nD Cert.EvenQkv.τ).loc Cert.EvenQkv.main_arg2)
      ∧ r.2.mem ((c.tc : Thread Cert.EvenQkv.nD Cert.EvenQkv.τ).loc Cert.EvenQkv.main_arg3) = m ((c.tc : Thread Cert.EvenQkv.nD Cert.EvenQkv.τ).loc Cert.EvenQkv.main_arg3)
      ∧ r.2.mem ((c.tc : Thread Cert.EvenQkv.nD Cert.EvenQkv.τ).loc Cert.EvenQkv.main_arg4) = m ((c.tc : Thread Cert.EvenQkv.nD Cert.EvenQkv.τ).loc Cert.EvenQkv.main_arg4))
      ∧ r.2.sem = fun _ => 0)

def quiescent_EvenQkvIdeal [hEvenQkvIdeal : Cert.EvenQkvIdeal.Facts] : Prop :=
  ∀ (m : (ℓ : Loc Cert.EvenQkvIdeal.nD Cert.EvenQkvIdeal.τ Cert.EvenQkvIdeal.sig) → Buf (Elt Ideal) ℓ) (g : Dev Cert.EvenQkvIdeal.nD → PrngReg), Pre_EvenQkvIdeal m →
    θ_run (Cert.EvenQkvIdeal.defs (F := Ideal)) (onTc (τ := Cert.EvenQkvIdeal.τ) (Cert.EvenQkvIdeal.main (F := Ideal))) ⟨m, fun _ => 0, g⟩ (fun r => (∀ c : Dev Cert.EvenQkvIdeal.nD,
      r.2.mem ((c.tc : Thread Cert.EvenQkvIdeal.nD Cert.EvenQkvIdeal.τ).loc Cert.EvenQkvIdeal.main_arg0) = m ((c.tc : Thread Cert.EvenQkvIdeal.nD Cert.EvenQkvIdeal.τ).loc Cert.EvenQkvIdeal.main_arg0)
      ∧ r.2.mem ((c.tc : Thread Cert.EvenQkvIdeal.nD Cert.EvenQkvIdeal.τ).loc Cert.EvenQkvIdeal.main_arg1) = m ((c.tc : Thread Cert.EvenQkvIdeal.nD Cert.EvenQkvIdeal.τ).loc Cert.EvenQkvIdeal.main_arg1)
      ∧ r.2.mem ((c.tc : Thread Cert.EvenQkvIdeal.nD Cert.EvenQkvIdeal.τ).loc Cert.EvenQkvIdeal.main_arg2) = m ((c.tc : Thread Cert.EvenQkvIdeal.nD Cert.EvenQkvIdeal.τ).loc Cert.EvenQkvIdeal.main_arg2)
      ∧ r.2.mem ((c.tc : Thread Cert.EvenQkvIdeal.nD Cert.EvenQkvIdeal.τ).loc Cert.EvenQkvIdeal.main_arg3) = m ((c.tc : Thread Cert.EvenQkvIdeal.nD Cert.EvenQkvIdeal.τ).loc Cert.EvenQkvIdeal.main_arg3)
      ∧ r.2.mem ((c.tc : Thread Cert.EvenQkvIdeal.nD Cert.EvenQkvIdeal.τ).loc Cert.EvenQkvIdeal.main_arg4) = m ((c.tc : Thread Cert.EvenQkvIdeal.nD Cert.EvenQkvIdeal.τ).loc Cert.EvenQkvIdeal.main_arg4))
      ∧ r.2.sem = fun _ => 0)

def quiescent_EvenQkvRefIdeal [hEvenQkvRefIdeal : Cert.EvenQkvRefIdeal.Facts] : Prop :=
  ∀ (m : (ℓ : Loc Cert.EvenQkvRefIdeal.nD Cert.EvenQkvRefIdeal.τ Cert.EvenQkvRefIdeal.sig) → Buf (Elt Ideal) ℓ) (g : Dev Cert.EvenQkvRefIdeal.nD → PrngReg), Pre_EvenQkvRefIdeal m →
    θ_run (Cert.EvenQkvRefIdeal.defs (F := Ideal)) (onTc (τ := Cert.EvenQkvRefIdeal.τ) (Cert.EvenQkvRefIdeal.main (F := Ideal))) ⟨m, fun _ => 0, g⟩ (fun r => (∀ c : Dev Cert.EvenQkvRefIdeal.nD,
      r.2.mem ((c.tc : Thread Cert.EvenQkvRefIdeal.nD Cert.EvenQkvRefIdeal.τ).loc Cert.EvenQkvRefIdeal.main_arg0) = m ((c.tc : Thread Cert.EvenQkvRefIdeal.nD Cert.EvenQkvRefIdeal.τ).loc Cert.EvenQkvRefIdeal.main_arg0)
      ∧ r.2.mem ((c.tc : Thread Cert.EvenQkvRefIdeal.nD Cert.EvenQkvRefIdeal.τ).loc Cert.EvenQkvRefIdeal.main_arg1) = m ((c.tc : Thread Cert.EvenQkvRefIdeal.nD Cert.EvenQkvRefIdeal.τ).loc Cert.EvenQkvRefIdeal.main_arg1)
      ∧ r.2.mem ((c.tc : Thread Cert.EvenQkvRefIdeal.nD Cert.EvenQkvRefIdeal.τ).loc Cert.EvenQkvRefIdeal.main_arg2) = m ((c.tc : Thread Cert.EvenQkvRefIdeal.nD Cert.EvenQkvRefIdeal.τ).loc Cert.EvenQkvRefIdeal.main_arg2)
      ∧ r.2.mem ((c.tc : Thread Cert.EvenQkvRefIdeal.nD Cert.EvenQkvRefIdeal.τ).loc Cert.EvenQkvRefIdeal.main_arg3) = m ((c.tc : Thread Cert.EvenQkvRefIdeal.nD Cert.EvenQkvRefIdeal.τ).loc Cert.EvenQkvRefIdeal.main_arg3)
      ∧ r.2.mem ((c.tc : Thread Cert.EvenQkvRefIdeal.nD Cert.EvenQkvRefIdeal.τ).loc Cert.EvenQkvRefIdeal.main_arg4) = m ((c.tc : Thread Cert.EvenQkvRefIdeal.nD Cert.EvenQkvRefIdeal.τ).loc Cert.EvenQkvRefIdeal.main_arg4))
      ∧ r.2.sem = fun _ => 0)

def quiescent_EvenF [hEvenF : Cert.EvenF.Facts] : Prop :=
  ∀ (m : (ℓ : Loc Cert.EvenF.nD Cert.EvenF.τ Cert.EvenF.sig) → Buf (Elt Bits) ℓ) (g : Dev Cert.EvenF.nD → PrngReg), Pre_EvenF m →
    θ_run (Cert.EvenF.defs (F := Bits)) (onTc (τ := Cert.EvenF.τ) (Cert.EvenF.main (F := Bits))) ⟨m, fun _ => 0, g⟩ (fun r => (∀ c : Dev Cert.EvenF.nD,
      r.2.mem ((c.tc : Thread Cert.EvenF.nD Cert.EvenF.τ).loc Cert.EvenF.main_arg0) = m ((c.tc : Thread Cert.EvenF.nD Cert.EvenF.τ).loc Cert.EvenF.main_arg0)
      ∧ r.2.mem ((c.tc : Thread Cert.EvenF.nD Cert.EvenF.τ).loc Cert.EvenF.main_arg1) = m ((c.tc : Thread Cert.EvenF.nD Cert.EvenF.τ).loc Cert.EvenF.main_arg1)
      ∧ r.2.mem ((c.tc : Thread Cert.EvenF.nD Cert.EvenF.τ).loc Cert.EvenF.main_arg2) = m ((c.tc : Thread Cert.EvenF.nD Cert.EvenF.τ).loc Cert.EvenF.main_arg2)
      ∧ r.2.mem ((c.tc : Thread Cert.EvenF.nD Cert.EvenF.τ).loc Cert.EvenF.main_arg3) = m ((c.tc : Thread Cert.EvenF.nD Cert.EvenF.τ).loc Cert.EvenF.main_arg3)
      ∧ r.2.mem ((c.tc : Thread Cert.EvenF.nD Cert.EvenF.τ).loc Cert.EvenF.main_arg4) = m ((c.tc : Thread Cert.EvenF.nD Cert.EvenF.τ).loc Cert.EvenF.main_arg4))
      ∧ r.2.sem = fun _ => 0)

def quiescent_EvenFIdeal [hEvenFIdeal : Cert.EvenFIdeal.Facts] : Prop :=
  ∀ (m : (ℓ : Loc Cert.EvenFIdeal.nD Cert.EvenFIdeal.τ Cert.EvenFIdeal.sig) → Buf (Elt Ideal) ℓ) (g : Dev Cert.EvenFIdeal.nD → PrngReg), Pre_EvenFIdeal m →
    θ_run (Cert.EvenFIdeal.defs (F := Ideal)) (onTc (τ := Cert.EvenFIdeal.τ) (Cert.EvenFIdeal.main (F := Ideal))) ⟨m, fun _ => 0, g⟩ (fun r => (∀ c : Dev Cert.EvenFIdeal.nD,
      r.2.mem ((c.tc : Thread Cert.EvenFIdeal.nD Cert.EvenFIdeal.τ).loc Cert.EvenFIdeal.main_arg0) = m ((c.tc : Thread Cert.EvenFIdeal.nD Cert.EvenFIdeal.τ).loc Cert.EvenFIdeal.main_arg0)
      ∧ r.2.mem ((c.tc : Thread Cert.EvenFIdeal.nD Cert.EvenFIdeal.τ).loc Cert.EvenFIdeal.main_arg1) = m ((c.tc : Thread Cert.EvenFIdeal.nD Cert.EvenFIdeal.τ).loc Cert.EvenFIdeal.main_arg1)
      ∧ r.2.mem ((c.tc : Thread Cert.EvenFIdeal.nD Cert.EvenFIdeal.τ).loc Cert.EvenFIdeal.main_arg2) = m ((c.tc : Thread Cert.EvenFIdeal.nD Cert.EvenFIdeal.τ).loc Cert.EvenFIdeal.main_arg2)
      ∧ r.2.mem ((c.tc : Thread Cert.EvenFIdeal.nD Cert.EvenFIdeal.τ).loc Cert.EvenFIdeal.main_arg3) = m ((c.tc : Thread Cert.EvenFIdeal.nD Cert.EvenFIdeal.τ).loc Cert.EvenFIdeal.main_arg3)
      ∧ r.2.mem ((c.tc : Thread Cert.EvenFIdeal.nD Cert.EvenFIdeal.τ).loc Cert.EvenFIdeal.main_arg4) = m ((c.tc : Thread Cert.EvenFIdeal.nD Cert.EvenFIdeal.τ).loc Cert.EvenFIdeal.main_arg4))
      ∧ r.2.sem = fun _ => 0)

def quiescent_EvenFRefIdeal [hEvenFRefIdeal : Cert.EvenFRefIdeal.Facts] : Prop :=
  ∀ (m : (ℓ : Loc Cert.EvenFRefIdeal.nD Cert.EvenFRefIdeal.τ Cert.EvenFRefIdeal.sig) → Buf (Elt Ideal) ℓ) (g : Dev Cert.EvenFRefIdeal.nD → PrngReg), Pre_EvenFRefIdeal m →
    θ_run (Cert.EvenFRefIdeal.defs (F := Ideal)) (onTc (τ := Cert.EvenFRefIdeal.τ) (Cert.EvenFRefIdeal.main (F := Ideal))) ⟨m, fun _ => 0, g⟩ (fun r => (∀ c : Dev Cert.EvenFRefIdeal.nD,
      r.2.mem ((c.tc : Thread Cert.EvenFRefIdeal.nD Cert.EvenFRefIdeal.τ).loc Cert.EvenFRefIdeal.main_arg0) = m ((c.tc : Thread Cert.EvenFRefIdeal.nD Cert.EvenFRefIdeal.τ).loc Cert.EvenFRefIdeal.main_arg0)
      ∧ r.2.mem ((c.tc : Thread Cert.EvenFRefIdeal.nD Cert.EvenFRefIdeal.τ).loc Cert.EvenFRefIdeal.main_arg1) = m ((c.tc : Thread Cert.EvenFRefIdeal.nD Cert.EvenFRefIdeal.τ).loc Cert.EvenFRefIdeal.main_arg1)
      ∧ r.2.mem ((c.tc : Thread Cert.EvenFRefIdeal.nD Cert.EvenFRefIdeal.τ).loc Cert.EvenFRefIdeal.main_arg2) = m ((c.tc : Thread Cert.EvenFRefIdeal.nD Cert.EvenFRefIdeal.τ).loc Cert.EvenFRefIdeal.main_arg2)
      ∧ r.2.mem ((c.tc : Thread Cert.EvenFRefIdeal.nD Cert.EvenFRefIdeal.τ).loc Cert.EvenFRefIdeal.main_arg3) = m ((c.tc : Thread Cert.EvenFRefIdeal.nD Cert.EvenFRefIdeal.τ).loc Cert.EvenFRefIdeal.main_arg3)
      ∧ r.2.mem ((c.tc : Thread Cert.EvenFRefIdeal.nD Cert.EvenFRefIdeal.τ).loc Cert.EvenFRefIdeal.main_arg4) = m ((c.tc : Thread Cert.EvenFRefIdeal.nD Cert.EvenFRefIdeal.τ).loc Cert.EvenFRefIdeal.main_arg4))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_PeerIn [hPeerIn : Cert.PeerIn.Facts] : Prop :=
  ∀ (m : (ℓ : Loc Cert.PeerIn.nD Cert.PeerIn.τ Cert.PeerIn.sig) → Buf (Elt Bits) ℓ) (g : Dev Cert.PeerIn.nD → PrngReg), Pre_PeerIn m →
    θ_run (Cert.PeerIn.defs (F := Bits)) (onTc (τ := Cert.PeerIn.τ) (Cert.PeerIn.main (F := Bits))) ⟨m, fun _ => 0, g⟩ (fun r => (∀ c : Dev Cert.PeerIn.nD,
      r.2.mem ((c.tc : Thread Cert.PeerIn.nD Cert.PeerIn.τ).loc Cert.PeerIn.main_arg0) = m ((c.tc : Thread Cert.PeerIn.nD Cert.PeerIn.τ).loc Cert.PeerIn.main_arg0)
      ∧ r.2.mem ((c.tc : Thread Cert.PeerIn.nD Cert.PeerIn.τ).loc Cert.PeerIn.main_arg1) = m ((c.tc : Thread Cert.PeerIn.nD Cert.PeerIn.τ).loc Cert.PeerIn.main_arg1)
      ∧ r.2.mem ((c.tc : Thread Cert.PeerIn.nD Cert.PeerIn.τ).loc Cert.PeerIn.main_arg2) = m ((c.tc : Thread Cert.PeerIn.nD Cert.PeerIn.τ).loc Cert.PeerIn.main_arg2)
      ∧ r.2.mem ((c.tc : Thread Cert.PeerIn.nD Cert.PeerIn.τ).loc Cert.PeerIn.main_arg3) = m ((c.tc : Thread Cert.PeerIn.nD Cert.PeerIn.τ).loc Cert.PeerIn.main_arg3)
      ∧ r.2.mem ((c.tc : Thread Cert.PeerIn.nD Cert.PeerIn.τ).loc Cert.PeerIn.main_arg4) = m ((c.tc : Thread Cert.PeerIn.nD Cert.PeerIn.τ).loc Cert.PeerIn.main_arg4))
      ∧ r.2.sem = fun _ => 0)

def quiescent_PeerInIdeal [hPeerInIdeal : Cert.PeerInIdeal.Facts] : Prop :=
  ∀ (m : (ℓ : Loc Cert.PeerInIdeal.nD Cert.PeerInIdeal.τ Cert.PeerInIdeal.sig) → Buf (Elt Ideal) ℓ) (g : Dev Cert.PeerInIdeal.nD → PrngReg), Pre_PeerInIdeal m →
    θ_run (Cert.PeerInIdeal.defs (F := Ideal)) (onTc (τ := Cert.PeerInIdeal.τ) (Cert.PeerInIdeal.main (F := Ideal))) ⟨m, fun _ => 0, g⟩ (fun r => (∀ c : Dev Cert.PeerInIdeal.nD,
      r.2.mem ((c.tc : Thread Cert.PeerInIdeal.nD Cert.PeerInIdeal.τ).loc Cert.PeerInIdeal.main_arg0) = m ((c.tc : Thread Cert.PeerInIdeal.nD Cert.PeerInIdeal.τ).loc Cert.PeerInIdeal.main_arg0)
      ∧ r.2.mem ((c.tc : Thread Cert.PeerInIdeal.nD Cert.PeerInIdeal.τ).loc Cert.PeerInIdeal.main_arg1) = m ((c.tc : Thread Cert.PeerInIdeal.nD Cert.PeerInIdeal.τ).loc Cert.PeerInIdeal.main_arg1)
      ∧ r.2.mem ((c.tc : Thread Cert.PeerInIdeal.nD Cert.PeerInIdeal.τ).loc Cert.PeerInIdeal.main_arg2) = m ((c.tc : Thread Cert.PeerInIdeal.nD Cert.PeerInIdeal.τ).loc Cert.PeerInIdeal.main_arg2)
      ∧ r.2.mem ((c.tc : Thread Cert.PeerInIdeal.nD Cert.PeerInIdeal.τ).loc Cert.PeerInIdeal.main_arg3) = m ((c.tc : Thread Cert.PeerInIdeal.nD Cert.PeerInIdeal.τ).loc Cert.PeerInIdeal.main_arg3)
      ∧ r.2.mem ((c.tc : Thread Cert.PeerInIdeal.nD Cert.PeerInIdeal.τ).loc Cert.PeerInIdeal.main_arg4) = m ((c.tc : Thread Cert.PeerInIdeal.nD Cert.PeerInIdeal.τ).loc Cert.PeerInIdeal.main_arg4))
      ∧ r.2.sem = fun _ => 0)

def quiescent_PeerInRefIdeal [hPeerInRefIdeal : Cert.PeerInRefIdeal.Facts] : Prop :=
  ∀ (m : (ℓ : Loc Cert.PeerInRefIdeal.nD Cert.PeerInRefIdeal.τ Cert.PeerInRefIdeal.sig) → Buf (Elt Ideal) ℓ) (g : Dev Cert.PeerInRefIdeal.nD → PrngReg), Pre_PeerInRefIdeal m →
    θ_run (Cert.PeerInRefIdeal.defs (F := Ideal)) (onTc (τ := Cert.PeerInRefIdeal.τ) (Cert.PeerInRefIdeal.main (F := Ideal))) ⟨m, fun _ => 0, g⟩ (fun r => (∀ c : Dev Cert.PeerInRefIdeal.nD,
      r.2.mem ((c.tc : Thread Cert.PeerInRefIdeal.nD Cert.PeerInRefIdeal.τ).loc Cert.PeerInRefIdeal.main_arg0) = m ((c.tc : Thread Cert.PeerInRefIdeal.nD Cert.PeerInRefIdeal.τ).loc Cert.PeerInRefIdeal.main_arg0)
      ∧ r.2.mem ((c.tc : Thread Cert.PeerInRefIdeal.nD Cert.PeerInRefIdeal.τ).loc Cert.PeerInRefIdeal.main_arg1) = m ((c.tc : Thread Cert.PeerInRefIdeal.nD Cert.PeerInRefIdeal.τ).loc Cert.PeerInRefIdeal.main_arg1)
      ∧ r.2.mem ((c.tc : Thread Cert.PeerInRefIdeal.nD Cert.PeerInRefIdeal.τ).loc Cert.PeerInRefIdeal.main_arg2) = m ((c.tc : Thread Cert.PeerInRefIdeal.nD Cert.PeerInRefIdeal.τ).loc Cert.PeerInRefIdeal.main_arg2)
      ∧ r.2.mem ((c.tc : Thread Cert.PeerInRefIdeal.nD Cert.PeerInRefIdeal.τ).loc Cert.PeerInRefIdeal.main_arg3) = m ((c.tc : Thread Cert.PeerInRefIdeal.nD Cert.PeerInRefIdeal.τ).loc Cert.PeerInRefIdeal.main_arg3)
      ∧ r.2.mem ((c.tc : Thread Cert.PeerInRefIdeal.nD Cert.PeerInRefIdeal.τ).loc Cert.PeerInRefIdeal.main_arg4) = m ((c.tc : Thread Cert.PeerInRefIdeal.nD Cert.PeerInRefIdeal.τ).loc Cert.PeerInRefIdeal.main_arg4))
      ∧ r.2.sem = fun _ => 0)

def quiescent_PeerLast [hPeerLast : Cert.PeerLast.Facts] : Prop :=
  ∀ (m : (ℓ : Loc Cert.PeerLast.nD Cert.PeerLast.τ Cert.PeerLast.sig) → Buf (Elt Bits) ℓ) (g : Dev Cert.PeerLast.nD → PrngReg), Pre_PeerLast m →
    θ_run (Cert.PeerLast.defs (F := Bits)) (onTc (τ := Cert.PeerLast.τ) (Cert.PeerLast.main (F := Bits))) ⟨m, fun _ => 0, g⟩ (fun r => (∀ c : Dev Cert.PeerLast.nD,
      r.2.mem ((c.tc : Thread Cert.PeerLast.nD Cert.PeerLast.τ).loc Cert.PeerLast.main_arg0) = m ((c.tc : Thread Cert.PeerLast.nD Cert.PeerLast.τ).loc Cert.PeerLast.main_arg0)
      ∧ r.2.mem ((c.tc : Thread Cert.PeerLast.nD Cert.PeerLast.τ).loc Cert.PeerLast.main_arg1) = m ((c.tc : Thread Cert.PeerLast.nD Cert.PeerLast.τ).loc Cert.PeerLast.main_arg1)
      ∧ r.2.mem ((c.tc : Thread Cert.PeerLast.nD Cert.PeerLast.τ).loc Cert.PeerLast.main_arg2) = m ((c.tc : Thread Cert.PeerLast.nD Cert.PeerLast.τ).loc Cert.PeerLast.main_arg2)
      ∧ r.2.mem ((c.tc : Thread Cert.PeerLast.nD Cert.PeerLast.τ).loc Cert.PeerLast.main_arg3) = m ((c.tc : Thread Cert.PeerLast.nD Cert.PeerLast.τ).loc Cert.PeerLast.main_arg3)
      ∧ r.2.mem ((c.tc : Thread Cert.PeerLast.nD Cert.PeerLast.τ).loc Cert.PeerLast.main_arg4) = m ((c.tc : Thread Cert.PeerLast.nD Cert.PeerLast.τ).loc Cert.PeerLast.main_arg4))
      ∧ r.2.sem = fun _ => 0)

def quiescent_PeerLastIdeal [hPeerLastIdeal : Cert.PeerLastIdeal.Facts] : Prop :=
  ∀ (m : (ℓ : Loc Cert.PeerLastIdeal.nD Cert.PeerLastIdeal.τ Cert.PeerLastIdeal.sig) → Buf (Elt Ideal) ℓ) (g : Dev Cert.PeerLastIdeal.nD → PrngReg), Pre_PeerLastIdeal m →
    θ_run (Cert.PeerLastIdeal.defs (F := Ideal)) (onTc (τ := Cert.PeerLastIdeal.τ) (Cert.PeerLastIdeal.main (F := Ideal))) ⟨m, fun _ => 0, g⟩ (fun r => (∀ c : Dev Cert.PeerLastIdeal.nD,
      r.2.mem ((c.tc : Thread Cert.PeerLastIdeal.nD Cert.PeerLastIdeal.τ).loc Cert.PeerLastIdeal.main_arg0) = m ((c.tc : Thread Cert.PeerLastIdeal.nD Cert.PeerLastIdeal.τ).loc Cert.PeerLastIdeal.main_arg0)
      ∧ r.2.mem ((c.tc : Thread Cert.PeerLastIdeal.nD Cert.PeerLastIdeal.τ).loc Cert.PeerLastIdeal.main_arg1) = m ((c.tc : Thread Cert.PeerLastIdeal.nD Cert.PeerLastIdeal.τ).loc Cert.PeerLastIdeal.main_arg1)
      ∧ r.2.mem ((c.tc : Thread Cert.PeerLastIdeal.nD Cert.PeerLastIdeal.τ).loc Cert.PeerLastIdeal.main_arg2) = m ((c.tc : Thread Cert.PeerLastIdeal.nD Cert.PeerLastIdeal.τ).loc Cert.PeerLastIdeal.main_arg2)
      ∧ r.2.mem ((c.tc : Thread Cert.PeerLastIdeal.nD Cert.PeerLastIdeal.τ).loc Cert.PeerLastIdeal.main_arg3) = m ((c.tc : Thread Cert.PeerLastIdeal.nD Cert.PeerLastIdeal.τ).loc Cert.PeerLastIdeal.main_arg3)
      ∧ r.2.mem ((c.tc : Thread Cert.PeerLastIdeal.nD Cert.PeerLastIdeal.τ).loc Cert.PeerLastIdeal.main_arg4) = m ((c.tc : Thread Cert.PeerLastIdeal.nD Cert.PeerLastIdeal.τ).loc Cert.PeerLastIdeal.main_arg4))
      ∧ r.2.sem = fun _ => 0)

def quiescent_PeerLastRefIdeal [hPeerLastRefIdeal : Cert.PeerLastRefIdeal.Facts] : Prop :=
  ∀ (m : (ℓ : Loc Cert.PeerLastRefIdeal.nD Cert.PeerLastRefIdeal.τ Cert.PeerLastRefIdeal.sig) → Buf (Elt Ideal) ℓ) (g : Dev Cert.PeerLastRefIdeal.nD → PrngReg), Pre_PeerLastRefIdeal m →
    θ_run (Cert.PeerLastRefIdeal.defs (F := Ideal)) (onTc (τ := Cert.PeerLastRefIdeal.τ) (Cert.PeerLastRefIdeal.main (F := Ideal))) ⟨m, fun _ => 0, g⟩ (fun r => (∀ c : Dev Cert.PeerLastRefIdeal.nD,
      r.2.mem ((c.tc : Thread Cert.PeerLastRefIdeal.nD Cert.PeerLastRefIdeal.τ).loc Cert.PeerLastRefIdeal.main_arg0) = m ((c.tc : Thread Cert.PeerLastRefIdeal.nD Cert.PeerLastRefIdeal.τ).loc Cert.PeerLastRefIdeal.main_arg0)
      ∧ r.2.mem ((c.tc : Thread Cert.PeerLastRefIdeal.nD Cert.PeerLastRefIdeal.τ).loc Cert.PeerLastRefIdeal.main_arg1) = m ((c.tc : Thread Cert.PeerLastRefIdeal.nD Cert.PeerLastRefIdeal.τ).loc Cert.PeerLastRefIdeal.main_arg1)
      ∧ r.2.mem ((c.tc : Thread Cert.PeerLastRefIdeal.nD Cert.PeerLastRefIdeal.τ).loc Cert.PeerLastRefIdeal.main_arg2) = m ((c.tc : Thread Cert.PeerLastRefIdeal.nD Cert.PeerLastRefIdeal.τ).loc Cert.PeerLastRefIdeal.main_arg2)
      ∧ r.2.mem ((c.tc : Thread Cert.PeerLastRefIdeal.nD Cert.PeerLastRefIdeal.τ).loc Cert.PeerLastRefIdeal.main_arg3) = m ((c.tc : Thread Cert.PeerLastRefIdeal.nD Cert.PeerLastRefIdeal.τ).loc Cert.PeerLastRefIdeal.main_arg3)
      ∧ r.2.mem ((c.tc : Thread Cert.PeerLastRefIdeal.nD Cert.PeerLastRefIdeal.τ).loc Cert.PeerLastRefIdeal.main_arg4) = m ((c.tc : Thread Cert.PeerLastRefIdeal.nD Cert.PeerLastRefIdeal.τ).loc Cert.PeerLastRefIdeal.main_arg4))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4))
      ∧ r.2.sem = fun _ => 0)

def quiescent_EvenOutIdeal_pre_finite_mix [hEvenOutIdeal : Cert.EvenOutIdeal.Facts] [hPre_finite_mix : Cert.Pre_finite_mix.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal_finite_mix m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4))
      ∧ r.2.sem = fun _ => 0)

def quiescent_EvenOutRefIdeal_pre_finite_mix [hEvenOutRefIdeal : Cert.EvenOutRefIdeal.Facts] [hPre_finite_mix : Cert.Pre_finite_mix.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal_finite_mix m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4))
      ∧ r.2.sem = fun _ => 0)

def quiescent_CtxAttn [hCtxAttn : Cert.CtxAttn.Facts] : Prop :=
  ∀ (m : (ℓ : Loc Cert.CtxAttn.nD Cert.CtxAttn.τ Cert.CtxAttn.sig) → Buf (Elt Bits) ℓ) (g : Dev Cert.CtxAttn.nD → PrngReg), Pre_CtxAttn m →
    θ_run (Cert.CtxAttn.defs (F := Bits)) (onTc (τ := Cert.CtxAttn.τ) (Cert.CtxAttn.main (F := Bits))) ⟨m, fun _ => 0, g⟩ (fun r => (∀ c : Dev Cert.CtxAttn.nD,
      r.2.mem ((c.tc : Thread Cert.CtxAttn.nD Cert.CtxAttn.τ).loc Cert.CtxAttn.main_arg0) = m ((c.tc : Thread Cert.CtxAttn.nD Cert.CtxAttn.τ).loc Cert.CtxAttn.main_arg0))
      ∧ r.2.sem = fun _ => 0)

def quiescent_CtxAttnIdeal [hCtxAttnIdeal : Cert.CtxAttnIdeal.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg), Pre_CtxAttnIdeal m →
    θ_run (Cert.CtxAttnIdeal.defs (F := Ideal)) (onTc (τ := Cert.CtxAttnIdeal.τ) (Cert.CtxAttnIdeal.main (F := Ideal))) ⟨m, fun _ => 0, g⟩ (fun r => (∀ c : Dev Cert.CtxAttnIdeal.nD,
      r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0))
      ∧ r.2.sem = fun _ => 0)

def quiescent_CtxAttnIdeal_pre_finite_ctx [hCtxAttnIdeal : Cert.CtxAttnIdeal.Facts] [hPre_finite_ctx : Cert.Pre_finite_ctx.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg), Pre_CtxAttnIdeal_finite_ctx m →
    θ_run (Cert.CtxAttnIdeal.defs (F := Ideal)) (onTc (τ := Cert.CtxAttnIdeal.τ) (Cert.CtxAttnIdeal.main (F := Ideal))) ⟨m, fun _ => 0, g⟩ (fun r => (∀ c : Dev Cert.CtxAttnIdeal.nD,
      r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0))
      ∧ r.2.sem = fun _ => 0)

def quiescent_CtxAttnRefIdeal [hCtxAttnRefIdeal : Cert.CtxAttnRefIdeal.Facts] : Prop :=
  ∀ (m : (ℓ : Loc Cert.CtxAttnRefIdeal.nD Cert.CtxAttnRefIdeal.τ Cert.CtxAttnRefIdeal.sig) → Buf (Elt Ideal) ℓ) (g : Dev Cert.CtxAttnRefIdeal.nD → PrngReg), Pre_CtxAttnRefIdeal m →
    θ_run (Cert.CtxAttnRefIdeal.defs (F := Ideal)) (onTc (τ := Cert.CtxAttnRefIdeal.τ) (Cert.CtxAttnRefIdeal.main (F := Ideal))) ⟨m, fun _ => 0, g⟩ (fun r => (∀ c : Dev Cert.CtxAttnRefIdeal.nD,
      r.2.mem ((c.tc : Thread Cert.CtxAttnRefIdeal.nD Cert.CtxAttnRefIdeal.τ).loc Cert.CtxAttnRefIdeal.main_arg0) = m ((c.tc : Thread Cert.CtxAttnRefIdeal.nD Cert.CtxAttnRefIdeal.τ).loc Cert.CtxAttnRefIdeal.main_arg0))
      ∧ r.2.sem = fun _ => 0)

def quiescent_CtxAttnRefIdeal_pre_finite_ctx [hCtxAttnRefIdeal : Cert.CtxAttnRefIdeal.Facts] [hPre_finite_ctx : Cert.Pre_finite_ctx.Facts] : Prop :=
  ∀ (m : (ℓ : Loc Cert.CtxAttnRefIdeal.nD Cert.CtxAttnRefIdeal.τ Cert.CtxAttnRefIdeal.sig) → Buf (Elt Ideal) ℓ) (g : Dev Cert.CtxAttnRefIdeal.nD → PrngReg), Pre_CtxAttnRefIdeal_finite_ctx m →
    θ_run (Cert.CtxAttnRefIdeal.defs (F := Ideal)) (onTc (τ := Cert.CtxAttnRefIdeal.τ) (Cert.CtxAttnRefIdeal.main (F := Ideal))) ⟨m, fun _ => 0, g⟩ (fun r => (∀ c : Dev Cert.CtxAttnRefIdeal.nD,
      r.2.mem ((c.tc : Thread Cert.CtxAttnRefIdeal.nD Cert.CtxAttnRefIdeal.τ).loc Cert.CtxAttnRefIdeal.main_arg0) = m ((c.tc : Thread Cert.CtxAttnRefIdeal.nD Cert.CtxAttnRefIdeal.τ).loc Cert.CtxAttnRefIdeal.main_arg0))
      ∧ r.2.sem = fun _ => 0)

def preserves_Kernel_KernelIdeal : Prop :=
  IdealRules.named_const.Statement Cert.KernelIdeal.κ "s" .f32 0x3E38AA3B#32 ((8⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)
      ∧ m' ((c.tc : Thread Cert.OddInRefIdeal.nD Cert.OddInRefIdeal.τ).loc Cert.OddInRefIdeal.main_arg3) = m ((c.tc : Thread Cert.OddInIdeal.nD Cert.OddInIdeal.τ).loc Cert.OddInIdeal.main_arg3)
      ∧ m' ((c.tc : Thread Cert.OddInRefIdeal.nD Cert.OddInRefIdeal.τ).loc Cert.OddInRefIdeal.main_arg4) = m ((c.tc : Thread Cert.OddInIdeal.nD Cert.OddInIdeal.τ).loc Cert.OddInIdeal.main_arg4)) →
    ∃ (v0 : (c : Dev Cert.OddInIdeal.nD) → Buf (Elt Ideal) ((c.tc : Thread Cert.OddInIdeal.nD Cert.OddInIdeal.τ).loc Cert.OddInIdeal.main_v49_0)) (v1 : (c : Dev Cert.OddInIdeal.nD) → Buf (Elt Ideal) ((c.tc : Thread Cert.OddInIdeal.nD Cert.OddInIdeal.τ).loc Cert.OddInIdeal.main_v49_1)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v49_0) = v0 c
          ∧ r.2.mem ((c.tc : Thread Cert.OddInIdeal.nD Cert.OddInIdeal.τ).loc Cert.OddInIdeal.main_v49_1) = v1 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
          ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v139) = v0 c
          ∧ r.2.mem ((c.tc : Thread Cert.OddInRefIdeal.nD Cert.OddInRefIdeal.τ).loc Cert.OddInRefIdeal.main_v142) = v1 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2)
          ∧ r.2.mem ((c.tc : Thread Cert.OddInRefIdeal.nD Cert.OddInRefIdeal.τ).loc Cert.OddInRefIdeal.main_arg3) = m' ((c.tc : Thread Cert.OddInRefIdeal.nD Cert.OddInRefIdeal.τ).loc Cert.OddInRefIdeal.main_arg3)
          ∧ r.2.mem ((c.tc : Thread Cert.OddInRefIdeal.nD Cert.OddInRefIdeal.τ).loc Cert.OddInRefIdeal.main_arg4) = m' ((c.tc : Thread Cert.OddInRefIdeal.nD Cert.OddInRefIdeal.τ).loc Cert.OddInRefIdeal.main_arg4))

def preserves_EvenQkv_EvenQkvIdeal : Prop :=
  True

def algebraic_EvenQkvIdeal_EvenQkvRefIdeal [hEvenQkvIdeal : Cert.EvenQkvIdeal.Facts] [hEvenQkvRefIdeal : Cert.EvenQkvRefIdeal.Facts] : Prop :=
  ∀ (m : (ℓ : Loc Cert.EvenQkvIdeal.nD Cert.EvenQkvIdeal.τ Cert.EvenQkvIdeal.sig) → Buf (Elt Ideal) ℓ) (g : Dev Cert.EvenQkvIdeal.nD → PrngReg)
    (m' : (ℓ : Loc Cert.EvenQkvRefIdeal.nD Cert.EvenQkvRefIdeal.τ Cert.EvenQkvRefIdeal.sig) → Buf (Elt Ideal) ℓ) (g' : Dev Cert.EvenQkvRefIdeal.nD → PrngReg), Pre_EvenQkvIdeal m →
    (∀ c : Dev Cert.EvenQkvIdeal.nD,
      m' ((c.tc : Thread Cert.EvenQkvRefIdeal.nD Cert.EvenQkvRefIdeal.τ).loc Cert.EvenQkvRefIdeal.main_arg0) = m ((c.tc : Thread Cert.EvenQkvIdeal.nD Cert.EvenQkvIdeal.τ).loc Cert.EvenQkvIdeal.main_arg0)
      ∧ m' ((c.tc : Thread Cert.EvenQkvRefIdeal.nD Cert.EvenQkvRefIdeal.τ).loc Cert.EvenQkvRefIdeal.main_arg1) = m ((c.tc : Thread Cert.EvenQkvIdeal.nD Cert.EvenQkvIdeal.τ).loc Cert.EvenQkvIdeal.main_arg1)
      ∧ m' ((c.tc : Thread Cert.EvenQkvRefIdeal.nD Cert.EvenQkvRefIdeal.τ).loc Cert.EvenQkvRefIdeal.main_arg2) = m ((c.tc : Thread Cert.EvenQkvIdeal.nD Cert.EvenQkvIdeal.τ).loc Cert.EvenQkvIdeal.main_arg2)
      ∧ m' ((c.tc : Thread Cert.EvenQkvRefIdeal.nD Cert.EvenQkvRefIdeal.τ).loc Cert.EvenQkvRefIdeal.main_arg3) = m ((c.tc : Thread Cert.EvenQkvIdeal.nD Cert.EvenQkvIdeal.τ).loc Cert.EvenQkvIdeal.main_arg3)
      ∧ m' ((c.tc : Thread Cert.EvenQkvRefIdeal.nD Cert.EvenQkvRefIdeal.τ).loc Cert.EvenQkvRefIdeal.main_arg4) = m ((c.tc : Thread Cert.EvenQkvIdeal.nD Cert.EvenQkvIdeal.τ).loc Cert.EvenQkvIdeal.main_arg4)) →
    ∃ (v0 : (c : Dev Cert.EvenQkvIdeal.nD) → Buf (Elt Ideal) ((c.tc : Thread Cert.EvenQkvIdeal.nD Cert.EvenQkvIdeal.τ).loc Cert.EvenQkvIdeal.main_v5)),
      θ_run (Cert.EvenQkvIdeal.defs (F := Ideal)) (onTc (τ := Cert.EvenQkvIdeal.τ) (Cert.EvenQkvIdeal.main (F := Ideal))) ⟨m, fun _ => 0, g⟩ (fun r => ∀ c : Dev Cert.EvenQkvIdeal.nD,
          r.2.mem ((c.tc : Thread Cert.EvenQkvIdeal.nD Cert.EvenQkvIdeal.τ).loc Cert.EvenQkvIdeal.main_v5) = v0 c
          ∧ r.2.mem ((c.tc : Thread Cert.EvenQkvIdeal.nD Cert.EvenQkvIdeal.τ).loc Cert.EvenQkvIdeal.main_arg0) = m ((c.tc : Thread Cert.EvenQkvIdeal.nD Cert.EvenQkvIdeal.τ).loc Cert.EvenQkvIdeal.main_arg0)
          ∧ r.2.mem ((c.tc : Thread Cert.EvenQkvIdeal.nD Cert.EvenQkvIdeal.τ).loc Cert.EvenQkvIdeal.main_arg1) = m ((c.tc : Thread Cert.EvenQkvIdeal.nD Cert.EvenQkvIdeal.τ).loc Cert.EvenQkvIdeal.main_arg1)
          ∧ r.2.mem ((c.tc : Thread Cert.EvenQkvIdeal.nD Cert.EvenQkvIdeal.τ).loc Cert.EvenQkvIdeal.main_arg2) = m ((c.tc : Thread Cert.EvenQkvIdeal.nD Cert.EvenQkvIdeal.τ).loc Cert.EvenQkvIdeal.main_arg2)
          ∧ r.2.mem ((c.tc : Thread Cert.EvenQkvIdeal.nD Cert.EvenQkvIdeal.τ).loc Cert.EvenQkvIdeal.main_arg3) = m ((c.tc : Thread Cert.EvenQkvIdeal.nD Cert.EvenQkvIdeal.τ).loc Cert.EvenQkvIdeal.main_arg3)
          ∧ r.2.mem ((c.tc : Thread Cert.EvenQkvIdeal.nD Cert.EvenQkvIdeal.τ).loc Cert.EvenQkvIdeal.main_arg4) = m ((c.tc : Thread Cert.EvenQkvIdeal.nD Cert.EvenQkvIdeal.τ).loc Cert.EvenQkvIdeal.main_arg4))
      ∧ θ_run (Cert.EvenQkvRefIdeal.defs (F := Ideal)) (onTc (τ := Cert.EvenQkvRefIdeal.τ) (Cert.EvenQkvRefIdeal.main (F := Ideal))) ⟨m', fun _ => 0, g'⟩ (fun r => ∀ c : Dev Cert.EvenQkvRefIdeal.nD,
          r.2.mem ((c.tc : Thread Cert.EvenQkvRefIdeal.nD Cert.EvenQkvRefIdeal.τ).loc Cert.EvenQkvRefIdeal.main_v57) = v0 c
          ∧ r.2.mem ((c.tc : Thread Cert.EvenQkvRefIdeal.nD Cert.EvenQkvRefIdeal.τ).loc Cert.EvenQkvRefIdeal.main_arg0) = m' ((c.tc : Thread Cert.EvenQkvRefIdeal.nD Cert.EvenQkvRefIdeal.τ).loc Cert.EvenQkvRefIdeal.main_arg0)
          ∧ r.2.mem ((c.tc : Thread Cert.EvenQkvRefIdeal.nD Cert.EvenQkvRefIdeal.τ).loc Cert.EvenQkvRefIdeal.main_arg1) = m' ((c.tc : Thread Cert.EvenQkvRefIdeal.nD Cert.EvenQkvRefIdeal.τ).loc Cert.EvenQkvRefIdeal.main_arg1)
          ∧ r.2.mem ((c.tc : Thread Cert.EvenQkvRefIdeal.nD Cert.EvenQkvRefIdeal.τ).loc Cert.EvenQkvRefIdeal.main_arg2) = m' ((c.tc : Thread Cert.EvenQkvRefIdeal.nD Cert.EvenQkvRefIdeal.τ).loc Cert.EvenQkvRefIdeal.main_arg2)
          ∧ r.2.mem ((c.tc : Thread Cert.EvenQkvRefIdeal.nD Cert.EvenQkvRefIdeal.τ).loc Cert.EvenQkvRefIdeal.main_arg3) = m' ((c.tc : Thread Cert.EvenQkvRefIdeal.nD Cert.EvenQkvRefIdeal.τ).loc Cert.EvenQkvRefIdeal.main_arg3)
          ∧ r.2.mem ((c.tc : Thread Cert.EvenQkvRefIdeal.nD Cert.EvenQkvRefIdeal.τ).loc Cert.EvenQkvRefIdeal.main_arg4) = m' ((c.tc : Thread Cert.EvenQkvRefIdeal.nD Cert.EvenQkvRefIdeal.τ).loc Cert.EvenQkvRefIdeal.main_arg4))

def preserves_EvenF_EvenFIdeal : Prop :=
  True

def algebraic_EvenFIdeal_EvenFRefIdeal [hEvenFIdeal : Cert.EvenFIdeal.Facts] [hEvenFRefIdeal : Cert.EvenFRefIdeal.Facts] : Prop :=
  ∀ (m : (ℓ : Loc Cert.EvenFIdeal.nD Cert.EvenFIdeal.τ Cert.EvenFIdeal.sig) → Buf (Elt Ideal) ℓ) (g : Dev Cert.EvenFIdeal.nD → PrngReg)
    (m' : (ℓ : Loc Cert.EvenFRefIdeal.nD Cert.EvenFRefIdeal.τ Cert.EvenFRefIdeal.sig) → Buf (Elt Ideal) ℓ) (g' : Dev Cert.EvenFRefIdeal.nD → PrngReg), Pre_EvenFIdeal m →
    (∀ c : Dev Cert.EvenFIdeal.nD,
      m' ((c.tc : Thread Cert.EvenFRefIdeal.nD Cert.EvenFRefIdeal.τ).loc Cert.EvenFRefIdeal.main_arg0) = m ((c.tc : Thread Cert.EvenFIdeal.nD Cert.EvenFIdeal.τ).loc Cert.EvenFIdeal.main_arg0)
      ∧ m' ((c.tc : Thread Cert.EvenFRefIdeal.nD Cert.EvenFRefIdeal.τ).loc Cert.EvenFRefIdeal.main_arg1) = m ((c.tc : Thread Cert.EvenFIdeal.nD Cert.EvenFIdeal.τ).loc Cert.EvenFIdeal.main_arg1)
      ∧ m' ((c.tc : Thread Cert.EvenFRefIdeal.nD Cert.EvenFRefIdeal.τ).loc Cert.EvenFRefIdeal.main_arg2) = m ((c.tc : Thread Cert.EvenFIdeal.nD Cert.EvenFIdeal.τ).loc Cert.EvenFIdeal.main_arg2)
      ∧ m' ((c.tc : Thread Cert.EvenFRefIdeal.nD Cert.EvenFRefIdeal.τ).loc Cert.EvenFRefIdeal.main_arg3) = m ((c.tc : Thread Cert.EvenFIdeal.nD Cert.EvenFIdeal.τ).loc Cert.EvenFIdeal.main_arg3)
      ∧ m' ((c.tc : Thread Cert.EvenFRefIdeal.nD Cert.EvenFRefIdeal.τ).loc Cert.EvenFRefIdeal.main_arg4) = m ((c.tc : Thread Cert.EvenFIdeal.nD Cert.EvenFIdeal.τ).loc Cert.EvenFIdeal.main_arg4)) →
    ∃ (v0 : (c : Dev Cert.EvenFIdeal.nD) → Buf (Elt Ideal) ((c.tc : Thread Cert.EvenFIdeal.nD Cert.EvenFIdeal.τ).loc Cert.EvenFIdeal.main_v5)),
      θ_run (Cert.EvenFIdeal.defs (F := Ideal)) (onTc (τ := Cert.EvenFIdeal.τ) (Cert.EvenFIdeal.main (F := Ideal))) ⟨m, fun _ => 0, g⟩ (fun r => ∀ c : Dev Cert.EvenFIdeal.nD,
          r.2.mem ((c.tc : Thread Cert.EvenFIdeal.nD Cert.EvenFIdeal.τ).loc Cert.EvenFIdeal.main_v5) = v0 c
          ∧ r.2.mem ((c.tc : Thread Cert.EvenFIdeal.nD Cert.EvenFIdeal.τ).loc Cert.EvenFIdeal.main_arg0) = m ((c.tc : Thread Cert.EvenFIdeal.nD Cert.EvenFIdeal.τ).loc Cert.EvenFIdeal.main_arg0)
          ∧ r.2.mem ((c.tc : Thread Cert.EvenFIdeal.nD Cert.EvenFIdeal.τ).loc Cert.EvenFIdeal.main_arg1) = m ((c.tc : Thread Cert.EvenFIdeal.nD Cert.EvenFIdeal.τ).loc Cert.EvenFIdeal.main_arg1)
          ∧ r.2.mem ((c.tc : Thread Cert.EvenFIdeal.nD Cert.EvenFIdeal.τ).loc Cert.EvenFIdeal.main_arg2) = m ((c.tc : Thread Cert.EvenFIdeal.nD Cert.EvenFIdeal.τ).loc Cert.EvenFIdeal.main_arg2)
          ∧ r.2.mem ((c.tc : Thread Cert.EvenFIdeal.nD Cert.EvenFIdeal.τ).loc Cert.EvenFIdeal.main_arg3) = m ((c.tc : Thread Cert.EvenFIdeal.nD Cert.EvenFIdeal.τ).loc Cert.EvenFIdeal.main_arg3)
          ∧ r.2.mem ((c.tc : Thread Cert.EvenFIdeal.nD Cert.EvenFIdeal.τ).loc Cert.EvenFIdeal.main_arg4) = m ((c.tc : Thread Cert.EvenFIdeal.nD Cert.EvenFIdeal.τ).loc Cert.EvenFIdeal.main_arg4))
      ∧ θ_run (Cert.EvenFRefIdeal.defs (F := Ideal)) (onTc (τ := Cert.EvenFRefIdeal.τ) (Cert.EvenFRefIdeal.main (F := Ideal))) ⟨m', fun _ => 0, g'⟩ (fun r => ∀ c : Dev Cert.EvenFRefIdeal.nD,
          r.2.mem ((c.tc : Thread Cert.EvenFRefIdeal.nD Cert.EvenFRefIdeal.τ).loc Cert.EvenFRefIdeal.main_v56) = v0 c
          ∧ r.2.mem ((c.tc : Thread Cert.EvenFRefIdeal.nD Cert.EvenFRefIdeal.τ).loc Cert.EvenFRefIdeal.main_arg0) = m' ((c.tc : Thread Cert.EvenFRefIdeal.nD Cert.EvenFRefIdeal.τ).loc Cert.EvenFRefIdeal.main_arg0)
          ∧ r.2.mem ((c.tc : Thread Cert.EvenFRefIdeal.nD Cert.EvenFRefIdeal.τ).loc Cert.EvenFRefIdeal.main_arg1) = m' ((c.tc : Thread Cert.EvenFRefIdeal.nD Cert.EvenFRefIdeal.τ).loc Cert.EvenFRefIdeal.main_arg1)
          ∧ r.2.mem ((c.tc : Thread Cert.EvenFRefIdeal.nD Cert.EvenFRefIdeal.τ).loc Cert.EvenFRefIdeal.main_arg2) = m' ((c.tc : Thread Cert.EvenFRefIdeal.nD Cert.EvenFRefIdeal.τ).loc Cert.EvenFRefIdeal.main_arg2)
          ∧ r.2.mem ((c.tc : Thread Cert.EvenFRefIdeal.nD Cert.EvenFRefIdeal.τ).loc Cert.EvenFRefIdeal.main_arg3) = m' ((c.tc : Thread Cert.EvenFRefIdeal.nD Cert.EvenFRefIdeal.τ).loc Cert.EvenFRefIdeal.main_arg3)
          ∧ r.2.mem ((c.tc : Thread Cert.EvenFRefIdeal.nD Cert.EvenFRefIdeal.τ).loc Cert.EvenFRefIdeal.main_arg4) = m' ((c.tc : Thread Cert.EvenFRefIdeal.nD Cert.EvenFRefIdeal.τ).loc Cert.EvenFRefIdeal.main_arg4))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)) →
    ∃ (v0 : (c : Dev Cert.OddOutIdeal.nD) → Buf (Elt Ideal) ((c.tc : Thread Cert.OddOutIdeal.nD Cert.OddOutIdeal.τ).loc Cert.OddOutIdeal.main_v2)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v2) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v10) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v14) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v9)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v9) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v9) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_PeerIn_PeerInIdeal : Prop :=
  True

def algebraic_PeerInIdeal_PeerInRefIdeal [hPeerInIdeal : Cert.PeerInIdeal.Facts] [hPeerInRefIdeal : Cert.PeerInRefIdeal.Facts] : Prop :=
  ∀ (m : (ℓ : Loc Cert.PeerInIdeal.nD Cert.PeerInIdeal.τ Cert.PeerInIdeal.sig) → Buf (Elt Ideal) ℓ) (g : Dev Cert.PeerInIdeal.nD → PrngReg)
    (m' : (ℓ : Loc Cert.PeerInRefIdeal.nD Cert.PeerInRefIdeal.τ Cert.PeerInRefIdeal.sig) → Buf (Elt Ideal) ℓ) (g' : Dev Cert.PeerInRefIdeal.nD → PrngReg), Pre_PeerInIdeal m →
    (∀ c : Dev Cert.PeerInIdeal.nD,
      m' ((c.tc : Thread Cert.PeerInRefIdeal.nD Cert.PeerInRefIdeal.τ).loc Cert.PeerInRefIdeal.main_arg0) = m ((c.tc : Thread Cert.PeerInIdeal.nD Cert.PeerInIdeal.τ).loc Cert.PeerInIdeal.main_arg0)
      ∧ m' ((c.tc : Thread Cert.PeerInRefIdeal.nD Cert.PeerInRefIdeal.τ).loc Cert.PeerInRefIdeal.main_arg1) = m ((c.tc : Thread Cert.PeerInIdeal.nD Cert.PeerInIdeal.τ).loc Cert.PeerInIdeal.main_arg1)
      ∧ m' ((c.tc : Thread Cert.PeerInRefIdeal.nD Cert.PeerInRefIdeal.τ).loc Cert.PeerInRefIdeal.main_arg2) = m ((c.tc : Thread Cert.PeerInIdeal.nD Cert.PeerInIdeal.τ).loc Cert.PeerInIdeal.main_arg2)
      ∧ m' ((c.tc : Thread Cert.PeerInRefIdeal.nD Cert.PeerInRefIdeal.τ).loc Cert.PeerInRefIdeal.main_arg3) = m ((c.tc : Thread Cert.PeerInIdeal.nD Cert.PeerInIdeal.τ).loc Cert.PeerInIdeal.main_arg3)
      ∧ m' ((c.tc : Thread Cert.PeerInRefIdeal.nD Cert.PeerInRefIdeal.τ).loc Cert.PeerInRefIdeal.main_arg4) = m ((c.tc : Thread Cert.PeerInIdeal.nD Cert.PeerInIdeal.τ).loc Cert.PeerInIdeal.main_arg4)) →
    ∃ (v0 : (c : Dev Cert.PeerInIdeal.nD) → Buf (Elt Ideal) ((c.tc : Thread Cert.PeerInIdeal.nD Cert.PeerInIdeal.τ).loc Cert.PeerInIdeal.main_v4_0)) (v1 : (c : Dev Cert.PeerInIdeal.nD) → Buf (Elt Ideal) ((c.tc : Thread Cert.PeerInIdeal.nD Cert.PeerInIdeal.τ).loc Cert.PeerInIdeal.main_v4_1)),
      θ_run (Cert.PeerInIdeal.defs (F := Ideal)) (onTc (τ := Cert.PeerInIdeal.τ) (Cert.PeerInIdeal.main (F := Ideal))) ⟨m, fun _ => 0, g⟩ (fun r => ∀ c : Dev Cert.PeerInIdeal.nD,
          r.2.mem ((c.tc : Thread Cert.PeerInIdeal.nD Cert.PeerInIdeal.τ).loc Cert.PeerInIdeal.main_v4_0) = v0 c
          ∧ r.2.mem ((c.tc : Thread Cert.PeerInIdeal.nD Cert.PeerInIdeal.τ).loc Cert.PeerInIdeal.main_v4_1) = v1 c
          ∧ r.2.mem ((c.tc : Thread Cert.PeerInIdeal.nD Cert.PeerInIdeal.τ).loc Cert.PeerInIdeal.main_arg0) = m ((c.tc : Thread Cert.PeerInIdeal.nD Cert.PeerInIdeal.τ).loc Cert.PeerInIdeal.main_arg0)
          ∧ r.2.mem ((c.tc : Thread Cert.PeerInIdeal.nD Cert.PeerInIdeal.τ).loc Cert.PeerInIdeal.main_arg1) = m ((c.tc : Thread Cert.PeerInIdeal.nD Cert.PeerInIdeal.τ).loc Cert.PeerInIdeal.main_arg1)
          ∧ r.2.mem ((c.tc : Thread Cert.PeerInIdeal.nD Cert.PeerInIdeal.τ).loc Cert.PeerInIdeal.main_arg2) = m ((c.tc : Thread Cert.PeerInIdeal.nD Cert.PeerInIdeal.τ).loc Cert.PeerInIdeal.main_arg2)
          ∧ r.2.mem ((c.tc : Thread Cert.PeerInIdeal.nD Cert.PeerInIdeal.τ).loc Cert.PeerInIdeal.main_arg3) = m ((c.tc : Thread Cert.PeerInIdeal.nD Cert.PeerInIdeal.τ).loc Cert.PeerInIdeal.main_arg3)
          ∧ r.2.mem ((c.tc : Thread Cert.PeerInIdeal.nD Cert.PeerInIdeal.τ).loc Cert.PeerInIdeal.main_arg4) = m ((c.tc : Thread Cert.PeerInIdeal.nD Cert.PeerInIdeal.τ).loc Cert.PeerInIdeal.main_arg4))
      ∧ θ_run (Cert.PeerInRefIdeal.defs (F := Ideal)) (onTc (τ := Cert.PeerInRefIdeal.τ) (Cert.PeerInRefIdeal.main (F := Ideal))) ⟨m', fun _ => 0, g'⟩ (fun r => ∀ c : Dev Cert.PeerInRefIdeal.nD,
          r.2.mem ((c.tc : Thread Cert.PeerInRefIdeal.nD Cert.PeerInRefIdeal.τ).loc Cert.PeerInRefIdeal.main_v54) = v0 c
          ∧ r.2.mem ((c.tc : Thread Cert.PeerInRefIdeal.nD Cert.PeerInRefIdeal.τ).loc Cert.PeerInRefIdeal.main_v59) = v1 c
          ∧ r.2.mem ((c.tc : Thread Cert.PeerInRefIdeal.nD Cert.PeerInRefIdeal.τ).loc Cert.PeerInRefIdeal.main_arg0) = m' ((c.tc : Thread Cert.PeerInRefIdeal.nD Cert.PeerInRefIdeal.τ).loc Cert.PeerInRefIdeal.main_arg0)
          ∧ r.2.mem ((c.tc : Thread Cert.PeerInRefIdeal.nD Cert.PeerInRefIdeal.τ).loc Cert.PeerInRefIdeal.main_arg1) = m' ((c.tc : Thread Cert.PeerInRefIdeal.nD Cert.PeerInRefIdeal.τ).loc Cert.PeerInRefIdeal.main_arg1)
          ∧ r.2.mem ((c.tc : Thread Cert.PeerInRefIdeal.nD Cert.PeerInRefIdeal.τ).loc Cert.PeerInRefIdeal.main_arg2) = m' ((c.tc : Thread Cert.PeerInRefIdeal.nD Cert.PeerInRefIdeal.τ).loc Cert.PeerInRefIdeal.main_arg2)
          ∧ r.2.mem ((c.tc : Thread Cert.PeerInRefIdeal.nD Cert.PeerInRefIdeal.τ).loc Cert.PeerInRefIdeal.main_arg3) = m' ((c.tc : Thread Cert.PeerInRefIdeal.nD Cert.PeerInRefIdeal.τ).loc Cert.PeerInRefIdeal.main_arg3)
          ∧ r.2.mem ((c.tc : Thread Cert.PeerInRefIdeal.nD Cert.PeerInRefIdeal.τ).loc Cert.PeerInRefIdeal.main_arg4) = m' ((c.tc : Thread Cert.PeerInRefIdeal.nD Cert.PeerInRefIdeal.τ).loc Cert.PeerInRefIdeal.main_arg4))

def preserves_PeerLast_PeerLastIdeal : Prop :=
  True

def algebraic_PeerLastIdeal_PeerLastRefIdeal [hPeerLastIdeal : Cert.PeerLastIdeal.Facts] [hPeerLastRefIdeal : Cert.PeerLastRefIdeal.Facts] : Prop :=
  ∀ (m : (ℓ : Loc Cert.PeerLastIdeal.nD Cert.PeerLastIdeal.τ Cert.PeerLastIdeal.sig) → Buf (Elt Ideal) ℓ) (g : Dev Cert.PeerLastIdeal.nD → PrngReg)
    (m' : (ℓ : Loc Cert.PeerLastRefIdeal.nD Cert.PeerLastRefIdeal.τ Cert.PeerLastRefIdeal.sig) → Buf (Elt Ideal) ℓ) (g' : Dev Cert.PeerLastRefIdeal.nD → PrngReg), Pre_PeerLastIdeal m →
    (∀ c : Dev Cert.PeerLastIdeal.nD,
      m' ((c.tc : Thread Cert.PeerLastRefIdeal.nD Cert.PeerLastRefIdeal.τ).loc Cert.PeerLastRefIdeal.main_arg0) = m ((c.tc : Thread Cert.PeerLastIdeal.nD Cert.PeerLastIdeal.τ).loc Cert.PeerLastIdeal.main_arg0)
      ∧ m' ((c.tc : Thread Cert.PeerLastRefIdeal.nD Cert.PeerLastRefIdeal.τ).loc Cert.PeerLastRefIdeal.main_arg1) = m ((c.tc : Thread Cert.PeerLastIdeal.nD Cert.PeerLastIdeal.τ).loc Cert.PeerLastIdeal.main_arg1)
      ∧ m' ((c.tc : Thread Cert.PeerLastRefIdeal.nD Cert.PeerLastRefIdeal.τ).loc Cert.PeerLastRefIdeal.main_arg2) = m ((c.tc : Thread Cert.PeerLastIdeal.nD Cert.PeerLastIdeal.τ).loc Cert.PeerLastIdeal.main_arg2)
      ∧ m' ((c.tc : Thread Cert.PeerLastRefIdeal.nD Cert.PeerLastRefIdeal.τ).loc Cert.PeerLastRefIdeal.main_arg3) = m ((c.tc : Thread Cert.PeerLastIdeal.nD Cert.PeerLastIdeal.τ).loc Cert.PeerLastIdeal.main_arg3)
      ∧ m' ((c.tc : Thread Cert.PeerLastRefIdeal.nD Cert.PeerLastRefIdeal.τ).loc Cert.PeerLastRefIdeal.main_arg4) = m ((c.tc : Thread Cert.PeerLastIdeal.nD Cert.PeerLastIdeal.τ).loc Cert.PeerLastIdeal.main_arg4)) →
    ∃ (v0 : (c : Dev Cert.PeerLastIdeal.nD) → Buf (Elt Ideal) ((c.tc : Thread Cert.PeerLastIdeal.nD Cert.PeerLastIdeal.τ).loc Cert.PeerLastIdeal.main_v4_0)) (v1 : (c : Dev Cert.PeerLastIdeal.nD) → Buf (Elt Ideal) ((c.tc : Thread Cert.PeerLastIdeal.nD Cert.PeerLastIdeal.τ).loc Cert.PeerLastIdeal.main_v4_1)),
      θ_run (Cert.PeerLastIdeal.defs (F := Ideal)) (onTc (τ := Cert.PeerLastIdeal.τ) (Cert.PeerLastIdeal.main (F := Ideal))) ⟨m, fun _ => 0, g⟩ (fun r => ∀ c : Dev Cert.PeerLastIdeal.nD,
          r.2.mem ((c.tc : Thread Cert.PeerLastIdeal.nD Cert.PeerLastIdeal.τ).loc Cert.PeerLastIdeal.main_v4_0) = v0 c
          ∧ r.2.mem ((c.tc : Thread Cert.PeerLastIdeal.nD Cert.PeerLastIdeal.τ).loc Cert.PeerLastIdeal.main_v4_1) = v1 c
          ∧ r.2.mem ((c.tc : Thread Cert.PeerLastIdeal.nD Cert.PeerLastIdeal.τ).loc Cert.PeerLastIdeal.main_arg0) = m ((c.tc : Thread Cert.PeerLastIdeal.nD Cert.PeerLastIdeal.τ).loc Cert.PeerLastIdeal.main_arg0)
          ∧ r.2.mem ((c.tc : Thread Cert.PeerLastIdeal.nD Cert.PeerLastIdeal.τ).loc Cert.PeerLastIdeal.main_arg1) = m ((c.tc : Thread Cert.PeerLastIdeal.nD Cert.PeerLastIdeal.τ).loc Cert.PeerLastIdeal.main_arg1)
          ∧ r.2.mem ((c.tc : Thread Cert.PeerLastIdeal.nD Cert.PeerLastIdeal.τ).loc Cert.PeerLastIdeal.main_arg2) = m ((c.tc : Thread Cert.PeerLastIdeal.nD Cert.PeerLastIdeal.τ).loc Cert.PeerLastIdeal.main_arg2)
          ∧ r.2.mem ((c.tc : Thread Cert.PeerLastIdeal.nD Cert.PeerLastIdeal.τ).loc Cert.PeerLastIdeal.main_arg3) = m ((c.tc : Thread Cert.PeerLastIdeal.nD Cert.PeerLastIdeal.τ).loc Cert.PeerLastIdeal.main_arg3)
          ∧ r.2.mem ((c.tc : Thread Cert.PeerLastIdeal.nD Cert.PeerLastIdeal.τ).loc Cert.PeerLastIdeal.main_arg4) = m ((c.tc : Thread Cert.PeerLastIdeal.nD Cert.PeerLastIdeal.τ).loc Cert.PeerLastIdeal.main_arg4))
      ∧ θ_run (Cert.PeerLastRefIdeal.defs (F := Ideal)) (onTc (τ := Cert.PeerLastRefIdeal.τ) (Cert.PeerLastRefIdeal.main (F := Ideal))) ⟨m', fun _ => 0, g'⟩ (fun r => ∀ c : Dev Cert.PeerLastRefIdeal.nD,
          r.2.mem ((c.tc : Thread Cert.PeerLastRefIdeal.nD Cert.PeerLastRefIdeal.τ).loc Cert.PeerLastRefIdeal.main_v25) = v0 c
          ∧ r.2.mem ((c.tc : Thread Cert.PeerLastRefIdeal.nD Cert.PeerLastRefIdeal.τ).loc Cert.PeerLastRefIdeal.main_v28) = v1 c
          ∧ r.2.mem ((c.tc : Thread Cert.PeerLastRefIdeal.nD Cert.PeerLastRefIdeal.τ).loc Cert.PeerLastRefIdeal.main_arg0) = m' ((c.tc : Thread Cert.PeerLastRefIdeal.nD Cert.PeerLastRefIdeal.τ).loc Cert.PeerLastRefIdeal.main_arg0)
          ∧ r.2.mem ((c.tc : Thread Cert.PeerLastRefIdeal.nD Cert.PeerLastRefIdeal.τ).loc Cert.PeerLastRefIdeal.main_arg1) = m' ((c.tc : Thread Cert.PeerLastRefIdeal.nD Cert.PeerLastRefIdeal.τ).loc Cert.PeerLastRefIdeal.main_arg1)
          ∧ r.2.mem ((c.tc : Thread Cert.PeerLastRefIdeal.nD Cert.PeerLastRefIdeal.τ).loc Cert.PeerLastRefIdeal.main_arg2) = m' ((c.tc : Thread Cert.PeerLastRefIdeal.nD Cert.PeerLastRefIdeal.τ).loc Cert.PeerLastRefIdeal.main_arg2)
          ∧ r.2.mem ((c.tc : Thread Cert.PeerLastRefIdeal.nD Cert.PeerLastRefIdeal.τ).loc Cert.PeerLastRefIdeal.main_arg3) = m' ((c.tc : Thread Cert.PeerLastRefIdeal.nD Cert.PeerLastRefIdeal.τ).loc Cert.PeerLastRefIdeal.main_arg3)
          ∧ r.2.mem ((c.tc : Thread Cert.PeerLastRefIdeal.nD Cert.PeerLastRefIdeal.τ).loc Cert.PeerLastRefIdeal.main_arg4) = m' ((c.tc : Thread Cert.PeerLastRefIdeal.nD Cert.PeerLastRefIdeal.τ).loc Cert.PeerLastRefIdeal.main_arg4))

def preserves_EvenOut_EvenOutIdeal : Prop :=
  True

def algebraic_EvenOutIdeal_EvenOutRefIdeal_pre_finite_mix [hEvenOutIdeal : Cert.EvenOutIdeal.Facts] [hEvenOutRefIdeal : Cert.EvenOutRefIdeal.Facts] [hPre_finite_mix : Cert.Pre_finite_mix.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal_finite_mix m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)) →
    ∃ (v0 : (c : Dev Cert.EvenOutIdeal.nD) → Buf (Elt Ideal) ((c.tc : Thread Cert.EvenOutIdeal.nD Cert.EvenOutIdeal.τ).loc Cert.EvenOutIdeal.main_v6)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v6) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v24) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4))

def preserves_CtxAttn_CtxAttnIdeal : Prop :=
  True

def algebraic_CtxAttnIdeal_CtxAttnRefIdeal_pre_finite_ctx [hCtxAttnIdeal : Cert.CtxAttnIdeal.Facts] [hCtxAttnRefIdeal : Cert.CtxAttnRefIdeal.Facts] [hPre_finite_ctx : Cert.Pre_finite_ctx.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg)
    (m' : (ℓ : Loc Cert.CtxAttnRefIdeal.nD Cert.CtxAttnRefIdeal.τ Cert.CtxAttnRefIdeal.sig) → Buf (Elt Ideal) ℓ) (g' : Dev Cert.CtxAttnRefIdeal.nD → PrngReg), Pre_CtxAttnIdeal_finite_ctx m →
    (∀ c : Dev Cert.CtxAttnIdeal.nD,
      m' ((c.tc : Thread Cert.CtxAttnRefIdeal.nD Cert.CtxAttnRefIdeal.τ).loc Cert.CtxAttnRefIdeal.main_arg0) = m ((c.tc : Thread Cert.CtxAttnIdeal.nD Cert.CtxAttnIdeal.τ).loc Cert.CtxAttnIdeal.main_arg0)) →
    ∃ (v0 : (c : Dev Cert.CtxAttnIdeal.nD) → Buf (Elt Ideal) ((c.tc : Thread Cert.CtxAttnIdeal.nD Cert.CtxAttnIdeal.τ).loc Cert.CtxAttnIdeal.main_v0)),
      θ_run (Cert.CtxAttnIdeal.defs (F := Ideal)) (onTc (τ := Cert.CtxAttnIdeal.τ) (Cert.CtxAttnIdeal.main (F := Ideal))) ⟨m, fun _ => 0, g⟩ (fun r => ∀ c : Dev Cert.CtxAttnIdeal.nD,
          r.2.mem ((c.tc : Thread Cert.CtxAttnIdeal.nD Cert.CtxAttnIdeal.τ).loc Cert.CtxAttnIdeal.main_v0) = v0 c
          ∧ r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0))
      ∧ θ_run (Cert.CtxAttnRefIdeal.defs (F := Ideal)) (onTc (τ := Cert.CtxAttnRefIdeal.τ) (Cert.CtxAttnRefIdeal.main (F := Ideal))) ⟨m', fun _ => 0, g'⟩ (fun r => ∀ c : Dev Cert.CtxAttnRefIdeal.nD,
          r.2.mem ((c.tc : Thread Cert.CtxAttnRefIdeal.nD Cert.CtxAttnRefIdeal.τ).loc Cert.CtxAttnRefIdeal.main_v30) = v0 c
          ∧ r.2.mem ((c.tc : Thread Cert.CtxAttnRefIdeal.nD Cert.CtxAttnRefIdeal.τ).loc Cert.CtxAttnRefIdeal.main_arg0) = m' ((c.tc : Thread Cert.CtxAttnRefIdeal.nD Cert.CtxAttnRefIdeal.τ).loc Cert.CtxAttnRefIdeal.main_arg0))

def Claim : Prop :=
  ∃ (hKernel : Cert.Kernel.Facts) (hKernelIdeal : Cert.KernelIdeal.Facts) (hReferenceIdeal : Cert.ReferenceIdeal.Facts) (hOddIn : Cert.OddIn.Facts) (hOddInIdeal : Cert.OddInIdeal.Facts) (hOddInRefIdeal : Cert.OddInRefIdeal.Facts) (hEvenQkv : Cert.EvenQkv.Facts) (hEvenQkvIdeal : Cert.EvenQkvIdeal.Facts) (hEvenQkvRefIdeal : Cert.EvenQkvRefIdeal.Facts) (hEvenF : Cert.EvenF.Facts) (hEvenFIdeal : Cert.EvenFIdeal.Facts) (hEvenFRefIdeal : Cert.EvenFRefIdeal.Facts) (hOddOut : Cert.OddOut.Facts) (hOddOutIdeal : Cert.OddOutIdeal.Facts) (hOddOutRefIdeal : Cert.OddOutRefIdeal.Facts) (hFinal : Cert.Final.Facts) (hFinalIdeal : Cert.FinalIdeal.Facts) (hFinalRefIdeal : Cert.FinalRefIdeal.Facts) (hMod : Cert.Mod.Facts) (hModIdeal : Cert.ModIdeal.Facts) (hModRefIdeal : Cert.ModRefIdeal.Facts) (hPeerIn : Cert.PeerIn.Facts) (hPeerInIdeal : Cert.PeerInIdeal.Facts) (hPeerInRefIdeal : Cert.PeerInRefIdeal.Facts) (hPeerLast : Cert.PeerLast.Facts) (hPeerLastIdeal : Cert.PeerLastIdeal.Facts) (hPeerLastRefIdeal : Cert.PeerLastRefIdeal.Facts) (hEvenOut : Cert.EvenOut.Facts) (hEvenOutIdeal : Cert.EvenOutIdeal.Facts) (hEvenOutRefIdeal : Cert.EvenOutRefIdeal.Facts) (hCtxAttn : Cert.CtxAttn.Facts) (hCtxAttnIdeal : Cert.CtxAttnIdeal.Facts) (hCtxAttnRefIdeal : Cert.CtxAttnRefIdeal.Facts) (hPre_finite : Cert.Pre_finite.Facts) (hPre_finite_mix : Cert.Pre_finite_mix.Facts) (hPre_finite_ctx : Cert.Pre_finite_ctx.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OddIn (hOddIn := hOddIn)
    ∧ quiescent_OddInIdeal (hOddInIdeal := hOddInIdeal)
    ∧ quiescent_OddInRefIdeal (hOddInRefIdeal := hOddInRefIdeal)
    ∧ quiescent_EvenQkv (hEvenQkv := hEvenQkv)
    ∧ quiescent_EvenQkvIdeal (hEvenQkvIdeal := hEvenQkvIdeal)
    ∧ quiescent_EvenQkvRefIdeal (hEvenQkvRefIdeal := hEvenQkvRefIdeal)
    ∧ quiescent_EvenF (hEvenF := hEvenF)
    ∧ quiescent_EvenFIdeal (hEvenFIdeal := hEvenFIdeal)
    ∧ quiescent_EvenFRefIdeal (hEvenFRefIdeal := hEvenFRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_Final (hFinal := hFinal)
    ∧ quiescent_FinalIdeal (hFinalIdeal := hFinalIdeal)
    ∧ quiescent_FinalRefIdeal (hFinalRefIdeal := hFinalRefIdeal)
    ∧ quiescent_Mod (hMod := hMod)
    ∧ quiescent_ModIdeal (hModIdeal := hModIdeal)
    ∧ quiescent_ModRefIdeal (hModRefIdeal := hModRefIdeal)
    ∧ quiescent_PeerIn (hPeerIn := hPeerIn)
    ∧ quiescent_PeerInIdeal (hPeerInIdeal := hPeerInIdeal)
    ∧ quiescent_PeerInRefIdeal (hPeerInRefIdeal := hPeerInRefIdeal)
    ∧ quiescent_PeerLast (hPeerLast := hPeerLast)
    ∧ quiescent_PeerLastIdeal (hPeerLastIdeal := hPeerLastIdeal)
    ∧ quiescent_PeerLastRefIdeal (hPeerLastRefIdeal := hPeerLastRefIdeal)
    ∧ quiescent_EvenOut (hEvenOut := hEvenOut)
    ∧ quiescent_EvenOutIdeal (hEvenOutIdeal := hEvenOutIdeal)
    ∧ quiescent_EvenOutIdeal_pre_finite_mix (hEvenOutIdeal := hEvenOutIdeal) (hPre_finite_mix := hPre_finite_mix)
    ∧ quiescent_EvenOutRefIdeal (hEvenOutRefIdeal := hEvenOutRefIdeal)
    ∧ quiescent_EvenOutRefIdeal_pre_finite_mix (hEvenOutRefIdeal := hEvenOutRefIdeal) (hPre_finite_mix := hPre_finite_mix)
    ∧ quiescent_CtxAttn (hCtxAttn := hCtxAttn)
    ∧ quiescent_CtxAttnIdeal (hCtxAttnIdeal := hCtxAttnIdeal)
    ∧ quiescent_CtxAttnIdeal_pre_finite_ctx (hCtxAttnIdeal := hCtxAttnIdeal) (hPre_finite_ctx := hPre_finite_ctx)
    ∧ quiescent_CtxAttnRefIdeal (hCtxAttnRefIdeal := hCtxAttnRefIdeal)
    ∧ quiescent_CtxAttnRefIdeal_pre_finite_ctx (hCtxAttnRefIdeal := hCtxAttnRefIdeal) (hPre_finite_ctx := hPre_finite_ctx)
    ∧ preserves_Kernel_KernelIdeal
    ∧ algebraic_KernelIdeal_ReferenceIdeal_pre_finite (hKernelIdeal := hKernelIdeal) (hReferenceIdeal := hReferenceIdeal) (hPre_finite := hPre_finite)
    ∧ preserves_OddIn_OddInIdeal
    ∧ algebraic_OddInIdeal_OddInRefIdeal (hOddInIdeal := hOddInIdeal) (hOddInRefIdeal := hOddInRefIdeal)
    ∧ preserves_EvenQkv_EvenQkvIdeal
    ∧ algebraic_EvenQkvIdeal_EvenQkvRefIdeal (hEvenQkvIdeal := hEvenQkvIdeal) (hEvenQkvRefIdeal := hEvenQkvRefIdeal)
    ∧ preserves_EvenF_EvenFIdeal
    ∧ algebraic_EvenFIdeal_EvenFRefIdeal (hEvenFIdeal := hEvenFIdeal) (hEvenFRefIdeal := hEvenFRefIdeal)
    ∧ preserves_OddOut_OddOutIdeal
    ∧ algebraic_OddOutIdeal_OddOutRefIdeal (hOddOutIdeal := hOddOutIdeal) (hOddOutRefIdeal := hOddOutRefIdeal)
    ∧ preserves_Final_FinalIdeal
    ∧ algebraic_FinalIdeal_FinalRefIdeal (hFinalIdeal := hFinalIdeal) (hFinalRefIdeal := hFinalRefIdeal)
    ∧ preserves_Mod_ModIdeal
    ∧ algebraic_ModIdeal_ModRefIdeal (hModIdeal := hModIdeal) (hModRefIdeal := hModRefIdeal)
    ∧ preserves_PeerIn_PeerInIdeal
    ∧ algebraic_PeerInIdeal_PeerInRefIdeal (hPeerInIdeal := hPeerInIdeal) (hPeerInRefIdeal := hPeerInRefIdeal)
    ∧ preserves_PeerLast_PeerLastIdeal
    ∧ algebraic_PeerLastIdeal_PeerLastRefIdeal (hPeerLastIdeal := hPeerLastIdeal) (hPeerLastRefIdeal := hPeerLastRefIdeal)
    ∧ preserves_EvenOut_EvenOutIdeal
    ∧ algebraic_EvenOutIdeal_EvenOutRefIdeal_pre_finite_mix (hEvenOutIdeal := hEvenOutIdeal) (hEvenOutRefIdeal := hEvenOutRefIdeal) (hPre_finite_mix := hPre_finite_mix)
    ∧ preserves_CtxAttn_CtxAttnIdeal
    ∧ algebraic_CtxAttnIdeal_CtxAttnRefIdeal_pre_finite_ctx (hCtxAttnIdeal := hCtxAttnIdeal) (hCtxAttnRefIdeal := hCtxAttnRefIdeal) (hPre_finite_ctx := hPre_finite_ctx)
-- ==== Pre_finite.lean ====
abbrev S33792x3072 : Shape := ⟨2, ![33792, 3072]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S33792x3072 : S_.BroadcastsInDim S33792x3072 (![] : Fin 0 → Fin S33792x3072.rank)
  reducesTo_S33792x3072_S_d0_1 : S33792x3072.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_v28 : IVec S_ 1) (main_v33 : IVec S1x64 1) : IVec S_ 1 :=
  let main_c_12 : IVec S_ 1 := constantI S_ 1 1#1
  let main_v34 : IVec S_ 1 := (fun x v => Host.reduce IntOp.andi x v reducesTo_S1x64_S_d0_1 h_S_) main_v33 main_c_12
  let main_v35 : IVec S_ 1 := andi main_v28 main_v34
  main_v35

def fn_part1 {F : FTy → Type} [FloatOps F] (main_arg2 : FVec F S1x64 .f32) (main_arg3 : FVec F S1x64 .f32) (main_arg4 : FVec F S1x64 .f32) (main_v14 : IVec S_ 1) (main_v16 : IVec S1x64 1) : IVec S_ 1 :=
  let main_cst_5 : FVec F S_ .f32 := constant S_ .f32 0xFF800000#32
  let main_v17 : FVec F S1x64 .f32 := broadcastInDim S1x64 ![] bcast_S_S1x64 main_cst_5
  let main_v18 : IVec S1x64 1 := cmpf .ogt main_arg2 main_v17
  let main_v19 : IVec S1x64 1 := andi main_v16 main_v18
  let main_c_6 : IVec S_ 1 := constantI S_ 1 1#1
  let main_v20 : IVec S_ 1 := (fun x v => Host.reduce IntOp.andi x v reducesTo_S1x64_S_d0_1 h_S_) main_v19 main_c_6
  let main_v21 : IVec S_ 1 := andi main_v14 main_v20
  let main_cst_7 : FVec F S_ .f32 := constant S_ .f32 0x7F800000#32
  let main_v22 : FVec F S1x64 .f32 := broadcastInDim S1x64 ![] bcast_S_S1x64 main_cst_7
  let main_v23 : IVec S1x64 1 := cmpf .olt main_arg3 main_v22
  let main_cst_8 : FVec F S_ .f32 := constant S_ .f32 0xFF800000#32
  let main_v24 : FVec F S1x64 .f32 := broadcastInDim S1x64 ![] bcast_S_S1x64 main_cst_8
  let main_v25 : IVec S1x64 1 := cmpf .ogt main_arg3 main_v24
  let main_v26 : IVec S1x64 1 := andi main_v23 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v21 main_v27
  let main_cst_10 : FVec F S_ .f32 := constant S_ .f32 0x7F800000#32
  let main_v29 : FVec F S1x64 .f32 := broadcastInDim S1x64 ![] bcast_S_S1x64 main_cst_10
  let main_v30 : IVec S1x64 1 := cmpf .olt main_arg4 main_v29
  let main_cst_11 : FVec F S_ .f32 := constant S_ .f32 0xFF800000#32
  let main_v31 : FVec F S1x64 .f32 := broadcastInDim S1x64 ![] bcast_S_S1x64 main_cst_11
  let main_v32 : IVec S1x64 1 := cmpf .ogt main_arg4 main_v31
  let main_v33 : IVec S1x64 1 := andi main_v30 main_v32
  fn_part2 (F := F) main_v28 main_v33

def fn {F : FTy → Type} [FloatOps F] (main_arg0 : FVec F S33792x3072 .bf16) (main_arg1 : FVec F S1x64 .f32) (main_arg2 : FVec F S1x64 .f32) (main_arg3 : FVec F S1x64 .f32) (main_arg4 : FVec F S1x64 .f32) (main_arg5 : FVec F S1x128 .f32) : IVec S_ 1 :=
  let main_v0 : FVec F S33792x3072 .f32 := (extf .f32 · bitsLt_bf16_f32) main_arg0
  let main_cst : FVec F S_ .f32 := constant S_ .f32 0x7F800000#32
  let main_v1 : FVec F S33792x3072 .f32 := broadcastInDim S33792x3072 ![] bcast_S_S33792x3072 main_cst
  let main_v2 : IVec S33792x3072 1 := cmpf .olt main_v0 main_v1
  let main_v3 : FVec F S33792x3072 .f32 := (extf .f32 · bitsLt_bf16_f32) main_arg0
  let main_cst_0 : FVec F S_ .f32 := constant S_ .f32 0xFF800000#32
  let main_v4 : FVec F S33792x3072 .f32 := broadcastInDim S33792x3072 ![] bcast_S_S33792x3072 main_cst_0
  let main_v5 : IVec S33792x3072 1 := cmpf .ogt main_v3 main_v4
  let main_v6 : IVec S33792x3072 1 := andi main_v2 main_v5
  let main_c : IVec S_ 1 := constantI S_ 1 1#1
  let main_v7 : IVec S_ 1 := (fun x v => Host.reduce IntOp.andi x v reducesTo_S33792x3072_S_d0_1 h_S_) main_v6 main_c
  let main_cst_1 : FVec F S_ .f32 := constant S_ .f32 0x7F800000#32
  let main_v8 : FVec F S1x64 .f32 := broadcastInDim S1x64 ![] bcast_S_S1x64 main_cst_1
  let main_v9 : IVec S1x64 1 := cmpf .olt main_arg1 main_v8
  let main_cst_2 : FVec F S_ .f32 := constant S_ .f32 0xFF800000#32
  let main_v10 : FVec F S1x64 .f32 := broadcastInDim S1x64 ![] bcast_S_S1x64 main_cst_2
  let main_v11 : IVec S1x64 1 := cmpf .ogt main_arg1 main_v10
  let main_v12 : IVec S1x64 1 := andi main_v9 main_v11
  let main_c_3 : IVec S_ 1 := constantI S_ 1 1#1
  let main_v13 : IVec S_ 1 := (fun x v => Host.reduce IntOp.andi x v reducesTo_S1x64_S_d0_1 h_S_) main_v12 main_c_3
  let main_v14 : IVec S_ 1 := andi main_v7 main_v13
  let main_cst_4 : FVec F S_ .f32 := constant S_ .f32 0x7F800000#32
  let main_v15 : FVec F S1x64 .f32 := broadcastInDim S1x64 ![] bcast_S_S1x64 main_cst_4
  let main_v16 : IVec S1x64 1 := cmpf .olt main_arg2 main_v15
  fn_part1 (F := F) main_arg2 main_arg3 main_arg4 main_v14 main_v16
-- ==== Pre_finite_ctx.lean ====
abbrev S33792x1536 : Shape := ⟨2, ![33792, 1536]⟩
abbrev S1024x1024 : Shape := ⟨2, ![1024, 1024]⟩
abbrev S_ : Shape := ⟨0, ![]⟩

class Facts : Prop where
  slices_S33792x1536_S1024x1024_32768_0 : S33792x1536.Slices ![32768, 0] S1024x1024
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S33792x1536 .bf16) : IVec S_ 1 :=
  let main_v0 : FVec F S1024x1024 .bf16 := (extractStridedSlice S1024x1024 ![32768, 0] · slices_S33792x1536_S1024x1024_32768_0) main_arg0
  let main_v1 : FVec F S1024x1024 .f32 := (extf .f32 · bitsLt_bf16_f32) main_v0
  let main_cst : FVec F S_ .f32 := constant S_ .f32 0x7F800000#32
  let main_v2 : FVec F S1024x1024 .f32 := broadcastInDim S1024x1024 ![] bcast_S_S1024x1024 main_cst
  let main_v3 : IVec S1024x1024 1 := cmpf .olt main_v1 main_v2
  let main_cst_0 : FVec F S_ .f32 := constant S_ .f32 0xFF800000#32
  let main_v4 : FVec F S1024x1024 .f32 := broadcastInDim S1024x1024 ![] bcast_S_S1024x1024 main_cst_0
  let main_v5 : IVec S1024x1024 1 := cmpf .ogt main_v1 main_v4
  let main_v6 : IVec S1024x1024 1 := andi main_v3 main_v5
  let main_c : IVec S_ 1 := constantI S_ 1 1#1
  let main_v7 : IVec S_ 1 := (fun x v => Host.reduce IntOp.andi x v reducesTo_S1024x1024_S_d0_1 h_S_) main_v6 main_c
  main_v7
-- ==== Pre_finite_mix.lean ====
abbrev S33792x512 : Shape := ⟨2, ![33792, 512]⟩
abbrev S1024x1024 : Shape := ⟨2, ![1024, 1024]⟩
abbrev S33792x1024 : Shape := ⟨2, ![33792, 1024]⟩
abbrev S5x1024 : Shape := ⟨2, ![5, 1024]⟩
abbrev S_ : Shape := ⟨0, ![]⟩
abbrev S512x1024 : Shape := ⟨2, ![512, 1024]⟩

class Facts : Prop where
  bcast_S_S33792x512 : S_.BroadcastsInDim S33792x512 (![] : Fin 0 → Fin S33792x512.rank)
  reducesTo_S33792x512_S_d0_1 : S33792x512.ReducesTo [0, 1] S_
  h_S_ : 0 < S_.numel
  slices_S1024x1024_S512x1024_512_0 : S1024x1024.Slices ![512, 0] S512x1024
  bcast_S_S512x1024 : S_.BroadcastsInDim S512x1024 (![] : Fin 0 → Fin S512x1024.rank)
  reducesTo_S512x1024_S_d0_1 : S512x1024.ReducesTo [0, 1] S_
  bcast_S_S5x1024 : S_.BroadcastsInDim S5x1024 (![] : Fin 0 → Fin S5x1024.rank)
  reducesTo_S5x1024_S_d0_1 : S5x1024.ReducesTo [0, 1] S_

variable [Facts]

def fn_part1 {F : FTy → Type} [FloatOps F] (main_arg4 : FVec F S5x1024 .f32) (main_v13 : IVec S_ 1) (main_v15 : IVec S5x1024 1) (main_cst_5 : FVec F S_ .f32) : IVec S_ 1 :=
  let main_v16 : FVec F S5x1024 .f32 := broadcastInDim S5x1024 ![] bcast_S_S5x1024 main_cst_5
  let main_v17 : IVec S5x1024 1 := cmpf .ogt main_arg4 main_v16
  let main_v18 : IVec S5x1024 1 := andi main_v15 main_v17
  let main_c_6 : IVec S_ 1 := constantI S_ 1 1#1
  let main_v19 : IVec S_ 1 := (fun x v => Host.reduce IntOp.andi x v reducesTo_S5x1024_S_d0_1 h_S_) main_v18 main_c_6
  let main_v20 : IVec S_ 1 := andi main_v13 main_v19
  main_v20

def fn {F : FTy → Type} [FloatOps F] (main_arg0 : FVec F S33792x512 .bf16) (main_arg1 : FVec F S33792x512 .f32) (main_arg2 : FVec F S1024x1024 .f32) (main_arg3 : FVec F S33792x1024 .f32) (main_arg4 : FVec F S5x1024 .f32) : IVec S_ 1 :=
  let main_cst : FVec F S_ .f32 := constant S_ .f32 0x7F800000#32
  let main_v0 : FVec F S33792x512 .f32 := broadcastInDim S33792x512 ![] bcast_S_S33792x512 main_cst
  let main_v1 : IVec S33792x512 1 := cmpf .olt main_arg1 main_v0
  let main_cst_0 : FVec F S_ .f32 := constant S_ .f32 0xFF800000#32
  let main_v2 : FVec F S33792x512 .f32 := broadcastInDim S33792x512 ![] bcast_S_S33792x512 main_cst_0
  let main_v3 : IVec S33792x512 1 := cmpf .ogt main_arg1 main_v2
  let main_v4 : IVec S33792x512 1 := andi main_v1 main_v3
  let main_c : IVec S_ 1 := constantI S_ 1 1#1
  let main_v5 : IVec S_ 1 := (fun x v => Host.reduce IntOp.andi x v reducesTo_S33792x512_S_d0_1 h_S_) main_v4 main_c
  let main_v6 : FVec F S512x1024 .f32 := (extractStridedSlice S512x1024 ![512, 0] · slices_S1024x1024_S512x1024_512_0) main_arg2
  let main_cst_1 : FVec F S_ .f32 := constant S_ .f32 0x7F800000#32
  let main_v7 : FVec F S512x1024 .f32 := broadcastInDim S512x1024 ![] bcast_S_S512x1024 main_cst_1
  let main_v8 : IVec S512x1024 1 := cmpf .olt main_v6 main_v7
  let main_cst_2 : FVec F S_ .f32 := constant S_ .f32 0xFF800000#32
  let main_v9 : FVec F S512x1024 .f32 := broadcastInDim S512x1024 ![] bcast_S_S512x1024 main_cst_2
  let main_v10 : IVec S512x1024 1 := cmpf .ogt main_v6 main_v9
  let main_v11 : IVec S512x1024 1 := andi main_v8 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v5 main_v12
  let main_cst_4 : FVec F S_ .f32 := constant S_ .f32 0x7F800000#32
  let main_v14 : FVec F S5x1024 .f32 := broadcastInDim S5x1024 ![] bcast_S_S5x1024 main_cst_4
  let main_v15 : IVec S5x1024 1 := cmpf .olt main_arg4 main_v14
  let main_cst_5 : FVec F S_ .f32 := constant S_ .f32 0xFF800000#32
  fn_part1 (F := F) main_arg4 main_v13 main_v15 main_cst_5
-- ==== Kernel.lean ====
abbrev S33792x3072 : Shape := ⟨2, ![33792, 3072]⟩
abbrev S1x64 : Shape := ⟨2, ![1, 64]⟩
abbrev S1x128 : Shape := ⟨2, ![1, 128]⟩
abbrev S33792x1024 : Shape := ⟨2, ![33792, 1024]⟩
abbrev S1024x33792 : Shape := ⟨2, ![1024, 33792]⟩
abbrev S64 : Shape := ⟨1, ![64]⟩
abbrev S_ : Shape := ⟨0, ![]⟩
abbrev S1 : Shape := ⟨1, ![1]⟩
abbrev S8x128x33792 : Shape := ⟨3, ![8, 128, 33792]⟩
abbrev S8x16x33792 : Shape := ⟨3, ![8, 16, 33792]⟩
abbrev S8x144x33792 : Shape := ⟨3, ![8, 144, 33792]⟩
abbrev S1152x33792 : Shape := ⟨2, ![1152, 33792]⟩
abbrev S128 : Shape := ⟨1, ![128]⟩
abbrev S32768x1024 : Shape := ⟨2, ![32768, 1024]⟩
abbrev S1024x128 : Shape := ⟨2, ![1024, 128]⟩
abbrev S2048x128 : Shape := ⟨2, ![2048, 128]⟩
abbrev S144x2048 : Shape := ⟨2, ![144, 2048]⟩
abbrev S256x128 : Shape := ⟨2, ![256, 128]⟩
abbrev S144x256 : Shape := ⟨2, ![144, 256]⟩
abbrev S2x1024x128 : Shape := ⟨3, ![2, 1024, 128]⟩
abbrev S2x1x1024 : Shape := ⟨3, ![2, 1, 1024]⟩
abbrev S2x144x1024 : Shape := ⟨3, ![2, 144, 1024]⟩
abbrev S2048x1024 : Shape := ⟨2, ![2048, 1024]⟩
abbrev S1x1024x128 : Shape := ⟨3, ![1, 1024, 128]⟩
abbrev S1x1x1024 : Shape := ⟨3, ![1, 1, 1024]⟩
abbrev S1x1024 : Shape := ⟨2, ![1, 1024]⟩
abbrev S1024 : Shape := ⟨1, ![1024]⟩
abbrev S1x144x1024 : Shape := ⟨3, ![1, 144, 1024]⟩
abbrev S144x1024 : Shape := ⟨2, ![144, 1024]⟩
abbrev S256x1024 : Shape := ⟨2, ![256, 1024]⟩
abbrev S1x128x1024 : Shape := ⟨3, ![1, 128, 1024]⟩
abbrev S128x1024 : Shape := ⟨2, ![128, 1024]⟩

abbrev nBuf : Space → Nat
  | .hbm => 32
  | .vmem => 19
  | .smem => 1
  | _ => 0

abbrev bufTy : (tb : Table) → Fin (tcTables nBuf tb) → BufTy
  | .hbm, ⟨0, _⟩ => ⟨S33792x3072, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S33792x1024, .bf16⟩
  | .hbm, ⟨7, _⟩ => ⟨S1024x33792, .bf16⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S8x128x33792, .bf16⟩
  | .hbm, ⟨25, _⟩ => ⟨S_, .bf16⟩
  | .hbm, ⟨26, _⟩ => ⟨S8x16x33792, .bf16⟩
  | .hbm, ⟨27, _⟩ => ⟨S8x144x33792, .bf16⟩
  | .hbm, ⟨28, _⟩ => ⟨S1152x33792, .bf16⟩
  | .hbm, ⟨29, _⟩ => ⟨S128, .f32⟩
  | .hbm, ⟨30, _⟩ => ⟨S1x128, .f32⟩
  | .hbm, ⟨31, _⟩ => ⟨S32768x1024, .bf16⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S144x2048, .bf16⟩
  | .local _ .vmem, ⟨7, _⟩ => ⟨S144x2048, .bf16⟩
  | .local _ .vmem, ⟨8, _⟩ => ⟨S256x128, .bf16⟩
  | .local _ .vmem, ⟨9, _⟩ => ⟨S256x128, .bf16⟩
  | .local _ .vmem, ⟨10, _⟩ => ⟨S144x256, .bf16⟩
  | .local _ .vmem, ⟨11, _⟩ => ⟨S144x256, .bf16⟩
  | .local _ .vmem, ⟨12, _⟩ => ⟨S1x128, .f32⟩
  | .local _ .vmem, ⟨13, _⟩ => ⟨S1024x128, .bf16⟩
  | .local _ .vmem, ⟨14, _⟩ => ⟨S1024x128, .bf16⟩
  | .local _ .vmem, ⟨15, _⟩ => ⟨S2x1024x128, .bf16⟩
  | .local _ .vmem, ⟨16, _⟩ => ⟨S2x1x1024, .f32⟩
  | .local _ .vmem, ⟨17, _⟩ => ⟨S2x144x1024, .f32⟩
  | .local _ .vmem, ⟨18, _⟩ => ⟨S2048x1024, .f32⟩
  | .local _ .smem, ⟨0, _⟩ => ⟨S1, .f32⟩
  | _, _ => ⟨S33792x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨4, ![4, 8, 8, 5], ![false, false, false, false]⟩

def k0_cond4 (i : grid0.Coords) : BitVec 1 :=
  let arg3 : BitVec 32 := BitVec.ofNat 32 (i 3).val
  let c4_i32 : BitVec 32 := 4#32
  let v9 : BitVec 1 := Scalar.cmpi .eq arg3 c4_i32
  let v10 : BitVec 32 := Scalar.extui v9
  let c0_i32_4 : BitVec 32 := 0#32
  let v11 : BitVec 1 := Scalar.cmpi .ne v10 c0_i32_4
  v11

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let c3_i32 : BitVec 32 := 3#32
  let v1 : BitVec 32 := Scalar.minsi arg3 c3_i32
  let v2 : BitVec 32 := Scalar.addi v0 v1
  let c8_i32 : BitVec 32 := 8#32
  let v3 : BitVec 32 := Scalar.addi c8_i32 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let c1_i32 : BitVec 32 := 1#32
  let v1 : BitVec 32 := Scalar.addi arg3 c1_i32
  let c3_i32 : BitVec 32 := 3#32
  let v2 : BitVec 32 := Scalar.minsi v1 c3_i32
  let v3 : BitVec 32 := Scalar.addi v0 v2
  let c8_i32 : BitVec 32 := 8#32
  let v4 : BitVec 32 := Scalar.addi c8_i32 arg1
  let c0_i32 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let c3_i32 : BitVec 32 := 3#32
  let v1 : BitVec 32 := Scalar.minsi arg3 c3_i32
  let v2 : BitVec 32 := Scalar.addi v0 v1
  let c0_i32 : BitVec 32 := 0#32
  ![arg1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c128_i32 : BitVec 32 := 128#32
  let v0 : BitVec 32 := Scalar.addi c128_i32 arg0
  let c8_i32 : BitVec 32 := 8#32
  let v1 : BitVec 32 := Scalar.addi c8_i32 arg1
  let c0_i32 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c128_i32 : BitVec 32 := 128#32
  let v0 : BitVec 32 := Scalar.addi c128_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, true]

abbrev stage0_4 : Fin 2 → Memref sig .tc .vmem S144x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, false]

abbrev stage0_6 : Fin 2 → Memref sig .tc .vmem S144x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true, false]
-- ==== KernelIdeal.lean ====
variable {F : FTy → Type} [FloatOps F] [Named F]
def κ : String → Option EReal := fun
  | "s" => some ((8⁻¹ * (Real.log 2)⁻¹ : ℝ) : EReal)
  | _ => none
-- ==== ReferenceIdeal.lean ====
abbrev S33792x3072 : Shape := ⟨2, ![33792, 3072]⟩
abbrev S1x64 : Shape := ⟨2, ![1, 64]⟩
abbrev S1x128 : Shape := ⟨2, ![1, 128]⟩
abbrev S32768x3072 : Shape := ⟨2, ![32768, 3072]⟩
abbrev S4x8192x3072 : Shape := ⟨3, ![4, 8192, 3072]⟩
abbrev S1024x3072 : Shape := ⟨2, ![1024, 3072]⟩
abbrev S4x256x3072 : Shape := ⟨3, ![4, 256, 3072]⟩
abbrev S4x8192x1024 : Shape := ⟨3, ![4, 8192, 1024]⟩
abbrev S4x256x1024 : Shape := ⟨3, ![4, 256, 1024]⟩
abbrev S64 : Shape := ⟨1, ![64]⟩
abbrev S_ : Shape := ⟨0, ![]⟩
abbrev S4x8192x8x2x64 : Shape := ⟨5, ![4, 8192, 8, 2, 64]⟩
abbrev S4x8x2x8192x64 : Shape := ⟨5, ![4, 8, 2, 8192, 64]⟩
abbrev S4x256x8x2x64 : Shape := ⟨5, ![4, 256, 8, 2, 64]⟩
abbrev S4x8x2x256x64 : Shape := ⟨5, ![4, 8, 2, 256, 64]⟩
abbrev S4x8x2x8448x64 : Shape := ⟨5, ![4, 8, 2, 8448, 64]⟩
abbrev S4x8192x8x128 : Shape := ⟨4, ![4, 8192, 8, 128]⟩
abbrev S4x8x8192x128 : Shape := ⟨4, ![4, 8, 8192, 128]⟩
abbrev S4x256x8x128 : Shape := ⟨4, ![4, 256, 8, 128]⟩
abbrev S4x8x256x128 : Shape := ⟨4, ![4, 8, 256, 128]⟩
abbrev S4x8x8448x128 : Shape := ⟨4, ![4, 8, 8448, 128]⟩
abbrev S4x8x2x8192x8448 : Shape := ⟨5, ![4, 8, 2, 8192, 8448]⟩
abbrev S4x8x2x8192 : Shape := ⟨4, ![4, 8, 2, 8192]⟩
abbrev S4x8x2x8192x1 : Shape := ⟨5, ![4, 8, 2, 8192, 1]⟩
abbrev S4x8x1x8192x8448 : Shape := ⟨5, ![4, 8, 1, 8192, 8448]⟩
abbrev S4x8x8192x8448 : Shape := ⟨4, ![4, 8, 8192, 8448]⟩
abbrev S128 : Shape := ⟨1, ![128]⟩
abbrev S4x8x8192 : Shape := ⟨3, ![4, 8, 8192]⟩
abbrev S4x8x8192x1 : Shape := ⟨4, ![4, 8, 8192, 1]⟩
abbrev S1x1x1x128 : Shape := ⟨4, ![1, 1, 1, 128]⟩
abbrev S32768x1024 : Shape := ⟨2, ![32768, 1024]⟩

abbrev nBuf : Space → Nat
  | .hbm => 94
  | .vmem => 0
  | .smem => 0
  | _ => 0

abbrev bufTy : (tb : Table) → Fin (tcTables nBuf tb) → BufTy
  | .hbm, ⟨0, _⟩ => ⟨S33792x3072, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S32768x3072, .bf16⟩
  | .hbm, ⟨7, _⟩ => ⟨S32768x3072, .f32⟩
  | .hbm, ⟨8, _⟩ => ⟨S4x8192x3072, .f32⟩
  | .hbm, ⟨9, _⟩ => ⟨S1024x3072, .bf16⟩
  | .hbm, ⟨10, _⟩ => ⟨S1024x3072, .f32⟩
  | .hbm, ⟨11, _⟩ => ⟨S4x256x3072, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S4x256x1024, .f32⟩
  | .hbm, ⟨16, _⟩ => ⟨S4x256x1024, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4x8192x8x2x64, .f32⟩
  | .hbm, ⟨33, _⟩ => ⟨S4x8x2x8192x64, .f32⟩
  | .hbm, ⟨34, _⟩ => ⟨S4x256x8x2x64, .f32⟩
  | .hbm, ⟨35, _⟩ => ⟨S4x8x2x256x64, .f32⟩
  | .hbm, ⟨36, _⟩ => ⟨S4x8x2x8448x64, .f32⟩
  | .hbm, ⟨37, _⟩ => ⟨S4x8192x8x128, .f32⟩
  | .hbm, ⟨38, _⟩ => ⟨S4x8x8192x128, .f32⟩
  | .hbm, ⟨39, _⟩ => ⟨S4x256x8x128, .f32⟩
  | .hbm, ⟨40, _⟩ => ⟨S4x8x256x128, .f32⟩
  | .hbm, ⟨41, _⟩ => ⟨S4x8x8448x128, .f32⟩
  | .hbm, ⟨42, _⟩ => ⟨S4x8192x8x2x64, .f32⟩
  | .hbm, ⟨43, _⟩ => ⟨S4x8x2x8192x64, .f32⟩
  | .hbm, ⟨44, _⟩ => ⟨S4x8x2x8192x8448, .f32⟩
  | .hbm, ⟨45, _⟩ => ⟨S_, .f32⟩
  | .hbm, ⟨46, _⟩ => ⟨S4x8x2x8192x8448, .f32⟩
  | .hbm, ⟨47, _⟩ => ⟨S4x8x2x8192x8448, .f32⟩
  | .hbm, ⟨48, _⟩ => ⟨S_, .f32⟩
  | .hbm, ⟨49, _⟩ => ⟨S4x8x2x8192, .f32⟩
  | .hbm, ⟨50, _⟩ => ⟨S_, .f32⟩
  | .hbm, ⟨51, _⟩ => ⟨S4x8x2x8192, .f32⟩
  | .hbm, ⟨52, _⟩ => ⟨S4x8x2x8192, .f32⟩
  | .hbm, ⟨53, _⟩ => ⟨S4x8x2x8192x1, .f32⟩
  | .hbm, ⟨54, _⟩ => ⟨S4x8x2x8192x8448, .f32⟩
  | .hbm, ⟨55, _⟩ => ⟨S4x8x2x8192x8448, .f32⟩
  | .hbm, ⟨56, _⟩ => ⟨S4x8x2x8192x8448, .f32⟩
  | .hbm, ⟨57, _⟩ => ⟨S_, .f32⟩
  | .hbm, ⟨58, _⟩ => ⟨S4x8x2x8192, .f32⟩
  | .hbm, ⟨59, _⟩ => ⟨S4x8x2x8192x1, .f32⟩
  | .hbm, ⟨60, _⟩ => ⟨S4x8x2x8192x8448, .f32⟩
  | .hbm, ⟨61, _⟩ => ⟨S4x8x2x8192x8448, .f32⟩
  | .hbm, ⟨62, _⟩ => ⟨S4x8x1x8192x8448, .f32⟩
  | .hbm, ⟨63, _⟩ => ⟨S4x8x8192x8448, .f32⟩
  | .hbm, ⟨64, _⟩ => ⟨S4x8x1x8192x8448, .f32⟩
  | .hbm, ⟨65, _⟩ => ⟨S4x8x8192x8448, .f32⟩
  | .hbm, ⟨66, _⟩ => ⟨S4x8x8192x8448, .f32⟩
  | .hbm, ⟨67, _⟩ => ⟨S4x8x8192x8448, .f32⟩
  | .hbm, ⟨68, _⟩ => ⟨S4x8x8192x8448, .f32⟩
  | .hbm, ⟨69, _⟩ => ⟨S4x8x8192x128, .f32⟩
  | .hbm, ⟨70, _⟩ => ⟨S128, .f32⟩
  | .hbm, ⟨71, _⟩ => ⟨S4x8x8192x128, .f32⟩
  | .hbm, ⟨72, _⟩ => ⟨S_, .f32⟩
  | .hbm, ⟨73, _⟩ => ⟨S4x8x8192, .f32⟩
  | .hbm, ⟨74, _⟩ => ⟨S4x8x8192x1, .f32⟩
  | .hbm, ⟨75, _⟩ => ⟨S_, .f32⟩
  | .hbm, ⟨76, _⟩ => ⟨S4x8x8192x1, .f32⟩
  | .hbm, ⟨77, _⟩ => ⟨S4x8x8192x1, .f32⟩
  | .hbm, ⟨78, _⟩ => ⟨S_, .f32⟩
  | .hbm, ⟨79, _⟩ => ⟨S4x8x8192x1, .f32⟩
  | .hbm, ⟨80, _⟩ => ⟨S4x8x8192x1, .f32⟩
  | .hbm, ⟨81, _⟩ => ⟨S4x8x8192x1, .f32⟩
  | .hbm, ⟨82, _⟩ => ⟨S4x8x8192x128, .f32⟩
  | .hbm, ⟨83, _⟩ => ⟨S4x8x8192x128, .f32⟩
  | .hbm, ⟨84, _⟩ => ⟨S1x1x1x128, .f32⟩
  | .hbm, ⟨85, _⟩ => ⟨S4x8x8192x128, .f32⟩
  | .hbm, ⟨86, _⟩ => ⟨S4x8x8192x128, .f32⟩
  | .hbm, ⟨87, _⟩ => ⟨S_, .f32⟩
  | .hbm, ⟨88, _⟩ => ⟨S4x8x8192x128, .f32⟩
  | .hbm, ⟨89, _⟩ => ⟨S4x8x8192x128, .f32⟩
  | .hbm, ⟨90, _⟩ => ⟨S4x8192x8x128, .f32⟩
  | .hbm, ⟨91, _⟩ => ⟨S4x8192x1024, .f32⟩
  | .hbm, ⟨92, _⟩ => ⟨S32768x1024, .f32⟩
  | .hbm, ⟨93, _⟩ => ⟨S32768x1024, .bf16⟩
  | _, _ => ⟨S33792x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_cst_7 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_9 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩

abbrev nD : Nat := 1
abbrev τ : Topo := Topo.v7x

variable {F : FTy → Type} [FloatOps F]
-- ==== OddIn.lean ====
abbrev S33792x1024 : Shape := ⟨2, ![33792, 1024]⟩
abbrev S1024 : Shape := ⟨1, ![1024]⟩
abbrev S5x1024 : Shape := ⟨2, ![5, 1024]⟩
abbrev S1024x3072 : Shape := ⟨2, ![1024, 3072]⟩
abbrev S8192 : Shape := ⟨1, ![8192]⟩
abbrev S_ : Shape := ⟨0, ![]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x128 : Shape := ⟨2, ![8192, 128]⟩
abbrev S512x128 : Shape := ⟨2, ![512, 128]⟩
abbrev S8704x128 : Shape := ⟨2, ![8704, 128]⟩
abbrev S1x1024 : Shape := ⟨2, ![1, 1024]⟩
abbrev S5x1x1024 : Shape := ⟨3, ![5, 1, 1024]⟩
abbrev S33792x3072 : Shape := ⟨2, ![33792, 3072]⟩
abbrev S1024x33792 : Shape := ⟨2, ![1024, 33792]⟩
abbrev S512x1024 : Shape := ⟨2, ![512, 1024]⟩
abbrev S1x1x1024 : Shape := ⟨3, ![1, 1, 1024]⟩
abbrev S1024x1024 : Shape := ⟨2, ![1024, 1024]⟩
abbrev S1024x512 : Shape := ⟨2, ![1024, 512]⟩
abbrev S512 : Shape := ⟨1, ![512]⟩
abbrev S512x1 : Shape := ⟨2, ![512, 1]⟩

abbrev nBuf : Space → Nat
  | .hbm => 98
  | .vmem => 18
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S5x1024, .f32⟩
  | .hbm, ⟨3, _⟩ => ⟨S5x1024, .f32⟩
  | .hbm, ⟨4, _⟩ => ⟨S1024x3072, .f32⟩
  | .hbm, ⟨5, _⟩ => ⟨S8192, .i32⟩
  | .hbm, ⟨6, _⟩ => ⟨S_, .i32⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S8192, .i32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S8192, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S_, .i1⟩
  | .hbm, ⟨41, _⟩ => ⟨S8192, .i1⟩
  | .hbm, ⟨42, _⟩ => ⟨S8192, .i1⟩
  | .hbm, ⟨43, _⟩ => ⟨S8192, .i1⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S8192, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S8192x1, .f32⟩
  | .hbm, ⟨57, _⟩ => ⟨S1x16, .f32⟩
  | .hbm, ⟨58, _⟩ => ⟨S8192x16, .f32⟩
  | .hbm, ⟨59, _⟩ => ⟨S8192x16, .f32⟩
  | .hbm, ⟨60, _⟩ => ⟨S8192x16, .f32⟩
  | .hbm, ⟨61, _⟩ => ⟨S8192x16, .f32⟩
  | .hbm, ⟨62, _⟩ => ⟨S8192x1, .f32⟩
  | .hbm, ⟨63, _⟩ => ⟨S1x16, .f32⟩
  | .hbm, ⟨64, _⟩ => ⟨S8192x16, .f32⟩
  | .hbm, ⟨65, _⟩ => ⟨S8192x16, .f32⟩
  | .hbm, ⟨66, _⟩ => ⟨S8192x16, .f32⟩
  | .hbm, ⟨67, _⟩ => ⟨S8192x16, .f32⟩
  | .hbm, ⟨68, _⟩ => ⟨S8192x1, .f32⟩
  | .hbm, ⟨69, _⟩ => ⟨S1x16, .f32⟩
  | .hbm, ⟨70, _⟩ => ⟨S8192x16, .f32⟩
  | .hbm, ⟨71, _⟩ => ⟨S8192x16, .f32⟩
  | .hbm, ⟨72, _⟩ => ⟨S8192x16, .f32⟩
  | .hbm, ⟨73, _⟩ => ⟨S8192x16, .f32⟩
  | .hbm, ⟨74, _⟩ => ⟨S8192x1, .f32⟩
  | .hbm, ⟨75, _⟩ => ⟨S1x16, .f32⟩
  | .hbm, ⟨76, _⟩ => ⟨S8192x16, .f32⟩
  | .hbm, ⟨77, _⟩ => ⟨S8192x16, .f32⟩
  | .hbm, ⟨78, _⟩ => ⟨S8192x16, .f32⟩
  | .hbm, ⟨79, _⟩ => ⟨S8192x16, .f32⟩
  | .hbm, ⟨80, _⟩ => ⟨S8192x64, .f32⟩
  | .hbm, ⟨81, _⟩ => ⟨S8192x16, .f32⟩
  | .hbm, ⟨82, _⟩ => ⟨S8192x16, .f32⟩
  | .hbm, ⟨83, _⟩ => ⟨S8192x64, .f32⟩
  | .hbm, ⟨84, _⟩ => ⟨S8192x128, .f32⟩
  | .hbm, ⟨85, _⟩ => ⟨S8192x128, .f32⟩
  | .hbm, ⟨86, _⟩ => ⟨S_, .f32⟩
  | .hbm, ⟨87, _⟩ => ⟨S512x128, .f32⟩
  | .hbm, ⟨88, _⟩ => ⟨S8704x128, .f32⟩
  | .hbm, ⟨89, _⟩ => ⟨S_, .f32⟩
  | .hbm, ⟨90, _⟩ => ⟨S512x128, .f32⟩
  | .hbm, ⟨91, _⟩ => ⟨S8704x128, .f32⟩
  | .hbm, ⟨92, _⟩ => ⟨S1024x3072, .bf16⟩
  | .hbm, ⟨93, _⟩ => ⟨S1x1024, .f32⟩
  | .hbm, ⟨94, _⟩ => ⟨S5x1x1024, .f32⟩
  | .hbm, ⟨95, _⟩ => ⟨S5x1x1024, .f32⟩
  | .hbm, ⟨96, _⟩ => ⟨S33792x3072, .bf16⟩
  | .hbm, ⟨97, _⟩ => ⟨S1024x33792, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x1024, .bf16⟩
  | .local _ .vmem, ⟨14, _⟩ => ⟨S512x1024, .bf16⟩
  | .local _ .vmem, ⟨15, _⟩ => ⟨S1024x512, .bf16⟩
  | .local _ .vmem, ⟨16, _⟩ => ⟨S1024x512, .bf16⟩
  | .local _ .vmem, ⟨17, _⟩ => ⟨S512x1024, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_cst : Ref sig .tc := ⟨.hbm, 50, rfl⟩
abbrev main_v7 : Ref sig .tc := ⟨.hbm, 51, rfl⟩
abbrev main_v8 : Ref sig .tc := ⟨.hbm, 52, rfl⟩
abbrev main_cst_1 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_cst_2 : Ref sig .tc := ⟨.hbm, 86, rfl⟩
abbrev main_v41 : Ref sig .tc := ⟨.hbm, 87, rfl⟩
abbrev main_v42 : Ref sig .tc := ⟨.hbm, 88, rfl⟩
abbrev main_cst_3 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49_0 : Ref sig .tc := ⟨.hbm, 96, rfl⟩
abbrev main_v49_1 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![66, 3], ![false, false]⟩

def k0_cond3 (i : grid0.Coords) : BitVec 1 :=
  let arg1 : BitVec 32 := BitVec.ofNat 32 (i 1).val
  let c2_i32_5 : BitVec 32 := 2#32
  let v10 : BitVec 1 := Scalar.cmpi .slt arg1 c2_i32_5
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32_7 : BitVec 32 := 2#32
  let v13 : BitVec 1 := Scalar.cmpi .sge arg1 c2_i32_7
  let v14 : BitVec 32 := Scalar.extui v13
  let c0_i32_8 : BitVec 32 := 0#32
  let v15 : BitVec 1 := Scalar.cmpi .ne v14 c0_i32_8
  v15

def k0_cond2 (i : grid0.Coords) : BitVec 1 :=
  let arg1 : BitVec 32 := BitVec.ofNat 32 (i 1).val
  let c2_i32 : BitVec 32 := 2#32
  let v7 : BitVec 1 := Scalar.cmpi .sge arg1 c2_i32
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg0 c64_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg0 c64_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c16_i32_3 : BitVec 32 := 16#32
  let v11 : BitVec 32 := Scalar.select v0 v10 c16_i32_3
  let c0_i32_4 : BitVec 32 := 0#32
  let c0_i32_5 : BitVec 32 := 0#32
  ![v11.toNat, c0_i32_4.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![v1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OddInRefIdeal.lean ====
abbrev S33792x1024 : Shape := ⟨2, ![33792, 1024]⟩
abbrev S1024 : Shape := ⟨1, ![1024]⟩
abbrev S5x1024 : Shape := ⟨2, ![5, 1024]⟩
abbrev S1024x3072 : Shape := ⟨2, ![1024, 3072]⟩
abbrev S32768x1024 : Shape := ⟨2, ![32768, 1024]⟩
abbrev S4x8192x1024 : Shape := ⟨3, ![4, 8192, 1024]⟩
abbrev S4x1024 : Shape := ⟨2, ![4, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x1024 : Shape := ⟨2, ![1024, 1024]⟩
abbrev S4x256x1024 : Shape := ⟨3, ![4, 256, 1024]⟩
abbrev S1x1024 : Shape := ⟨2, ![1, 1024]⟩
abbrev S4x256 : Shape := ⟨2, ![4, 256]⟩
abbrev S4x256x1 : Shape := ⟨3, ![4, 256, 1]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S8192x2x16 : Shape := ⟨3, ![8192, 2, 16]⟩
abbrev S4x8192x3072 : Shape := ⟨3, ![4, 8192, 3072]⟩
abbrev S4x8192x8x2x64 : Shape := ⟨5, ![4, 8192, 8, 2, 64]⟩
abbrev S4x8x2x8192x64 : Shape := ⟨5, ![4, 8, 2, 8192, 64]⟩
abbrev S4x8x2x8192x2x2x16 : Shape := ⟨7, ![4, 8, 2, 8192, 2, 2, 16]⟩
abbrev S4x8x2x8192x2x1x16 : Shape := ⟨7, ![4, 8, 2, 8192, 2, 1, 16]⟩
abbrev S4x8x2x8192x2x16 : Shape := ⟨6, ![4, 8, 2, 8192, 2, 16]⟩
abbrev S1x1x1x8192x2x16 : Shape := ⟨6, ![1, 1, 1, 8192, 2, 16]⟩
abbrev S4x256x3072 : Shape := ⟨3, ![4, 256, 3072]⟩
abbrev S32768x3072 : Shape := ⟨2, ![32768, 3072]⟩
abbrev S33792x3072 : Shape := ⟨2, ![33792, 3072]⟩
abbrev S1024x33792 : Shape := ⟨2, ![1024, 33792]⟩

abbrev nBuf : Space → Nat
  | .hbm => 196
  | .vmem => 0
  | .smem => 0
  | _ => 0

abbrev hbmTy0_0 (i : Nat) : BufTy := match i % 128 with
  | 0 => ⟨S33792x1024, .f32⟩
  | 1 => ⟨S1024, .f32⟩
  | 2 => ⟨S5x1024, .f32⟩
  | 3 => ⟨S5x1024, .f32⟩
  | 4 => ⟨S1024x3072, .f32⟩
  | 5 => ⟨S32768x1024, .f32⟩
  | 6 => ⟨S4x8192x1024, .f32⟩
  | 7 => ⟨S4x1024, .f32⟩
  | 8 => ⟨S4x1x1024, .f32⟩
  | 9 => ⟨S4x1024, .f32⟩
  | 10 => ⟨S4x1x1024, .f32⟩
  | 11 => ⟨S4x8192x1024, .f32⟩
  | 12 => ⟨S_, .f32⟩
  | 13 => ⟨S4x8192, .f32⟩
  | 14 => ⟨S4x8192x1, .f32⟩
  | 15 => ⟨S_, .f32⟩
  | 16 => ⟨S4x8192x1, .f32⟩
  | 17 => ⟨S4x8192x1, .f32⟩
  | 18 => ⟨S_, .f32⟩
  | 19 => ⟨S4x8192x1, .f32⟩
  | 20 => ⟨S4x8192x1, .f32⟩
  | 21 => ⟨S4x8192x1, .f32⟩
  | 22 => ⟨S4x8192x1024, .f32⟩
  | 23 => ⟨S4x8192x1024, .f32⟩
  | 24 => ⟨S1x1x1024, .f32⟩
  | 25 => ⟨S4x8192x1024, .f32⟩
  | 26 => ⟨S4x8192x1024, .f32⟩
  | 27 => ⟨S_, .f32⟩
  | 28 => ⟨S4x1x1024, .f32⟩
  | 29 => ⟨S4x1x1024, .f32⟩
  | 30 => ⟨S4x8192x1024, .f32⟩
  | 31 => ⟨S4x8192x1024, .f32⟩
  | 32 => ⟨S4x8192x1024, .f32⟩
  | 33 => ⟨S4x8192x1024, .f32⟩
  | 34 => ⟨S1024x1024, .f32⟩
  | 35 => ⟨S4x256x1024, .f32⟩
  | 36 => ⟨S1x1024, .f32⟩
  | 37 => ⟨S1x1x1024, .f32⟩
  | 38 => ⟨S1x1024, .f32⟩
  | 39 => ⟨S1x1x1024, .f32⟩
  | 40 => ⟨S4x256x1024, .f32⟩
  | 41 => ⟨S_, .f32⟩
  | 42 => ⟨S4x256, .f32⟩
  | 43 => ⟨S4x256x1, .f32⟩
  | 44 => ⟨S_, .f32⟩
  | 45 => ⟨S4x256x1, .f32⟩
  | 46 => ⟨S4x256x1, .f32⟩
  | 47 => ⟨S_, .f32⟩
  | 48 => ⟨S4x256x1, .f32⟩
  | 49 => ⟨S4x256x1, .f32⟩
  | 50 => ⟨S4x256x1, .f32⟩
  | 51 => ⟨S4x256x1024, .f32⟩
  | 52 => ⟨S4x256x1024, .f32⟩
  | 53 => ⟨S1x1x1024, .f32⟩
  | 54 => ⟨S4x256x1024, .f32⟩
  | 55 => ⟨S4x256x1024, .f32⟩
  | 56 => ⟨S_, .f32⟩
  | 57 => ⟨S1x1x1024, .f32⟩
  | 58 => ⟨S1x1x1024, .f32⟩
  | 59 => ⟨S4x256x1024, .f32⟩
  | 60 => ⟨S4x256x1024, .f32⟩
  | 61 => ⟨S4x256x1024, .f32⟩
  | 62 => ⟨S4x256x1024, .f32⟩
  | 63 => ⟨S8192, .i32⟩
  | 64 => ⟨S_, .i32⟩
  | 65 => ⟨S_, .i32⟩
  | 66 => ⟨S8192, .i32⟩
  | 67 => ⟨S8192, .i32⟩
  | 68 => ⟨S8192, .i32⟩
  | 69 => ⟨S_, .i32⟩
  | 70 => ⟨S8192, .i32⟩
  | 71 => ⟨S8192, .i1⟩
  | 72 => ⟨S8192, .i32⟩
  | 73 => ⟨S8192, .i32⟩
  | 74 => ⟨S_, .i32⟩
  | 75 => ⟨S8192, .i32⟩
  | 76 => ⟨S8192, .i1⟩
  | 77 => ⟨S8192, .i1⟩
  | 78 => ⟨S_, .i32⟩
  | 79 => ⟨S8192, .i32⟩
  | 80 => ⟨S8192, .i32⟩
  | 81 => ⟨S8192, .i32⟩
  | 82 => ⟨S8192, .f32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S8192, .i32⟩
  | 90 => ⟨S8192, .i32⟩
  | 91 => ⟨S_, .i32⟩
  | 92 => ⟨S8192, .i32⟩
  | 93 => ⟨S8192, .i1⟩
  | 94 => ⟨S_, .i32⟩
  | 95 => ⟨S8192, .i32⟩
  | 96 => ⟨S8192, .i1⟩
  | 97 => ⟨S_, .i32⟩
  | 98 => ⟨S_, .i1⟩
  | 99 => ⟨S8192, .i1⟩
  | 100 => ⟨S8192, .i1⟩
  | 101 => ⟨S8192, .i1⟩
  | 102 => ⟨S8192, .i32⟩
  | 103 => ⟨S8192, .i32⟩
  | 104 => ⟨S8192, .i32⟩
  | 105 => ⟨S8192, .f32⟩
  | 106 => ⟨S16, .f32⟩
  | 107 => ⟨S16, .f32⟩
  | 108 => ⟨S_, .f32⟩
  | 109 => ⟨S16, .f32⟩
  | 110 => ⟨S16, .f32⟩
  | 111 => ⟨S_, .f32⟩
  | 112 => ⟨S16, .f32⟩
  | 113 => ⟨S16, .f32⟩
  | 114 => ⟨S8192x1, .f32⟩
  | 115 => ⟨S1x16, .f32⟩
  | 116 => ⟨S8192x16, .f32⟩
  | 117 => ⟨S8192x16, .f32⟩
  | 118 => ⟨S8192x16, .f32⟩
  | 119 => ⟨S8192x1, .f32⟩
  | 120 => ⟨S1x16, .f32⟩
  | 121 => ⟨S8192x16, .f32⟩
  | 122 => ⟨S8192x16, .f32⟩
  | 123 => ⟨S8192x16, .f32⟩
  | 124 => ⟨S8192x1x16, .f32⟩
  | 125 => ⟨S8192x1x16, .f32⟩
  | 126 => ⟨S8192x2x16, .f32⟩
  | 127 => ⟨S8192x2x16, .f32⟩
  | _ => ⟨S33792x1024, .f32⟩

abbrev hbmTy0_1 (i : Nat) : BufTy := match i % 128 with
  | 0 => ⟨S8192x2x16, .f32⟩
  | 1 => ⟨S4x8192x3072, .f32⟩
  | 2 => ⟨S4x8192x1024, .f32⟩
  | 3 => ⟨S4x8192x1024, .f32⟩
  | 4 => ⟨S4x8192x1024, .f32⟩
  | 5 => ⟨S4x8192x8x2x64, .f32⟩
  | 6 => ⟨S4x8x2x8192x64, .f32⟩
  | 7 => ⟨S4x8x2x8192x2x2x16, .f32⟩
  | 8 => ⟨S4x8x2x8192x2x1x16, .f32⟩
  | 9 => ⟨S4x8x2x8192x2x16, .f32⟩
  | 10 => ⟨S4x8x2x8192x2x1x16, .f32⟩
  | 11 => ⟨S4x8x2x8192x2x16, .f32⟩
  | 12 => ⟨S1x1x1x8192x2x16, .f32⟩
  | 13 => ⟨S4x8x2x8192x2x16, .f32⟩
  | 14 => ⟨S4x8x2x8192x2x16, .f32⟩
  | 15 => ⟨S1x1x1x8192x2x16, .f32⟩
  | 16 => ⟨S4x8x2x8192x2x16, .f32⟩
  | 17 => ⟨S4x8x2x8192x2x16, .f32⟩
  | 18 => ⟨S4x8x2x8192x2x16, .f32⟩
  | 19 => ⟨S1x1x1x8192x2x16, .f32⟩
  | 20 => ⟨S4x8x2x8192x2x16, .f32⟩
  | 21 => ⟨S4x8x2x8192x2x16, .f32⟩
  | 22 => ⟨S1x1x1x8192x2x16, .f32⟩
  | 23 => ⟨S4x8x2x8192x2x16, .f32⟩
  | 24 => ⟨S4x8x2x8192x2x16, .f32⟩
  | 25 => ⟨S4x8x2x8192x2x16, .f32⟩
  | 26 => ⟨S4x8x2x8192x2x1x16, .f32⟩
  | 27 => ⟨S4x8x2x8192x2x1x16, .f32⟩
  | 28 => ⟨S4x8x2x8192x2x2x16, .f32⟩
  | 29 => ⟨S4x8x2x8192x64, .f32⟩
  | 30 => ⟨S4x8192x8x2x64, .f32⟩
  | 31 => ⟨S4x8192x1024, .f32⟩
  | 32 => ⟨S4x8192x8x2x64, .f32⟩
  | 33 => ⟨S4x8x2x8192x64, .f32⟩
  | 34 => ⟨S4x8x2x8192x2x2x16, .f32⟩
  | 35 => ⟨S4x8x2x8192x2x1x16, .f32⟩
  | 36 => ⟨S4x8x2x8192x2x16, .f32⟩
  | 37 => ⟨S4x8x2x8192x2x1x16, .f32⟩
  | 38 => ⟨S4x8x2x8192x2x16, .f32⟩
  | 39 => ⟨S1x1x1x8192x2x16, .f32⟩
  | 40 => ⟨S4x8x2x8192x2x16, .f32⟩
  | 41 => ⟨S4x8x2x8192x2x16, .f32⟩
  | 42 => ⟨S1x1x1x8192x2x16, .f32⟩
  | 43 => ⟨S4x8x2x8192x2x16, .f32⟩
  | 44 => ⟨S4x8x2x8192x2x16, .f32⟩
  | 45 => ⟨S4x8x2x8192x2x16, .f32⟩
  | 46 => ⟨S1x1x1x8192x2x16, .f32⟩
  | 47 => ⟨S4x8x2x8192x2x16, .f32⟩
  | 48 => ⟨S4x8x2x8192x2x16, .f32⟩
  | 49 => ⟨S1x1x1x8192x2x16, .f32⟩
  | 50 => ⟨S4x8x2x8192x2x16, .f32⟩
  | 51 => ⟨S4x8x2x8192x2x16, .f32⟩
  | 52 => ⟨S4x8x2x8192x2x16, .f32⟩
  | 53 => ⟨S4x8x2x8192x2x1x16, .f32⟩
  | 54 => ⟨S4x8x2x8192x2x1x16, .f32⟩
  | 55 => ⟨S4x8x2x8192x2x2x16, .f32⟩
  | 56 => ⟨S4x8x2x8192x64, .f32⟩
  | 57 => ⟨S4x8192x8x2x64, .f32⟩
  | 58 => ⟨S4x8192x1024, .f32⟩
  | 59 => ⟨S4x8192x3072, .f32⟩
  | 60 => ⟨S4x256x3072, .f32⟩
  | 61 => ⟨S32768x3072, .f32⟩
  | 62 => ⟨S1024x3072, .f32⟩
  | 63 => ⟨S33792x3072, .f32⟩
  | 64 => ⟨S33792x3072, .bf16⟩
  | 65 => ⟨S33792x1024, .f32⟩
  | 66 => ⟨S1024x33792, .f32⟩
  | 67 => ⟨S1024x33792, .bf16⟩
  | _ => ⟨S33792x1024, .f32⟩

abbrev hbmTy (i : Nat) : BufTy := match i / 128 with
  | 0 => hbmTy0_0 i
  | 1 => hbmTy0_1 i
  | _ => ⟨S33792x1024, .f32⟩

abbrev bufTy : (tb : Table) → Fin (tcTables nBuf tb) → BufTy
  | .hbm, ⟨i, _⟩ => hbmTy i
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_c : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_v6 : Ref sig .tc := ⟨.hbm, 71, rfl⟩
abbrev main_call0_v7 : Ref sig .tc := ⟨.hbm, 72, rfl⟩
abbrev main_call0_v8 : Ref sig .tc := ⟨.hbm, 73, rfl⟩
abbrev main_call0_c : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_c_0 : Ref sig .tc := ⟨.hbm, 78, rfl⟩
abbrev main_call0_v12 : Ref sig .tc := ⟨.hbm, 79, rfl⟩
abbrev main_call0_v13 : Ref sig .tc := ⟨.hbm, 80, rfl⟩
abbrev main_v51 : Ref sig .tc := ⟨.hbm, 81, rfl⟩
abbrev main_v52 : Ref sig .tc := ⟨.hbm, 82, rfl⟩
abbrev main_c_7 : Ref sig .tc := ⟨.hbm, 83, rfl⟩
abbrev main_call1_v0 : Ref sig .tc := ⟨.hbm, 84, rfl⟩
abbrev main_call1_c : Ref sig .tc := ⟨.hbm, 85, rfl⟩
abbrev main_call1_v1 : Ref sig .tc := ⟨.hbm, 86, rfl⟩
abbrev main_call1_c_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_c_1 : Ref sig .tc := ⟨.hbm, 91, rfl⟩
abbrev main_call1_v5 : Ref sig .tc := ⟨.hbm, 92, rfl⟩
abbrev main_call1_v6 : Ref sig .tc := ⟨.hbm, 93, rfl⟩
abbrev main_call1_c_2 : Ref sig .tc := ⟨.hbm, 94, rfl⟩
abbrev main_call1_v7 : Ref sig .tc := ⟨.hbm, 95, rfl⟩
abbrev main_call1_v8 : Ref sig .tc := ⟨.hbm, 96, rfl⟩
abbrev main_call1_c_3 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_v12 : Ref sig .tc := ⟨.hbm, 101, rfl⟩
abbrev main_call1_v13 : Ref sig .tc := ⟨.hbm, 102, rfl⟩
abbrev main_call1_v14 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_cst_8 : Ref sig .tc := ⟨.hbm, 108, rfl⟩
abbrev main_v57 : Ref sig .tc := ⟨.hbm, 109, rfl⟩
abbrev main_v58 : Ref sig .tc := ⟨.hbm, 110, rfl⟩
abbrev main_cst_9 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩

abbrev nD : Nat := 1
abbrev τ : Topo := Topo.v7x

variable {F : FTy → Type} [FloatOps F]
-- ==== EvenQkv.lean ====
abbrev S33792x1024 : Shape := ⟨2, ![33792, 1024]⟩
abbrev S1024 : Shape := ⟨1, ![1024]⟩
abbrev S5x1024 : Shape := ⟨2, ![5, 1024]⟩
abbrev S1024x2048 : Shape := ⟨2, ![1024, 2048]⟩
abbrev S1024x1536 : Shape := ⟨2, ![1024, 1536]⟩
abbrev S1x1024 : Shape := ⟨2, ![1, 1024]⟩
abbrev S5x1x1024 : Shape := ⟨3, ![5, 1, 1024]⟩
abbrev S33792x1536 : Shape := ⟨2, ![33792, 1536]⟩
abbrev S512x1024 : Shape := ⟨2, ![512, 1024]⟩
abbrev S1x1x1024 : Shape := ⟨3, ![1, 1, 1024]⟩
abbrev S1024x768 : Shape := ⟨2, ![1024, 768]⟩
abbrev S512x768 : Shape := ⟨2, ![512, 768]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S5x1024, .f32⟩
  | .hbm, ⟨3, _⟩ => ⟨S5x1024, .f32⟩
  | .hbm, ⟨4, _⟩ => ⟨S1024x2048, .f32⟩
  | .hbm, ⟨5, _⟩ => ⟨S1024x2048, .bf16⟩
  | .hbm, ⟨6, _⟩ => ⟨S1024x1536, .bf16⟩
  | .hbm, ⟨7, _⟩ => ⟨S1x1024, .f32⟩
  | .hbm, ⟨8, _⟩ => ⟨S5x1x1024, .f32⟩
  | .hbm, ⟨9, _⟩ => ⟨S5x1x1024, .f32⟩
  | .hbm, ⟨10, _⟩ => ⟨S33792x1536, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x768, .bf16⟩
  | .local _ .vmem, ⟨8, _⟩ => ⟨S1024x768, .bf16⟩
  | .local _ .vmem, ⟨9, _⟩ => ⟨S512x768, .bf16⟩
  | .local _ .vmem, ⟨10, _⟩ => ⟨S512x768, .bf16⟩
  | .local _ .vmem, ⟨11, _⟩ => ⟨S512x1024, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![66, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== EvenQkvRefIdeal.lean ====
abbrev S33792x1024 : Shape := ⟨2, ![33792, 1024]⟩
abbrev S1024 : Shape := ⟨1, ![1024]⟩
abbrev S5x1024 : Shape := ⟨2, ![5, 1024]⟩
abbrev S1024x2048 : Shape := ⟨2, ![1024, 2048]⟩
abbrev S32768x1024 : Shape := ⟨2, ![32768, 1024]⟩
abbrev S4x8192x1024 : Shape := ⟨3, ![4, 8192, 1024]⟩
abbrev S4x1024 : Shape := ⟨2, ![4, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x1024 : Shape := ⟨2, ![1024, 1024]⟩
abbrev S4x256x1024 : Shape := ⟨3, ![4, 256, 1024]⟩
abbrev S1x1024 : Shape := ⟨2, ![1, 1024]⟩
abbrev S4x256 : Shape := ⟨2, ![4, 256]⟩
abbrev S4x256x1 : Shape := ⟨3, ![4, 256, 1]⟩
abbrev S4x8192x2048 : Shape := ⟨3, ![4, 8192, 2048]⟩
abbrev S4x8192x1536 : Shape := ⟨3, ![4, 8192, 1536]⟩
abbrev S4x256x2048 : Shape := ⟨3, ![4, 256, 2048]⟩
abbrev S4x256x1536 : Shape := ⟨3, ![4, 256, 1536]⟩
abbrev S32768x1536 : Shape := ⟨2, ![32768, 1536]⟩
abbrev S1024x1536 : Shape := ⟨2, ![1024, 1536]⟩
abbrev S33792x1536 : Shape := ⟨2, ![33792, 1536]⟩

abbrev nBuf : Space → Nat
  | .hbm => 71
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S5x1024, .f32⟩
  | .hbm, ⟨3, _⟩ => ⟨S5x1024, .f32⟩
  | .hbm, ⟨4, _⟩ => ⟨S1024x2048, .f32⟩
  | .hbm, ⟨5, _⟩ => ⟨S32768x1024, .f32⟩
  | .hbm, ⟨6, _⟩ => ⟨S4x8192x1024, .f32⟩
  | .hbm, ⟨7, _⟩ => ⟨S4x1024, .f32⟩
  | .hbm, ⟨8, _⟩ => ⟨S4x1x1024, .f32⟩
  | .hbm, ⟨9, _⟩ => ⟨S4x1024, .f32⟩
  | .hbm, ⟨10, _⟩ => ⟨S4x1x1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S1024x1024, .f32⟩
  | .hbm, ⟨35, _⟩ => ⟨S4x256x1024, .f32⟩
  | .hbm, ⟨36, _⟩ => ⟨S1x1024, .f32⟩
  | .hbm, ⟨37, _⟩ => ⟨S1x1x1024, .f32⟩
  | .hbm, ⟨38, _⟩ => ⟨S1x1024, .f32⟩
  | .hbm, ⟨39, _⟩ => ⟨S1x1x1024, .f32⟩
  | .hbm, ⟨40, _⟩ => ⟨S4x256x1024, .f32⟩
  | .hbm, ⟨41, _⟩ => ⟨S_, .f32⟩
  | .hbm, ⟨42, _⟩ => ⟨S4x256, .f32⟩
  | .hbm, ⟨43, _⟩ => ⟨S4x256x1, .f32⟩
  | .hbm, ⟨44, _⟩ => ⟨S_, .f32⟩
  | .hbm, ⟨45, _⟩ => ⟨S4x256x1, .f32⟩
  | .hbm, ⟨46, _⟩ => ⟨S4x256x1, .f32⟩
  | .hbm, ⟨47, _⟩ => ⟨S_, .f32⟩
  | .hbm, ⟨48, _⟩ => ⟨S4x256x1, .f32⟩
  | .hbm, ⟨49, _⟩ => ⟨S4x256x1, .f32⟩
  | .hbm, ⟨50, _⟩ => ⟨S4x256x1, .f32⟩
  | .hbm, ⟨51, _⟩ => ⟨S4x256x1024, .f32⟩
  | .hbm, ⟨52, _⟩ => ⟨S4x256x1024, .f32⟩
  | .hbm, ⟨53, _⟩ => ⟨S1x1x1024, .f32⟩
  | .hbm, ⟨54, _⟩ => ⟨S4x256x1024, .f32⟩
  | .hbm, ⟨55, _⟩ => ⟨S4x256x1024, .f32⟩
  | .hbm, ⟨56, _⟩ => ⟨S_, .f32⟩
  | .hbm, ⟨57, _⟩ => ⟨S1x1x1024, .f32⟩
  | .hbm, ⟨58, _⟩ => ⟨S1x1x1024, .f32⟩
  | .hbm, ⟨59, _⟩ => ⟨S4x256x1024, .f32⟩
  | .hbm, ⟨60, _⟩ => ⟨S4x256x1024, .f32⟩
  | .hbm, ⟨61, _⟩ => ⟨S4x256x1024, .f32⟩
  | .hbm, ⟨62, _⟩ => ⟨S4x256x1024, .f32⟩
  | .hbm, ⟨63, _⟩ => ⟨S4x8192x2048, .f32⟩
  | .hbm, ⟨64, _⟩ => ⟨S4x8192x1536, .f32⟩
  | .hbm, ⟨65, _⟩ => ⟨S4x256x2048, .f32⟩
  | .hbm, ⟨66, _⟩ => ⟨S4x256x1536, .f32⟩
  | .hbm, ⟨67, _⟩ => ⟨S32768x1536, .f32⟩
  | .hbm, ⟨68, _⟩ => ⟨S1024x1536, .f32⟩
  | .hbm, ⟨69, _⟩ => ⟨S33792x1536, .f32⟩
  | .hbm, ⟨70, _⟩ => ⟨S33792x1536, .bf16⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== EvenF.lean ====
abbrev S33792x1024 : Shape := ⟨2, ![33792, 1024]⟩
abbrev S1024 : Shape := ⟨1, ![1024]⟩
abbrev S5x1024 : Shape := ⟨2, ![5, 1024]⟩
abbrev S1024x2048 : Shape := ⟨2, ![1024, 2048]⟩
abbrev S1024x512 : Shape := ⟨2, ![1024, 512]⟩
abbrev S1x1024 : Shape := ⟨2, ![1, 1024]⟩
abbrev S5x1x1024 : Shape := ⟨3, ![5, 1, 1024]⟩
abbrev S33792x512 : Shape := ⟨2, ![33792, 512]⟩
abbrev S512x1024 : Shape := ⟨2, ![512, 1024]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S5x1024, .f32⟩
  | .hbm, ⟨3, _⟩ => ⟨S5x1024, .f32⟩
  | .hbm, ⟨4, _⟩ => ⟨S1024x2048, .f32⟩
  | .hbm, ⟨5, _⟩ => ⟨S1024x2048, .bf16⟩
  | .hbm, ⟨6, _⟩ => ⟨S1024x512, .bf16⟩
  | .hbm, ⟨7, _⟩ => ⟨S1x1024, .f32⟩
  | .hbm, ⟨8, _⟩ => ⟨S5x1x1024, .f32⟩
  | .hbm, ⟨9, _⟩ => ⟨S5x1x1024, .f32⟩
  | .hbm, ⟨10, _⟩ => ⟨S33792x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x512, .bf16⟩
  | .local _ .vmem, ⟨8, _⟩ => ⟨S512x512, .f32⟩
  | .local _ .vmem, ⟨9, _⟩ => ⟨S512x512, .f32⟩
  | .local _ .vmem, ⟨10, _⟩ => ⟨S512x1024, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![66, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== EvenFRefIdeal.lean ====
abbrev S33792x1024 : Shape := ⟨2, ![33792, 1024]⟩
abbrev S1024 : Shape := ⟨1, ![1024]⟩
abbrev S5x1024 : Shape := ⟨2, ![5, 1024]⟩
abbrev S1024x2048 : Shape := ⟨2, ![1024, 2048]⟩
abbrev S32768x1024 : Shape := ⟨2, ![32768, 1024]⟩
abbrev S4x8192x1024 : Shape := ⟨3, ![4, 8192, 1024]⟩
abbrev S4x1024 : Shape := ⟨2, ![4, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x1024 : Shape := ⟨2, ![1024, 1024]⟩
abbrev S4x256x1024 : Shape := ⟨3, ![4, 256, 1024]⟩
abbrev S1x1024 : Shape := ⟨2, ![1, 1024]⟩
abbrev S4x256 : Shape := ⟨2, ![4, 256]⟩
abbrev S4x256x1 : Shape := ⟨3, ![4, 256, 1]⟩
abbrev S4x8192x2048 : Shape := ⟨3, ![4, 8192, 2048]⟩
abbrev S4x8192x512 : Shape := ⟨3, ![4, 8192, 512]⟩
abbrev S4x256x2048 : Shape := ⟨3, ![4, 256, 2048]⟩
abbrev S4x256x512 : Shape := ⟨3, ![4, 256, 512]⟩
abbrev S32768x512 : Shape := ⟨2, ![32768, 512]⟩
abbrev S1024x512 : Shape := ⟨2, ![1024, 512]⟩
abbrev S33792x512 : Shape := ⟨2, ![33792, 512]⟩

abbrev nBuf : Space → Nat
  | .hbm => 70
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S5x1024, .f32⟩
  | .hbm, ⟨3, _⟩ => ⟨S5x1024, .f32⟩
  | .hbm, ⟨4, _⟩ => ⟨S1024x2048, .f32⟩
  | .hbm, ⟨5, _⟩ => ⟨S32768x1024, .f32⟩
  | .hbm, ⟨6, _⟩ => ⟨S4x8192x1024, .f32⟩
  | .hbm, ⟨7, _⟩ => ⟨S4x1024, .f32⟩
  | .hbm, ⟨8, _⟩ => ⟨S4x1x1024, .f32⟩
  | .hbm, ⟨9, _⟩ => ⟨S4x1024, .f32⟩
  | .hbm, ⟨10, _⟩ => ⟨S4x1x1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S1024x1024, .f32⟩
  | .hbm, ⟨35, _⟩ => ⟨S4x256x1024, .f32⟩
  | .hbm, ⟨36, _⟩ => ⟨S1x1024, .f32⟩
  | .hbm, ⟨37, _⟩ => ⟨S1x1x1024, .f32⟩
  | .hbm, ⟨38, _⟩ => ⟨S1x1024, .f32⟩
  | .hbm, ⟨39, _⟩ => ⟨S1x1x1024, .f32⟩
  | .hbm, ⟨40, _⟩ => ⟨S4x256x1024, .f32⟩
  | .hbm, ⟨41, _⟩ => ⟨S_, .f32⟩
  | .hbm, ⟨42, _⟩ => ⟨S4x256, .f32⟩
  | .hbm, ⟨43, _⟩ => ⟨S4x256x1, .f32⟩
  | .hbm, ⟨44, _⟩ => ⟨S_, .f32⟩
  | .hbm, ⟨45, _⟩ => ⟨S4x256x1, .f32⟩
  | .hbm, ⟨46, _⟩ => ⟨S4x256x1, .f32⟩
  | .hbm, ⟨47, _⟩ => ⟨S_, .f32⟩
  | .hbm, ⟨48, _⟩ => ⟨S4x256x1, .f32⟩
  | .hbm, ⟨49, _⟩ => ⟨S4x256x1, .f32⟩
  | .hbm, ⟨50, _⟩ => ⟨S4x256x1, .f32⟩
  | .hbm, ⟨51, _⟩ => ⟨S4x256x1024, .f32⟩
  | .hbm, ⟨52, _⟩ => ⟨S4x256x1024, .f32⟩
  | .hbm, ⟨53, _⟩ => ⟨S1x1x1024, .f32⟩
  | .hbm, ⟨54, _⟩ => ⟨S4x256x1024, .f32⟩
  | .hbm, ⟨55, _⟩ => ⟨S4x256x1024, .f32⟩
  | .hbm, ⟨56, _⟩ => ⟨S_, .f32⟩
  | .hbm, ⟨57, _⟩ => ⟨S1x1x1024, .f32⟩
  | .hbm, ⟨58, _⟩ => ⟨S1x1x1024, .f32⟩
  | .hbm, ⟨59, _⟩ => ⟨S4x256x1024, .f32⟩
  | .hbm, ⟨60, _⟩ => ⟨S4x256x1024, .f32⟩
  | .hbm, ⟨61, _⟩ => ⟨S4x256x1024, .f32⟩
  | .hbm, ⟨62, _⟩ => ⟨S4x256x1024, .f32⟩
  | .hbm, ⟨63, _⟩ => ⟨S4x8192x2048, .f32⟩
  | .hbm, ⟨64, _⟩ => ⟨S4x8192x512, .f32⟩
  | .hbm, ⟨65, _⟩ => ⟨S4x256x2048, .f32⟩
  | .hbm, ⟨66, _⟩ => ⟨S4x256x512, .f32⟩
  | .hbm, ⟨67, _⟩ => ⟨S32768x512, .f32⟩
  | .hbm, ⟨68, _⟩ => ⟨S1024x512, .f32⟩
  | .hbm, ⟨69, _⟩ => ⟨S33792x512, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩

abbrev nD : Nat := 1
abbrev τ : Topo := Topo.v7x

variable {F : FTy → Type} [FloatOps F]
-- ==== OddOut.lean ====
abbrev S32768x1024 : Shape := ⟨2, ![32768, 1024]⟩
abbrev S1024x1024 : Shape := ⟨2, ![1024, 1024]⟩
abbrev S33792x1024 : Shape := ⟨2, ![33792, 1024]⟩
abbrev S5x1024 : Shape := ⟨2, ![5, 1024]⟩
abbrev S5x1x1024 : Shape := ⟨3, ![5, 1, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S33792x1024, .f32⟩
  | .hbm, ⟨3, _⟩ => ⟨S5x1024, .f32⟩
  | .hbm, ⟨4, _⟩ => ⟨S1024x1024, .bf16⟩
  | .hbm, ⟨5, _⟩ => ⟨S5x1x1024, .f32⟩
  | .hbm, ⟨6, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  ![v18.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OddOutRefIdeal.lean ====
abbrev S32768x1024 : Shape := ⟨2, ![32768, 1024]⟩
abbrev S1024x1024 : Shape := ⟨2, ![1024, 1024]⟩
abbrev S33792x1024 : Shape := ⟨2, ![33792, 1024]⟩
abbrev S5x1024 : Shape := ⟨2, ![5, 1024]⟩
abbrev S4x8192x1024 : Shape := ⟨3, ![4, 8192, 1024]⟩
abbrev S4x1024 : Shape := ⟨2, ![4, 1024]⟩
abbrev S4x1x1024 : Shape := ⟨3, ![4, 1, 1024]⟩

abbrev nBuf : Space → Nat
  | .hbm => 15
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S33792x1024, .f32⟩
  | .hbm, ⟨3, _⟩ => ⟨S5x1024, .f32⟩
  | .hbm, ⟨4, _⟩ => ⟨S32768x1024, .f32⟩
  | .hbm, ⟨5, _⟩ => ⟨S4x8192x1024, .f32⟩
  | .hbm, ⟨6, _⟩ => ⟨S32768x1024, .f32⟩
  | .hbm, ⟨7, _⟩ => ⟨S4x8192x1024, .f32⟩
  | .hbm, ⟨8, _⟩ => ⟨S4x8192x1024, .f32⟩
  | .hbm, ⟨9, _⟩ => ⟨S4x1024, .f32⟩
  | .hbm, ⟨10, _⟩ => ⟨S4x1x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Final.lean ====
abbrev S32768x1024 : Shape := ⟨2, ![32768, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S32768x1024 : Shape := ⟨2, ![32768, 1024]⟩
abbrev S1024 : Shape := ⟨1, ![1024]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S4x8192x1024, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Mod.lean ====
abbrev S4x1024 : Shape := ⟨2, ![4, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S8x6144 : Shape := ⟨2, ![8, 6144]⟩
abbrev S1024x1024 : Shape := ⟨2, ![1024, 1024]⟩
abbrev S5x6144 : Shape := ⟨2, ![5, 6144]⟩
abbrev S1x6144 : Shape := ⟨2, ![1, 6144]⟩

abbrev nBuf : Space → Nat
  | .hbm => 23
  | .vmem => 5
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1024x6144, .bf16⟩
  | .hbm, ⟨18, _⟩ => ⟨S8x6144, .f32⟩
  | .hbm, ⟨19, _⟩ => ⟨S5x6144, .f32⟩
  | .hbm, ⟨20, _⟩ => ⟨S1x6144, .f32⟩
  | .hbm, ⟨21, _⟩ => ⟨S5x6144, .f32⟩
  | .hbm, ⟨22, _⟩ => ⟨S5x6144, .f32⟩
  | .local _ .vmem, ⟨0, _⟩ => ⟨S8x1024, .f32⟩
  | .local _ .vmem, ⟨1, _⟩ => ⟨S1024x1024, .bf16⟩
  | .local _ .vmem, ⟨2, _⟩ => ⟨S1024x1024, .bf16⟩
  | .local _ .vmem, ⟨3, _⟩ => ⟨S8x1024, .f32⟩
  | .local _ .vmem, ⟨4, _⟩ => ⟨S8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ModRefIdeal.lean ====
abbrev S4x1024 : Shape := ⟨2, ![4, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S4x6144 : Shape := ⟨2, ![4, 6144]⟩
abbrev S1x6144 : Shape := ⟨2, ![1, 6144]⟩
abbrev S5x6144 : Shape := ⟨2, ![5, 6144]⟩

abbrev nBuf : Space → Nat
  | .hbm => 30
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x6144, .f32⟩
  | .hbm, ⟨14, _⟩ => ⟨S1x6144, .f32⟩
  | .hbm, ⟨15, _⟩ => ⟨S4x6144, .f32⟩
  | .hbm, ⟨16, _⟩ => ⟨S4x6144, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S6144, .f32⟩
  | .hbm, ⟨27, _⟩ => ⟨S6144, .f32⟩
  | .hbm, ⟨28, _⟩ => ⟨S1x6144, .f32⟩
  | .hbm, ⟨29, _⟩ => ⟨S5x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== PeerIn.lean ====
abbrev S33792x1024 : Shape := ⟨2, ![33792, 1024]⟩
abbrev S1024 : Shape := ⟨1, ![1024]⟩
abbrev S5x1024 : Shape := ⟨2, ![5, 1024]⟩
abbrev S1024x2048 : Shape := ⟨2, ![1024, 2048]⟩
abbrev S1x1024 : Shape := ⟨2, ![1, 1024]⟩
abbrev S5x1x1024 : Shape := ⟨3, ![5, 1, 1024]⟩
abbrev S33792x2048 : Shape := ⟨2, ![33792, 2048]⟩
abbrev S1024x33792 : Shape := ⟨2, ![1024, 33792]⟩
abbrev S512x1024 : Shape := ⟨2, ![512, 1024]⟩
abbrev S1x1x1024 : Shape := ⟨3, ![1, 1, 1024]⟩
abbrev S1024x1024 : Shape := ⟨2, ![1024, 1024]⟩
abbrev S1024x512 : Shape := ⟨2, ![1024, 512]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S5x1024, .f32⟩
  | .hbm, ⟨3, _⟩ => ⟨S5x1024, .f32⟩
  | .hbm, ⟨4, _⟩ => ⟨S1024x2048, .f32⟩
  | .hbm, ⟨5, _⟩ => ⟨S1024x2048, .bf16⟩
  | .hbm, ⟨6, _⟩ => ⟨S1x1024, .f32⟩
  | .hbm, ⟨7, _⟩ => ⟨S5x1x1024, .f32⟩
  | .hbm, ⟨8, _⟩ => ⟨S5x1x1024, .f32⟩
  | .hbm, ⟨9, _⟩ => ⟨S33792x2048, .f32⟩
  | .hbm, ⟨10, _⟩ => ⟨S1024x33792, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1024x512, .bf16⟩
  | .local _ .vmem, ⟨12, _⟩ => ⟨S1024x512, .bf16⟩
  | .local _ .vmem, ⟨13, _⟩ => ⟨S512x1024, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![66, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== PeerInRefIdeal.lean ====
abbrev S33792x1024 : Shape := ⟨2, ![33792, 1024]⟩
abbrev S1024 : Shape := ⟨1, ![1024]⟩
abbrev S5x1024 : Shape := ⟨2, ![5, 1024]⟩
abbrev S1024x2048 : Shape := ⟨2, ![1024, 2048]⟩
abbrev S32768x1024 : Shape := ⟨2, ![32768, 1024]⟩
abbrev S4x8192x1024 : Shape := ⟨3, ![4, 8192, 1024]⟩
abbrev S4x1024 : Shape := ⟨2, ![4, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x1024 : Shape := ⟨2, ![1024, 1024]⟩
abbrev S4x256x1024 : Shape := ⟨3, ![4, 256, 1024]⟩
abbrev S1x1024 : Shape := ⟨2, ![1, 1024]⟩
abbrev S4x256 : Shape := ⟨2, ![4, 256]⟩
abbrev S4x256x1 : Shape := ⟨3, ![4, 256, 1]⟩
abbrev S4x8192x2048 : Shape := ⟨3, ![4, 8192, 2048]⟩
abbrev S4x256x2048 : Shape := ⟨3, ![4, 256, 2048]⟩
abbrev S32768x2048 : Shape := ⟨2, ![32768, 2048]⟩
abbrev S33792x2048 : Shape := ⟨2, ![33792, 2048]⟩
abbrev S1024x33792 : Shape := ⟨2, ![1024, 33792]⟩

abbrev nBuf : Space → Nat
  | .hbm => 73
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S5x1024, .f32⟩
  | .hbm, ⟨3, _⟩ => ⟨S5x1024, .f32⟩
  | .hbm, ⟨4, _⟩ => ⟨S1024x2048, .f32⟩
  | .hbm, ⟨5, _⟩ => ⟨S32768x1024, .f32⟩
  | .hbm, ⟨6, _⟩ => ⟨S4x8192x1024, .f32⟩
  | .hbm, ⟨7, _⟩ => ⟨S4x1024, .f32⟩
  | .hbm, ⟨8, _⟩ => ⟨S4x1x1024, .f32⟩
  | .hbm, ⟨9, _⟩ => ⟨S4x1024, .f32⟩
  | .hbm, ⟨10, _⟩ => ⟨S4x1x1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S1024x1024, .f32⟩
  | .hbm, ⟨35, _⟩ => ⟨S4x256x1024, .f32⟩
  | .hbm, ⟨36, _⟩ => ⟨S1x1024, .f32⟩
  | .hbm, ⟨37, _⟩ => ⟨S1x1x1024, .f32⟩
  | .hbm, ⟨38, _⟩ => ⟨S1x1024, .f32⟩
  | .hbm, ⟨39, _⟩ => ⟨S1x1x1024, .f32⟩
  | .hbm, ⟨40, _⟩ => ⟨S4x256x1024, .f32⟩
  | .hbm, ⟨41, _⟩ => ⟨S_, .f32⟩
  | .hbm, ⟨42, _⟩ => ⟨S4x256, .f32⟩
  | .hbm, ⟨43, _⟩ => ⟨S4x256x1, .f32⟩
  | .hbm, ⟨44, _⟩ => ⟨S_, .f32⟩
  | .hbm, ⟨45, _⟩ => ⟨S4x256x1, .f32⟩
  | .hbm, ⟨46, _⟩ => ⟨S4x256x1, .f32⟩
  | .hbm, ⟨47, _⟩ => ⟨S_, .f32⟩
  | .hbm, ⟨48, _⟩ => ⟨S4x256x1, .f32⟩
  | .hbm, ⟨49, _⟩ => ⟨S4x256x1, .f32⟩
  | .hbm, ⟨50, _⟩ => ⟨S4x256x1, .f32⟩
  | .hbm, ⟨51, _⟩ => ⟨S4x256x1024, .f32⟩
  | .hbm, ⟨52, _⟩ => ⟨S4x256x1024, .f32⟩
  | .hbm, ⟨53, _⟩ => ⟨S1x1x1024, .f32⟩
  | .hbm, ⟨54, _⟩ => ⟨S4x256x1024, .f32⟩
  | .hbm, ⟨55, _⟩ => ⟨S4x256x1024, .f32⟩
  | .hbm, ⟨56, _⟩ => ⟨S_, .f32⟩
  | .hbm, ⟨57, _⟩ => ⟨S1x1x1024, .f32⟩
  | .hbm, ⟨58, _⟩ => ⟨S1x1x1024, .f32⟩
  | .hbm, ⟨59, _⟩ => ⟨S4x256x1024, .f32⟩
  | .hbm, ⟨60, _⟩ => ⟨S4x256x1024, .f32⟩
  | .hbm, ⟨61, _⟩ => ⟨S4x256x1024, .f32⟩
  | .hbm, ⟨62, _⟩ => ⟨S4x256x1024, .f32⟩
  | .hbm, ⟨63, _⟩ => ⟨S4x8192x2048, .f32⟩
  | .hbm, ⟨64, _⟩ => ⟨S4x256x2048, .f32⟩
  | .hbm, ⟨65, _⟩ => ⟨S32768x2048, .f32⟩
  | .hbm, ⟨66, _⟩ => ⟨S1024x2048, .f32⟩
  | .hbm, ⟨67, _⟩ => ⟨S33792x2048, .f32⟩
  | .hbm, ⟨68, _⟩ => ⟨S32768x1024, .f32⟩
  | .hbm, ⟨69, _⟩ => ⟨S1024x1024, .f32⟩
  | .hbm, ⟨70, _⟩ => ⟨S33792x1024, .f32⟩
  | .hbm, ⟨71, _⟩ => ⟨S1024x33792, .f32⟩
  | .hbm, ⟨72, _⟩ => ⟨S1024x33792, .bf16⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩

abbrev nD : Nat := 1
abbrev τ : Topo := Topo.v7x

variable {F : FTy → Type} [FloatOps F]
-- ==== PeerLast.lean ====
abbrev S32768x1024 : Shape := ⟨2, ![32768, 1024]⟩
abbrev S1024 : Shape := ⟨1, ![1024]⟩
abbrev S5x1024 : Shape := ⟨2, ![5, 1024]⟩
abbrev S1024x2048 : Shape := ⟨2, ![1024, 2048]⟩
abbrev S1x1024 : Shape := ⟨2, ![1, 1024]⟩
abbrev S5x1x1024 : Shape := ⟨3, ![5, 1, 1024]⟩
abbrev S32768x2048 : Shape := ⟨2, ![32768, 2048]⟩
abbrev S1024x32768 : Shape := ⟨2, ![1024, 32768]⟩
abbrev S512x1024 : Shape := ⟨2, ![512, 1024]⟩
abbrev S1x1x1024 : Shape := ⟨3, ![1, 1, 1024]⟩
abbrev S1024x1024 : Shape := ⟨2, ![1024, 1024]⟩
abbrev S1024x512 : Shape := ⟨2, ![1024, 512]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S5x1024, .f32⟩
  | .hbm, ⟨3, _⟩ => ⟨S5x1024, .f32⟩
  | .hbm, ⟨4, _⟩ => ⟨S1024x2048, .f32⟩
  | .hbm, ⟨5, _⟩ => ⟨S1024x2048, .bf16⟩
  | .hbm, ⟨6, _⟩ => ⟨S1x1024, .f32⟩
  | .hbm, ⟨7, _⟩ => ⟨S5x1x1024, .f32⟩
  | .hbm, ⟨8, _⟩ => ⟨S5x1x1024, .f32⟩
  | .hbm, ⟨9, _⟩ => ⟨S32768x2048, .f32⟩
  | .hbm, ⟨10, _⟩ => ⟨S1024x32768, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1024x512, .bf16⟩
  | .local _ .vmem, ⟨12, _⟩ => ⟨S1024x512, .bf16⟩
  | .local _ .vmem, ⟨13, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== PeerLastRefIdeal.lean ====
abbrev S32768x1024 : Shape := ⟨2, ![32768, 1024]⟩
abbrev S1024 : Shape := ⟨1, ![1024]⟩
abbrev S5x1024 : Shape := ⟨2, ![5, 1024]⟩
abbrev S1024x2048 : Shape := ⟨2, ![1024, 2048]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1024 : Shape := ⟨2, ![4, 1024]⟩
abbrev S4x1x1024 : Shape := ⟨3, ![4, 1, 1024]⟩
abbrev S4x8192x2048 : Shape := ⟨3, ![4, 8192, 2048]⟩
abbrev S32768x2048 : Shape := ⟨2, ![32768, 2048]⟩
abbrev S1024x32768 : Shape := ⟨2, ![1024, 32768]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S5x1024, .f32⟩
  | .hbm, ⟨3, _⟩ => ⟨S5x1024, .f32⟩
  | .hbm, ⟨4, _⟩ => ⟨S1024x2048, .f32⟩
  | .hbm, ⟨5, _⟩ => ⟨S4x8192x1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x1024, .f32⟩
  | .hbm, ⟨23, _⟩ => ⟨S4x1x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x8192x1024, .f32⟩
  | .hbm, ⟨28, _⟩ => ⟨S4x8192x1024, .f32⟩
  | .hbm, ⟨29, _⟩ => ⟨S4x1024, .f32⟩
  | .hbm, ⟨30, _⟩ => ⟨S4x1x1024, .f32⟩
  | .hbm, ⟨31, _⟩ => ⟨S4x8192x1024, .f32⟩
  | .hbm, ⟨32, _⟩ => ⟨S4x8192x1024, .f32⟩
  | .hbm, ⟨33, _⟩ => ⟨S4x8192x2048, .f32⟩
  | .hbm, ⟨34, _⟩ => ⟨S32768x2048, .f32⟩
  | .hbm, ⟨35, _⟩ => ⟨S32768x1024, .f32⟩
  | .hbm, ⟨36, _⟩ => ⟨S1024x32768, .f32⟩
  | .hbm, ⟨37, _⟩ => ⟨S1024x32768, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== EvenOut.lean ====
abbrev S33792x512 : Shape := ⟨2, ![33792, 512]⟩
abbrev S1024x1024 : Shape := ⟨2, ![1024, 1024]⟩
abbrev S33792x1024 : Shape := ⟨2, ![33792, 1024]⟩
abbrev S5x1024 : Shape := ⟨2, ![5, 1024]⟩
abbrev S512x1024 : Shape := ⟨2, ![512, 1024]⟩
abbrev S5x1x1024 : Shape := ⟨3, ![5, 1, 1024]⟩
abbrev S512x512 : Shape := ⟨2, ![512, 512]⟩
abbrev S1x1x1024 : Shape := ⟨3, ![1, 1, 1024]⟩
abbrev S1x1024 : Shape := ⟨2, ![1, 1024]⟩

abbrev nBuf : Space → Nat
  | .hbm => 12
  | .vmem => 18
  | .smem => 0
  | _ => 0

abbrev bufTy : (tb : Table) → Fin (tcTables nBuf tb) → BufTy
  | .hbm, ⟨0, _⟩ => ⟨S33792x512, .bf16⟩
  | .hbm, ⟨1, _⟩ => ⟨S33792x512, .f32⟩
  | .hbm, ⟨2, _⟩ => ⟨S1024x1024, .f32⟩
  | .hbm, ⟨3, _⟩ => ⟨S33792x1024, .f32⟩
  | .hbm, ⟨4, _⟩ => ⟨S5x1024, .f32⟩
  | .hbm, ⟨5, _⟩ => ⟨S1024x1024, .bf16⟩
  | .hbm, ⟨6, _⟩ => ⟨S512x1024, .bf16⟩
  | .hbm, ⟨7, _⟩ => ⟨S5x1x1024, .f32⟩
  | .hbm, ⟨8, _⟩ => ⟨S33792x1024, .f32⟩
  | .hbm, ⟨9, _⟩ => ⟨S512x1024, .bf16⟩
  | .hbm, ⟨10, _⟩ => ⟨S5x1x1024, .f32⟩
  | .hbm, ⟨11, _⟩ => ⟨S33792x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x512, .f32⟩
  | .local _ .vmem, ⟨10, _⟩ => ⟨S512x512, .f32⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1x1x1024, .f32⟩
  | .local _ .vmem, ⟨15, _⟩ => ⟨S1x1x1024, .f32⟩
  | .local _ .vmem, ⟨16, _⟩ => ⟨S512x1024, .f32⟩
  | .local _ .vmem, ⟨17, _⟩ => ⟨S512x1024, .f32⟩
  | _, _ => ⟨S33792x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![66, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  ![v18.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![66, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  ![v18.toNat, c0_i32_4.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== EvenOutRefIdeal.lean ====
abbrev S33792x512 : Shape := ⟨2, ![33792, 512]⟩
abbrev S1024x1024 : Shape := ⟨2, ![1024, 1024]⟩
abbrev S33792x1024 : Shape := ⟨2, ![33792, 1024]⟩
abbrev S5x1024 : Shape := ⟨2, ![5, 1024]⟩
abbrev S32768x1024 : Shape := ⟨2, ![32768, 1024]⟩
abbrev S4x8192x1024 : Shape := ⟨3, ![4, 8192, 1024]⟩
abbrev S4x256x1024 : Shape := ⟨3, ![4, 256, 1024]⟩
abbrev S4x1024 : Shape := ⟨2, ![4, 1024]⟩
abbrev S4x1x1024 : Shape := ⟨3, ![4, 1, 1024]⟩
abbrev S1x1024 : Shape := ⟨2, ![1, 1024]⟩
abbrev S1x1x1024 : Shape := ⟨3, ![1, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S33792x512, .bf16⟩
  | .hbm, ⟨1, _⟩ => ⟨S33792x512, .f32⟩
  | .hbm, ⟨2, _⟩ => ⟨S1024x1024, .f32⟩
  | .hbm, ⟨3, _⟩ => ⟨S33792x1024, .f32⟩
  | .hbm, ⟨4, _⟩ => ⟨S5x1024, .f32⟩
  | .hbm, ⟨5, _⟩ => ⟨S33792x512, .f32⟩
  | .hbm, ⟨6, _⟩ => ⟨S33792x1024, .f32⟩
  | .hbm, ⟨7, _⟩ => ⟨S32768x1024, .f32⟩
  | .hbm, ⟨8, _⟩ => ⟨S4x8192x1024, .f32⟩
  | .hbm, ⟨9, _⟩ => ⟨S4x8192x1024, .f32⟩
  | .hbm, ⟨10, _⟩ => ⟨S1024x1024, .f32⟩
  | .hbm, ⟨11, _⟩ => ⟨S4x256x1024, .f32⟩
  | .hbm, ⟨12, _⟩ => ⟨S4x256x1024, .f32⟩
  | .hbm, ⟨13, _⟩ => ⟨S32768x1024, .f32⟩
  | .hbm, ⟨14, _⟩ => ⟨S4x8192x1024, .f32⟩
  | .hbm, ⟨15, _⟩ => ⟨S4x1024, .f32⟩
  | .hbm, ⟨16, _⟩ => ⟨S4x1x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S1024x1024, .f32⟩
  | .hbm, ⟨21, _⟩ => ⟨S4x256x1024, .f32⟩
  | .hbm, ⟨22, _⟩ => ⟨S1x1024, .f32⟩
  | .hbm, ⟨23, _⟩ => ⟨S1x1x1024, .f32⟩
  | .hbm, ⟨24, _⟩ => ⟨S4x256x1024, .f32⟩
  | .hbm, ⟨25, _⟩ => ⟨S4x256x1024, .f32⟩
  | .hbm, ⟨26, _⟩ => ⟨S4x256x1024, .f32⟩
  | .hbm, ⟨27, _⟩ => ⟨S32768x1024, .f32⟩
  | .hbm, ⟨28, _⟩ => ⟨S1024x1024, .f32⟩
  | .hbm, ⟨29, _⟩ => ⟨S33792x1024, .f32⟩
  | _, _ => ⟨S33792x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== CtxAttn.lean ====
abbrev S33792x1536 : Shape := ⟨2, ![33792, 1536]⟩
abbrev S1024x512 : Shape := ⟨2, ![1024, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S33792x1536, .bf16⟩
  | .hbm, ⟨1, _⟩ => ⟨S1024x512, .bf16⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | _, _ => ⟨S33792x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c4_i32 : BitVec 32 := 4#32
  let v1 : BitVec 32 := Scalar.addi c4_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c8_i32 : BitVec 32 := 8#32
  let v1 : BitVec 32 := Scalar.addi c8_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CtxAttnRefIdeal.lean ====
abbrev S33792x1536 : Shape := ⟨2, ![33792, 1536]⟩
abbrev S1024x1536 : Shape := ⟨2, ![1024, 1536]⟩
abbrev S4x256x1536 : Shape := ⟨3, ![4, 256, 1536]⟩
abbrev S4x256x512 : Shape := ⟨3, ![4, 256, 512]⟩
abbrev S4x256x8x64 : Shape := ⟨4, ![4, 256, 8, 64]⟩
abbrev S4x8x256x64 : Shape := ⟨4, ![4, 8, 256, 64]⟩
abbrev S4x8x256x256 : Shape := ⟨4, ![4, 8, 256, 256]⟩
abbrev S_ : Shape := ⟨0, ![]⟩
abbrev S4x8x256 : Shape := ⟨3, ![4, 8, 256]⟩
abbrev S4x8x256x1 : Shape := ⟨4, ![4, 8, 256, 1]⟩
abbrev S1024x512 : Shape := ⟨2, ![1024, 512]⟩

abbrev nBuf : Space → Nat
  | .hbm => 36
  | .vmem => 0
  | .smem => 0
  | _ => 0

abbrev bufTy : (tb : Table) → Fin (tcTables nBuf tb) → BufTy
  | .hbm, ⟨0, _⟩ => ⟨S33792x1536, .bf16⟩
  | .hbm, ⟨1, _⟩ => ⟨S1024x1536, .bf16⟩
  | .hbm, ⟨2, _⟩ => ⟨S1024x1536, .f32⟩
  | .hbm, ⟨3, _⟩ => ⟨S4x256x1536, .f32⟩
  | .hbm, ⟨4, _⟩ => ⟨S4x256x512, .f32⟩
  | .hbm, ⟨5, _⟩ => ⟨S4x256x512, .f32⟩
  | .hbm, ⟨6, _⟩ => ⟨S4x256x512, .f32⟩
  | .hbm, ⟨7, _⟩ => ⟨S4x256x8x64, .f32⟩
  | .hbm, ⟨8, _⟩ => ⟨S4x8x256x64, .f32⟩
  | .hbm, ⟨9, _⟩ => ⟨S4x256x8x64, .f32⟩
  | .hbm, ⟨10, _⟩ => ⟨S4x8x256x64, .f32⟩
  | .hbm, ⟨11, _⟩ => ⟨S4x256x8x64, .f32⟩
  | .hbm, ⟨12, _⟩ => ⟨S4x8x256x64, .f32⟩
  | .hbm, ⟨13, _⟩ => ⟨S4x8x256x256, .f32⟩
  | .hbm, ⟨14, _⟩ => ⟨S_, .f32⟩
  | .hbm, ⟨15, _⟩ => ⟨S4x8x256x256, .f32⟩
  | .hbm, ⟨16, _⟩ => ⟨S4x8x256x256, .f32⟩
  | .hbm, ⟨17, _⟩ => ⟨S_, .f32⟩
  | .hbm, ⟨18, _⟩ => ⟨S4x8x256, .f32⟩
  | .hbm, ⟨19, _⟩ => ⟨S_, .f32⟩
  | .hbm, ⟨20, _⟩ => ⟨S4x8x256, .f32⟩
  | .hbm, ⟨21, _⟩ => ⟨S4x8x256, .f32⟩
  | .hbm, ⟨22, _⟩ => ⟨S4x8x256x1, .f32⟩
  | .hbm, ⟨23, _⟩ => ⟨S4x8x256x256, .f32⟩
  | .hbm, ⟨24, _⟩ => ⟨S4x8x256x256, .f32⟩
  | .hbm, ⟨25, _⟩ => ⟨S4x8x256x256, .f32⟩
  | .hbm, ⟨26, _⟩ => ⟨S_, .f32⟩
  | .hbm, ⟨27, _⟩ => ⟨S4x8x256, .f32⟩
  | .hbm, ⟨28, _⟩ => ⟨S4x8x256x1, .f32⟩
  | .hbm, ⟨29, _⟩ => ⟨S4x8x256x256, .f32⟩
  | .hbm, ⟨30, _⟩ => ⟨S4x8x256x256, .f32⟩
  | .hbm, ⟨31, _⟩ => ⟨S4x8x256x64, .f32⟩
  | .hbm, ⟨32, _⟩ => ⟨S4x256x8x64, .f32⟩
  | .hbm, ⟨33, _⟩ => ⟨S4x256x512, .f32⟩
  | .hbm, ⟨34, _⟩ => ⟨S1024x512, .f32⟩
  | .hbm, ⟨35, _⟩ => ⟨S1024x512, .bf16⟩
  | _, _ => ⟨S33792x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_cst_0 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_2 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== Proof.MaxFold.lean ====
module

public import Idealize.ShloMosaic.Lib.Pointwise
@[expose] public noncomputable section
open Idealize.ShloMosaic Idealize.ShloMosaic.TcCoe Idealize.SL.Sem
namespace Cert.Attn

/-- A column maximum of a table, at a column, for any table size. -/
theorem colMax_at (n0 n1 : ℕ) (v : FVec Ideal ⟨2, ![n0, n1]⟩ .f32)
    (h : (⟨2, ![n0, n1]⟩ : Shape).Reduces [0] ⟨1, ![n1]⟩) (hφ : FKind.Formats .f32)
    (hacc : (0xFF800000#32 : BitVec FTy.f32.bits) = FKind.maximumf.neutral .f32 hφ) (q : Fin n1) :
    multiReduction .maximumf [0] ⟨1, ![n1]⟩ v 0xFF800000#32 h hφ hacc (ix1 q)
      = (Finset.univ : Finset (Fin n0)).fold max (Ideal.ofBits .f32 0xFF800000#32) (fun k => v (ix2 k q)) :=
  (multiReduction_maximumf_eq_fold v _ h hφ hacc (ix1 q)).trans (h.fold_fiber_r2_a0 (ix1 q) _ _ v)

/-- The maximum along the last of five axes, for any sizes. -/
theorem lastMax_at (n0 n1 n2 n3 n4 : ℕ) {u : Shape} (v : FVec Ideal ⟨5, ![n0, n1, n2, n3, n4]⟩ .f32) (b : FVec Ideal u .f32)
    (h : (⟨5, ![n0, n1, n2, n3, n4]⟩ : Shape).ReducesTo [4] ⟨4, ![n0, n1, n2, n3]⟩) (hu : 0 < u.numel)
    (a0 : Fin n0) (a1 : Fin n1) (a2 : Fin n2) (a3 : Fin n3) :
    Host.reduce (FloatOps.maximumf (F := Ideal) (φ := .f32)) v b h hu (ix4 a0 a1 a2 a3)
      = (Finset.univ : Finset (Fin n4)).fold max (b (Shape.Idx.first hu)) (fun k => v (ix5 a0 a1 a2 a3 k)) :=
  (Host.reduce_eq_fold _ v b h hu _).trans (h.fold_fiber_r5_a4 _ _ _ v)

/-- The largest of finitely many real numbers, from minus infinity, is a real number. -/
theorem fold_real {n : ℕ} (hn : 0 < n) (f : Fin n → ℝ) :
    ∃ r : ℝ, (Finset.univ : Finset (Fin n)).fold max (Ideal.ofBits .f32 0xFF800000#32) (fun k => ((f k : ℝ) : EReal)) = r := by
  have hb : Ideal.ofBits .f32 0xFF800000#32 = ⊥ := by simp [Ideal.ofBits, Ideal.ieee]
  rw [hb]
  have key : ∀ s : Finset (Fin n), s.fold max (⊥ : EReal) (fun k => ((f k : ℝ) : EReal)) = ⊥ ∨
      ∃ r : ℝ, s.fold max (⊥ : EReal) (fun k => ((f k : ℝ) : EReal)) = r := by
    intro s
    induction s using Finset.induction_on with
    | empty => left; rfl
    | insert a s ha ih =>
      right
      rw [Finset.fold_insert ha]
      rcases ih with ih | ⟨r, ih⟩
      · exact ⟨f a, by rw [ih]; exact max_eq_left bot_le⟩
      · exact ⟨max (f a) r, by rw [ih]; exact (EReal.coe_strictMono.monotone.map_max).symm⟩
  rcases key Finset.univ with h | h
  · exfalso
    have : ((f ⟨0, hn⟩ : ℝ) : EReal) ≤ (Finset.univ : Finset (Fin n)).fold max (⊥ : EReal) (fun k => ((f k : ℝ) : EReal)) :=
      (Finset.le_fold_max _).2 (.inr ⟨⟨0, hn⟩, Finset.mem_univ _, le_rfl⟩)
    rw [h] at this
    exact absurd (le_bot_iff.1 this) (EReal.coe_ne_bot _)
  · exact h

end Cert.Attn
-- ==== Proof.Pay.lean ====
module

public import proofs.«01_k».proof.Proof.Gen.KernelIdeal.Skeleton
public import proofs.«01_k».proof.Proof.MaxFold
set_option maxRecDepth 16384
@[expose] public noncomputable section
open Idealize.ShloMosaic Idealize.ShloMosaic.TcCoe Idealize.SL.Sem
namespace Cert.KernelIdeal.Hand
open Cert.KernelIdeal Cert.KernelIdeal.Gen

/-- The running maximum after one more block of scores. -/
def mx {n : ℕ} (mo : EReal) (s : Fin n → EReal) : EReal :=
  max mo (Finset.univ.fold max (Ideal.ofBits .f32 0xFF800000#32) s)

/-- The accumulator after one more block of scores and values. -/
def ac {n : ℕ} (mo ao : EReal) (s v : Fin n → EReal) : EReal :=
  Ideal.exp2 (mo - mx mo s) * ao + ∑ k, v k * Ideal.exp2 (s k - mx mo s)

/-- The column maxima of a whole block of scores. -/
def cmaxA (v : FVec Ideal S2048x1024 .f32) : FVec Ideal S1024 .f32 :=
  multiReduction .maximumf [0] S1024 v 0xFF800000#32 reduces_S2048x1024_S1024 (.inl rfl) rfl

/-- The column maxima of the context's block of scores. -/
def cmaxB (v : FVec Ideal S256x1024 .f32) : FVec Ideal S1024 .f32 :=
  multiReduction .maximumf [0] S1024 v 0xFF800000#32 reduces_S256x1024_S1024 (.inl rfl) rfl

theorem cmaxA_at (v : FVec Ideal S2048x1024 .f32) (q : Fin 1024) :
    cmaxA v (ix1 q) = Finset.univ.fold max (Ideal.ofBits .f32 0xFF800000#32) (fun k : Fin 2048 => v (ix2 k q)) :=
  Cert.Attn.colMax_at 2048 1024 v _ _ _ q

theorem cmaxB_at (v : FVec Ideal S256x1024 .f32) (q : Fin 1024) :
    cmaxB v (ix1 q) = Finset.univ.fold max (Ideal.ofBits .f32 0xFF800000#32) (fun k : Fin 256 => v (ix2 k q)) :=
  Cert.Attn.colMax_at 256 1024 v _ _ _ q

theorem pay4_eq (s : FVec Ideal S2048x1024 .f32) (mo : FVec Ideal S1x1x1024 .f32) :
    k0_pay4 (F := Ideal) s mo = maximumf (k0_pay3 mo) (shapeCast S1x1024 (cmaxA s) shapeCasts_S1024_S1x1024) := rfl

theorem pay4_at (s : FVec Ideal S2048x1024 .f32) (mo : FVec Ideal S1x1x1024 .f32) (q : Fin 1024) :
    k0_pay4 (F := Ideal) s mo (ix2 0 q) = mx (mo (ix3 0 0 q)) (fun k : Fin 2048 => s (ix2 k q)) := by
  rw [pay4_eq]
  pointwise [k0_pay3]
  rw [cmaxA_at]
  rfl

theorem pay6_at (s : FVec Ideal S2048x1024 .f32) (mo : FVec Ideal S1x1x1024 .f32) (q : Fin 1024) :
    k0_pay6 (F := Ideal) s mo (ix3 0 0 q) = mx (mo (ix3 0 0 q)) (fun k : Fin 2048 => s (ix2 k q)) := by
  pointwise [k0_pay6]
  exact pay4_at s mo q

theorem pay5_at (v : FVec Ideal S144x2048 .bf16) (s : FVec Ideal S2048x1024 .f32) (mo : FVec Ideal S1x1x1024 .f32)
    (ao : FVec Ideal S1x144x1024 .f32) (r : Fin 144) (q : Fin 1024) :
    k0_pay5 (F := Ideal) v s mo ao (ix3 0 r q) = ac (mo (ix3 0 0 q)) (ao (ix3 0 r q)) (fun k : Fin 2048 => s (ix2 k q))
      (fun k => v (ix2 r k)) := by
  pointwise [k0_pay5, k0_pay3, ac]
  simp only [pay4_at]
  rfl

theorem pay9_eq (s : FVec Ideal S2048x1024 .f32) (mo : FVec Ideal S1x1x1024 .f32) :
    k0_pay9 (F := Ideal) s mo = maximumf (k0_pay8 mo) (shapeCast S1x1024 (cmaxA s) shapeCasts_S1024_S1x1024) := rfl

theorem pay9_at (s : FVec Ideal S2048x1024 .f32) (mo : FVec Ideal S1x1x1024 .f32) (q : Fin 1024) :
    k0_pay9 (F := Ideal) s mo (ix2 0 q) = mx (mo (ix3 0 0 q)) (fun k : Fin 2048 => s (ix2 k q)) := by
  rw [pay9_eq]
  pointwise [k0_pay8]
  rw [cmaxA_at]
  rfl

theorem pay11_at (s : FVec Ideal S2048x1024 .f32) (mo : FVec Ideal S1x1x1024 .f32) (q : Fin 1024) :
    k0_pay11 (F := Ideal) s mo (ix3 0 0 q) = mx (mo (ix3 0 0 q)) (fun k : Fin 2048 => s (ix2 k q)) := by
  pointwise [k0_pay11]
  exact pay9_at s mo q

theorem pay10_at (v : FVec Ideal S144x2048 .bf16) (s : FVec Ideal S2048x1024 .f32) (mo : FVec Ideal S1x1x1024 .f32)
    (ao : FVec Ideal S1x144x1024 .f32) (r : Fin 144) (q : Fin 1024) :
    k0_pay10 (F := Ideal) v s mo ao (ix3 0 r q) = ac (mo (ix3 0 0 q)) (ao (ix3 0 r q)) (fun k : Fin 2048 => s (ix2 k q))
      (fun k => v (ix2 r k)) := by
  pointwise [k0_pay10, k0_pay8, ac]
  simp only [pay9_at]
  rfl

theorem pay21_eq (s : FVec Ideal S2048x1024 .f32) (mo : FVec Ideal S1x1x1024 .f32) :
    k0_pay21 (F := Ideal) s mo = maximumf (k0_pay20 mo) (shapeCast S1x1024 (cmaxA s) shapeCasts_S1024_S1x1024) := rfl

theorem pay21_at (s : FVec Ideal S2048x1024 .f32) (mo : FVec Ideal S1x1x1024 .f32) (q : Fin 1024) :
    k0_pay21 (F := Ideal) s mo (ix2 0 q) = mx (mo (ix3 0 0 q)) (fun k : Fin 2048 => s (ix2 k q)) := by
  rw [pay21_eq]
  pointwise [k0_pay20]
  rw [cmaxA_at]
  rfl

theorem pay23_at (s : FVec Ideal S2048x1024 .f32) (mo : FVec Ideal S1x1x1024 .f32) (q : Fin 1024) :
    k0_pay23 (F := Ideal) s mo (ix3 0 0 q) = mx (mo (ix3 0 0 q)) (fun k : Fin 2048 => s (ix2 k q)) := by
  pointwise [k0_pay23]
  exact pay21_at s mo q

theorem pay22_at (v : FVec Ideal S144x2048 .bf16) (s : FVec Ideal S2048x1024 .f32) (mo : FVec Ideal S1x1x1024 .f32)
    (ao : FVec Ideal S1x144x1024 .f32) (r : Fin 144) (q : Fin 1024) :
    k0_pay22 (F := Ideal) v s mo ao (ix3 0 r q) = ac (mo (ix3 0 0 q)) (ao (ix3 0 r q)) (fun k : Fin 2048 => s (ix2 k q))
      (fun k => v (ix2 r k)) := by
  pointwise [k0_pay22, k0_pay18, k0_pay20, ac]
  simp only [pay21_at]
  rfl

theorem pay27_eq (s : FVec Ideal S2048x1024 .f32) (mo : FVec Ideal S1x1x1024 .f32) :
    k0_pay27 (F := Ideal) s mo = maximumf (k0_pay26 mo) (shapeCast S1x1024 (cmaxA s) shapeCasts_S1024_S1x1024) := rfl

theorem pay27_at (s : FVec Ideal S2048x1024 .f32) (mo : FVec Ideal S1x1x1024 .f32) (q : Fin 1024) :
    k0_pay27 (F := Ideal) s mo (ix2 0 q) = mx (mo (ix3 0 0 q)) (fun k : Fin 2048 => s (ix2 k q)) := by
  rw [pay27_eq]
  pointwise [k0_pay26]
  rw [cmaxA_at]
  rfl

theorem pay29_at (s : FVec Ideal S2048x1024 .f32) (mo : FVec Ideal S1x1x1024 .f32) (q : Fin 1024) :
    k0_pay29 (F := Ideal) s mo (ix3 0 0 q) = mx (mo (ix3 0 0 q)) (fun k : Fin 2048 => s (ix2 k q)) := by
  pointwise [k0_pay29]
  exact pay27_at s mo q

theorem pay28_at (v : FVec Ideal S144x2048 .bf16) (s : FVec Ideal S2048x1024 .f32) (mo : FVec Ideal S1x1x1024 .f32)
    (ao : FVec Ideal S1x144x1024 .f32) (r : Fin 144) (q : Fin 1024) :
    k0_pay28 (F := Ideal) v s mo ao (ix3 0 r q) = ac (mo (ix3 0 0 q)) (ao (ix3 0 r q)) (fun k : Fin 2048 => s (ix2 k q))
      (fun k => v (ix2 r k)) := by
  pointwise [k0_pay28, k0_pay24, k0_pay26, ac]
  simp only [pay27_at]
  rfl

theorem pay33_eq (s : FVec Ideal S256x1024 .f32) (mo : FVec Ideal S1x1x1024 .f32) :
    k0_pay33 (F := Ideal) s mo = maximumf (k0_pay32 mo) (shapeCast S1x1024 (cmaxB s) shapeCasts_S1024_S1x1024) := rfl

theorem pay33_at (s : FVec Ideal S256x1024 .f32) (mo : FVec Ideal S1x1x1024 .f32) (q : Fin 1024) :
    k0_pay33 (F := Ideal) s mo (ix2 0 q) = mx (mo (ix3 0 0 q)) (fun k : Fin 256 => s (ix2 k q)) := by
  rw [pay33_eq]
  pointwise [k0_pay32]
  rw [cmaxB_at]
  rfl

theorem pay35_at (s : FVec Ideal S256x1024 .f32) (mo : FVec Ideal S1x1x1024 .f32) (q : Fin 1024) :
    k0_pay35 (F := Ideal) s mo (ix3 0 0 q) = mx (mo (ix3 0 0 q)) (fun k : Fin 256 => s (ix2 k q)) := by
  pointwise [k0_pay35]
  exact pay33_at s mo q

theorem pay34_at (v : FVec Ideal S144x256 .bf16) (s : FVec Ideal S256x1024 .f32) (mo : FVec Ideal S1x1x1024 .f32)
    (ao : FVec Ideal S1x144x1024 .f32) (r : Fin 144) (q : Fin 1024) :
    k0_pay34 (F := Ideal) v s mo ao (ix3 0 r q) = ac (mo (ix3 0 0 q)) (ao (ix3 0 r q)) (fun k : Fin 256 => s (ix2 k q))
      (fun k => v (ix2 r k)) := by
  pointwise [k0_pay34, k0_pay30, k0_pay32, ac]
  simp only [pay33_at]
  rfl

theorem pay37_eq (s : FVec Ideal S256x1024 .f32) (mo : FVec Ideal S1x1x1024 .f32) :
    k0_pay37 (F := Ideal) s mo = maximumf (k0_pay36 mo) (shapeCast S1x1024 (cmaxB s) shapeCasts_S1024_S1x1024) := rfl

theorem pay37_at (s : FVec Ideal S256x1024 .f32) (mo : FVec Ideal S1x1x1024 .f32) (q : Fin 1024) :
    k0_pay37 (F := Ideal) s mo (ix2 0 q) = mx (mo (ix3 0 0 q)) (fun k : Fin 256 => s (ix2 k q)) := by
  rw [pay37_eq]
  pointwise [k0_pay36]
  rw [cmaxB_at]
  rfl

theorem pay39_at (s : FVec Ideal S256x1024 .f32) (mo : FVec Ideal S1x1x1024 .f32) (q : Fin 1024) :
    k0_pay39 (F := Ideal) s mo (ix3 0 0 q) = mx (mo (ix3 0 0 q)) (fun k : Fin 256 => s (ix2 k q)) := by
  pointwise [k0_pay39]
  exact pay37_at s mo q

theorem pay38_at (v : FVec Ideal S144x256 .bf16) (s : FVec Ideal S256x1024 .f32) (mo : FVec Ideal S1x1x1024 .f32)
    (ao : FVec Ideal S1x144x1024 .f32) (r : Fin 144) (q : Fin 1024) :
    k0_pay38 (F := Ideal) v s mo ao (ix3 0 r q) = ac (mo (ix3 0 0 q)) (ao (ix3 0 r q)) (fun k : Fin 256 => s (ix2 k q))
      (fun k => v (ix2 r k)) := by
  pointwise [k0_pay38, k0_pay36, ac]
  simp only [pay37_at]
  rfl

theorem pay1_at (k : FVec Ideal S2048x128 .bf16) (x : FVec Ideal S1x1024x128 .bf16) (r : Fin 2048) (q : Fin 1024) :
    k0_pay1 (F := Ideal) k x (ix2 r q) = (∑ l : Fin 128, k (ix2 r l) * x (ix3 0 q l) : EReal) := by
  pointwise [k0_pay1]

theorem pay2_at (k : FVec Ideal S2048x128 .bf16) (x : FVec Ideal S1x1024x128 .bf16) (r : Fin 2048) (q : Fin 1024) :
    k0_pay2 (F := Ideal) k x (ix2 r q) = (∑ l : Fin 128, k (ix2 r l) * x (ix3 0 q l) : EReal) := by
  pointwise [k0_pay2]

theorem pay7_at (k : FVec Ideal S256x128 .bf16) (x : FVec Ideal S1x1024x128 .bf16) (r : Fin 256) (q : Fin 1024) :
    k0_pay7 (F := Ideal) k x (ix2 r q) = (∑ l : Fin 128, k (ix2 r l) * x (ix3 0 q l) : EReal) := by
  pointwise [k0_pay7]

theorem pay19_at (k : FVec Ideal S2048x128 .bf16) (x : FVec Ideal S1x1024x128 .bf16) (r : Fin 2048) (q : Fin 1024) :
    k0_pay19 (F := Ideal) k x (ix2 r q) = (∑ l : Fin 128, k (ix2 r l) * x (ix3 0 q l) : EReal) := by
  pointwise [k0_pay19]

theorem pay25_at (k : FVec Ideal S2048x128 .bf16) (x : FVec Ideal S1x1024x128 .bf16) (r : Fin 2048) (q : Fin 1024) :
    k0_pay25 (F := Ideal) k x (ix2 r q) = (∑ l : Fin 128, k (ix2 r l) * x (ix3 0 q l) : EReal) := by
  pointwise [k0_pay25]

theorem pay31_at (k : FVec Ideal S256x128 .bf16) (x : FVec Ideal S1x1024x128 .bf16) (r : Fin 256) (q : Fin 1024) :
    k0_pay31 (F := Ideal) k x (ix2 r q) = (∑ l : Fin 128, k (ix2 r l) * x (ix3 0 q l) : EReal) := by
  pointwise [k0_pay31]

end Cert.KernelIdeal.Hand
-- ==== Proof.Pay2.lean ====
module

public import proofs.«01_k».proof.Proof.Gen.KernelIdeal.Value
public import proofs.«01_k».proof.Proof.Pay
public import Idealize.ShloMosaic.Lib.Pipeline.ValueKit
public import Idealize.ShloMosaic.Lib.Pipeline.ReadBack
public import Idealize.ShloMosaic.Lib.VecWindow
set_option maxRecDepth 16384
@[expose] public noncomputable section
open Idealize.ShloMosaic Idealize.ShloMosaic.TcCoe Idealize.SL.Sem
open Idealize.ShloMosaic.Pipeline (Dat)
namespace Cert.KernelIdeal.Hand
open Cert.KernelIdeal Cert.KernelIdeal.Gen

theorem ltSel (l : Fin 128) : IntOp.cmpi .slt (BitVec.ofNat 32 l.val) 64#32 = if l.val < 64 then 1#1 else 0#1 := by
  revert l; decide +kernel

theorem geSel (l : Fin 128) : IntOp.cmpi .sge (BitVec.ofNat 32 l.val) 64#32 = if l.val < 64 then 0#1 else 1#1 := by
  revert l; decide +kernel

/-- The scale of the scores: 1/8 and the change of base, log 2. -/
def sc0 : ℝ := (8:ℝ)⁻¹ * (Real.log 2)⁻¹

theorem named_s : (Named.named κ "s" 1043900987#32 : Ideal .f32) = (sc0 : EReal) := by
  show Option.getD _ _ = _
  simp [κ, sc0]

theorem pay14_at (x : FVec Ideal S1024x128 .bf16) (q : Fin 1024) (l : Fin 128) :
    k0_pay14 (F := Ideal) x (ix3 0 q l) = if l.val < 64 then x (ix2 q l) * (sc0 : EReal) else 0 := by
  pointwise [k0_pay14, k0_pay13]
  rw [ltSel, named_s]
  split <;> rfl

theorem pay15_at (x : FVec Ideal S1024x128 .bf16) (q : Fin 1024) (l : Fin 128) :
    k0_pay15 (F := Ideal) x (ix3 0 q l) = if l.val < 64 then 0 else x (ix2 q l) * (sc0 : EReal) := by
  pointwise [k0_pay15, k0_pay13]
  rw [geSel, named_s]
  split <;> rfl
theorem pay40_at (a : FVec Ideal S1x128x1024 .f32) (l : FVec Ideal S1x1x1024 .f32) (r : Fin 128) (q : Fin 1024) : k0_pay40 (F := Ideal) a l (ix2 r q) = Ideal.div (a (ix3 0 r q)) (l (ix3 0 0 q)) := by
  pointwise [k0_pay40]
theorem pay41_at (a : FVec Ideal S1x128x1024 .f32)  (r : Fin 128) (q : Fin 1024) : k0_pay41 (F := Ideal) a (ix2 r q) = a (ix3 0 r q) := by
  pointwise [k0_pay41]
theorem pay42_at (a : FVec Ideal S1x1x1024 .f32)  (r : Fin 128) (q : Fin 1024) : k0_pay42 (F := Ideal) a (ix2 r q) = a (ix3 0 0 q) := by
  pointwise [k0_pay42]

/-- The norm of a row of 128 and its two scalings. -/
def nrm (o : Fin 128 → EReal) (g : EReal) (d : Fin 128) : EReal :=
  o d * Ideal.rsqrt (Ideal.div (∑ x, o x * o x) (Ideal.ofBits .f32 0x43000000#32) + Ideal.ofBits .f32 0x358637BD#32) * g * Ideal.ofBits .f32 0x3F24FD5C#32

theorem pay12_at (lam : Elt Ideal .f32) (o a l : FVec Ideal S128x1024 .f32) (g : FVec Ideal S1x128 .f32) (q : Fin 1024) (d : Fin 128) :
    k0_pay12 (F := Ideal) lam o a l g (ix2 q d) = nrm (fun e => o (ix2 e q) - lam * Ideal.div (a (ix2 e q)) (l (ix2 e q))) (g (ix2 0 d)) d := by
  pointwise [k0_pay12, nrm]

variable {sig : RefSig} {κ : Kind} {sp : Space} {s : Shape} {e : EltTy}
/-- A load inside the last store's rectangle reads that store. -/
theorem readCov_sub {Val : EltTy → Type} [∀ e, Nonempty (Val e)] (v : View sig κ sp s e) {off off' size size' : Fin s.rank → ℕ} (inb : ∀ a, off a + size a ≤ s.size a)
    (inb' : ∀ a, off' a + size' a ≤ s.size a) (w : (Rect.unit off size inb).shape.Idx → Val e) (L : List (View.Piece Val s e))
    (z : (Rect.unit off' size' inb').shape.Idx) (x : (Rect.unit off size inb).shape.Idx) (h : ∀ a, off' a + (z a).val = off a + (x a).val) :
    v.readCov (⟨Rect.unit off size inb, w⟩ :: L) (Rect.unit off' size' inb').toLoadRect z = w x := by
  rw [View.readCov_eq_canon' (Val := Val)]
  have : (Rect.unit off' size' inb').toLoadRect.idx z = (Rect.unit off size inb).emb x := funext fun a => Fin.ext (by
    show off' a + 1 * (z a).val = off a + 1 * (x a).val
    have := h a
    omega)
  show View.canon (Val := Val) _ ((Rect.unit off' size' inb').toLoadRect.idx z) = _
  rw [this]
  exact View.canon_cons_emb (Val := Val) _ w L x

/-- The last store's rectangle holds that store. -/
theorem canon_sub {Val : EltTy → Type} [∀ e, Nonempty (Val e)] {off size : Fin s.rank → ℕ} (inb : ∀ a, off a + size a ≤ s.size a)
    (w : (Rect.unit off size inb).shape.Idx → Val e) (L : List (View.Piece Val s e))
    (y : s.Idx) (x : (Rect.unit off size inb).shape.Idx) (h : ∀ a, (y a).val = off a + (x a).val) :
    View.canon (Val := Val) (⟨Rect.unit off size inb, w⟩ :: L) y = w x := by
  have : y = (Rect.unit off size inb).emb x := funext fun a => Fin.ext (by
    show (y a).val = off a + 1 * (x a).val
    have := h a
    omega)
  rw [this]
  exact View.canon_cons_emb (Val := Val) _ w L x

/-- Outside the last store's rectangle stands what was there before it. -/
theorem canon_out {Val : EltTy → Type} [∀ e, Nonempty (Val e)] {off size : Fin s.rank → ℕ} (inb : ∀ a, off a + size a ≤ s.size a)
    (w : (Rect.unit off size inb).shape.Idx → Val e) (L : List (View.Piece Val s e))
    (y : s.Idx) (a : Fin s.rank) (h : (y a).val < off a ∨ off a + size a ≤ (y a).val) :
    View.canon (Val := Val) (⟨Rect.unit off size inb, w⟩ :: L) y = View.canon (Val := Val) L y := by
  refine View.canon_cons_of_not_mem (Val := Val) _ L ?_
  show y ∉ (Rect.unit off size inb).set
  rw [Rect.mem_set_unit]
  intro hall
  have := hall a
  omega

end Cert.KernelIdeal.Hand
-- ==== Proof.Attn.lean ====
module

public import proofs.«01_k».proof.Proof.Pay2
@[expose] public noncomputable section
open Idealize.ShloMosaic
namespace Cert.Attn

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The row of the fused array that holds key `k` of batch `b`: the latents first, then the context. -/
def krow (b : Fin 4) (k : Fin 8448) : Fin 33792 :=
  if k.val < 8192 then ⟨b.val * 8192 + k.val, by omega⟩ else ⟨32768 + (b.val * 256 + (k.val - 8192)), by omega⟩

variable (x : Fin 33792 → Fin 3072 → ℝ)

/-- The score of a query and a key in one half of a head. -/
def sr (b : Fin 4) (h : Fin 8) (c : Fin 2) (q : Fin 8192) (k : Fin 8448) : ℝ :=
  ∑ d : Fin 64, x ⟨b.val * 8192 + q.val, by omega⟩ ⟨h.val * 128 + c.val * 64 + d.val, by omega⟩
    * x (krow b k) ⟨1024 + (h.val * 128 + c.val * 64 + d.val), by omega⟩

/-- A key's value. -/
def vr (b : Fin 4) (h : Fin 8) (k : Fin 8448) (d : Fin 128) : ℝ := x (krow b k) ⟨2048 + (h.val * 128 + d.val), by omega⟩

/-- A key's unnormalised weight. -/
def wr (b : Fin 4) (h : Fin 8) (c : Fin 2) (q : Fin 8192) (k : Fin 8448) : ℝ := Real.exp (sr x b h c q k * (1 / 8))

/-- One softmax attention. -/
def ar (b : Fin 4) (h : Fin 8) (c : Fin 2) (q : Fin 8192) (d : Fin 128) : ℝ :=
  (∑ k, wr x b h c q k * vr x b h k d) / (∑ k, wr x b h c q k)

/-- The difference of the two. -/
def oo (lam : ℝ) (b : Fin 4) (h : Fin 8) (q : Fin 8192) (d : Fin 128) : ℝ := ar x b h 0 q d - lam * ar x b h 1 q d

theorem wr_pos (b : Fin 4) (h : Fin 8) (c : Fin 2) (q : Fin 8192) : 0 < ∑ k, wr x b h c q k :=
  Finset.sum_pos (fun _ _ => Real.exp_pos _) ⟨0, Finset.mem_univ _⟩

end Cert.Attn

namespace Cert.KernelIdeal.Hand
open Cert.Attn

theorem mx_real {n : ℕ} (hn : 0 < n) (μ : ℝ) (s : Fin n → ℝ) : ∃ μ' : ℝ, mx (μ : EReal) (fun k => (s k : EReal)) = μ' := by
  obtain ⟨r, hr⟩ := fold_real hn s
  refine ⟨max μ r, ?_⟩
  unfold mx
  rw [hr]
  exact (EReal.coe_strictMono.monotone.map_max).symm

theorem ac_real {n : ℕ} (μ μ' T : ℝ) (s v : Fin n → ℝ) (h : mx (μ : EReal) (fun k => (s k : EReal)) = μ') :
    ac (μ : EReal) (((2 : ℝ) ^ (-μ) * T : ℝ) : EReal) (fun k => (s k : EReal)) (fun k => (v k : EReal))
      = (((2 : ℝ) ^ (-μ') * (T + ∑ k, (2 : ℝ) ^ (s k) * v k) : ℝ) : EReal) := by
  unfold ac
  rw [h, ← EReal.coe_sub, Ideal.exp2_coe, ← EReal.coe_mul]
  have : ∀ k, (v k : EReal) * Ideal.exp2 ((s k : EReal) - (μ' : EReal)) = ((v k * (2 : ℝ) ^ (s k - μ') : ℝ) : EReal) := by
    intro k
    rw [← EReal.coe_sub, Ideal.exp2_coe, ← EReal.coe_mul]
    rfl
  simp only [this]
  rw [← coe_sum, ← EReal.coe_add]
  congr 1
  show (2 : ℝ) ^ (μ - μ') * ((2 : ℝ) ^ (-μ) * T) + _ = _
  rw [mul_add, Finset.mul_sum, ← mul_assoc, ← Real.rpow_add two_pos]
  congr 1
  · congr 2; ring
  · refine Finset.sum_congr rfl fun k _ => ?_
    rw [← mul_assoc, ← Real.rpow_add two_pos, mul_comm]
    congr 2; ring

/-- The state of one softmax after some keys: a running maximum μ, and every accumulator row at 2^(-μ) of its sum. -/
def St (mo : EReal) (ao : Fin 144 → EReal) (T : Fin 144 → ℝ) : Prop :=
  ∃ μ : ℝ, mo = μ ∧ ∀ r, ao r = (((2 : ℝ) ^ (-μ) * T r : ℝ) : EReal)

theorem St_step {n : ℕ} (hn : 0 < n) {mo : EReal} {ao : Fin 144 → EReal} {T : Fin 144 → ℝ} (hS : St mo ao T)
    (s : Fin n → EReal) (v : Fin 144 → Fin n → EReal) (s' : Fin n → ℝ) (v' : Fin 144 → Fin n → ℝ)
    (hs : ∀ k, s k = s' k) (hv : ∀ r k, v r k = v' r k) :
    St (mx mo s) (fun r => ac mo (ao r) s (v r)) (fun r => T r + ∑ k, (2 : ℝ) ^ (s' k) * v' r k) := by
  obtain ⟨μ, rfl, ha⟩ := hS
  obtain rfl : s = fun k => (s' k : EReal) := funext hs
  obtain ⟨μ', h'⟩ := mx_real hn μ s'
  refine ⟨μ', h', fun r => ?_⟩
  obtain hvr : v r = fun k => (v' r k : EReal) := funext (hv r)
  show ac _ (ao r) _ (v r) = _
  rw [hvr, ha r]
  exact ac_real μ μ' (T r) s' (v' r) h'

theorem St_init : St (Ideal.ofBits .f32 0xF149F2CA#32) (fun _ => 0) (fun _ => 0) := by
  obtain ⟨μ, h⟩ : ∃ μ : ℝ, Ideal.ofBits .f32 0xF149F2CA#32 = μ := ⟨_, by
    simp [Ideal.ofBits, Ideal.ieee, -EReal.coe_mul]; rfl⟩
  exact ⟨μ, h, fun r => by simp⟩

/-- A row of the final state over its row of ones. -/
theorem St_div {mo : EReal} {ao : Fin 144 → EReal} {T : Fin 144 → ℝ} (hS : St mo ao T) (r : Fin 144) (hT : 0 < T 128) :
    Ideal.div (ao r) (ao 128) = ((T r / T 128 : ℝ) : EReal) := by
  obtain ⟨μ, -, ha⟩ := hS
  have h2 : (0 : ℝ) < (2 : ℝ) ^ (-μ) := Real.rpow_pos_of_pos two_pos _
  have hne : (2 : ℝ) ^ (-μ) * T 128 ≠ 0 := (mul_pos h2 hT).ne'
  rw [ha r, ha 128, Ideal.div_coe hne, ← EReal.coe_mul]
  congr 1
  field_simp

theorem two_rpow_sc0 (a : ℝ) : (2 : ℝ) ^ (sc0 * a) = Real.exp (a * (1 / 8)) := by
  rw [Real.rpow_def_of_pos two_pos]
  congr 1
  unfold sc0
  have : Real.log 2 ≠ 0 := (Real.log_pos one_lt_two).ne'
  field_simp

end Cert.KernelIdeal.Hand
-- ==== Proof.Keys.lean ====
module

public import proofs.«01_k».proof.Proof.Attn
@[expose] public noncomputable section
open Idealize.ShloMosaic
namespace Cert.KernelIdeal.Hand
open Cert.Attn
variable (x : Fin 33792 → Fin 3072 → ℝ)

/-- A key's value row by row, the ones below it. -/
def vv (b : Fin 4) (h : Fin 8) (r : Fin 144) (k : Fin 8448) : ℝ := if hr : r.val < 128 then vr x b h k ⟨r.val, hr⟩ else 1

/-- A key's share of an accumulator row. -/
def gk (b : Fin 4) (h : Fin 8) (c : Fin 2) (q : Fin 8192) (r : Fin 144) (k : ℕ) : ℝ :=
  if hk : k < 8448 then wr x b h c q ⟨k, hk⟩ * vv x b h r ⟨k, hk⟩ else 0

/-- The first n keys' sum. -/
def TT (b : Fin 4) (h : Fin 8) (c : Fin 2) (q : Fin 8192) (n : ℕ) (r : Fin 144) : ℝ :=
  ∑ k ∈ Finset.range n, gk x b h c q r k

theorem TT_zero (b : Fin 4) (h : Fin 8) (c : Fin 2) (q : Fin 8192) : TT x b h c q 0 = fun _ => 0 := by
  funext r; simp [TT]

theorem TT_add (b : Fin 4) (h : Fin 8) (c : Fin 2) (q : Fin 8192) (n m : ℕ) (hn : n + m ≤ 8448) (r : Fin 144) :
    TT x b h c q n r + ∑ k : Fin m, (2 : ℝ) ^ (sc0 * sr x b h c q ⟨n + k.val, by omega⟩) * vv x b h r ⟨n + k.val, by omega⟩
      = TT x b h c q (n + m) r := by
  unfold TT
  rw [Finset.sum_range_add, Finset.sum_range (fun k => gk x b h c q r (n + k))]
  congr 1
  refine Finset.sum_congr rfl fun k _ => ?_
  have hk : n + k.val < 8448 := by omega
  rw [gk, dif_pos hk, two_rpow_sc0]
  rfl

theorem TT_all (b : Fin 4) (h : Fin 8) (c : Fin 2) (q : Fin 8192) (r : Fin 144) :
    TT x b h c q 8448 r = ∑ k, wr x b h c q k * vv x b h r k := by
  unfold TT
  rw [Finset.sum_range]
  refine Finset.sum_congr rfl fun k _ => ?_
  rw [gk, dif_pos k.isLt]

theorem TT_ones (b : Fin 4) (h : Fin 8) (c : Fin 2) (q : Fin 8192) : TT x b h c q 8448 128 = ∑ k, wr x b h c q k := by
  rw [TT_all]
  refine Finset.sum_congr rfl fun k _ => ?_
  rw [vv, dif_neg (by decide), mul_one]

theorem TT_val (b : Fin 4) (h : Fin 8) (c : Fin 2) (q : Fin 8192) (d : Fin 128) :
    TT x b h c q 8448 ⟨d.val, by omega⟩ = ∑ k, wr x b h c q k * vr x b h k d := by
  rw [TT_all]
  refine Finset.sum_congr rfl fun k _ => ?_
  rw [vv, dif_pos d.isLt]

/-- The scores of the first halves: the masked, scaled query against a whole key. -/
theorem score0 (a y : Fin 128 → ℝ) :
    (∑ l : Fin 128, (a l : EReal) * (if l.val < 64 then (y l : EReal) * (sc0 : EReal) else 0))
      = ((sc0 * ∑ d : Fin 64, y ⟨d.val, by omega⟩ * a ⟨d.val, by omega⟩ : ℝ) : EReal) := by
  have e : ∀ l : Fin 128, (a l : EReal) * (if l.val < 64 then (y l : EReal) * (sc0 : EReal) else 0)
      = ((if l.val < 64 then a l * (y l * sc0) else 0 : ℝ) : EReal) := by
    intro l
    split
    · rw [← EReal.coe_mul, ← EReal.coe_mul]
    · simp
  simp only [e]
  rw [← coe_sum]
  congr 1
  rw [Finset.mul_sum]
  refine (Fin.sum_univ_add (a := 64) (b := 64) (fun l : Fin 128 => if l.val < 64 then a l * (y l * sc0) else 0)).trans ?_
  have h2 : ∀ i : Fin 64, ¬ (Fin.natAdd 64 i).val < 64 := fun i => by simp [Fin.natAdd]
  have h1 : ∀ i : Fin 64, (Fin.castAdd 64 i).val < 64 := fun i => i.isLt
  simp only [h1, h2, if_true, if_false, Finset.sum_const_zero, add_zero]
  refine Finset.sum_congr rfl fun d _ => ?_
  show a ⟨d.val, _⟩ * (y ⟨d.val, _⟩ * sc0) = _
  ring

/-- The scores of the second halves. -/
theorem score1 (a y : Fin 128 → ℝ) :
    (∑ l : Fin 128, (a l : EReal) * (if l.val < 64 then 0 else (y l : EReal) * (sc0 : EReal)))
      = ((sc0 * ∑ d : Fin 64, y ⟨64 + d.val, by omega⟩ * a ⟨64 + d.val, by omega⟩ : ℝ) : EReal) := by
  have e : ∀ l : Fin 128, (a l : EReal) * (if l.val < 64 then 0 else (y l : EReal) * (sc0 : EReal))
      = ((if l.val < 64 then 0 else a l * (y l * sc0) : ℝ) : EReal) := by
    intro l
    split
    · simp
    · rw [← EReal.coe_mul, ← EReal.coe_mul]
  simp only [e]
  rw [← coe_sum]
  congr 1
  rw [Finset.mul_sum]
  refine (Fin.sum_univ_add (a := 64) (b := 64) (fun l : Fin 128 => if l.val < 64 then 0 else a l * (y l * sc0))).trans ?_
  have h2 : ∀ i : Fin 64, ¬ (Fin.natAdd 64 i).val < 64 := fun i => by simp [Fin.natAdd]
  have h1 : ∀ i : Fin 64, (Fin.castAdd 64 i).val < 64 := fun i => i.isLt
  simp only [h1, h2, if_true, if_false, Finset.sum_const_zero, zero_add]
  refine Finset.sum_congr rfl fun d _ => ?_
  show a ⟨64 + d.val, _⟩ * (y ⟨64 + d.val, _⟩ * sc0) = _
  ring

/-- The queries' row of a point. -/
def qrow (b : Fin 4) (i : Fin 8) (q : Fin 1024) : Fin 8192 := ⟨i.val * 1024 + q.val, by omega⟩

/-- A query's lane of a head. -/
def xq (b : Fin 4) (h : Fin 8) (q : Fin 8192) (l : Fin 128) : ℝ := x ⟨b.val * 8192 + q.val, by omega⟩ ⟨h.val * 128 + l.val, by omega⟩

/-- A key's lane of a head. -/
def xk (b : Fin 4) (h : Fin 8) (k : Fin 8448) (l : Fin 128) : ℝ := x (krow b k) ⟨1024 + (h.val * 128 + l.val), by omega⟩

theorem sc_q0 (b : Fin 4) (h : Fin 8) (q : Fin 8192) (k : Fin 8448) :
    (∑ l : Fin 128, (xk x b h k l : EReal) * (if l.val < 64 then (xq x b h q l : EReal) * (sc0 : EReal) else 0))
      = ((sc0 * sr x b h 0 q k : ℝ) : EReal) := by
  rw [score0]
  rfl

theorem sc_q1 (b : Fin 4) (h : Fin 8) (q : Fin 8192) (k : Fin 8448) :
    (∑ l : Fin 128, (xk x b h k l : EReal) * (if l.val < 64 then 0 else (xq x b h q l : EReal) * (sc0 : EReal)))
      = ((sc0 * sr x b h 1 q k : ℝ) : EReal) := by
  rw [score1]
  unfold sr xq xk
  congr 2

/-- One more block of keys. -/
theorem St_TT (b : Fin 4) (h : Fin 8) (c : Fin 2) (q : Fin 8192) (n m N : ℕ) (hm : 0 < m) (hN : n + m = N) (hle : N ≤ 8448)
    {mo : EReal} {ao : Fin 144 → EReal} (hS : St mo ao (TT x b h c q n)) (s : Fin m → EReal) (v : Fin 144 → Fin m → EReal)
    (hs : ∀ k : Fin m, s k = ((sc0 * sr x b h c q ⟨n + k.val, by omega⟩ : ℝ) : EReal))
    (hv : ∀ (r : Fin 144) (k : Fin m), v r k = (vv x b h r ⟨n + k.val, by omega⟩ : EReal)) :
    St (mx mo s) (fun r => ac mo (ao r) s (v r)) (TT x b h c q N) := by
  subst hN
  have := St_step hm hS s v _ _ hs hv
  refine Eq.mp (congrArg _ (funext fun r => ?_)) this
  exact TT_add x b h c q n m hle r

theorem St_zero (b : Fin 4) (h : Fin 8) (c : Fin 2) (q : Fin 8192) :
    St (Ideal.ofBits .f32 0xF149F2CA#32) (fun _ => 0) (TT x b h c q 0) := by
  rw [TT_zero]; exact St_init

end Cert.KernelIdeal.Hand
-- ==== Proof.Carry.lean ====
module

public import proofs.«01_k».proof.Proof.Pay2
set_option maxRecDepth 16384
@[expose] public noncomputable section
open Idealize.ShloMosaic Idealize.ShloMosaic.TcCoe Idealize.SL.Sem
open Idealize.ShloMosaic.Pipeline (Dat)
namespace Cert.KernelIdeal.Hand
open Cert.KernelIdeal Cert.KernelIdeal.Gen
variable (m : (ℓ : Loc nD τ sig) → Buf (Elt Ideal) ℓ)

/-- The point before. -/
def pre (t : Fin cfg0.N) : Fin cfg0.N := ⟨t.val - 1, Nat.lt_of_le_of_lt (Nat.sub_le _ _) t.isLt⟩
/-- The two masked, scaled halves of the queries after a point. -/
def sQ (c : Dev nD) (t : Fin cfg0.N) : FVec Ideal S2x1024x128 .bf16 := (outsAt0 m c t.val t.isLt).2.1
/-- The two running maxima after a point. -/
def sM (c : Dev nD) (t : Fin cfg0.N) : FVec Ideal S2x1x1024 .f32 := (outsAt0 m c t.val t.isLt).2.2.1
/-- The two accumulators after a point. -/
def sA (c : Dev nD) (t : Fin cfg0.N) : FVec Ideal S2x144x1024 .f32 := (outsAt0 m c t.val t.isLt).2.2.2.1
/-- The scores computed ahead at a point. -/
def sS (c : Dev nD) (t : Fin cfg0.N) : FVec Ideal S2048x1024 .f32 := (outsAt0 m c t.val t.isLt).2.2.2.2
/-- A point's block of queries. -/
def bQ (c : Dev nD) (t : Fin cfg0.N) : FVec Ideal S1024x128 .bf16 := iblk m c 1 t
/-- A point's block of keys. -/
def bK (c : Dev nD) (t : Fin cfg0.N) : FVec Ideal S2048x128 .bf16 := X0_2 m c t
/-- The block of keys after a point's. -/
def bN (c : Dev nD) (t : Fin cfg0.N) : FVec Ideal S2048x128 .bf16 := X0_3 m c t
/-- A point's block of transposed values. -/
def bV (c : Dev nD) (t : Fin cfg0.N) : FVec Ideal S144x2048 .bf16 := X0_4 m c t
/-- A point's block of context keys. -/
def bC (c : Dev nD) (t : Fin cfg0.N) : FVec Ideal S256x128 .bf16 := iblk m c 5 t
/-- A point's block of transposed context values. -/
def bW (c : Dev nD) (t : Fin cfg0.N) : FVec Ideal S144x256 .bf16 := iblk m c 6 t
/-- The gains. -/
def bG (c : Dev nD) (t : Fin cfg0.N) : FVec Ideal S1x128 .f32 := iblk m c 7 t
/-- The weight of the second softmax. -/
def bL (c : Dev nD) (t : Fin cfg0.N) : FVec Ideal S1 .f32 := iblk m c 0 t

theorem B_m0 (c : Dev nD) (t : Fin cfg0.N) (h0 : ¬ t.val % 5 = 0) (h1 : t.val % 5 ≤ 2) (h2 : ¬ t.val % 5 = 3) (h3 : ¬ t.val % 5 = 4) (q : Fin 1024) :
    sM m c t (ix3 0 0 q) = mx (sM m c (pre t) (ix3 0 0 q)) (fun k : Fin 2048 => sS m c (pre t) (ix2 k q)) := by
  suffices key : ∀ y : S2x1x1024.Idx, (y 0 : ℕ) = 0 → (y 2 : ℕ) = q →
      sM m c t y = mx (sM m c (pre t) (ix3 0 0 q)) (fun k : Fin 2048 => sS m c (pre t) (ix2 k q)) from
    key _ rfl rfl
  intro y hy0 hy2
  show (outsAt0 m c t.val t.isLt).2.2.1 y = _
  rw [outsAt0_B m c t h0 h1 h2 h3]
  frame_out
  clear h0 h1 h2 h3
  simp only [read_unread_whole]
  canon_tiles x h
  · omega
  · obtain rfl : x = ix3 0 0 q := by
        idx_vars x
        congr 1 <;> ext <;> simp at * <;> omega
    refine (pay23_at _ _ q).trans ?_
    pointwise [k0_pay16, k0_pay17, k0_pay18, k0_pay24]
    all_goals rfl

theorem B_m1 (c : Dev nD) (t : Fin cfg0.N) (h0 : ¬ t.val % 5 = 0) (h1 : t.val % 5 ≤ 2) (h2 : ¬ t.val % 5 = 3) (h3 : ¬ t.val % 5 = 4) (q : Fin 1024) :
    sM m c t (ix3 1 0 q) = mx (sM m c (pre t) (ix3 1 0 q)) (fun k : Fin 2048 => (∑ l : Fin 128, bK m c t (ix2 k l) * sQ m c (pre t) (ix3 1 q l) : EReal)) := by
  suffices key : ∀ y : S2x1x1024.Idx, (y 0 : ℕ) = 1 → (y 2 : ℕ) = q →
      sM m c t y = mx (sM m c (pre t) (ix3 1 0 q)) (fun k : Fin 2048 => (∑ l : Fin 128, bK m c t (ix2 k l) * sQ m c (pre t) (ix3 1 q l) : EReal)) from
    key _ rfl rfl
  intro y hy0 hy2
  show (outsAt0 m c t.val t.isLt).2.2.1 y = _
  rw [outsAt0_B m c t h0 h1 h2 h3]
  frame_out
  clear h0 h1 h2 h3
  simp only [read_unread_whole]
  canon_tiles x h
  · obtain rfl : x = ix3 0 0 q := by
        idx_vars x
        congr 1 <;> ext <;> simp at * <;> omega
    refine (pay6_at _ _ q).trans ?_
    simp only [pay19_at]
    pointwise [k0_pay16, k0_pay17, k0_pay18, k0_pay24]
    all_goals rfl
  · omega

theorem B_a0 (c : Dev nD) (t : Fin cfg0.N) (h0 : ¬ t.val % 5 = 0) (h1 : t.val % 5 ≤ 2) (h2 : ¬ t.val % 5 = 3) (h3 : ¬ t.val % 5 = 4) (r : Fin 144) (q : Fin 1024) :
    sA m c t (ix3 0 r q) = ac (sM m c (pre t) (ix3 0 0 q)) (sA m c (pre t) (ix3 0 r q)) (fun k : Fin 2048 => sS m c (pre t) (ix2 k q)) (fun k => bV m c t (ix2 r k)) := by
  suffices key : ∀ y : S2x144x1024.Idx, (y 0 : ℕ) = 0 → (y 1 : ℕ) = r → (y 2 : ℕ) = q →
      sA m c t y = ac (sM m c (pre t) (ix3 0 0 q)) (sA m c (pre t) (ix3 0 r q)) (fun k : Fin 2048 => sS m c (pre t) (ix2 k q)) (fun k => bV m c t (ix2 r k)) from
    key _ rfl rfl rfl
  intro y hy0 hy1 hy2
  show (outsAt0 m c t.val t.isLt).2.2.2.1 y = _
  rw [outsAt0_B m c t h0 h1 h2 h3]
  frame_out
  clear h0 h1 h2 h3
  simp only [read_unread_whole]
  canon_tiles x h
  · omega
  · obtain rfl : x = ix3 0 r q := by
        idx_vars x
        congr 1 <;> ext <;> simp at * <;> omega
    refine (pay22_at _ _ _ _ r q).trans ?_
    pointwise [k0_pay16, k0_pay17, k0_pay18, k0_pay24]
    all_goals rfl

theorem B_a1 (c : Dev nD) (t : Fin cfg0.N) (h0 : ¬ t.val % 5 = 0) (h1 : t.val % 5 ≤ 2) (h2 : ¬ t.val % 5 = 3) (h3 : ¬ t.val % 5 = 4) (r : Fin 144) (q : Fin 1024) :
    sA m c t (ix3 1 r q) = ac (sM m c (pre t) (ix3 1 0 q)) (sA m c (pre t) (ix3 1 r q)) (fun k : Fin 2048 => (∑ l : Fin 128, bK m c t (ix2 k l) * sQ m c (pre t) (ix3 1 q l) : EReal)) (fun k => bV m c t (ix2 r k)) := by
  suffices key : ∀ y : S2x144x1024.Idx, (y 0 : ℕ) = 1 → (y 1 : ℕ) = r → (y 2 : ℕ) = q →
      sA m c t y = ac (sM m c (pre t) (ix3 1 0 q)) (sA m c (pre t) (ix3 1 r q)) (fun k : Fin 2048 => (∑ l : Fin 128, bK m c t (ix2 k l) * sQ m c (pre t) (ix3 1 q l) : EReal)) (fun k => bV m c t (ix2 r k)) from
    key _ rfl rfl rfl
  intro y hy0 hy1 hy2
  show (outsAt0 m c t.val t.isLt).2.2.2.1 y = _
  rw [outsAt0_B m c t h0 h1 h2 h3]
  frame_out
  clear h0 h1 h2 h3
  simp only [read_unread_whole]
  canon_tiles x h
  · obtain rfl : x = ix3 0 r q := by
        idx_vars x
        congr 1 <;> ext <;> simp at * <;> omega
    refine (pay5_at _ _ _ _ r q).trans ?_
    simp only [pay19_at]
    pointwise [k0_pay16, k0_pay17, k0_pay18, k0_pay24]
    all_goals rfl
  · omega

theorem C_m0 (c : Dev nD) (t : Fin cfg0.N) (h0 : ¬ t.val % 5 = 0) (h1 : ¬ t.val % 5 ≤ 2) (h2 : t.val % 5 = 3) (h3 : ¬ t.val % 5 = 4) (q : Fin 1024) :
    sM m c t (ix3 0 0 q) = mx (sM m c (pre t) (ix3 0 0 q)) (fun k : Fin 2048 => sS m c (pre t) (ix2 k q)) := by
  suffices key : ∀ y : S2x1x1024.Idx, (y 0 : ℕ) = 0 → (y 2 : ℕ) = q →
      sM m c t y = mx (sM m c (pre t) (ix3 0 0 q)) (fun k : Fin 2048 => sS m c (pre t) (ix2 k q)) from
    key _ rfl rfl
  intro y hy0 hy2
  show (outsAt0 m c t.val t.isLt).2.2.1 y = _
  rw [outsAt0_C m c t h0 h1 h2 h3]
  frame_out
  clear h0 h1 h2 h3
  simp only [read_unread_whole]
  canon_tiles x h
  · omega
  · obtain rfl : x = ix3 0 0 q := by
        idx_vars x
        congr 1 <;> ext <;> simp at * <;> omega
    refine (pay29_at _ _ q).trans ?_
    pointwise [k0_pay16, k0_pay17, k0_pay18, k0_pay24]
    all_goals rfl

theorem C_m1 (c : Dev nD) (t : Fin cfg0.N) (h0 : ¬ t.val % 5 = 0) (h1 : ¬ t.val % 5 ≤ 2) (h2 : t.val % 5 = 3) (h3 : ¬ t.val % 5 = 4) (q : Fin 1024) :
    sM m c t (ix3 1 0 q) = mx (sM m c (pre t) (ix3 1 0 q)) (fun k : Fin 2048 => (∑ l : Fin 128, bK m c t (ix2 k l) * sQ m c (pre t) (ix3 1 q l) : EReal)) := by
  suffices key : ∀ y : S2x1x1024.Idx, (y 0 : ℕ) = 1 → (y 2 : ℕ) = q →
      sM m c t y = mx (sM m c (pre t) (ix3 1 0 q)) (fun k : Fin 2048 => (∑ l : Fin 128, bK m c t (ix2 k l) * sQ m c (pre t) (ix3 1 q l) : EReal)) from
    key _ rfl rfl
  intro y hy0 hy2
  show (outsAt0 m c t.val t.isLt).2.2.1 y = _
  rw [outsAt0_C m c t h0 h1 h2 h3]
  frame_out
  clear h0 h1 h2 h3
  simp only [read_unread_whole]
  canon_tiles x h
  · obtain rfl : x = ix3 0 0 q := by
        idx_vars x
        congr 1 <;> ext <;> simp at * <;> omega
    refine (pay11_at _ _ q).trans ?_
    simp only [pay25_at]
    pointwise [k0_pay16, k0_pay17, k0_pay18, k0_pay24]
    all_goals rfl
  · omega

theorem C_a0 (c : Dev nD) (t : Fin cfg0.N) (h0 : ¬ t.val % 5 = 0) (h1 : ¬ t.val % 5 ≤ 2) (h2 : t.val % 5 = 3) (h3 : ¬ t.val % 5 = 4) (r : Fin 144) (q : Fin 1024) :
    sA m c t (ix3 0 r q) = ac (sM m c (pre t) (ix3 0 0 q)) (sA m c (pre t) (ix3 0 r q)) (fun k : Fin 2048 => sS m c (pre t) (ix2 k q)) (fun k => bV m c t (ix2 r k)) := by
  suffices key : ∀ y : S2x144x1024.Idx, (y 0 : ℕ) = 0 → (y 1 : ℕ) = r → (y 2 : ℕ) = q →
      sA m c t y = ac (sM m c (pre t) (ix3 0 0 q)) (sA m c (pre t) (ix3 0 r q)) (fun k : Fin 2048 => sS m c (pre t) (ix2 k q)) (fun k => bV m c t (ix2 r k)) from
    key _ rfl rfl rfl
  intro y hy0 hy1 hy2
  show (outsAt0 m c t.val t.isLt).2.2.2.1 y = _
  rw [outsAt0_C m c t h0 h1 h2 h3]
  frame_out
  clear h0 h1 h2 h3
  simp only [read_unread_whole]
  canon_tiles x h
  · omega
  · obtain rfl : x = ix3 0 r q := by
        idx_vars x
        congr 1 <;> ext <;> simp at * <;> omega
    refine (pay28_at _ _ _ _ r q).trans ?_
    pointwise [k0_pay16, k0_pay17, k0_pay18, k0_pay24]
    all_goals rfl

theorem C_a1 (c : Dev nD) (t : Fin cfg0.N) (h0 : ¬ t.val % 5 = 0) (h1 : ¬ t.val % 5 ≤ 2) (h2 : t.val % 5 = 3) (h3 : ¬ t.val % 5 = 4) (r : Fin 144) (q : Fin 1024) :
    sA m c t (ix3 1 r q) = ac (sM m c (pre t) (ix3 1 0 q)) (sA m c (pre t) (ix3 1 r q)) (fun k : Fin 2048 => (∑ l : Fin 128, bK m c t (ix2 k l) * sQ m c (pre t) (ix3 1 q l) : EReal)) (fun k => bV m c t (ix2 r k)) := by
  suffices key : ∀ y : S2x144x1024.Idx, (y 0 : ℕ) = 1 → (y 1 : ℕ) = r → (y 2 : ℕ) = q →
      sA m c t y = ac (sM m c (pre t) (ix3 1 0 q)) (sA m c (pre t) (ix3 1 r q)) (fun k : Fin 2048 => (∑ l : Fin 128, bK m c t (ix2 k l) * sQ m c (pre t) (ix3 1 q l) : EReal)) (fun k => bV m c t (ix2 r k)) from
    key _ rfl rfl rfl
  intro y hy0 hy1 hy2
  show (outsAt0 m c t.val t.isLt).2.2.2.1 y = _
  rw [outsAt0_C m c t h0 h1 h2 h3]
  frame_out
  clear h0 h1 h2 h3
  simp only [read_unread_whole]
  canon_tiles x h
  · obtain rfl : x = ix3 0 r q := by
        idx_vars x
        congr 1 <;> ext <;> simp at * <;> omega
    refine (pay10_at _ _ _ _ r q).trans ?_
    simp only [pay25_at]
    pointwise [k0_pay16, k0_pay17, k0_pay18, k0_pay24]
    all_goals rfl
  · omega

theorem B_q (c : Dev nD) (t : Fin cfg0.N) (h0 : ¬ t.val % 5 = 0) (h1 : t.val % 5 ≤ 2) (h2 : ¬ t.val % 5 = 3) (h3 : ¬ t.val % 5 = 4) : sQ m c t = sQ m c (pre t) := by
  show (outsAt0 m c t.val t.isLt).2.1 = _
  rw [outsAt0_B m c t h0 h1 h2 h3]
  frame_out
  try simp only [read_unread_whole]
  try rfl

theorem C_q (c : Dev nD) (t : Fin cfg0.N) (h0 : ¬ t.val % 5 = 0) (h1 : ¬ t.val % 5 ≤ 2) (h2 : t.val % 5 = 3) (h3 : ¬ t.val % 5 = 4) : sQ m c t = sQ m c (pre t) := by
  show (outsAt0 m c t.val t.isLt).2.1 = _
  rw [outsAt0_C m c t h0 h1 h2 h3]
  frame_out
  try simp only [read_unread_whole]
  try rfl

theorem B_s (c : Dev nD) (t : Fin cfg0.N) (h0 : ¬ t.val % 5 = 0) (h1 : t.val % 5 ≤ 2) (h2 : ¬ t.val % 5 = 3) (h3 : ¬ t.val % 5 = 4) (k : Fin 2048) (q : Fin 1024) :
    sS m c t (ix2 k q) = (∑ l : Fin 128, bN m c t (ix2 k l) * sQ m c (pre t) (ix3 0 q l) : EReal) := by
  show (outsAt0 m c t.val t.isLt).2.2.2.2 (ix2 k q) = _
  rw [outsAt0_B m c t h0 h1 h2 h3]
  frame_out
  simp only [read_unread_whole]
  refine (pay2_at _ _ k q).trans ?_
  pointwise
  all_goals rfl

theorem C_s (c : Dev nD) (t : Fin cfg0.N) (h0 : ¬ t.val % 5 = 0) (h1 : ¬ t.val % 5 ≤ 2) (h2 : t.val % 5 = 3) (h3 : ¬ t.val % 5 = 4) (k : Fin 256) (q : Fin 1024) :
    sS m c t (ix2 ⟨k.val, by omega⟩ q) = (∑ l : Fin 128, bC m c t (ix2 k l) * sQ m c (pre t) (ix3 0 q l) : EReal) := by
  show (outsAt0 m c t.val t.isLt).2.2.2.2 (ix2 ⟨k.val, by omega⟩ q) = _
  rw [outsAt0_C m c t h0 h1 h2 h3]
  frame_out
  simp only [read_unread_whole]
  refine (View.read_writes_cons_unit_of_mem _ _ _ _ _ _ (ix2 k q) rfl ?_).trans ?_
  · intro a
    fin_cases a
    · exact (Nat.zero_add _).symm
    · exact (Nat.zero_add _).symm
  refine (pay7_at _ _ k q).trans ?_
  pointwise
  all_goals rfl

end Cert.KernelIdeal.Hand
-- ==== Proof.HostVal.lean ====
module

public import proofs.«01_k».proof.Proof.Carry
public import Idealize.ShloMosaic.Lib.Claim
set_option maxRecDepth 16384
@[expose] public noncomputable section
open Idealize.ShloMosaic Idealize.ShloMosaic.TcCoe Idealize.SL.Sem
open Idealize.ShloMosaic.Pipeline (Dat)
namespace Cert.KernelIdeal.Hand
open Cert.KernelIdeal Cert.KernelIdeal.Gen
variable (m : (ℓ : Loc nD τ sig) → Buf (Elt Ideal) ℓ)

/-- The transposed values with the 16 rows of ones, head by head. -/
def hVt (X : FVec Ideal S33792x3072 .bf16) : FVec Ideal S1152x33792 .bf16 :=
  shapeCast S1152x33792
    (concatenate S8x144x33792 1
      [⟨S8x128x33792, shapeCast S8x128x33792
          (transpose S1024x33792 [1, 0] (extractStridedSlice S33792x1024 ![0, 2048] X slices_S33792x3072_S33792x1024_0_2048)
            transposes_S33792x1024_S1024x33792_1_0) shapeCasts_S1024x33792_S8x128x33792⟩,
        ⟨S8x16x33792, broadcastInDim S8x16x33792 ![] bcast_S_S8x16x33792 (constant S_ FTy.bf16 16256#16)⟩]
      concatenates_S8x128x33792_S8x16x33792_S8x144x33792_d1)
    shapeCasts_S8x144x33792_S1152x33792

/-- The weight of the second softmax. -/
def hLam (L1 L2 L3 L4 : FVec Ideal S1x64 .f32) : FVec Ideal S1 .f32 :=
  shapeCast S1
    (addf
      (subf
        (Host.exp (Host.reduceAdd (mulf (shapeCast S64 L1 shapeCasts_S1x64_S64) (shapeCast S64 L2 shapeCasts_S1x64_S64))
          (constant S_ FTy.f32 0#32) reducesTo_S64_S_d0 h_S_))
        (Host.exp (Host.reduceAdd (mulf (shapeCast S64 L3 shapeCasts_S1x64_S64) (shapeCast S64 L4 shapeCasts_S1x64_S64))
          (constant S_ FTy.f32 0#32) reducesTo_S64_S_d0 h_S_)))
      (constant S_ FTy.f32 1052116297#32))
    shapeCasts_S_S1

/-- The gains as a row. -/
def hG (G : FVec Ideal S1x128 .f32) : FVec Ideal S1x128 .f32 :=
  broadcastInDim S1x128 ![1] bcast_S128_S1x128_1 (shapeCast S128 G shapeCasts_S1x128_S128)

theorem V18 (c : Dev nD) : V m c main_v18 = hVt (m ((c : Thread nD τ).loc main_arg0)) := by
  unfold V
  after_results
  rfl

theorem V14 (c : Dev nD) : V m c main_v14 = hLam (m ((c : Thread nD τ).loc main_arg1)) (m ((c : Thread nD τ).loc main_arg2))
    (m ((c : Thread nD τ).loc main_arg3)) (m ((c : Thread nD τ).loc main_arg4)) := by
  unfold V
  after_results
  rfl

theorem V20 (c : Dev nD) : V m c main_v20 = hG (m ((c : Thread nD τ).loc main_arg5)) := by
  unfold V
  after_results
  rfl

theorem hVt_at (X : FVec Ideal S33792x3072 .bf16) (h : Fin 8) (r : Fin 144) (n : Fin 33792) :
    hVt X (ix2 ⟨h.val * 144 + r.val, by omega⟩ n)
      = if hr : r.val < 128 then X (ix2 n ⟨2048 + (h.val * 128 + r.val), by omega⟩) else 1 := by
  pointwise [hVt]

theorem hLam_at (L1 L2 L3 L4 : FVec Ideal S1x64 .f32) (i : S1.Idx) :
    hLam L1 L2 L3 L4 i = Ideal.exp (∑ x, L1 (ix2 0 x) * L2 (ix2 0 x)) - Ideal.exp (∑ x, L3 (ix2 0 x) * L4 (ix2 0 x))
      + Ideal.ofBits .f32 0x3EB60549#32 := by
  pointwise [hLam]

theorem hG_at (G : FVec Ideal S1x128 .f32) (d : Fin 128) : hG G (ix2 0 d) = G (ix2 0 d) := by
  pointwise [hG]

end Cert.KernelIdeal.Hand
-- ==== Proof.Blocks.lean ====
module

public import proofs.«01_k».proof.Proof.HostVal
public import Idealize.ShloMosaic.Lib.Claim
set_option maxRecDepth 16384
@[expose] public noncomputable section
open Idealize.ShloMosaic Idealize.ShloMosaic.TcCoe Idealize.SL.Sem
open Idealize.ShloMosaic.Pipeline (Dat)
namespace Cert.KernelIdeal.Hand
open Cert.KernelIdeal Cert.KernelIdeal.Gen
variable (m : (ℓ : Loc nD τ sig) → Buf (Elt Ideal) ℓ)
theorem idx0 : ∀ t : Fin cfg0.N, win0_0.index t = ![0] :=
  (by decide +kernel : ∀ t : Fin grid0.N, _)
theorem idx1 : ∀ t : Fin cfg0.N, win0_1.index t = ![t.val / 320 * 8 + t.val / 5 % 8, t.val / 40 % 8] :=
  (by decide +kernel : ∀ t : Fin grid0.N, _)
theorem idx2 : ∀ t : Fin cfg0.N, win0_2.index t = ![t.val / 320 * 4 + min (t.val % 5) 3, 8 + t.val / 40 % 8] :=
  (by decide +kernel : ∀ t : Fin grid0.N, _)
theorem idx3 : ∀ t : Fin cfg0.N, win0_3.index t = ![t.val / 320 * 4 + min (t.val % 5 + 1) 3, 8 + t.val / 40 % 8] :=
  (by decide +kernel : ∀ t : Fin grid0.N, _)
theorem idx4 : ∀ t : Fin cfg0.N, win0_4.index t = ![t.val / 40 % 8, t.val / 320 * 4 + min (t.val % 5) 3] :=
  (by decide +kernel : ∀ t : Fin grid0.N, _)
theorem idx5 : ∀ t : Fin cfg0.N, win0_5.index t = ![128 + t.val / 320, 8 + t.val / 40 % 8] :=
  (by decide +kernel : ∀ t : Fin grid0.N, _)
theorem idx6 : ∀ t : Fin cfg0.N, win0_6.index t = ![t.val / 40 % 8, 128 + t.val / 320] :=
  (by decide +kernel : ∀ t : Fin grid0.N, _)
theorem idx7 : ∀ t : Fin cfg0.N, win0_7.index t = ![0, 0] :=
  (by decide +kernel : ∀ t : Fin grid0.N, _)
theorem idx8 : ∀ t : Fin cfg0.N, win0_8.index t = ![t.val / 320 * 8 + t.val / 5 % 8, t.val / 40 % 8] :=
  (by decide +kernel : ∀ t : Fin grid0.N, _)

theorem bQ_at (c : Dev nD) (t : Fin cfg0.N) (q : Fin 1024) (l : Fin 128) (i : S33792x3072.Idx)
    (h0 : (i 0 : ℕ) = (t.val / 320 * 8 + t.val / 5 % 8) * 1024 + q) (h1 : (i 1 : ℕ) = t.val / 40 % 8 * 128 + l) :
    bQ m c t (ix2 q l) = (show FVec Ideal S33792x3072 .bf16 from m ((c : Thread nD τ).loc main_arg0)) i := by
  unfold bQ
  blk_point [iblk, V, idx1 t]
theorem bC_at (c : Dev nD) (t : Fin cfg0.N) (q : Fin 256) (l : Fin 128) (i : S33792x3072.Idx)
    (h0 : (i 0 : ℕ) = (128 + t.val / 320) * 256 + q) (h1 : (i 1 : ℕ) = (8 + t.val / 40 % 8) * 128 + l) :
    bC m c t (ix2 q l) = (show FVec Ideal S33792x3072 .bf16 from m ((c : Thread nD τ).loc main_arg0)) i := by
  unfold bC
  blk_point [iblk, V, idx5 t]

theorem bK_at (c : Dev nD) (t : Fin cfg0.N) (q : Fin 2048) (l : Fin 128) (i : S33792x3072.Idx)
    (h0 : (i 0 : ℕ) = (t.val / 320 * 4 + min (t.val % 5) 3) * 2048 + q) (h1 : (i 1 : ℕ) = (8 + t.val / 40 % 8) * 128 + l) :
    bK m c t (ix2 q l) = (show FVec Ideal S33792x3072 .bf16 from V m c main_arg0) i := by
  unfold bK X0_2 Pipeline.Window.fill
  rw [dif_pos (moved0_2 t _)]
  blk_point [iblk, idx2 t]

theorem bN_at (c : Dev nD) (t : Fin cfg0.N) (q : Fin 2048) (l : Fin 128) (i : S33792x3072.Idx)
    (h0 : (i 0 : ℕ) = (t.val / 320 * 4 + min (t.val % 5 + 1) 3) * 2048 + q) (h1 : (i 1 : ℕ) = (8 + t.val / 40 % 8) * 128 + l) :
    bN m c t (ix2 q l) = (show FVec Ideal S33792x3072 .bf16 from V m c main_arg0) i := by
  unfold bN X0_3 Pipeline.Window.fill
  rw [dif_pos (moved0_3 t _)]
  blk_point [iblk, idx3 t]

theorem bV_at (c : Dev nD) (t : Fin cfg0.N) (q : Fin 144) (l : Fin 2048) (i : S1152x33792.Idx)
    (h0 : (i 0 : ℕ) = t.val / 40 % 8 * 144 + q) (h1 : (i 1 : ℕ) = (t.val / 320 * 4 + min (t.val % 5) 3) * 2048 + l) :
    bV m c t (ix2 q l) = (show FVec Ideal S1152x33792 .bf16 from V m c main_v18) i := by
  unfold bV X0_4 Pipeline.Window.fill
  rw [dif_pos (moved0_4 t _)]
  blk_point [iblk, idx4 t]

theorem bW_at (c : Dev nD) (t : Fin cfg0.N) (q : Fin 144) (l : Fin 256) (i : S1152x33792.Idx)
    (h0 : (i 0 : ℕ) = t.val / 40 % 8 * 144 + q) (h1 : (i 1 : ℕ) = (128 + t.val / 320) * 256 + l) :
    bW m c t (ix2 q l) = (show FVec Ideal S1152x33792 .bf16 from V m c main_v18) i := by
  unfold bW
  blk_point [iblk, idx6 t]

theorem bG_at (c : Dev nD) (t : Fin cfg0.N) (d : Fin 128) :
    bG m c t (ix2 0 d) = (show FVec Ideal S1x128 .f32 from V m c main_v20) (ix2 0 d) := by
  unfold bG
  blk_point [iblk, idx7 t]

theorem bL_at (c : Dev nD) (t : Fin cfg0.N) :
    bL m c t (ix1 0) = (show FVec Ideal S1 .f32 from V m c main_v14) (ix1 0) := by
  unfold bL
  blk_point [iblk, idx0 t]

end Cert.KernelIdeal.Hand
-- ==== Proof.CaseA.lean ====
module

public import proofs.«01_k».proof.Proof.Carry
set_option maxRecDepth 16384
@[expose] public noncomputable section
open Idealize.ShloMosaic Idealize.ShloMosaic.TcCoe Idealize.SL.Sem
open Idealize.ShloMosaic.Pipeline (Dat)
namespace Cert.KernelIdeal.Hand
open Cert.KernelIdeal Cert.KernelIdeal.Gen
variable (m : (ℓ : Loc nD τ sig) → Buf (Elt Ideal) ℓ)
theorem A_m0 (c : Dev nD) (t : Fin cfg0.N) (h0 : t.val % 5 = 0) (h1 : t.val % 5 ≤ 2) (h2 : ¬ t.val % 5 = 3) (h3 : ¬ t.val % 5 = 4) (q : Fin 1024) :
    sM m c t (ix3 0 0 q) = mx (Ideal.ofBits .f32 0xF149F2CA#32)
      (fun k : Fin 2048 => (∑ l : Fin 128, bK m c t (ix2 k l) * k0_pay14 (F := Ideal) (bQ m c t) (ix3 0 q l) : EReal)) := by
  show (outsAt0 m c t.val t.isLt).2.2.1 (ix3 0 0 q) = _
  rw [outsAt0_A m c t h0 h1 h2 h3]
  frame_out
  simp (disch := decide) only [↓View.readCov_skip, View.readCov_fill]
  refine (canon_out _ _ _ _ 0 (.inl Nat.one_pos)).trans ?_
  refine (canon_sub _ _ _ _ (ix3 0 0 q) ?_).trans ?_
  · intro a
    fin_cases a
    · rfl
    · exact (Nat.zero_add _).symm
    · exact (Nat.zero_add _).symm
  refine (pay23_at _ _ q).trans ?_
  simp only [pay1_at]
  unfold bQ bK
  refine congrArg₂ mx ?_ ?_
  · pointwise [k0_pay16]
  · refine funext fun k => Finset.sum_congr rfl fun l _ => ?_
    refine congrArg₂ (· * ·) rfl ?_
    refine (readCov_sub _ _ _ _ _ _ (ix3 0 q l) ?_).trans ?_
    · intro a
      rfl
    · rfl

theorem A_m1 (c : Dev nD) (t : Fin cfg0.N) (h0 : t.val % 5 = 0) (h1 : t.val % 5 ≤ 2) (h2 : ¬ t.val % 5 = 3) (h3 : ¬ t.val % 5 = 4) (q : Fin 1024) :
    sM m c t (ix3 1 0 q) = mx (Ideal.ofBits .f32 0xF149F2CA#32)
      (fun k : Fin 2048 => (∑ l : Fin 128, bK m c t (ix2 k l) * k0_pay15 (F := Ideal) (bQ m c t) (ix3 0 q l) : EReal)) := by
  show (outsAt0 m c t.val t.isLt).2.2.1 (ix3 1 0 q) = _
  rw [outsAt0_A m c t h0 h1 h2 h3]
  frame_out
  simp (disch := decide) only [↓View.readCov_skip, View.readCov_fill]
  refine (canon_sub _ _ _ _ (ix3 0 0 q) ?_).trans ?_
  · intro a
    fin_cases a
    · rfl
    · exact (Nat.zero_add _).symm
    · exact (Nat.zero_add _).symm
  refine (pay6_at _ _ q).trans ?_
  simp only [pay19_at]
  unfold bQ bK
  refine congrArg₂ mx ?_ ?_
  · pointwise [k0_pay16]
  · refine funext fun k => Finset.sum_congr rfl fun l _ => ?_
    refine congrArg₂ (· * ·) rfl ?_
    refine (readCov_sub _ _ _ _ _ _ (ix3 0 q l) ?_).trans ?_
    · intro a
      rfl
    · rfl

theorem A_a0 (c : Dev nD) (t : Fin cfg0.N) (h0 : t.val % 5 = 0) (h1 : t.val % 5 ≤ 2) (h2 : ¬ t.val % 5 = 3) (h3 : ¬ t.val % 5 = 4) (r : Fin 144) (q : Fin 1024) :
    sA m c t (ix3 0 r q) = ac (Ideal.ofBits .f32 0xF149F2CA#32) 0
      (fun k : Fin 2048 => (∑ l : Fin 128, bK m c t (ix2 k l) * k0_pay14 (F := Ideal) (bQ m c t) (ix3 0 q l) : EReal)) (fun k => bV m c t (ix2 r k)) := by
  show (outsAt0 m c t.val t.isLt).2.2.2.1 (ix3 0 r q) = _
  rw [outsAt0_A m c t h0 h1 h2 h3]
  frame_out
  simp (disch := decide) only [↓View.readCov_skip, View.readCov_fill]
  refine (canon_out _ _ _ _ 0 (.inl Nat.one_pos)).trans ?_
  refine (canon_sub _ _ _ _ (ix3 0 r q) ?_).trans ?_
  · intro a
    fin_cases a
    · rfl
    · exact (Nat.zero_add _).symm
    · exact (Nat.zero_add _).symm
  refine (pay22_at _ _ _ _ r q).trans ?_
  simp only [pay1_at]
  unfold bQ bK
  refine congr (congr (congr (congrArg ac ?_) ?_) ?_) ?_
  · pointwise [k0_pay16]
  · pointwise [k0_pay17]
  · refine funext fun k => Finset.sum_congr rfl fun l _ => ?_
    refine congrArg₂ (· * ·) rfl ?_
    refine (readCov_sub _ _ _ _ _ _ (ix3 0 q l) ?_).trans ?_
    · intro a
      rfl
    · rfl
  · rfl

theorem A_a1 (c : Dev nD) (t : Fin cfg0.N) (h0 : t.val % 5 = 0) (h1 : t.val % 5 ≤ 2) (h2 : ¬ t.val % 5 = 3) (h3 : ¬ t.val % 5 = 4) (r : Fin 144) (q : Fin 1024) :
    sA m c t (ix3 1 r q) = ac (Ideal.ofBits .f32 0xF149F2CA#32) 0
      (fun k : Fin 2048 => (∑ l : Fin 128, bK m c t (ix2 k l) * k0_pay15 (F := Ideal) (bQ m c t) (ix3 0 q l) : EReal)) (fun k => bV m c t (ix2 r k)) := by
  show (outsAt0 m c t.val t.isLt).2.2.2.1 (ix3 1 r q) = _
  rw [outsAt0_A m c t h0 h1 h2 h3]
  frame_out
  simp (disch := decide) only [↓View.readCov_skip, View.readCov_fill]
  refine (canon_sub _ _ _ _ (ix3 0 r q) ?_).trans ?_
  · intro a
    fin_cases a
    · rfl
    · exact (Nat.zero_add _).symm
    · exact (Nat.zero_add _).symm
  refine (pay5_at _ _ _ _ r q).trans ?_
  simp only [pay19_at]
  unfold bQ bK
  refine congr (congr (congr (congrArg ac ?_) ?_) ?_) ?_
  · pointwise [k0_pay16]
  · pointwise [k0_pay17]
  · refine funext fun k => Finset.sum_congr rfl fun l _ => ?_
    refine congrArg₂ (· * ·) rfl ?_
    refine (readCov_sub _ _ _ _ _ _ (ix3 0 q l) ?_).trans ?_
    · intro a
      rfl
    · rfl
  · funext k; pointwise [k0_pay18]; rfl

theorem A_q0 (c : Dev nD) (t : Fin cfg0.N) (h0 : t.val % 5 = 0) (h1 : t.val % 5 ≤ 2) (h2 : ¬ t.val % 5 = 3) (h3 : ¬ t.val % 5 = 4) (q : Fin 1024) (l : Fin 128) :
    sQ m c t (ix3 0 q l) = k0_pay14 (F := Ideal) (bQ m c t) (ix3 0 q l) := by
  show (outsAt0 m c t.val t.isLt).2.1 (ix3 0 q l) = _
  rw [outsAt0_A m c t h0 h1 h2 h3]
  frame_out
  refine (canon_out _ _ _ _ 0 (.inl Nat.one_pos)).trans ?_
  refine (canon_sub _ _ _ _ (ix3 0 q l) ?_).trans ?_
  · intro a
    fin_cases a
    · rfl
    · exact (Nat.zero_add _).symm
    · exact (Nat.zero_add _).symm
  unfold bQ
  rfl

theorem A_q1 (c : Dev nD) (t : Fin cfg0.N) (h0 : t.val % 5 = 0) (h1 : t.val % 5 ≤ 2) (h2 : ¬ t.val % 5 = 3) (h3 : ¬ t.val % 5 = 4) (q : Fin 1024) (l : Fin 128) :
    sQ m c t (ix3 1 q l) = k0_pay15 (F := Ideal) (bQ m c t) (ix3 0 q l) := by
  show (outsAt0 m c t.val t.isLt).2.1 (ix3 1 q l) = _
  rw [outsAt0_A m c t h0 h1 h2 h3]
  frame_out
  refine (canon_sub _ _ _ _ (ix3 0 q l) ?_).trans ?_
  · intro a
    fin_cases a
    · rfl
    · exact (Nat.zero_add _).symm
    · exact (Nat.zero_add _).symm
  unfold bQ
  rfl

theorem A_s (c : Dev nD) (t : Fin cfg0.N) (h0 : t.val % 5 = 0) (h1 : t.val % 5 ≤ 2) (h2 : ¬ t.val % 5 = 3) (h3 : ¬ t.val % 5 = 4) (k : Fin 2048) (q : Fin 1024) :
    sS m c t (ix2 k q) = (∑ l : Fin 128, bN m c t (ix2 k l) * k0_pay14 (F := Ideal) (bQ m c t) (ix3 0 q l) : EReal) := by
  show (outsAt0 m c t.val t.isLt).2.2.2.2 (ix2 k q) = _
  rw [outsAt0_A m c t h0 h1 h2 h3]
  frame_out
  simp (disch := decide) only [↓View.readCov_skip]
  unfold bQ bN
  refine (pay2_at _ _ k q).trans ?_
  refine Finset.sum_congr rfl fun l _ => ?_
  refine congrArg₂ (· * ·) rfl ?_
  refine (readCov_sub _ _ _ _ _ _ (ix3 0 q l) ?_).trans ?_
  · intro a
    rfl
  · rfl

end Cert.KernelIdeal.Hand
-- ==== Proof.CaseD.lean ====
module

public import proofs.«01_k».proof.Proof.Carry
set_option maxRecDepth 16384
@[expose] public noncomputable section
open Idealize.ShloMosaic Idealize.ShloMosaic.TcCoe Idealize.SL.Sem
open Idealize.ShloMosaic.Pipeline (Dat)
namespace Cert.KernelIdeal.Hand
open Cert.KernelIdeal Cert.KernelIdeal.Gen
variable (m : (ℓ : Loc nD τ sig) → Buf (Elt Ideal) ℓ)

/-- The first accumulator after the context's keys. -/
def fin0 (c : Dev nD) (t : Fin cfg0.N) (r : Fin 144) (q : Fin 1024) : EReal :=
  ac (sM m c (pre t) (ix3 0 0 q)) (sA m c (pre t) (ix3 0 r q))
    (fun k : Fin 256 => sS m c (pre t) (ix2 ⟨k.val, by omega⟩ q)) (fun k => bW m c t (ix2 r k))

/-- The second accumulator after the context's keys. -/
def fin1 (c : Dev nD) (t : Fin cfg0.N) (r : Fin 144) (q : Fin 1024) : EReal :=
  ac (sM m c (pre t) (ix3 1 0 q)) (sA m c (pre t) (ix3 1 r q))
    (fun k : Fin 256 => (∑ l : Fin 128, bC m c t (ix2 k l) * sQ m c (pre t) (ix3 1 q l) : EReal)) (fun k => bW m c t (ix2 r k))

theorem D_out (c : Dev nD) (t : Fin cfg0.N) (h0 : ¬ t.val % 5 = 0) (h1 : ¬ t.val % 5 ≤ 2) (h2 : ¬ t.val % 5 = 3) (h3 : t.val % 5 = 4) (q : Fin 1024) (d : Fin 128) :
    (show FVec Ideal S1024x128 .bf16 from (outsAt0 m c t.val t.isLt).1) (ix2 q d)
      = nrm (fun e => Ideal.div (fin0 m c t ⟨e.val, by omega⟩ q) (fin0 m c t 128 q)
          - bL m c t (ix1 0) * Ideal.div (fin1 m c t ⟨e.val, by omega⟩ q) (fin1 m c t 128 q)) (bG m c t (ix2 0 d)) d := by
  rw [outsAt0_D m c t h0 h1 h2 h3]
  frame_out
  simp only [read_unread_whole]
  simp (disch := decide) only [↓View.readCov_skip]
  refine (pay12_at _ _ _ _ _ q d).trans ?_
  refine congrArg₂ (fun o g => nrm o g d) (funext fun e => ?_) rfl
  simp only [pay40_at, pay41_at, pay42_at]
  refine congrArg₂ (· - ·) (congrArg₂ Ideal.div ?_ ?_) (congrArg₂ (· * ·) ?_ (congrArg₂ Ideal.div ?_ ?_))
  · refine (readCov_sub _ _ _ _ _ _ (ix3 0 ⟨e.val, by omega⟩ q) ?_).trans ?_
    · intro a
      fin_cases a
      · rfl
      · rfl
      · rfl
    · refine (pay34_at _ _ _ _ _ q).trans ?_

      unfold fin0
      pointwise [k0_pay30]
      all_goals rfl
  · refine (readCov_sub _ _ _ _ _ _ (ix3 0 128 q) ?_).trans ?_
    · intro a
      fin_cases a
      · rfl
      · rfl
      · rfl
    · refine (pay34_at _ _ _ _ _ q).trans ?_

      unfold fin0
      pointwise [k0_pay30]
      all_goals rfl
  · exact congrArg (iblk m c 0 t) (funext fun a => by fin_cases a; rfl)
  · refine (readCov_sub _ _ _ _ _ _ (ix3 0 ⟨e.val, by omega⟩ q) ?_).trans ?_
    · intro a
      fin_cases a
      · rfl
      · rfl
      · rfl
    · refine (pay38_at _ _ _ _ _ q).trans ?_
      simp only [pay31_at]
      unfold fin1
      pointwise [k0_pay30]
      all_goals rfl
  · refine (readCov_sub _ _ _ _ _ _ (ix3 0 128 q) ?_).trans ?_
    · intro a
      fin_cases a
      · rfl
      · rfl
      · rfl
    · refine (pay38_at _ _ _ _ _ q).trans ?_
      simp only [pay31_at]
      unfold fin1
      pointwise [k0_pay30]
      all_goals rfl

end Cert.KernelIdeal.Hand
-- ==== Proof.Induct.lean ====
module

public import proofs.«01_k».proof.Proof.Keys
public import proofs.«01_k».proof.Proof.Blocks
public import proofs.«01_k».proof.Proof.CaseA
public import proofs.«01_k».proof.Proof.CaseD
set_option maxRecDepth 16384
@[expose] public noncomputable section
open Idealize.ShloMosaic Idealize.ShloMosaic.TcCoe Idealize.SL.Sem
open Idealize.ShloMosaic.Pipeline (Dat)
namespace Cert.KernelIdeal.Hand
open Cert.KernelIdeal Cert.KernelIdeal.Gen Cert.Attn
variable (m : (ℓ : Loc nD τ sig) → Buf (Elt Ideal) ℓ)

/-- The point of a batch, a head, a block of queries and a step. -/
def pt (b : Fin 4) (h i : Fin 8) (j : Fin 5) : Fin cfg0.N :=
  ⟨b.val * 320 + h.val * 40 + i.val * 5 + j.val, lt_of_lt_of_eq (by omega) N_0.symm⟩

theorem pt_val (b : Fin 4) (h i : Fin 8) (j : Fin 5) : (pt b h i j).val = b.val * 320 + h.val * 40 + i.val * 5 + j.val := rfl

/-- The fused array is real. -/
def IsReal (c : Dev nD) (x : Fin 33792 → Fin 3072 → ℝ) : Prop :=
  ∀ r k, (show FVec Ideal S33792x3072 .bf16 from m ((c : Thread nD τ).loc main_arg0)) (ix2 r k) = (x r k : EReal)

theorem key_lat (b : Fin 4) (k : ℕ) (hk : k < 8448) (h8 : k < 8192) : (krow b ⟨k, hk⟩).val = b.val * 8192 + k := by
  rw [krow, if_pos h8]

theorem key_ctx (b : Fin 4) (k : ℕ) (hk : k < 8448) (h8 : ¬ k < 8192) : (krow b ⟨k, hk⟩).val = 32768 + (b.val * 256 + (k - 8192)) := by
  rw [krow, if_neg h8]

variable {m} {c : Dev nD} {x : Fin 33792 → Fin 3072 → ℝ} (hx : IsReal m c x)
include hx

theorem bQ_pt (b : Fin 4) (h i : Fin 8) (j : Fin 5) (q : Fin 1024) (l : Fin 128) :
    bQ m c (pt b h i j) (ix2 q l) = (xq x b h (qrow b i q) l : EReal) := by
  rw [bQ_at m c (pt b h i j) q l (ix2 ⟨b.val * 8192 + (i.val * 1024 + q.val), by omega⟩ ⟨h.val * 128 + l.val, by omega⟩)
    (by rw [pt_val]; show b.val * 8192 + (i.val * 1024 + q.val) = _; omega) (by rw [pt_val]; show h.val * 128 + l.val = _; omega)]
  exact hx _ _

theorem bK_pt (b : Fin 4) (h i : Fin 8) (j : Fin 5) (hj : j.val ≤ 3) (k : Fin 2048) (l : Fin 128) :
    bK m c (pt b h i j) (ix2 k l) = (xk x b h ⟨j.val * 2048 + k.val, by omega⟩ l : EReal) := by
  rw [bK_at m c (pt b h i j) k l (ix2 (krow b ⟨j.val * 2048 + k.val, by omega⟩) ⟨1024 + (h.val * 128 + l.val), by omega⟩)
    (by rw [pt_val]; refine (key_lat b _ _ (by omega)).trans ?_; omega)
    (by rw [pt_val]; show 1024 + (h.val * 128 + l.val) = _; omega)]
  exact hx _ _

theorem bN_pt (b : Fin 4) (h i : Fin 8) (j : Fin 5) (hj : j.val ≤ 2) (k : Fin 2048) (l : Fin 128) :
    bN m c (pt b h i j) (ix2 k l) = (xk x b h ⟨(j.val + 1) * 2048 + k.val, by omega⟩ l : EReal) := by
  rw [bN_at m c (pt b h i j) k l (ix2 (krow b ⟨(j.val + 1) * 2048 + k.val, by omega⟩) ⟨1024 + (h.val * 128 + l.val), by omega⟩)
    (by rw [pt_val]; refine (key_lat b _ _ (by omega)).trans ?_; omega)
    (by rw [pt_val]; show 1024 + (h.val * 128 + l.val) = _; omega)]
  exact hx _ _

theorem bC_pt (b : Fin 4) (h i : Fin 8) (j : Fin 5) (k : Fin 256) (l : Fin 128) :
    bC m c (pt b h i j) (ix2 k l) = (xk x b h ⟨8192 + k.val, by omega⟩ l : EReal) := by
  rw [bC_at m c (pt b h i j) k l (ix2 (krow b ⟨8192 + k.val, by omega⟩) ⟨1024 + (h.val * 128 + l.val), by omega⟩)
    (by rw [pt_val]; refine (key_ctx b _ _ (by omega)).trans ?_; omega)
    (by rw [pt_val]; show 1024 + (h.val * 128 + l.val) = _; omega)]
  exact hx _ _

theorem hVt_real (b : Fin 4) (h : Fin 8) (r : Fin 144) (k : Fin 8448) :
    (show FVec Ideal S1152x33792 .bf16 from V m c main_v18) (ix2 ⟨h.val * 144 + r.val, by omega⟩ (krow b k)) = (vv x b h r k : EReal) := by
  rw [V18]
  refine (hVt_at _ h r (krow b k)).trans ?_
  unfold vv
  split
  · exact hx _ _
  · exact EReal.coe_one.symm

theorem bV_pt (b : Fin 4) (h i : Fin 8) (j : Fin 5) (hj : j.val ≤ 3) (r : Fin 144) (k : Fin 2048) :
    bV m c (pt b h i j) (ix2 r k) = (vv x b h r ⟨j.val * 2048 + k.val, by omega⟩ : EReal) := by
  rw [bV_at m c (pt b h i j) r k (ix2 ⟨h.val * 144 + r.val, by omega⟩ (krow b ⟨j.val * 2048 + k.val, by omega⟩))
    (by rw [pt_val]; show h.val * 144 + r.val = _; omega)
    (by rw [pt_val]; refine (key_lat b _ _ (by omega)).trans ?_; omega)]
  exact hVt_real hx b h r _

theorem bW_pt (b : Fin 4) (h i : Fin 8) (j : Fin 5) (r : Fin 144) (k : Fin 256) :
    bW m c (pt b h i j) (ix2 r k) = (vv x b h r ⟨8192 + k.val, by omega⟩ : EReal) := by
  rw [bW_at m c (pt b h i j) r k (ix2 ⟨h.val * 144 + r.val, by omega⟩ (krow b ⟨8192 + k.val, by omega⟩))
    (by rw [pt_val]; show h.val * 144 + r.val = _; omega)
    (by rw [pt_val]; refine (key_ctx b _ _ (by omega)).trans ?_; omega)]
  exact hVt_real hx b h r _

omit hx in
/-- What holds for a query after step j (the latent keys up to and with block j taken in). -/
structure Inv (m : (ℓ : Loc nD τ sig) → Buf (Elt Ideal) ℓ) (c : Dev nD) (x : Fin 33792 → Fin 3072 → ℝ) (b : Fin 4) (h i : Fin 8) (q : Fin 1024)
    (j : Fin 5) : Prop where
  q0 : ∀ l : Fin 128, sQ m c (pt b h i j) (ix3 0 q l) = if l.val < 64 then (xq x b h (qrow b i q) l : EReal) * (sc0 : EReal) else 0
  q1 : ∀ l : Fin 128, sQ m c (pt b h i j) (ix3 1 q l) = if l.val < 64 then 0 else (xq x b h (qrow b i q) l : EReal) * (sc0 : EReal)
  s0 : St (sM m c (pt b h i j) (ix3 0 0 q)) (fun r => sA m c (pt b h i j) (ix3 0 r q)) (TT x b h 0 (qrow b i q) ((j.val + 1) * 2048))
  s1 : St (sM m c (pt b h i j) (ix3 1 0 q)) (fun r => sA m c (pt b h i j) (ix3 1 r q)) (TT x b h 1 (qrow b i q) ((j.val + 1) * 2048))
  nx : ∀ (k : Fin 2048) (hk : (j.val + 1) * 2048 + k.val < 8448),
    sS m c (pt b h i j) (ix2 k q) = ((sc0 * sr x b h 0 (qrow b i q) ⟨(j.val + 1) * 2048 + k.val, hk⟩ : ℝ) : EReal)

theorem inv0 (b : Fin 4) (h i : Fin 8) (q : Fin 1024) : Inv m c x b h i q 0 := by
  have hv := pt_val b h i 0
  have h0 : (pt b h i 0).val % 5 = 0 := by rw [hv]; show (_ + 0) % 5 = 0; omega
  have h1 : (pt b h i 0).val % 5 ≤ 2 := by omega
  have h2 : ¬ (pt b h i 0).val % 5 = 3 := by omega
  have h3 : ¬ (pt b h i 0).val % 5 = 4 := by omega
  have e0 : ∀ l : Fin 128, k0_pay14 (F := Ideal) (bQ m c (pt b h i 0)) (ix3 0 q l)
      = if l.val < 64 then (xq x b h (qrow b i q) l : EReal) * (sc0 : EReal) else 0 := fun l => by
    rw [pay14_at, bQ_pt hx]
  have e1 : ∀ l : Fin 128, k0_pay15 (F := Ideal) (bQ m c (pt b h i 0)) (ix3 0 q l)
      = if l.val < 64 then 0 else (xq x b h (qrow b i q) l : EReal) * (sc0 : EReal) := fun l => by
    rw [pay15_at, bQ_pt hx]
  refine ⟨fun l => ?_, fun l => ?_, ?_, ?_, fun k hk => ?_⟩
  · rw [A_q0 m c _ h0 h1 h2 h3, e0]
  · rw [A_q1 m c _ h0 h1 h2 h3, e1]
  · simp only [A_m0 m c _ h0 h1 h2 h3, A_a0 m c _ h0 h1 h2 h3]
    exact St_TT x b h 0 (qrow b i q) 0 2048 _ (by decide) rfl (by decide) (St_zero x b h 0 _) _ (fun r k => bV m c (pt b h i 0) (ix2 r k))
      (fun k => by
        simp only [e0, bK_pt hx b h i 0 (by decide), sc_q0]
        rfl)
      (fun r k => bV_pt hx b h i 0 (by decide) r k)
  · simp only [A_m1 m c _ h0 h1 h2 h3, A_a1 m c _ h0 h1 h2 h3]
    exact St_TT x b h 1 (qrow b i q) 0 2048 _ (by decide) rfl (by decide) (St_zero x b h 1 _) _ (fun r k => bV m c (pt b h i 0) (ix2 r k))
      (fun k => by
        simp only [e1, bK_pt hx b h i 0 (by decide), sc_q1]
        rfl)
      (fun r k => bV_pt hx b h i 0 (by decide) r k)
  · rw [A_s m c _ h0 h1 h2 h3]
    simp only [e0, bN_pt hx b h i 0 (by decide), sc_q0]

omit hx in
theorem pre_pt (b : Fin 4) (h i : Fin 8) (j : ℕ) (hj : j + 1 < 5) : pre (pt b h i ⟨j + 1, hj⟩) = pt b h i ⟨j, by omega⟩ := by
  ext
  show b.val * 320 + h.val * 40 + i.val * 5 + (j + 1) - 1 = b.val * 320 + h.val * 40 + i.val * 5 + j
  omega

theorem invB (b : Fin 4) (h i : Fin 8) (q : Fin 1024) (j : ℕ) (hj : j + 1 ≤ 2) (I : Inv m c x b h i q ⟨j, by omega⟩) :
    Inv m c x b h i q ⟨j + 1, by omega⟩ := by
  have hv : (pt b h i ⟨j + 1, by omega⟩).val = b.val * 320 + h.val * 40 + i.val * 5 + (j + 1) := rfl
  have hp : pre (pt b h i ⟨j + 1, by omega⟩) = pt b h i ⟨j, by omega⟩ := pre_pt b h i j (by omega)
  have h0 : ¬ (pt b h i ⟨j + 1, by omega⟩).val % 5 = 0 := by omega
  have h1 : (pt b h i ⟨j + 1, by omega⟩).val % 5 ≤ 2 := by omega
  have h2 : ¬ (pt b h i ⟨j + 1, by omega⟩).val % 5 = 3 := by omega
  have h3 : ¬ (pt b h i ⟨j + 1, by omega⟩).val % 5 = 4 := by omega
  have hq : sQ m c (pt b h i ⟨j + 1, by omega⟩) = sQ m c (pt b h i ⟨j, by omega⟩) := by
    rw [B_q m c _ h0 h1 h2 h3, hp]
  refine ⟨fun l => ?_, fun l => ?_, ?_, ?_, fun k hk => ?_⟩
  · rw [hq, I.q0]
  · rw [hq, I.q1]
  · simp only [B_m0 m c _ h0 h1 h2 h3, B_a0 m c _ h0 h1 h2 h3, hp]
    exact St_TT x b h 0 (qrow b i q) ((j + 1) * 2048) 2048 _ (by decide) (by show ((j + 1) * 2048) + 2048 = (j + 1 + 1) * 2048; omega)
      (by show (j + 1 + 1) * 2048 ≤ 8448; omega) I.s0 _ (fun r k => bV m c (pt b h i ⟨j + 1, by omega⟩) (ix2 r k))
      (fun k => I.nx k (by have := k.isLt; show ((j + 1) * 2048) + k.val < 8448; omega))
      (fun r k => bV_pt hx b h i ⟨j + 1, by omega⟩ (by show j + 1 ≤ 3; omega) r k)
  · simp only [B_m1 m c _ h0 h1 h2 h3, B_a1 m c _ h0 h1 h2 h3, hp]
    exact St_TT x b h 1 (qrow b i q) ((j + 1) * 2048) 2048 _ (by decide) (by show ((j + 1) * 2048) + 2048 = (j + 1 + 1) * 2048; omega)
      (by show (j + 1 + 1) * 2048 ≤ 8448; omega) I.s1 _ (fun r k => bV m c (pt b h i ⟨j + 1, by omega⟩) (ix2 r k))
      (fun k => by
        simp only [I.q1, bK_pt hx b h i ⟨j + 1, by omega⟩ (by show j + 1 ≤ 3; omega), sc_q1])
      (fun r k => bV_pt hx b h i ⟨j + 1, by omega⟩ (by show j + 1 ≤ 3; omega) r k)
  · rw [B_s m c _ h0 h1 h2 h3, hp]
    simp only [I.q0, bN_pt hx b h i ⟨j + 1, by omega⟩ hj, sc_q0]

theorem invC (b : Fin 4) (h i : Fin 8) (q : Fin 1024) (I : Inv m c x b h i q ⟨2, by decide⟩) :
    Inv m c x b h i q ⟨3, by decide⟩ := by
  have hv : (pt b h i ⟨3, by decide⟩).val = b.val * 320 + h.val * 40 + i.val * 5 + (3) := rfl
  have hp : pre (pt b h i ⟨3, by decide⟩) = pt b h i ⟨2, by decide⟩ := pre_pt b h i 2 (by omega)
  have h0 : ¬ (pt b h i ⟨3, by decide⟩).val % 5 = 0 := by omega
  have h1 : ¬ (pt b h i ⟨3, by decide⟩).val % 5 ≤ 2 := by omega
  have h2 : (pt b h i ⟨3, by decide⟩).val % 5 = 3 := by omega
  have h3 : ¬ (pt b h i ⟨3, by decide⟩).val % 5 = 4 := by omega
  have hq : sQ m c (pt b h i ⟨3, by decide⟩) = sQ m c (pt b h i ⟨2, by decide⟩) := by
    rw [C_q m c _ h0 h1 h2 h3, hp]
  refine ⟨fun l => ?_, fun l => ?_, ?_, ?_, fun k hk => ?_⟩
  · rw [hq, I.q0]
  · rw [hq, I.q1]
  · simp only [C_m0 m c _ h0 h1 h2 h3, C_a0 m c _ h0 h1 h2 h3, hp]
    exact St_TT x b h 0 (qrow b i q) ((2 + 1) * 2048) 2048 _ (by decide) (by show ((2 + 1) * 2048) + 2048 = (3 + 1) * 2048; omega)
      (by show (3 + 1) * 2048 ≤ 8448; omega) I.s0 _ (fun r k => bV m c (pt b h i ⟨3, by decide⟩) (ix2 r k))
      (fun k => I.nx k (by have := k.isLt; show ((2 + 1) * 2048) + k.val < 8448; omega))
      (fun r k => bV_pt hx b h i ⟨3, by decide⟩ (by decide) r k)
  · simp only [C_m1 m c _ h0 h1 h2 h3, C_a1 m c _ h0 h1 h2 h3, hp]
    exact St_TT x b h 1 (qrow b i q) ((2 + 1) * 2048) 2048 _ (by decide) (by show ((2 + 1) * 2048) + 2048 = (3 + 1) * 2048; omega)
      (by show (3 + 1) * 2048 ≤ 8448; omega) I.s1 _ (fun r k => bV m c (pt b h i ⟨3, by decide⟩) (ix2 r k))
      (fun k => by
        simp only [I.q1, bK_pt hx b h i ⟨3, by decide⟩ (by decide), sc_q1])
      (fun r k => bV_pt hx b h i ⟨3, by decide⟩ (by decide) r k)
  · have hk' : k.val < 256 := by
      have : (3 + 1) * 2048 + k.val < 8448 := hk
      omega
    refine (C_s m c _ h0 h1 h2 h3 ⟨k.val, hk'⟩ q).trans ?_
    rw [hp]
    simp only [I.q0, bC_pt hx b h i ⟨3, by decide⟩, sc_q0]

theorem inv3 (b : Fin 4) (h i : Fin 8) (q : Fin 1024) : Inv m c x b h i q ⟨3, by decide⟩ :=
  invC hx b h i q (invB hx b h i q 1 (by decide) (invB hx b h i q 0 (by decide) (inv0 hx b h i q)))

theorem fin0_div (b : Fin 4) (h i : Fin 8) (q : Fin 1024) (d : Fin 128) :
    Ideal.div (fin0 m c (pt b h i ⟨4, by decide⟩) ⟨d.val, by omega⟩ q) (fin0 m c (pt b h i ⟨4, by decide⟩) 128 q)
      = (ar x b h 0 (qrow b i q) d : EReal) := by
  have hp : pre (pt b h i ⟨4, by decide⟩) = pt b h i ⟨3, by decide⟩ := pre_pt b h i 3 (by omega)
  have I := inv3 hx b h i q
  unfold fin0
  rw [hp]
  have hS := St_TT x b h 0 (qrow b i q) ((3 + 1) * 2048) 256 8448 (by decide) rfl (le_refl _) I.s0 _
    (fun r k => bW m c (pt b h i ⟨4, by decide⟩) (ix2 r k))
    (fun k => I.nx ⟨k.val, by omega⟩ (by have := k.isLt; show (3 + 1) * 2048 + k.val < 8448; omega))
    (fun r k => bW_pt hx b h i ⟨4, by decide⟩ r k)
  refine (St_div hS ⟨d.val, by omega⟩ ?_).trans ?_
  · rw [TT_ones]; exact wr_pos x b h 0 _
  · rw [TT_ones, TT_val]
    rfl

theorem fin1_div (b : Fin 4) (h i : Fin 8) (q : Fin 1024) (d : Fin 128) :
    Ideal.div (fin1 m c (pt b h i ⟨4, by decide⟩) ⟨d.val, by omega⟩ q) (fin1 m c (pt b h i ⟨4, by decide⟩) 128 q)
      = (ar x b h 1 (qrow b i q) d : EReal) := by
  have hp : pre (pt b h i ⟨4, by decide⟩) = pt b h i ⟨3, by decide⟩ := pre_pt b h i 3 (by omega)
  have I := inv3 hx b h i q
  unfold fin1
  rw [hp]
  have hS := St_TT x b h 1 (qrow b i q) ((3 + 1) * 2048) 256 8448 (by decide) rfl (le_refl _) I.s1
    (fun k : Fin 256 => (∑ l : Fin 128, bC m c (pt b h i ⟨4, by decide⟩) (ix2 k l) * sQ m c (pt b h i ⟨3, by decide⟩) (ix3 1 q l) : EReal))
    (fun r k => bW m c (pt b h i ⟨4, by decide⟩) (ix2 r k))
    (fun k => by
      simp only [I.q1, bC_pt hx b h i ⟨4, by decide⟩, sc_q1])
    (fun r k => bW_pt hx b h i ⟨4, by decide⟩ r k)
  refine (St_div hS ⟨d.val, by omega⟩ ?_).trans ?_
  · rw [TT_ones]; exact wr_pos x b h 1 _
  · rw [TT_ones, TT_val]
    rfl

end Cert.KernelIdeal.Hand
-- ==== Proof.Out.lean ====
module

public import proofs.«01_k».proof.Proof.Induct
public import proofs.«01_k».proof.Proof.HostVal
set_option maxRecDepth 16384
@[expose] public noncomputable section
open Idealize.ShloMosaic Idealize.ShloMosaic.TcCoe Idealize.SL.Sem
open Idealize.ShloMosaic.Pipeline (Dat)
namespace Cert.KernelIdeal.Hand
open Cert.KernelIdeal Cert.KernelIdeal.Gen Cert.Attn
variable {m : (ℓ : Loc nD τ sig) → Buf (Elt Ideal) ℓ} {c : Dev nD} {x : Fin 33792 → Fin 3072 → ℝ} (hx : IsReal m c x)

/-- An entry of the result. -/
def ent (x : Fin 33792 → Fin 3072 → ℝ) (lam : ℝ) (G : FVec Ideal S1x128 .f32) (r : Fin 32768) (l : Fin 1024) : EReal :=
  nrm (fun e => (oo x lam ⟨r.val / 8192, by omega⟩ ⟨l.val / 128, by omega⟩ ⟨r.val % 8192, by omega⟩ e : EReal))
    (G (ix2 0 ⟨l.val % 128, by omega⟩)) ⟨l.val % 128, by omega⟩

theorem ent_of (x : Fin 33792 → Fin 3072 → ℝ) (lam : ℝ) (G : FVec Ideal S1x128 .f32) (r : Fin 32768) (l : Fin 1024)
    (b : Fin 4) (h i : Fin 8) (q : Fin 1024) (d : Fin 128) (hr : r.val = b.val * 8192 + i.val * 1024 + q.val) (hl : l.val = h.val * 128 + d.val) :
    ent x lam G r l = nrm (fun e => (oo x lam b h (qrow b i q) e : EReal)) (G (ix2 0 d)) d := by
  have e0 : (⟨r.val / 8192, by omega⟩ : Fin 4) = b := Fin.ext (by show r.val / 8192 = b.val; omega)
  have e1 : (⟨l.val / 128, by omega⟩ : Fin 8) = h := Fin.ext (by show l.val / 128 = h.val; omega)
  have e2 : (⟨r.val % 8192, by omega⟩ : Fin 8192) = qrow b i q := Fin.ext (by show r.val % 8192 = i.val * 1024 + q.val; omega)
  have e3 : (⟨l.val % 128, by omega⟩ : Fin 128) = d := Fin.ext (by show l.val % 128 = d.val; omega)
  unfold ent
  rw [e0, e1, e2, e3]

/-- Where a block of the result sits. -/
theorem emb8 (t : Fin cfg0.N) (q : Fin 1024) (d : Fin 128) :
    (((win0_8.blk t).view.emb (ix2 q d) 0 : Fin 32768) : ℕ) = (t.val / 320 * 8 + t.val / 5 % 8) * 1024 + q.val
      ∧ (((win0_8.blk t).view.emb (ix2 q d) 1 : Fin 1024) : ℕ) = t.val / 40 % 8 * 128 + d.val := by
  have e8 := idx8 t
  constructor
  · blk_simp [e8]
  · blk_simp [e8]

include hx

theorem out_pt (lam : ℝ) (hL : hLam (m ((c : Thread nD τ).loc main_arg1)) (m ((c : Thread nD τ).loc main_arg2))
      (m ((c : Thread nD τ).loc main_arg3)) (m ((c : Thread nD τ).loc main_arg4)) (ix1 0) = (lam : EReal))
    (b : Fin 4) (h i : Fin 8) (q : Fin 1024) (d : Fin 128) :
    (show FVec Ideal S1024x128 .bf16 from (outsAt0 m c (pt b h i ⟨4, by decide⟩).val (pt b h i ⟨4, by decide⟩).isLt).1) (ix2 q d)
      = nrm (fun e => (oo x lam b h (qrow b i q) e : EReal))
          ((show FVec Ideal S1x128 .f32 from m ((c : Thread nD τ).loc main_arg5)) (ix2 0 d)) d := by
  have hv : (pt b h i ⟨4, by decide⟩).val = b.val * 320 + h.val * 40 + i.val * 5 + 4 := rfl
  rw [D_out m c _ (by omega) (by omega) (by omega) (by omega) q d, bL_at, bG_at, V14, V20]
  have hg := hG_at (m ((c : Thread nD τ).loc main_arg5)) d
  simp only [fin0_div hx, fin1_div hx]
  refine congrArg₂ (fun o g => nrm o g d) (funext fun e => ?_) hg
  refine (congrArg (fun z : EReal => (ar x b h 0 (qrow b i q) e : EReal) - z * (ar x b h 1 (qrow b i q) e : EReal)) hL).trans ?_
  unfold oo
  rw [EReal.coe_sub, EReal.coe_mul]

theorem final (lam : ℝ) (hL : hLam (m ((c : Thread nD τ).loc main_arg1)) (m ((c : Thread nD τ).loc main_arg2))
      (m ((c : Thread nD τ).loc main_arg3)) (m ((c : Thread nD τ).loc main_arg4)) (ix1 0) = (lam : EReal)) :
    (dats m 0 c).arrAt 8 cfg0.N = (fun j : S32768x1024.Idx => ent x lam (m ((c : Thread nD τ).loc main_arg5)) (j 0) (j 1)) := by
  refine (dats m 0 c).arrAt_eq_of_covers 8 _ (by decide +kernel) fun t hf y => ?_
  have hm := (flush0_8 t).mp hf
  blk_simp
  rw [after0_8]
  have hN : t.val < 1280 := lt_of_lt_of_eq t.isLt N_0
  obtain ⟨b, h, i, rfl⟩ : ∃ (b : Fin 4) (h i : Fin 8), t = pt b h i ⟨4, by decide⟩ := by
    refine ⟨⟨t.val / 320, by omega⟩, ⟨t.val / 40 % 8, by omega⟩, ⟨t.val / 5 % 8, by omega⟩, ?_⟩
    ext
    show t.val = t.val / 320 * 320 + t.val / 40 % 8 * 40 + t.val / 5 % 8 * 5 + 4
    omega
  obtain ⟨q, d, rfl⟩ : ∃ (q : Fin 1024) (d : Fin 128), (show S1024x128.Idx from y) = ix2 q d := ⟨_, _, (ix2_eta _).symm⟩
  have hv4 : (pt b h i ⟨4, by decide⟩).val = b.val * 320 + h.val * 40 + i.val * 5 + 4 := rfl
  have E := emb8 (pt b h i ⟨4, Nat.lt_succ_self 4⟩) q d
  refine (out_pt hx lam hL b h i q d).trans ?_
  exact (ent_of x lam _ _ _ b h i q d (E.1.trans (by omega)) (E.2.trans (by omega))).symm

end Cert.KernelIdeal.Hand
-- ==== Proof.RefTerm.lean ====
module

public import proofs.«01_k».proof.Proof.Gen.ReferenceIdeal.Run
public import Idealize.ShloMosaic.Lib.Pointwise
set_option maxRecDepth 16384
@[expose] public noncomputable section
open Idealize.ShloMosaic Idealize.ShloMosaic.TcCoe Idealize.SL.Sem

namespace Cert.ReferenceIdeal.Value
open Cert.ReferenceIdeal Cert.ReferenceIdeal.Gen

/-- The latent tokens of the joint projection, per batch. -/
def rLat (X : FVec Ideal S33792x3072 .bf16) : FVec Ideal S4x8192x3072 .f32 :=
  shapeCast S4x8192x3072 (extf .f32 (extractStridedSlice S32768x3072 ![0, 0] X slices_S33792x3072_S32768x3072_0_0)
    bitsLt_bf16_f32) shapeCasts_S32768x3072_S4x8192x3072

/-- The context tokens of the joint projection, per batch. -/
def rCtx (X : FVec Ideal S33792x3072 .bf16) : FVec Ideal S4x256x3072 .f32 :=
  shapeCast S4x256x3072 (extf .f32 (extractStridedSlice S1024x3072 ![32768, 0] X slices_S33792x3072_S1024x3072_32768_0)
    bitsLt_bf16_f32) shapeCasts_S1024x3072_S4x256x3072

/-- All keys, latent then context, per batch, head and component. -/
def rK (X : FVec Ideal S33792x3072 .bf16) : FVec Ideal S4x8x2x8448x64 .f32 :=
  concatenate S4x8x2x8448x64 3 [⟨S4x8x2x8192x64,
    transpose S4x8x2x8192x64 [0, 2, 3, 1, 4] (shapeCast S4x8192x8x2x64
      (extractStridedSlice S4x8192x1024 ![0, 0, 1024] (rLat X) slices_S4x8192x3072_S4x8192x1024_0_0_1024)
      shapeCasts_S4x8192x1024_S4x8192x8x2x64) transposes_S4x8192x8x2x64_S4x8x2x8192x64_0_2_3_1_4⟩, ⟨S4x8x2x256x64,
    transpose S4x8x2x256x64 [0, 2, 3, 1, 4] (shapeCast S4x256x8x2x64
      (extractStridedSlice S4x256x1024 ![0, 0, 1024] (rCtx X) slices_S4x256x3072_S4x256x1024_0_0_1024)
      shapeCasts_S4x256x1024_S4x256x8x2x64) transposes_S4x256x8x2x64_S4x8x2x256x64_0_2_3_1_4⟩]
    concatenates_S4x8x2x8192x64_S4x8x2x256x64_S4x8x2x8448x64_d3

/-- All values, latent then context, per batch and head. -/
def rV (X : FVec Ideal S33792x3072 .bf16) : FVec Ideal S4x8x8448x128 .f32 :=
  concatenate S4x8x8448x128 2 [⟨S4x8x8192x128,
    transpose S4x8x8192x128 [0, 2, 1, 3] (shapeCast S4x8192x8x128
      (extractStridedSlice S4x8192x1024 ![0, 0, 2048] (rLat X) slices_S4x8192x3072_S4x8192x1024_0_0_2048)
      shapeCasts_S4x8192x1024_S4x8192x8x128) transposes_S4x8192x8x128_S4x8x8192x128_0_2_1_3⟩, ⟨S4x8x256x128,
    transpose S4x8x256x128 [0, 2, 1, 3] (shapeCast S4x256x8x128
      (extractStridedSlice S4x256x1024 ![0, 0, 2048] (rCtx X) slices_S4x256x3072_S4x256x1024_0_0_2048)
      shapeCasts_S4x256x1024_S4x256x8x128) transposes_S4x256x8x128_S4x8x256x128_0_2_1_3⟩]
    concatenates_S4x8x8192x128_S4x8x256x128_S4x8x8448x128_d2

/-- The queries, per batch, head and component. -/
def rQ (X : FVec Ideal S33792x3072 .bf16) : FVec Ideal S4x8x2x8192x64 .f32 :=
  transpose S4x8x2x8192x64 [0, 2, 3, 1, 4] (shapeCast S4x8192x8x2x64
      (extractStridedSlice S4x8192x1024 ![0, 0, 0] (rLat X) slices_S4x8192x3072_S4x8192x1024_0_0_0)
      shapeCasts_S4x8192x1024_S4x8192x8x2x64) transposes_S4x8192x8x2x64_S4x8x2x8192x64_0_2_3_1_4

/-- The scaled scores. -/
def rS (Q : FVec Ideal S4x8x2x8192x64 .f32) (K : FVec Ideal S4x8x2x8448x64 .f32) : FVec Ideal S4x8x2x8192x8448 .f32 :=
  mulf (Host.dotGeneral dot_S4x8x2x8192x64_S4x8x2x8448x64_S4x8x2x8192x8448_4_4_3_3_012_012 none Q K)
    (broadcastInDim S4x8x2x8192x8448 ![] bcast_S_S4x8x2x8192x8448 (constant S_ .f32 0x3E000000#32))

/-- The exponentials of the scores less their row's maximum. -/
def rE (S : FVec Ideal S4x8x2x8192x8448 .f32) : FVec Ideal S4x8x2x8192x8448 .f32 :=
  Host.exp (subf S (broadcastInDim S4x8x2x8192x8448 ![0, 1, 2, 3, 4] bcast_S4x8x2x8192x1_S4x8x2x8192x8448_0_1_2_3_4
    (broadcastInDim S4x8x2x8192x1 ![0, 1, 2, 3] bcast_S4x8x2x8192_S4x8x2x8192x1_0_1_2_3
      (maximumf (broadcastInDim S4x8x2x8192 ![] bcast_S_S4x8x2x8192 (constant S_ .f32 0xFF800000#32))
        (Host.reduce FloatOps.maximumf S (constant S_ .f32 0xFF800000#32) reducesTo_S4x8x2x8192x8448_S4x8x2x8192_d4 h_S_)))))

/-- The softmax of the scores. -/
def rP (E : FVec Ideal S4x8x2x8192x8448 .f32) : FVec Ideal S4x8x2x8192x8448 .f32 :=
  Host.divf E (broadcastInDim S4x8x2x8192x8448 ![0, 1, 2, 3, 4] bcast_S4x8x2x8192x1_S4x8x2x8192x8448_0_1_2_3_4
    (broadcastInDim S4x8x2x8192x1 ![0, 1, 2, 3] bcast_S4x8x2x8192_S4x8x2x8192x1_0_1_2_3
      (Host.reduceAdd E (constant S_ .f32 0x00000000#32) reducesTo_S4x8x2x8192x8448_S4x8x2x8192_d4 h_S_)))

/-- The layer's lambda. -/
def rLam (L1 L2 L3 L4 : FVec Ideal S1x64 .f32) : FVec Ideal S_ .f32 :=
  addf (subf
    (Host.exp (Host.reduceAdd (mulf (shapeCast S64 L1 shapeCasts_S1x64_S64) (shapeCast S64 L2 shapeCasts_S1x64_S64))
      (constant S_ .f32 0x00000000#32) reducesTo_S64_S_d0 h_S_))
    (Host.exp (Host.reduceAdd (mulf (shapeCast S64 L3 shapeCasts_S1x64_S64) (shapeCast S64 L4 shapeCasts_S1x64_S64))
      (constant S_ .f32 0x00000000#32) reducesTo_S64_S_d0 h_S_)))
    (constant S_ .f32 0x3EB60549#32)

/-- The weighted values of the two softmaxes' difference. -/
def rO (P : FVec Ideal S4x8x2x8192x8448 .f32) (lam : FVec Ideal S_ .f32) (V : FVec Ideal S4x8x8448x128 .f32) :
    FVec Ideal S4x8x8192x128 .f32 :=
  Host.dotGeneral dot_S4x8x8192x8448_S4x8x8448x128_S4x8x8192x128_3_2_2_3_01_01 none
    (subf (shapeCast S4x8x8192x8448 (extractStridedSlice S4x8x1x8192x8448 ![0, 0, 0, 0, 0] P
        slices_S4x8x2x8192x8448_S4x8x1x8192x8448_0_0_0_0_0) shapeCasts_S4x8x1x8192x8448_S4x8x8192x8448)
      (mulf (broadcastInDim S4x8x8192x8448 ![] bcast_S_S4x8x8192x8448 lam)
        (shapeCast S4x8x8192x8448 (extractStridedSlice S4x8x1x8192x8448 ![0, 0, 1, 0, 0] P
          slices_S4x8x2x8192x8448_S4x8x1x8192x8448_0_0_1_0_0) shapeCasts_S4x8x1x8192x8448_S4x8x8192x8448))) V

/-- The sub-norm, its gain and the layer's factor, per batch and head. -/
def rN (O : FVec Ideal S4x8x8192x128 .f32) (G : FVec Ideal S1x128 .f32) : FVec Ideal S4x8x8192x128 .f32 :=
  mulf (mulf (mulf O (broadcastInDim S4x8x8192x128 ![0, 1, 2, 3] bcast_S4x8x8192x1_S4x8x8192x128_0_1_2_3
      (Host.rsqrt (addf (Host.divf (broadcastInDim S4x8x8192x1 ![0, 1, 2] bcast_S4x8x8192_S4x8x8192x1_0_1_2
          (Host.reduceAdd (mulf O O) (constant S_ .f32 0x00000000#32) reducesTo_S4x8x8192x128_S4x8x8192_d3 h_S_))
        (broadcastInDim S4x8x8192x1 ![] bcast_S_S4x8x8192x1 (constant S_ .f32 0x43000000#32)))
        (broadcastInDim S4x8x8192x1 ![] bcast_S_S4x8x8192x1 (constant S_ .f32 0x358637BD#32))))))
      (broadcastInDim S4x8x8192x128 ![0, 1, 2, 3] bcast_S1x1x1x128_S4x8x8192x128_0_1_2_3
        (broadcastInDim S1x1x1x128 ![3] bcast_S128_S1x1x1x128_3 (shapeCast S128 G shapeCasts_S1x128_S128))))
    (broadcastInDim S4x8x8192x128 ![] bcast_S_S4x8x8192x128 (constant S_ .f32 0x3F24FD5C#32))

/-- The heads laid side by side, all batches in one table of rows. -/
def rOut (N : FVec Ideal S4x8x8192x128 .f32) : FVec Ideal S32768x1024 .bf16 :=
  truncf .bf16 (shapeCast S32768x1024 (shapeCast S4x8192x1024 (transpose S4x8192x8x128 [0, 2, 1, 3] N
    transposes_S4x8x8192x128_S4x8192x8x128_0_2_1_3) shapeCasts_S4x8192x8x128_S4x8192x1024)
    shapeCasts_S4x8192x1024_S32768x1024) bitsLt_bf16_f32

/-- The reference's result, in stages. -/
theorem res_stages (m : (ℓ : Loc nD τ sig) → Buf (Elt Ideal) ℓ) (c : Dev nD) : res_out0 m c =
    rOut (rN (rO (rP (rE (rS (rQ (m ((c.tc : Thread nD τ).loc main_arg0))) (rK (m ((c.tc : Thread nD τ).loc main_arg0))))))
      (rLam (m ((c.tc : Thread nD τ).loc main_arg1)) (m ((c.tc : Thread nD τ).loc main_arg2))
        (m ((c.tc : Thread nD τ).loc main_arg3)) (m ((c.tc : Thread nD τ).loc main_arg4)))
      (rV (m ((c.tc : Thread nD τ).loc main_arg0)))) (m ((c.tc : Thread nD τ).loc main_arg5))) := by
  unfold res_out0 res_main_v76 rOut rN rO rP rE rS rQ rK rV rLam rLat rCtx
  rfl

end Cert.ReferenceIdeal.Value
-- ==== Proof.RefPts.lean ====
module

public import proofs.«01_k».proof.Proof.RefTerm
public import proofs.«01_k».proof.Proof.Attn
set_option maxRecDepth 16384
@[expose] public noncomputable section
open Idealize.ShloMosaic Idealize.ShloMosaic.TcCoe Idealize.SL.Sem
namespace Cert.ReferenceIdeal.Value
open Cert.ReferenceIdeal Cert.ReferenceIdeal.Gen Cert.Attn

theorem rQ_at (X : FVec Ideal S33792x3072 .bf16) (b : Fin 4) (h : Fin 8) (c : Fin 2) (q : Fin 8192) (d : Fin 64) :
    rQ X (ix5 b h c q d) = X (ix2 ⟨b.val * 8192 + q.val, by omega⟩ ⟨h.val * 128 + c.val * 64 + d.val, by omega⟩) := by
  pointwise [rQ, rLat]

theorem rK_at (X : FVec Ideal S33792x3072 .bf16) (b : Fin 4) (h : Fin 8) (c : Fin 2) (k : Fin 8448) (d : Fin 64) :
    rK X (ix5 b h c k d) = X (ix2 (krow b k) ⟨1024 + (h.val * 128 + c.val * 64 + d.val), by omega⟩) := by
  have e : rK X (ix5 b h c k d) = if hk : k.val < 8192 then X (ix2 ⟨b.val * 8192 + k.val, by omega⟩ ⟨1024 + (h.val * 128 + c.val * 64 + d.val), by omega⟩)
      else X (ix2 ⟨32768 + (b.val * 256 + (k.val - 8192)), by omega⟩ ⟨1024 + (h.val * 128 + c.val * 64 + d.val), by omega⟩) := by
    pointwise [rK, rLat, rCtx]
  rw [e]
  by_cases hk : k.val < 8192
  · have : krow b k = ⟨b.val * 8192 + k.val, by omega⟩ := if_pos hk
    rw [dif_pos hk, this]
  · have : krow b k = ⟨32768 + (b.val * 256 + (k.val - 8192)), by omega⟩ := if_neg hk
    rw [dif_neg hk, this]

theorem rV_at (X : FVec Ideal S33792x3072 .bf16) (b : Fin 4) (h : Fin 8) (k : Fin 8448) (d : Fin 128) :
    rV X (ix4 b h k d) = X (ix2 (krow b k) ⟨2048 + (h.val * 128 + d.val), by omega⟩) := by
  have e : rV X (ix4 b h k d) = if hk : k.val < 8192 then X (ix2 ⟨b.val * 8192 + k.val, by omega⟩ ⟨2048 + (h.val * 128 + d.val), by omega⟩)
      else X (ix2 ⟨32768 + (b.val * 256 + (k.val - 8192)), by omega⟩ ⟨2048 + (h.val * 128 + d.val), by omega⟩) := by
    pointwise [rV, rLat, rCtx]
  rw [e]
  by_cases hk : k.val < 8192
  · have : krow b k = ⟨b.val * 8192 + k.val, by omega⟩ := if_pos hk
    rw [dif_pos hk, this]
  · have : krow b k = ⟨32768 + (b.val * 256 + (k.val - 8192)), by omega⟩ := if_neg hk
    rw [dif_neg hk, this]

theorem rS_at (Q : FVec Ideal S4x8x2x8192x64 .f32) (K : FVec Ideal S4x8x2x8448x64 .f32) (b : Fin 4) (h : Fin 8) (c : Fin 2) (q : Fin 8192) (k : Fin 8448) :
    rS Q K (ix5 b h c q k) = (∑ x, Q (ix5 b h c q x) * K (ix5 b h c k x)) * Ideal.ofBits .f32 0x3E000000#32 := by
  pointwise [rS]

theorem rP_at (E : FVec Ideal S4x8x2x8192x8448 .f32) (b : Fin 4) (h : Fin 8) (c : Fin 2) (q : Fin 8192) (k : Fin 8448) :
    rP E (ix5 b h c q k) = Ideal.div (E (ix5 b h c q k)) (∑ x, E (ix5 b h c q x)) := by
  pointwise [rP]

theorem rO_at (P : FVec Ideal S4x8x2x8192x8448 .f32) (lam : FVec Ideal S_ .f32) (V : FVec Ideal S4x8x8448x128 .f32)
    (b : Fin 4) (h : Fin 8) (q : Fin 8192) (d : Fin 128) :
    rO P lam V (ix4 b h q d) = ∑ x, (P (ix5 b h 0 q x) - lam ix0 * P (ix5 b h 1 q x)) * V (ix4 b h x d) := by
  pointwise [rO]

theorem rN_at (O : FVec Ideal S4x8x8192x128 .f32) (G : FVec Ideal S1x128 .f32) (b : Fin 4) (h : Fin 8) (q : Fin 8192) (d : Fin 128) :
    rN O G (ix4 b h q d) = Cert.KernelIdeal.Hand.nrm (fun e => O (ix4 b h q e)) (G (ix2 0 d)) d := by
  unfold Cert.KernelIdeal.Hand.nrm
  pointwise [rN]

theorem rOut_at (N : FVec Ideal S4x8x8192x128 .f32) (r : Fin 32768) (l : Fin 1024) :
    rOut N (ix2 r l) = N (ix4 ⟨r.val / 8192, by omega⟩ ⟨l.val / 128, by omega⟩ ⟨r.val % 8192, by omega⟩ ⟨l.val % 128, by omega⟩) := by
  pointwise [rOut]

theorem rLam_at (L1 L2 L3 L4 : FVec Ideal S1x64 .f32) (i : S_.Idx) :
    rLam L1 L2 L3 L4 i = Ideal.exp (∑ x, L1 (ix2 0 x) * L2 (ix2 0 x)) - Ideal.exp (∑ x, L3 (ix2 0 x) * L4 (ix2 0 x))
      + Ideal.ofBits .f32 0x3EB60549#32 := by
  pointwise [rLam]

/-- A row's largest score. -/
def rMx (S : FVec Ideal S4x8x2x8192x8448 .f32) : FVec Ideal S4x8x2x8192 .f32 :=
  Host.reduce FloatOps.maximumf S (constant S_ .f32 0xFF800000#32) reducesTo_S4x8x2x8192x8448_S4x8x2x8192_d4 h_S_

theorem rMx_at (S : FVec Ideal S4x8x2x8192x8448 .f32) (b : Fin 4) (h : Fin 8) (c : Fin 2) (q : Fin 8192) :
    rMx S (ix4 b h c q) = (Finset.univ : Finset (Fin 8448)).fold max (Ideal.ofBits .f32 0xFF800000#32) (fun k => S (ix5 b h c q k)) := by
  exact lastMax_at 4 8 2 8192 8448 S _ _ _ b h c q

/-- The exponentials over a given table of row maxima. -/
def rE' (S : FVec Ideal S4x8x2x8192x8448 .f32) (M : FVec Ideal S4x8x2x8192 .f32) : FVec Ideal S4x8x2x8192x8448 .f32 :=
  Host.exp (subf S (broadcastInDim S4x8x2x8192x8448 ![0, 1, 2, 3, 4] bcast_S4x8x2x8192x1_S4x8x2x8192x8448_0_1_2_3_4
    (broadcastInDim S4x8x2x8192x1 ![0, 1, 2, 3] bcast_S4x8x2x8192_S4x8x2x8192x1_0_1_2_3
      (maximumf (broadcastInDim S4x8x2x8192 ![] bcast_S_S4x8x2x8192 (constant S_ .f32 0xFF800000#32)) M))))

theorem rE'_at (S : FVec Ideal S4x8x2x8192x8448 .f32) (M : FVec Ideal S4x8x2x8192 .f32) (b : Fin 4) (h : Fin 8) (c : Fin 2) (q : Fin 8192) (k : Fin 8448) :
    rE' S M (ix5 b h c q k) = Ideal.exp (S (ix5 b h c q k) - max (Ideal.ofBits .f32 0xFF800000#32) (M (ix4 b h c q))) := by
  pointwise [rE']

theorem rE_at (S : FVec Ideal S4x8x2x8192x8448 .f32) (b : Fin 4) (h : Fin 8) (c : Fin 2) (q : Fin 8192) (k : Fin 8448) :
    rE S (ix5 b h c q k) = Ideal.exp (S (ix5 b h c q k) - max (Ideal.ofBits .f32 0xFF800000#32)
      ((Finset.univ : Finset (Fin 8448)).fold max (Ideal.ofBits .f32 0xFF800000#32) (fun k => S (ix5 b h c q k)))) := by
  rw [← rMx_at]
  exact rE'_at S (rMx S) b h c q k

end Cert.ReferenceIdeal.Value
-- ==== Proof.RefVal.lean ====
module

public import proofs.«01_k».proof.Proof.RefPts
set_option maxRecDepth 16384
@[expose] public noncomputable section
open Idealize.ShloMosaic Idealize.ShloMosaic.TcCoe Idealize.SL.Sem
namespace Cert.ReferenceIdeal.Value
open Cert.ReferenceIdeal Cert.ReferenceIdeal.Gen Cert.Attn
variable {X : FVec Ideal S33792x3072 .bf16} {x : Fin 33792 → Fin 3072 → ℝ} (hx : ∀ r k, X (ix2 r k) = (x r k : EReal))
include hx

theorem rS_real (b : Fin 4) (h : Fin 8) (c : Fin 2) (q : Fin 8192) (k : Fin 8448) :
    rS (rQ X) (rK X) (ix5 b h c q k) = ((sr x b h c q k * (1 / 8) : ℝ) : EReal) := by
  have h8 : Ideal.ofBits .f32 0x3E000000#32 = ((1 / 8 : ℝ) : EReal) := by
    simp [Ideal.ofBits, Ideal.ieee, -EReal.coe_mul]
    norm_num
  rw [rS_at, h8]
  simp only [rQ_at, rK_at, hx]
  simp only [← EReal.coe_mul]
  rw [← coe_sum, ← EReal.coe_mul]
  rfl

theorem rE_real (b : Fin 4) (h : Fin 8) (c : Fin 2) (q : Fin 8192) :
    ∃ μ : ℝ, ∀ k : Fin 8448, rE (rS (rQ X) (rK X)) (ix5 b h c q k) = ((wr x b h c q k * Real.exp (-μ) : ℝ) : EReal) := by
  obtain ⟨μ, hμ⟩ := fold_real (n := 8448) (by decide) (fun k => sr x b h c q k * (1 / 8))
  have hb : Ideal.ofBits .f32 0xFF800000#32 = ⊥ := by simp [Ideal.ofBits, Ideal.ieee]
  refine ⟨μ, fun k => ?_⟩
  rw [rE_at]
  simp only [rS_real hx]
  rw [hμ, hb, max_eq_right bot_le, ← EReal.coe_sub, Ideal.exp_coe, sub_eq_add_neg, Real.exp_add]
  rfl

theorem rP_real (b : Fin 4) (h : Fin 8) (c : Fin 2) (q : Fin 8192) (k : Fin 8448) :
    rP (rE (rS (rQ X) (rK X))) (ix5 b h c q k) = ((wr x b h c q k / ∑ k, wr x b h c q k : ℝ) : EReal) := by
  obtain ⟨μ, hμ⟩ := rE_real hx b h c q
  have hw := wr_pos x b h c q
  have he := Real.exp_pos (-μ)
  rw [rP_at]
  simp only [hμ]
  rw [← coe_sum, ← Finset.sum_mul, Ideal.div_coe (mul_pos hw he).ne', ← EReal.coe_mul]
  congr 1
  field_simp

theorem rV_real (b : Fin 4) (h : Fin 8) (k : Fin 8448) (d : Fin 128) : rV X (ix4 b h k d) = (vr x b h k d : EReal) := by
  rw [rV_at, hx]
  rfl

theorem rO_real (lam : ℝ) (L : FVec Ideal S_ .f32) (hL : L ix0 = (lam : EReal)) (b : Fin 4) (h : Fin 8) (q : Fin 8192) (d : Fin 128) :
    rO (rP (rE (rS (rQ X) (rK X)))) L (rV X) (ix4 b h q d) = (oo x lam b h q d : EReal) := by
  rw [rO_at]
  simp only [rP_real hx, rV_real hx, hL]
  simp only [← EReal.coe_mul, ← EReal.coe_sub]
  rw [← coe_sum]
  congr 1
  unfold oo ar
  rw [Finset.sum_div, Finset.sum_div, Finset.mul_sum, ← Finset.sum_sub_distrib]
  refine Finset.sum_congr rfl fun k _ => ?_
  ring

/-- An entry of the reference's result. -/
theorem ref_at (lam : ℝ) (L : FVec Ideal S_ .f32) (hL : L ix0 = (lam : EReal)) (G : FVec Ideal S1x128 .f32) (r : Fin 32768) (l : Fin 1024) :
    rOut (rN (rO (rP (rE (rS (rQ X) (rK X)))) L (rV X)) G) (ix2 r l)
      = Cert.KernelIdeal.Hand.nrm
          (fun e => (oo x lam ⟨r.val / 8192, by omega⟩ ⟨l.val / 128, by omega⟩ ⟨r.val % 8192, by omega⟩ e : EReal))
          (G (ix2 0 ⟨l.val % 128, by omega⟩)) ⟨l.val % 128, by omega⟩ := by
  rw [rOut_at, rN_at]
  simp only [rO_real hx lam L hL]

end Cert.ReferenceIdeal.Value
-- ==== Proof.PreFin.lean ====
module

public import proofs.«01_k».proof.Pre_finite
public import Idealize.ShloMosaic.Lib.Pointwise
public import Idealize.ShloMosaic.Lib.ReduceAll
set_option maxRecDepth 16384
@[expose] public noncomputable section
open Idealize.ShloMosaic
namespace Cert.Pre_finite
open Facts

/-- The side conditions of the precondition's operations. -/
instance facts : Cert.Pre_finite.Facts where
  bitsLt_bf16_f32 := by decide
  bcast_S_S33792x3072 := by decide
  reducesTo_S33792x3072_S_d0_1 := by decide
  h_S_ := by decide
  bcast_S_S1x64 := by decide
  reducesTo_S1x64_S_d0_1 := by decide

theorem real_of (a : EReal) (h1 : FloatOps.cmpf (F := Ideal) (φ := .f32) .olt a (Ideal.ofBits .f32 0x7F800000#32) = 1#1)
    (h2 : FloatOps.cmpf (F := Ideal) (φ := .f32) .ogt a (Ideal.ofBits .f32 0xFF800000#32) = 1#1) : ∃ r : ℝ, a = r := by
  have hb : Ideal.ofBits .f32 0xFF800000#32 = ⊥ := by simp [Ideal.ofBits, Ideal.ieee]
  have ht : Ideal.ofBits .f32 0x7F800000#32 = ⊤ := by simp [Ideal.ofBits, Ideal.ieee]
  rw [ht] at h1
  rw [hb] at h2
  have l1 : a < ⊤ := by
    by_contra hc
    revert h1
    simp [FloatOps.cmpf, Ideal.cmp, hc]
  have l2 : ⊥ < a := by
    by_contra hc
    revert h2
    simp [FloatOps.cmpf, Ideal.cmp, hc]
  exact ⟨a.toReal, (EReal.coe_toReal l1.ne l2.ne').symm⟩

instance : Subsingleton S_.Idx := ⟨fun a b => funext fun i => i.elim0⟩

theorem real_all {s : Shape} (a : FVec Ideal s .f32) (hb : S_.BroadcastsInDim s (![] : Fin 0 → Fin s.rank)) {axes : List (Fin s.rank)}
    (h : s.ReducesTo axes S_) (hu : 0 < S_.numel) (j : S_.Idx)
    (e : Host.reduce IntOp.andi (andi (cmpf .olt a (broadcastInDim s ![] hb (constant S_ .f32 0x7F800000#32)))
      (cmpf .ogt a (broadcastInDim s ![] hb (constant S_ .f32 0xFF800000#32)))) (constantI S_ 1 1#1) h hu j = 1#1) (i : s.Idx) :
    ∃ r : ℝ, a i = r := by
  have := Host.reduce_andi_all _ _ h hu j e i
  have := IntOp.andi_eq_one.1 this
  exact real_of _ this.1 this.2

theorem finite_real (X : FVec Ideal S33792x3072 .bf16) (L1 L2 L3 L4 : FVec Ideal S1x64 .f32) (G : FVec Ideal S1x128 .f32)
    (e : fn (F := Ideal) X L1 L2 L3 L4 G = fun _ => 1#1) :
    (∀ i, ∃ r : ℝ, X i = r) ∧ (∀ i, ∃ r : ℝ, L1 i = r) ∧ (∀ i, ∃ r : ℝ, L2 i = r) ∧ (∀ i, ∃ r : ℝ, L3 i = r) ∧ (∀ i, ∃ r : ℝ, L4 i = r) := by
  have e0 := congrFun e ix0
  unfold fn fn_part1 fn_part2 at e0
  dsimp only at e0
  obtain ⟨e1, h4⟩ := IntOp.andi_eq_one.1 e0
  clear e0
  obtain ⟨e2, h3⟩ := IntOp.andi_eq_one.1 e1
  clear e1
  obtain ⟨e3, h2⟩ := IntOp.andi_eq_one.1 e2
  clear e2
  obtain ⟨h0, h1⟩ := IntOp.andi_eq_one.1 e3
  clear e3
  refine ⟨fun i => ?_, fun i => ?_, fun i => ?_, fun i => ?_, fun i => ?_⟩
  · exact real_all (extf .f32 X bitsLt_bf16_f32) _ _ _ _ h0 i
  · exact real_all L1 _ _ _ _ h1 i
  · exact real_all L2 _ _ _ _ h2 i
  · exact real_all L3 _ _ _ _ h3 i
  · exact real_all L4 _ _ _ _ h4 i

end Cert.Pre_finite
-- ==== Proof.Meet.lean ====
module

public import proofs.«01_k».proof.Proof.Out
public import proofs.«01_k».proof.Proof.RefVal
public import proofs.«01_k».proof.Proof.PreFin
set_option maxRecDepth 16384
@[expose] public noncomputable section
open Idealize.ShloMosaic Idealize.ShloMosaic.TcCoe Idealize.SL.Sem
open Idealize.ShloMosaic.Pipeline (Dat)
namespace Cert.KernelIdeal.Hand
open Cert.KernelIdeal Cert.KernelIdeal.Gen Cert.Attn
open Cert.ReferenceIdeal.Value (rQ rK rV rS rE rP rO rN rOut rLam rLam_at ref_at)

/-- The reference's result as a function of the six arguments. -/
def refOf (X : FVec Ideal S33792x3072 .bf16) (L1 L2 L3 L4 : FVec Ideal S1x64 .f32) (G : FVec Ideal S1x128 .f32) : FVec Ideal S32768x1024 .bf16 :=
  rOut (rN (rO (rP (rE (rS (rQ X) (rK X)))) (rLam L1 L2 L3 L4) (rV X)) G)

/-- With real lambda vectors the layer's lambda is real. -/
theorem lam_real (L1 L2 L3 L4 : FVec Ideal S1x64 .f32) (h1 : ∀ i, ∃ r : ℝ, L1 i = r) (h2 : ∀ i, ∃ r : ℝ, L2 i = r)
    (h3 : ∀ i, ∃ r : ℝ, L3 i = r) (h4 : ∀ i, ∃ r : ℝ, L4 i = r) :
    ∃ lam : ℝ, Ideal.exp (∑ x, L1 (ix2 0 x) * L2 (ix2 0 x)) - Ideal.exp (∑ x, L3 (ix2 0 x) * L4 (ix2 0 x))
      + Ideal.ofBits .f32 0x3EB60549#32 = (lam : EReal) := by
  choose a1 e1 using h1
  choose a2 e2 using h2
  choose a3 e3 using h3
  choose a4 e4 using h4
  obtain ⟨k, hk⟩ : ∃ k : ℝ, Ideal.ofBits .f32 0x3EB60549#32 = k := ⟨_, by
    simp [Ideal.ofBits, Ideal.ieee, -EReal.coe_mul]; rfl⟩
  simp only [e1, e2, e3, e4, hk, ← EReal.coe_mul]
  rw [← coe_sum, ← coe_sum, Ideal.exp_coe, Ideal.exp_coe, ← EReal.coe_sub, ← EReal.coe_add]
  exact ⟨_, rfl⟩

/-- Where the precondition holds, the kernel's result array is the reference's result of the same arguments. -/
theorem meet (m : (ℓ : Loc nD τ sig) → Buf (Elt Ideal) ℓ) (c : Dev nD)
    (hp : Cert.Pre_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = (fun _ => 1#1)) :
    (dats m 0 c).arrAt 8 cfg0.N = refOf (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  obtain ⟨h0, h1, h2, h3, h4⟩ := Cert.Pre_finite.finite_real _ _ _ _ _ _ hp
  choose xx hxx using h0
  have hx : IsReal m c (fun r k => xx (ix2 r k)) := fun r k => hxx _
  obtain ⟨lam, hl⟩ := lam_real _ _ _ _ h1 h2 h3 h4
  rw [final hx lam ((hLam_at _ _ _ _ _).trans hl)]
  funext j
  rw [eq_ix2 j]
  exact (ref_at (fun r k => hxx (ix2 r k)) lam _ ((rLam_at _ _ _ _ _).trans hl) _ _ _).symm

end Cert.KernelIdeal.Hand
-- ==== Proof.Norm.lean ====
module

public import proofs.«01_k».proof.Proof.Gen.EvenQkvIdeal.Skeleton
public import proofs.«01_k».proof.Proof.Gen.EvenQkvRefIdeal
public import Idealize.ShloMosaic.Lib.Pointwise
set_option maxRecDepth 16384
@[expose] public noncomputable section
open Idealize.ShloMosaic Idealize.ShloMosaic.TcCoe Idealize.SL.Sem
namespace Cert.Norm

/-- An entry of a row's norm, modulated: the entry over the root of the mean square, its gain, its scale and its shift. -/
def nr (x : Fin 1024 → EReal) (g sc sh : EReal) (k : Fin 1024) : EReal :=
  x k * Ideal.rsqrt (Ideal.div (∑ l : Fin 1024, x l * x l) (Ideal.ofBits .f32 0x44800000#32) + Ideal.ofBits .f32 0x358637BD#32) * g
    * (1 + sc) + sh

section
open Cert.EvenQkvIdeal Cert.EvenQkvIdeal.Gen

/-- The normed block at an index. -/
theorem pay1_at (x : Vec Ideal S512x1024 .f32) (g : Vec Ideal S1x1024 .f32) (sc sh : Vec Ideal S1x1x1024 .f32) (q : Fin 512) (k : Fin 1024) :
    k0_pay1 x g sc sh (ix2 q k) = nr (fun l => x (ix2 q l)) (g (ix2 0 k)) (sc (ix3 0 0 k)) (sh (ix3 0 0 k)) k := by
  unfold nr
  pointwise [k0_pay1]
end

section
open Cert.EvenQkvRefIdeal Cert.EvenQkvRefIdeal.Gen
variable (X : FVec Ideal S33792x1024 .f32) (g : FVec Ideal S1024 .f32) (sh sc : FVec Ideal S5x1024 .f32)

/-- An entry of the modulated norm of a row of the stream. -/
def nrow (r : Fin 33792) (k : Fin 1024) : EReal :=
  nr (fun l => X (ix2 r l)) (g (ix1 k)) (sc (ix2 ⟨r.val / 8192, by omega⟩ k)) (sh (ix2 ⟨r.val / 8192, by omega⟩ k)) k

/-- An entry of the projection of a row of the stream. -/
def pr {n : ℕ} (W : Fin 1024 → Fin n → EReal) (r : Fin 33792) (d : Fin n) : EReal := ∑ k : Fin 1024, nrow X g sh sc r k * W k d

theorem nrow_of (r : Fin 33792) (b : Fin 5) (hb : r.val / 8192 = b.val) (k : Fin 1024) :
    nrow X g sh sc r k = nr (fun l => X (ix2 r l)) (g (ix1 k)) (sc (ix2 b k)) (sh (ix2 b k)) k := by
  have h : (⟨r.val / 8192, by omega⟩ : Fin 5) = b := Fin.ext hb
  unfold nrow
  rw [h]

/-- The modulated norm of the latent rows. -/
def hl : FVec Ideal S4x8192x1024 .f32 :=
  addf (mulf (mulf (mulf (shapeCast S4x8192x1024 (extractStridedSlice S32768x1024 ![0, 0] X slices_S33792x1024_S32768x1024_0_0) shapeCasts_S32768x1024_S4x8192x1024)
    (broadcastInDim S4x8192x1024 ![0, 1, 2] bcast_S4x8192x1_S4x8192x1024_0_1_2 (Host.rsqrt (addf (Host.divf (broadcastInDim S4x8192x1 ![0, 1] bcast_S4x8192_S4x8192x1_0_1
      (Host.reduceAdd (mulf (shapeCast S4x8192x1024 (extractStridedSlice S32768x1024 ![0, 0] X slices_S33792x1024_S32768x1024_0_0) shapeCasts_S32768x1024_S4x8192x1024)
        (shapeCast S4x8192x1024 (extractStridedSlice S32768x1024 ![0, 0] X slices_S33792x1024_S32768x1024_0_0) shapeCasts_S32768x1024_S4x8192x1024))
        (constant S_ .f32 0x00000000#32) reducesTo_S4x8192x1024_S4x8192_d2 h_S_))
      (broadcastInDim S4x8192x1 ![] bcast_S_S4x8192x1 (constant S_ .f32 0x44800000#32))) (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g)))
    (broadcastInDim S4x8192x1024 ![0, 1, 2] bcast_S4x1x1024_S4x8192x1024_0_1_2 (addf (broadcastInDim S4x1x1024 ![] bcast_S_S4x1x1024 (constant S_ .f32 0x3F800000#32))
      (broadcastInDim S4x1x1024 ![0, 2] bcast_S4x1024_S4x1x1024_0_2 (extractStridedSlice S4x1024 ![0, 0] sc slices_S5x1024_S4x1024_0_0)))))
    (broadcastInDim S4x8192x1024 ![0, 1, 2] bcast_S4x1x1024_S4x8192x1024_0_1_2 (broadcastInDim S4x1x1024 ![0, 2] bcast_S4x1024_S4x1x1024_0_2
      (extractStridedSlice S4x1024 ![0, 0] sh slices_S5x1024_S4x1024_0_0)))

/-- The modulated norm of the context rows. -/
def hc : FVec Ideal S4x256x1024 .f32 :=
  addf (mulf (mulf (mulf (shapeCast S4x256x1024 (extractStridedSlice S1024x1024 ![32768, 0] X slices_S33792x1024_S1024x1024_32768_0) shapeCasts_S1024x1024_S4x256x1024)
    (broadcastInDim S4x256x1024 ![0, 1, 2] bcast_S4x256x1_S4x256x1024_0_1_2 (Host.rsqrt (addf (Host.divf (broadcastInDim S4x256x1 ![0, 1] bcast_S4x256_S4x256x1_0_1
      (Host.reduceAdd (mulf (shapeCast S4x256x1024 (extractStridedSlice S1024x1024 ![32768, 0] X slices_S33792x1024_S1024x1024_32768_0) shapeCasts_S1024x1024_S4x256x1024)
        (shapeCast S4x256x1024 (extractStridedSlice S1024x1024 ![32768, 0] X slices_S33792x1024_S1024x1024_32768_0) shapeCasts_S1024x1024_S4x256x1024))
        (constant S_ .f32 0x00000000#32) reducesTo_S4x256x1024_S4x256_d2 h_S_))
      (broadcastInDim S4x256x1 ![] bcast_S_S4x256x1 (constant S_ .f32 0x44800000#32))) (broadcastInDim S4x256x1 ![] bcast_S_S4x256x1 (constant S_ .f32 0x358637BD#32))))))
    (broadcastInDim S4x256x1024 ![0, 1, 2] bcast_S1x1x1024_S4x256x1024_0_1_2 (broadcastInDim S1x1x1024 ![2] bcast_S1024_S1x1x1024_2 g)))
    (broadcastInDim S4x256x1024 ![0, 1, 2] bcast_S1x1x1024_S4x256x1024_0_1_2 (addf (broadcastInDim S1x1x1024 ![] bcast_S_S1x1x1024 (constant S_ .f32 0x3F800000#32))
      (broadcastInDim S1x1x1024 ![0, 2] bcast_S1x1024_S1x1x1024_0_2 (extractStridedSlice S1x1024 ![4, 0] sc slices_S5x1024_S1x1024_4_0)))))
    (broadcastInDim S4x256x1024 ![0, 1, 2] bcast_S1x1x1024_S4x256x1024_0_1_2 (broadcastInDim S1x1x1024 ![0, 2] bcast_S1x1024_S1x1x1024_0_2
      (extractStridedSlice S1x1024 ![4, 0] sh slices_S5x1024_S1x1024_4_0)))

theorem hl_at (b : Fin 4) (q : Fin 8192) (k : Fin 1024) :
    hl X g sh sc (ix3 b q k) = nrow X g sh sc ⟨b.val * 8192 + q.val, by omega⟩ k := by
  rw [nrow_of X g sh sc _ ⟨b.val, by omega⟩ (by show (b.val * 8192 + q.val) / 8192 = b.val; omega)]
  unfold nr
  pointwise [hl]

theorem hc_at (b : Fin 4) (q : Fin 256) (k : Fin 1024) :
    hc X g sh sc (ix3 b q k) = nrow X g sh sc ⟨32768 + (b.val * 256 + q.val), by omega⟩ k := by
  rw [nrow_of X g sh sc _ 4 (by show (32768 + (b.val * 256 + q.val)) / 8192 = 4; omega)]
  unfold nr
  pointwise [hc]

/-- A normed block at an index, its inputs read as rows of the stream and of the tables. -/
theorem pay1_row (x : FVec Ideal Cert.EvenQkvIdeal.S512x1024 .f32) (g' : FVec Ideal Cert.EvenQkvIdeal.S1x1024 .f32)
    (sc' sh' : FVec Ideal Cert.EvenQkvIdeal.S1x1x1024 .f32) (q : Fin 512) (k : Fin 1024) (r : Fin 33792)
    (hx : ∀ l : Fin 1024, x (ix2 q l) = X (ix2 r l)) (hg : g' (ix2 0 k) = g (ix1 k))
    (hsc : ∀ i : S5x1024.Idx, (i 0 : ℕ) = r.val / 8192 → i 1 = k → sc' (ix3 0 0 k) = sc i)
    (hsh : ∀ i : S5x1024.Idx, (i 0 : ℕ) = r.val / 8192 → i 1 = k → sh' (ix3 0 0 k) = sh i) :
    Cert.EvenQkvIdeal.Gen.k0_pay1 (F := Ideal) x g' sc' sh' (ix2 q k) = nrow X g sh sc r k := by
  refine (pay1_at x g' sc' sh' q k).trans ?_
  rw [show (fun l => x (ix2 q l)) = fun l => X (ix2 r l) from funext hx, hg, hsc (ix2 ⟨r.val / 8192, by omega⟩ k) rfl rfl,
    hsh (ix2 ⟨r.val / 8192, by omega⟩ k) rfl rfl]
  rfl
end

end Cert.Norm
-- ==== Proof.OddInTables.lean ====
module

public import proofs.«01_k».proof.Proof.Norm
public import proofs.«01_k».proof.Proof.Gen.OddInIdeal.Frame
public import Idealize.ShloMosaic.Lib.Pipeline.ValueKit
set_option maxRecDepth 16384
@[expose] public noncomputable section
open Idealize.ShloMosaic Idealize.ShloMosaic.TcCoe Idealize.SL.Sem
open Idealize.ShloMosaic.Pipeline (Dat)
namespace Cert.OddInIdeal.Hand
open Cert.OddInIdeal Cert.OddInIdeal.Gen Cert.Norm
variable (m : (ℓ : Loc nD τ sig) → Buf (Elt Ideal) ℓ)

/-- The side of the square of positions. -/
def side : Vec Ideal S_ .i32 := id (constantI S_ 32 64#32)
/-- The positions of one latent. -/
def pos : Vec Ideal S8192 .i32 := iotaInDim S8192 32 0
def quo : Vec Ideal S8192 .i32 := Host.divsi pos (broadcastInDim S8192 ![] bcast_S_S8192 side)
/-- A position's row. -/
def rowI : Vec Ideal S8192 .i32 :=
  select (andi (cmpi .ne (signi pos) (broadcastInDim S8192 ![] bcast_S_S8192 (signi side)))
      (cmpi .ne (Host.remsi pos (broadcastInDim S8192 ![] bcast_S_S8192 side)) (broadcastInDim S8192 ![] bcast_S_S8192 (constantI S_ 32 0#32))))
    (subi quo (broadcastInDim S8192 ![] bcast_S_S8192 (constantI S_ 32 1#32))) quo
def side' : Vec Ideal S_ .i32 := select (cmpi .eq side (constantI S_ 32 0#32)) (constantI S_ 32 1#32) side
def rem : Vec Ideal S8192 .i32 := Host.remsi pos (broadcastInDim S8192 ![] bcast_S_S8192 side')
/-- A position's column. -/
def colI : Vec Ideal S8192 .i32 :=
  select (andi (cmpi .ne (cmpi .slt rem (broadcastInDim S8192 ![] bcast_S_S8192 (constantI S_ 32 0#32)))
        (broadcastInDim S8192 ![] bcast_S_S8192 (cmpi .slt side' (constantI S_ 32 0#32))))
      (cmpi .ne rem (broadcastInDim S8192 ![] bcast_S_S8192 (constantI S_ 32 0#32))))
    (addi rem (broadcastInDim S8192 ![] bcast_S_S8192 side')) rem
/-- The sixteen frequencies. -/
def freq : FVec Ideal S16 .f32 := Host.powf (broadcastInDim S16 ![] bcast_S_S16 (constant S_ .f32 0x461C4000#32))
  (Host.divf (Host.negf (sitofp .f32 (iotaInDim S16 32 0))) (broadcastInDim S16 ![] bcast_S_S16 (constant S_ .f32 0x41800000#32)))
/-- The angles of a coordinate: the coordinate times each frequency. -/
def ang (i : Vec Ideal S8192 .i32) : FVec Ideal S8192x16 .f32 :=
  mulf (broadcastInDim S8192x16 ![0, 1] bcast_S8192x1_S8192x16_0_1 (broadcastInDim S8192x1 ![0] bcast_S8192_S8192x1_0 (sitofp .f32 i)))
    (broadcastInDim S8192x16 ![0, 1] bcast_S1x16_S8192x16_0_1 (broadcastInDim S1x16 ![1] bcast_S16_S1x16_1 freq))

/-- Four blocks of sixteen lanes side by side. -/
def quad (a b c d : FVec Ideal S8192x16 .f32) : FVec Ideal S8192x64 .f32 :=
  concatenate S8192x64 1 [⟨S8192x16, a⟩, ⟨S8192x16, b⟩, ⟨S8192x16, c⟩, ⟨S8192x16, d⟩] concatenates_S8192x16_S8192x16_S8192x16_S8192x16_S8192x64_d1
/-- Sixty-four lanes repeated, with a constant's rows after them. -/
def table (a : FVec Ideal S8192x64 .f32) (k : FVec Ideal S_ .f32) : FVec Ideal S8704x128 .f32 :=
  concatenate S8704x128 0 [⟨S8192x128, concatenate S8192x128 1 [⟨S8192x64, a⟩, ⟨S8192x64, a⟩] concatenates_S8192x64_S8192x64_S8192x128_d1⟩,
    ⟨S512x128, broadcastInDim S512x128 ![] bcast_S_S512x128 k⟩] concatenates_S8192x128_S512x128_S8704x128_d0

theorem quad_at (a b c d : FVec Ideal S8192x16 .f32) (p : Fin 8192) (e : Fin 64) :
    quad a b c d (ix2 p e) = if e.val < 16 then a (ix2 p ⟨e.val % 16, by omega⟩) else if e.val < 32 then b (ix2 p ⟨e.val % 16, by omega⟩)
      else if e.val < 48 then c (ix2 p ⟨e.val % 16, by omega⟩) else d (ix2 p ⟨e.val % 16, by omega⟩) := by
  have low (f : FVec Ideal S8192x16 .f32) (k : ℕ) (h : k < 16) (h' : e.val % 16 < 16) (hk : k = e.val % 16) : f (ix2 p ⟨k, h⟩) = f (ix2 p ⟨e.val % 16, h'⟩) :=
    congrArg (fun k => f (ix2 p k)) (Fin.ext hk)
  have := e.isLt
  pointwise [quad]
  by_cases h1 : e.val < 16
  · rw [dif_pos h1, if_pos h1]
    refine low _ _ _ _ ?_
    omega
  rw [dif_neg h1, if_neg h1]
  by_cases h2 : e.val < 32
  · rw [dif_pos (by omega), if_pos h2]
    refine low _ _ _ _ ?_
    omega
  rw [dif_neg (by omega), if_neg h2]
  by_cases h3 : e.val < 48
  · rw [dif_pos (by omega), if_pos h3]
    refine low _ _ _ _ ?_
    omega
  rw [dif_neg (by omega), if_neg h3]
  refine low _ _ _ _ ?_
  omega
theorem table_at (a : FVec Ideal S8192x64 .f32) (k : FVec Ideal S_ .f32) (r : Fin 8704) (l : Fin 128) :
    table a k (ix2 r l) = if h : r.val < 8192 then a (ix2 ⟨r.val, h⟩ ⟨l.val % 64, by omega⟩) else k ix0 := by
  have := l.isLt
  have low (r : Fin 8192) (k : ℕ) (h : k < 64) (h' : l.val % 64 < 64) (hk : k = l.val % 64) : a (ix2 r ⟨k, h⟩) = a (ix2 r ⟨l.val % 64, h'⟩) :=
    congrArg (fun k => a (ix2 r k)) (Fin.ext hk)
  pointwise [table]
  split_ifs <;> first | rfl | (refine low _ _ _ _ ?_; omega)
/-- Two blocks of lanes side by side. -/
def dbl (a b : FVec Ideal S8192x64 .f32) : FVec Ideal S8192x128 .f32 :=
  concatenate S8192x128 1 [⟨S8192x64, a⟩, ⟨S8192x64, b⟩] concatenates_S8192x64_S8192x64_S8192x128_d1
/-- A block of rows after another. -/
def below (a : FVec Ideal S8192x128 .f32) (b : FVec Ideal S512x128 .f32) : FVec Ideal S8704x128 .f32 :=
  concatenate S8704x128 0 [⟨S8192x128, a⟩, ⟨S512x128, b⟩] concatenates_S8192x128_S512x128_S8704x128_d0

/-- A table of angles' sines, negated. -/
def neg (a : FVec Ideal S8192x16 .f32) : FVec Ideal S8192x16 .f32 := Host.negf a
/-- The operations that set the two tables together. -/
def opsT : List (HloOp τ sig (Elt Ideal)) :=
  [ StableHlo.nary ![main_v16, main_v16, main_v28, main_v28] main_v35 (fun u => quad (u 0) (u 1) (u 2) (u 3)),
    StableHlo.unary main_v22 main_v36 neg,
    StableHlo.unary main_v34 main_v37 neg,
    StableHlo.nary ![main_v36, main_v22, main_v37, main_v34] main_v38 (fun u => quad (u 0) (u 1) (u 2) (u 3)),
    StableHlo.binary main_v35 main_v35 main_v39 dbl,
    StableHlo.binary main_v38 main_v38 main_v40 dbl,
    StableHlo.nullary main_cst_2 (constant (F := Ideal) S_ .f32 0x3F800000#32),
    StableHlo.unary main_cst_2 main_v41 (broadcastInDim S512x128 ![] bcast_S_S512x128 : (⟨S_, .f32⟩ : BufTy).Contents (Elt Ideal) → (⟨S512x128, .f32⟩ : BufTy).Contents (Elt Ideal)),
    StableHlo.binary main_v39 main_v41 main_v42 below,
    StableHlo.nullary main_cst_3 (constant (F := Ideal) S_ .f32 0x00000000#32),
    StableHlo.unary main_cst_3 main_v43 (broadcastInDim S512x128 ![] bcast_S_S512x128 : (⟨S_, .f32⟩ : BufTy).Contents (Elt Ideal) → (⟨S512x128, .f32⟩ : BufTy).Contents (Elt Ideal)),
    StableHlo.binary main_v40 main_v43 main_v44 below ]

theorem ops_eq : (hostOps0_4 : List (HloOp τ sig (Elt Ideal))) = hostOps0_4.take 33 ++ (opsT ++ hostOps0_4.drop 45) := rfl

theorem tail_c (W : Valuation τ sig (Elt Ideal)) : StableHlo.after opsT W (Proc.devRef .tc main_v42)
    = table (quad (W (Proc.devRef .tc main_v16)) (W (Proc.devRef .tc main_v16)) (W (Proc.devRef .tc main_v28)) (W (Proc.devRef .tc main_v28))) (constant S_ .f32 0x3F800000#32) := by
  unfold opsT
  after_results
  rfl
theorem tail_s (W : Valuation τ sig (Elt Ideal)) : StableHlo.after opsT W (Proc.devRef .tc main_v44)
    = table (quad (neg (W (Proc.devRef .tc main_v22))) (W (Proc.devRef .tc main_v22)) (neg (W (Proc.devRef .tc main_v34))) (W (Proc.devRef .tc main_v34))) (constant S_ .f32 0x00000000#32) := by
  unfold opsT
  after_results
  rfl

/-- What the operations before the tables leave. -/
def W0 (c : Dev nD) : Valuation τ sig (Elt Ideal) :=
  StableHlo.after (List.flatten [hostOps0, hostOps0_1, hostOps0_2, hostOps0_3, hostOps0_4.take 33]) (fun b => m (c, b))

theorem W0_16 (c : Dev nD) : W0 m c (Proc.devRef .tc main_v16) = Host.cos (ang rowI) := by
  simp only [W0, hostOps0, hostOps0_1, hostOps0_2, hostOps0_3, hostOps0_4, List.take_succ_cons, List.take_zero, List.flatten_cons, List.flatten_nil, List.cons_append, List.nil_append, List.append_nil]
  after_results_simp
  rfl
theorem W0_28 (c : Dev nD) : W0 m c (Proc.devRef .tc main_v28) = Host.cos (ang colI) := by
  simp only [W0, hostOps0, hostOps0_1, hostOps0_2, hostOps0_3, hostOps0_4, List.take_succ_cons, List.take_zero, List.flatten_cons, List.flatten_nil, List.cons_append, List.nil_append, List.append_nil]
  after_results_simp
  rfl
theorem W0_22 (c : Dev nD) : W0 m c (Proc.devRef .tc main_v22) = Host.sin (ang rowI) := by
  simp only [W0, hostOps0, hostOps0_1, hostOps0_2, hostOps0_3, hostOps0_4, List.take_succ_cons, List.take_zero, List.flatten_cons, List.flatten_nil, List.cons_append, List.nil_append, List.append_nil]
  after_results_simp
  rfl
theorem W0_34 (c : Dev nD) : W0 m c (Proc.devRef .tc main_v34) = Host.sin (ang colI) := by
  simp only [W0, hostOps0, hostOps0_1, hostOps0_2, hostOps0_3, hostOps0_4, List.take_succ_cons, List.take_zero, List.flatten_cons, List.flatten_nil, List.cons_append, List.nil_append, List.append_nil]
  after_results_simp
  rfl

theorem V_cos (c : Dev nD) : V m c main_v42 = table (quad (Host.cos (ang rowI)) (Host.cos (ang rowI)) (Host.cos (ang colI)) (Host.cos (ang colI))) (constant S_ .f32 0x3F800000#32) := by
  have e : V m c main_v42 = StableHlo.after (hostOps0_4.drop 45) (StableHlo.after opsT (W0 m c)) (Proc.devRef .tc main_v42) := by
    unfold V W0
    conv_lhs => rw [ops_eq]
    simp only [List.flatten_cons, List.flatten_nil, List.append_nil, StableHlo.after_append]
  rw [e, ← W0_16 m c, ← W0_28 m c, ← tail_c (W0 m c)]
  simp only [hostOps0_4, List.drop_succ_cons, List.drop_zero]
  after_results
theorem V_sin (c : Dev nD) : V m c main_v44 = table (quad (neg (Host.sin (ang rowI))) (Host.sin (ang rowI)) (neg (Host.sin (ang colI))) (Host.sin (ang colI))) (constant S_ .f32 0x00000000#32) := by
  have e : V m c main_v44 = StableHlo.after (hostOps0_4.drop 45) (StableHlo.after opsT (W0 m c)) (Proc.devRef .tc main_v44) := by
    unfold V W0
    conv_lhs => rw [ops_eq]
    simp only [List.flatten_cons, List.flatten_nil, List.append_nil, StableHlo.after_append]
  rw [e, ← W0_22 m c, ← W0_34 m c, ← tail_s (W0 m c)]
  simp only [hostOps0_4, List.drop_succ_cons, List.drop_zero]
  after_results

/-- The cosine that column `e` of a latent row meets: of its row's angle in the first half of each 64 columns, of its column's in the second. -/
def cs (p : Fin 8192) (e : ℕ) : EReal :=
  if e % 64 < 32 then Host.cos (ang rowI) (ix2 p ⟨e % 16, by omega⟩) else Host.cos (ang colI) (ix2 p ⟨e % 16, by omega⟩)
/-- The sine that column `e` of a latent row meets. -/
def sn (p : Fin 8192) (e : ℕ) : EReal :=
  if e % 64 < 32 then Host.sin (ang rowI) (ix2 p ⟨e % 16, by omega⟩) else Host.sin (ang colI) (ix2 p ⟨e % 16, by omega⟩)

theorem cs_congr (p p' : Fin 8192) (e e' : ℕ) (hp : p.val = p'.val) (h : e % 64 = e' % 64) : cs p e = cs p' e' := by
  obtain rfl : p = p' := Fin.ext hp
  have h' : e % 16 = e' % 16 := by omega
  simp only [cs, h, h']
theorem sn_congr (p p' : Fin 8192) (e e' : ℕ) (hp : p.val = p'.val) (h : e % 64 = e' % 64) : sn p e = sn p' e' := by
  obtain rfl : p = p' := Fin.ext hp
  have h' : e % 16 = e' % 16 := by omega
  simp only [sn, h, h']

theorem neg_at (a : FVec Ideal S8192x16 .f32) (p : Fin 8192) (f : Fin 16) : neg a (ix2 p f) = -(a (ix2 p f) : EReal) := by
  pointwise [neg]

theorem cos_at (c : Dev nD) (r : Fin 8704) (l : Fin 128) :
    (show FVec Ideal S8704x128 .f32 from V m c main_v42) (ix2 r l) = if h : r.val < 8192 then cs ⟨r.val, h⟩ l.val else 1 := by
  rw [V_cos]
  refine (table_at _ _ r l).trans ?_
  by_cases h : r.val < 8192
  · rw [dif_pos h, dif_pos h, quad_at]
    unfold cs
    have e : l.val % 64 % 16 = l.val % 16 := by omega
    by_cases h1 : l.val % 64 < 16
    · simp only [h1, e, if_true, if_pos (show l.val % 64 < 32 by omega)]
    by_cases h2 : l.val % 64 < 32
    · simp only [h1, h2, e, if_true, if_false]
    simp only [h1, h2, e, if_false, ite_self]
  · rw [dif_neg h, dif_neg h]
    pointwise

theorem sin_at (c : Dev nD) (r : Fin 8704) (l : Fin 128) :
    (show FVec Ideal S8704x128 .f32 from V m c main_v44) (ix2 r l)
      = if h : r.val < 8192 then (if l.val % 32 < 16 then -sn ⟨r.val, h⟩ l.val else sn ⟨r.val, h⟩ l.val) else 0 := by
  rw [V_sin]
  refine (table_at _ _ r l).trans ?_
  by_cases h : r.val < 8192
  · rw [dif_pos h, dif_pos h, quad_at]
    unfold sn
    have e : l.val % 64 % 16 = l.val % 16 := by omega
    by_cases h1 : l.val % 64 < 16
    · simp only [h1, e, neg_at, if_true, if_pos (show l.val % 64 < 32 by omega), if_pos (show l.val % 32 < 16 by omega)]
    by_cases h2 : l.val % 64 < 32
    · simp only [h1, h2, e, if_true, if_false, if_neg (show ¬ l.val % 32 < 16 by omega)]
    by_cases h3 : l.val % 64 < 48
    · simp only [h1, h2, h3, e, neg_at, if_true, if_false, if_pos (show l.val % 32 < 16 by omega)]
    simp only [h1, h2, h3, e, if_false, if_neg (show ¬ l.val % 32 < 16 by omega)]
  · rw [dif_neg h, dif_neg h]
    pointwise

theorem pay2_at (h : Vec Ideal S512x1024 .bf16) (w : Vec Ideal S1024x1024 .bf16) (q : Fin 512) (n : Fin 1024) :
    k0_pay2 h w (ix2 q n) = (∑ k : Fin 1024, (h (ix2 q k) * w (ix2 k n) : EReal) : EReal) := by
  pointwise [k0_pay2]

theorem pay3_at (h : Vec Ideal S512x1024 .bf16) (w : Vec Ideal S1024x1024 .bf16) (q : Fin 512) (n : Fin 1024) :
    k0_pay3 h w (ix2 n q) = k0_pay2 h w (ix2 q n) := by
  generalize hA : k0_pay2 h w = A
  unfold k0_pay3
  rw [hA]
  pointwise

theorem pay5_at (h : Vec Ideal S512x1024 .bf16) (w : Vec Ideal S1024x1024 .bf16) (q : Fin 512) (n : Fin 1024) :
    k0_pay5 h w (ix2 q n) = k0_pay2 h w (ix2 q n) := by
  generalize hA : k0_pay2 h w = A
  unfold k0_pay5
  rw [hA]
  pointwise

/-- A table of 128 lanes repeated eight times, read at column `n`. -/
theorem rep (c : Fin 128 → EReal) (n : ℕ) (hn : n < 1024) :
    (if h : n < 128 then c ⟨n, h⟩ else
      if h : n - 128 < 128 then c ⟨n - 128, h⟩ else
      if h : n - 128 - 128 < 128 then c ⟨n - 128 - 128, h⟩ else
      if h : n - 128 - 128 - 128 < 128 then c ⟨n - 128 - 128 - 128, h⟩ else
      if h : n - 128 - 128 - 128 - 128 < 128 then c ⟨n - 128 - 128 - 128 - 128, h⟩ else
      if h : n - 128 - 128 - 128 - 128 - 128 < 128 then c ⟨n - 128 - 128 - 128 - 128 - 128, h⟩ else
      if h : n - 128 - 128 - 128 - 128 - 128 - 128 < 128 then
        c ⟨n - 128 - 128 - 128 - 128 - 128 - 128, h⟩ else
      c ⟨n - 128 - 128 - 128 - 128 - 128 - 128 - 128, by omega⟩) = c ⟨n % 128, by omega⟩ := by
  split_ifs <;> exact congrArg c (Fin.ext (by simp only []; omega))

/-- The lane mask: whether a column lies in the first half of its group of 32. -/
theorem lane : ∀ n : Fin 1024,
    (IntOp.cmpi CmpIPredicate.slt
            (Scalar.select
              (IntOp.andi
                (IntOp.xori
                  (IntOp.cmpi CmpIPredicate.slt
                    (IntOp.remsi ArithUnit.vector (BitVec.ofNat 32 n.val)
                      (Scalar.select (Scalar.cmpi CmpIPredicate.eq 32#32 0#32) 1#32 32#32))
                    0#32)
                  (Scalar.cmpi CmpIPredicate.slt (Scalar.select (Scalar.cmpi CmpIPredicate.eq 32#32 0#32) 1#32 32#32)
                    0#32))
                (IntOp.cmpi CmpIPredicate.ne
                  (IntOp.remsi ArithUnit.vector (BitVec.ofNat 32 n.val)
                    (Scalar.select (Scalar.cmpi CmpIPredicate.eq 32#32 0#32) 1#32 32#32))
                  0#32))
              (IntOp.addi
                (IntOp.remsi ArithUnit.vector (BitVec.ofNat 32 n.val)
                  (Scalar.select (Scalar.cmpi CmpIPredicate.eq 32#32 0#32) 1#32 32#32))
                (Scalar.select (Scalar.cmpi CmpIPredicate.eq 32#32 0#32) 1#32 32#32))
              (IntOp.remsi ArithUnit.vector (BitVec.ofNat 32 n.val)
                (Scalar.select (Scalar.cmpi CmpIPredicate.eq 32#32 0#32) 1#32 32#32)))
            16#32) = (if n.val % 32 < 16 then 1#1 else 0#1) := by
  decide +kernel

/-- The rotary product: the entry times its cosine plus its partner times its signed sine. -/
theorem pay4_at (h : Vec Ideal S512x1024 .bf16) (w : Vec Ideal S1024x1024 .bf16) (c s : Vec Ideal S512x128 .f32) (q : Fin 512) (n : Fin 1024) :
    k0_pay4 h w c s (ix2 q n) = (k0_pay2 h w (ix2 q n) * c (ix2 q ⟨n.val % 128, by omega⟩)
      + (if n.val % 32 < 16 then k0_pay2 h w (ix2 q ⟨(n.val + 1024 - 1008) % 1024, by omega⟩)
          else k0_pay2 h w (ix2 q ⟨(n.val + 1024 - 16) % 1024, by omega⟩))
        * s (ix2 q ⟨n.val % 128, by omega⟩) : EReal) := by
  generalize hA : k0_pay2 h w = A
  unfold k0_pay4
  rw [hA]
  pointwise
  rw [lane n, rep (fun d => c (ix2 q d)) n.val n.isLt, rep (fun d => s (ix2 q d)) n.val n.isLt]
  by_cases h : n.val % 32 < 16 <;> simp [h, Scalar.select]

end Cert.OddInIdeal.Hand
-- ==== Proof.OddIn.lean ====
module

public import proofs.«01_k».proof.Proof.OddInTables
public import Idealize.ShloMosaic.Lib.Claim
set_option maxRecDepth 16384
@[expose] public noncomputable section
open Idealize.ShloMosaic Idealize.ShloMosaic.TcCoe Idealize.SL.Sem
open Idealize.ShloMosaic.Pipeline (Dat)
namespace Cert.OddInIdeal.Hand
open Cert.OddInIdeal Cert.OddInIdeal.Gen Cert.Norm

/-- A column of the values among the projection's columns. -/
def val (d : Fin 1024) : Fin 3072 := ⟨2048 + d.val, by omega⟩

section Entry
variable (xs : FVec Ideal S33792x1024 .f32) (g : FVec Ideal S1024 .f32) (sh sc : FVec Ideal S5x1024 .f32) (w : FVec Ideal S1024x3072 .f32)

/-- A row's modulated norm against a column of the weight. -/
def raw (r : Fin 33792) (n : Fin 3072) : EReal := pr xs g sh sc (fun k (d : Fin 3072) => w (ix2 k d)) r n

/-- An entry of the projection: queries and keys of latent rows are turned in pairs sixteen columns apart. -/
def ent (r : Fin 33792) (n : Fin 3072) : EReal :=
  if r.val < 32768 ∧ n.val < 2048 then
    if n.val % 32 < 16 then
      raw xs g sh sc w r n * cs ⟨r.val % 8192, by omega⟩ n.val - raw xs g sh sc w r ⟨(n.val + 16) % 3072, by omega⟩ * sn ⟨r.val % 8192, by omega⟩ n.val
    else raw xs g sh sc w r n * cs ⟨r.val % 8192, by omega⟩ n.val + raw xs g sh sc w r ⟨n.val - 16, by omega⟩ * sn ⟨r.val % 8192, by omega⟩ n.val
  else raw xs g sh sc w r n
end Entry

variable (m : (ℓ : Loc nD τ sig) → Buf (Elt Ideal) ℓ)

theorem Vw (c : Dev nD) : V m c main_v45 = truncf .bf16 (show FVec Ideal S1024x3072 .f32 from m ((c : Thread nD τ).loc main_arg4)) bitsLt_bf16_f32 := by
  simp only [V, hostOps0, hostOps0_1, hostOps0_2, hostOps0_3, hostOps0_4, List.flatten_cons, List.flatten_nil, List.cons_append, List.nil_append, List.append_nil]
  after_results_simp
theorem Vg (c : Dev nD) : V m c main_v46 = broadcastInDim S1x1024 ![1] bcast_S1024_S1x1024_1 (m ((c : Thread nD τ).loc main_arg1)) := by
  simp only [V, hostOps0, hostOps0_1, hostOps0_2, hostOps0_3, hostOps0_4, List.flatten_cons, List.flatten_nil, List.cons_append, List.nil_append, List.append_nil]
  after_results_simp
theorem Vsh (c : Dev nD) : V m c main_v47 = broadcastInDim S5x1x1024 ![0, 2] bcast_S5x1024_S5x1x1024_0_2 (m ((c : Thread nD τ).loc main_arg2)) := by
  simp only [V, hostOps0, hostOps0_1, hostOps0_2, hostOps0_3, hostOps0_4, List.flatten_cons, List.flatten_nil, List.cons_append, List.nil_append, List.append_nil]
  after_results_simp
theorem Vsc (c : Dev nD) : V m c main_v48 = broadcastInDim S5x1x1024 ![0, 2] bcast_S5x1024_S5x1x1024_0_2 (m ((c : Thread nD τ).loc main_arg3)) := by
  simp only [V, hostOps0, hostOps0_1, hostOps0_2, hostOps0_3, hostOps0_4, List.flatten_cons, List.flatten_nil, List.cons_append, List.nil_append, List.append_nil]
  after_results_simp

theorem idx0 : ∀ t : Fin cfg0.N, win0_0.index t = ![t.val / 3, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![min (t.val / 3 / 16) 4, 0, 0] := (by decide +kernel : ∀ t : Fin grid0.N, _)
theorem idx3 : ∀ t : Fin cfg0.N, win0_3.index t = ![min (t.val / 3 / 16) 4, 0, 0] := (by decide +kernel : ∀ t : Fin grid0.N, _)
theorem idx4 : ∀ t : Fin cfg0.N, win0_4.index t = ![0, t.val % 3] := (by decide +kernel : ∀ t : Fin grid0.N, _)
theorem idx5 : ∀ t : Fin cfg0.N, win0_5.index t = ![if t.val / 3 < 64 then t.val / 3 % 16 else 16, 0] := (by decide +kernel : ∀ t : Fin grid0.N, _)
theorem idx6 : ∀ t : Fin cfg0.N, win0_6.index t = ![if t.val / 3 < 64 then t.val / 3 % 16 else 16, 0] := (by decide +kernel : ∀ t : Fin grid0.N, _)
theorem idx7 : ∀ t : Fin cfg0.N, win0_7.index t = ![t.val / 3, t.val % 3] := (by decide +kernel : ∀ t : Fin grid0.N, _)
theorem idx8 : ∀ t : Fin cfg0.N, win0_8.index t = ![0, t.val / 3] := (by decide +kernel : ∀ t : Fin grid0.N, _)

theorem b0_at (c : Dev nD) (t : Fin cfg0.N) (q : Fin 512) (k : Fin 1024) (i : S33792x1024.Idx)
    (h0 : (i 0 : ℕ) = t.val / 3 * 512 + q) (h1 : (i 1 : ℕ) = k) :
    (show FVec Ideal S512x1024 .f32 from iblk m c 0 t) (ix2 q k) = (show FVec Ideal S33792x1024 .f32 from m ((c : Thread nD τ).loc main_arg0)) i := by
  rw [← V_main_arg0 m c]
  blk_point [iblk, idx0 t]
theorem b1_at (c : Dev nD) (t : Fin cfg0.N) (k : Fin 1024) :
    (show FVec Ideal S1x1024 .f32 from iblk m c 1 t) (ix2 0 k) = (show FVec Ideal S1x1024 .f32 from V m c main_v46) (ix2 0 k) := by
  blk_point [iblk, idx1 t]
theorem b2_at (c : Dev nD) (t : Fin cfg0.N) (k : Fin 1024) (i : S5x1x1024.Idx)
    (h0 : (i 0 : ℕ) = min (t.val / 3 / 16) 4) (h1 : (i 1 : ℕ) = 0) (h2 : (i 2 : ℕ) = k) :
    (show FVec Ideal S1x1x1024 .f32 from iblk m c 2 t) (ix3 0 0 k) = (show FVec Ideal S5x1x1024 .f32 from V m c main_v47) i := by
  blk_point [iblk, idx2 t]
theorem b3_at (c : Dev nD) (t : Fin cfg0.N) (k : Fin 1024) (i : S5x1x1024.Idx)
    (h0 : (i 0 : ℕ) = min (t.val / 3 / 16) 4) (h1 : (i 1 : ℕ) = 0) (h2 : (i 2 : ℕ) = k) :
    (show FVec Ideal S1x1x1024 .f32 from iblk m c 3 t) (ix3 0 0 k) = (show FVec Ideal S5x1x1024 .f32 from V m c main_v48) i := by
  blk_point [iblk, idx3 t]
theorem b4_at (c : Dev nD) (t : Fin cfg0.N) (k : Fin 1024) (d : Fin 1024) (i : S1024x3072.Idx) (h0 : (i 0 : ℕ) = k) (h1 : (i 1 : ℕ) = t.val % 3 * 1024 + d) :
    (show FVec Ideal S1024x1024 .bf16 from iblk m c 4 t) (ix2 k d) = (show FVec Ideal S1024x3072 .bf16 from V m c main_v45) i := by
  blk_point [iblk, idx4 t]
theorem b5_at (c : Dev nD) (t : Fin cfg0.N) (q : Fin 512) (l : Fin 128) (i : S8704x128.Idx)
    (h0 : (i 0 : ℕ) = (if t.val / 3 < 64 then t.val / 3 % 16 else 16) * 512 + q) (h1 : (i 1 : ℕ) = l) :
    (show FVec Ideal S512x128 .f32 from iblk m c 5 t) (ix2 q l) = (show FVec Ideal S8704x128 .f32 from V m c main_v42) i := by
  blk_point [iblk, idx5 t]
theorem b6_at (c : Dev nD) (t : Fin cfg0.N) (q : Fin 512) (l : Fin 128) (i : S8704x128.Idx)
    (h0 : (i 0 : ℕ) = (if t.val / 3 < 64 then t.val / 3 % 16 else 16) * 512 + q) (h1 : (i 1 : ℕ) = l) :
    (show FVec Ideal S512x128 .f32 from iblk m c 6 t) (ix2 q l) = (show FVec Ideal S8704x128 .f32 from V m c main_v44) i := by
  blk_point [iblk, idx6 t]

/-- The normed rows a step keeps are those of its rows of the stream. -/
theorem norm_at (c : Dev nD) (t : Fin cfg0.N) (q : Fin 512) (k : Fin 1024) (r : Fin 33792) (hr : r.val = t.val / 3 * 512 + q.val) :
    k0_pay1 (F := Ideal) (iblk m c 0 t) (iblk m c 1 t) (iblk m c 3 t) (iblk m c 2 t) (ix2 q k)
      = nrow (m ((c : Thread nD τ).loc main_arg0)) (m ((c : Thread nD τ).loc main_arg1)) (m ((c : Thread nD τ).loc main_arg2))
        (m ((c : Thread nD τ).loc main_arg3)) r k := by
  have hs : r.val / 8192 = min (t.val / 3 / 16) 4 := by
    have := r.isLt
    omega
  refine pay1_row _ _ _ _ _ _ _ _ q k r (fun l => b0_at m c t q l _ hr rfl) ?_ (fun i h0 h1 => ?_) (fun i h0 h1 => ?_)
  · refine (b1_at m c t k).trans ?_
    rw [Vg]
    pointwise
  · obtain ⟨a, b, rfl⟩ : ∃ (a : Fin 5) (b : Fin 1024), i = ix2 a b := ⟨_, _, (ix2_eta _).symm⟩
    obtain rfl : b = k := h1
    refine (b3_at m c t b (ix3 a 0 b) (h0.trans hs) rfl rfl).trans ?_
    rw [Vsc]
    pointwise
  · obtain ⟨a, b, rfl⟩ : ∃ (a : Fin 5) (b : Fin 1024), i = ix2 a b := ⟨_, _, (ix2_eta _).symm⟩
    obtain rfl : b = k := h1
    refine (b2_at m c t b (ix3 a 0 b) (h0.trans hs) rfl rfl).trans ?_
    rw [Vsh]
    pointwise

/-- The first and second steps of three leave in the buffer they keep the normed rows of their block of the stream. -/
theorem kept_at (c : Dev nD) (t : Fin cfg0.N) (h : t.val % 3 ≤ 1) (q : Fin 512) (k : Fin 1024) (r : Fin 33792) (hr : r.val = t.val / 3 * 512 + q.val) :
    (outsAt0 m c t.val t.isLt).2.2 (ix2 q k) = nrow (m ((c : Thread nD τ).loc main_arg0)) (m ((c : Thread nD τ).loc main_arg1)) (m ((c : Thread nD τ).loc main_arg2))
        (m ((c : Thread nD τ).loc main_arg3)) r k := by
  have first (t : Fin cfg0.N) (h : t.val % 3 = 0) (hr : r.val = t.val / 3 * 512 + q.val) :
      (outsAt0 m c t.val t.isLt).2.2 (ix2 q k) = nrow (m ((c : Thread nD τ).loc main_arg0)) (m ((c : Thread nD τ).loc main_arg1)) (m ((c : Thread nD τ).loc main_arg2))
        (m ((c : Thread nD τ).loc main_arg3)) r k := by
    rw [outsAt0_A m c t h (by omega) (by omega) (by omega)]
    unfold sout0_A_0
    dsimp only
    frame_out
    exact norm_at m c t q k r hr
  by_cases h0 : t.val % 3 = 0
  · exact first t h0 hr
  · rw [outsAt0_B m c t h0 (by omega) h (by omega)]
    unfold sout0_B_0
    dsimp only
    exact first ⟨t.val - 1, Nat.lt_of_le_of_lt (Nat.sub_le _ _) t.isLt⟩ (by show (t.val - 1) % 3 = 0; omega)
      (by show r.val = (t.val - 1) / 3 * 512 + q.val; omega)

/-- A product of normed rows with a block of the weight. -/
theorem point (c : Dev nD) (t : Fin cfg0.N) (h : Vec Ideal S512x1024 .bf16) (q : Fin 512) (d : Fin 1024) (r : Fin 33792) (n : Fin 3072) (hn : n.val = t.val % 3 * 1024 + d.val)
    (hh : ∀ k : Fin 1024, h (ix2 q k) = nrow (m ((c : Thread nD τ).loc main_arg0)) (m ((c : Thread nD τ).loc main_arg1)) (m ((c : Thread nD τ).loc main_arg2))
        (m ((c : Thread nD τ).loc main_arg3)) r k) :
    k0_pay2 (F := Ideal) h (iblk m c 4 t) (ix2 q d)
      = raw (m ((c : Thread nD τ).loc main_arg0)) (m ((c : Thread nD τ).loc main_arg1)) (m ((c : Thread nD τ).loc main_arg2))
        (m ((c : Thread nD τ).loc main_arg3)) (m ((c : Thread nD τ).loc main_arg4)) r n := by
  refine (pay2_at _ _ q d).trans ?_
  unfold raw pr
  refine Finset.sum_congr rfl fun k _ => congrArg₂ (· * ·) (hh k) ?_
  refine (b4_at m c t k d (ix2 k n) rfl hn).trans ?_
  rw [Vw]
  pointwise

/-- A block of queries or keys: the product, turned by its rows' angles. -/
theorem turned (c : Dev nD) (t : Fin cfg0.N) (h : Vec Ideal S512x1024 .bf16) (q : Fin 512) (d : Fin 1024) (r : Fin 33792) (n : Fin 3072) (ht : t.val % 3 ≤ 1)
    (hr : r.val = t.val / 3 * 512 + q.val) (hn : n.val = t.val % 3 * 1024 + d.val)
    (hh : ∀ k : Fin 1024, h (ix2 q k) = nrow (m ((c : Thread nD τ).loc main_arg0)) (m ((c : Thread nD τ).loc main_arg1)) (m ((c : Thread nD τ).loc main_arg2))
        (m ((c : Thread nD τ).loc main_arg3)) r k) :
    k0_pay4 (F := Ideal) h (iblk m c 4 t) (iblk m c 5 t) (iblk m c 6 t) (ix2 q d)
      = ent (m ((c : Thread nD τ).loc main_arg0)) (m ((c : Thread nD τ).loc main_arg1)) (m ((c : Thread nD τ).loc main_arg2))
        (m ((c : Thread nD τ).loc main_arg3)) (m ((c : Thread nD τ).loc main_arg4)) r n := by
  have hq := q.isLt
  have hd := d.isLt
  obtain ⟨a, ha⟩ : ∃ a : Fin 8704, a.val = (if t.val / 3 < 64 then t.val / 3 % 16 else 16) * 512 + q.val :=
    ⟨⟨_, by split_ifs <;> omega⟩, rfl⟩
  refine (pay4_at h _ _ _ q d).trans ?_
  have partner : (if d.val % 32 < 16 then k0_pay2 (F := Ideal) h (iblk m c 4 t) (ix2 q ⟨(d.val + 1024 - 1008) % 1024, by omega⟩)
      else k0_pay2 (F := Ideal) h (iblk m c 4 t) (ix2 q ⟨(d.val + 1024 - 16) % 1024, by omega⟩))
      = if n.val % 32 < 16 then raw (m ((c : Thread nD τ).loc main_arg0)) (m ((c : Thread nD τ).loc main_arg1)) (m ((c : Thread nD τ).loc main_arg2))
        (m ((c : Thread nD τ).loc main_arg3)) (m ((c : Thread nD τ).loc main_arg4)) r ⟨(n.val + 16) % 3072, by omega⟩
      else raw (m ((c : Thread nD τ).loc main_arg0)) (m ((c : Thread nD τ).loc main_arg1)) (m ((c : Thread nD τ).loc main_arg2))
        (m ((c : Thread nD τ).loc main_arg3)) (m ((c : Thread nD τ).loc main_arg4)) r ⟨n.val - 16, by omega⟩ := by
    by_cases h1 : d.val % 32 < 16
    · rw [if_pos h1, if_pos (show n.val % 32 < 16 by omega)]
      exact point m c t h q _ r _ (by show (n.val + 16) % 3072 = t.val % 3 * 1024 + (d.val + 1024 - 1008) % 1024; omega) hh
    · rw [if_neg h1, if_neg (show ¬ n.val % 32 < 16 by omega)]
      exact point m c t h q _ r _ (by show n.val - 16 = t.val % 3 * 1024 + (d.val + 1024 - 16) % 1024; omega) hh
  refine (congrArg₂ (· + ·) (congrArg₂ (· * ·) (point m c t h q d r n hn hh)
      ((b5_at m c t q ⟨d.val % 128, by omega⟩ (ix2 a ⟨d.val % 128, by omega⟩) ha rfl).trans (cos_at m c _ _)))
    (congrArg₂ (· * ·) partner ((b6_at m c t q ⟨d.val % 128, by omega⟩ (ix2 a ⟨d.val % 128, by omega⟩) ha rfl).trans (sin_at m c _ _)))).trans ?_
  unfold ent
  by_cases h0 : r.val < 32768
  · have hi : t.val / 3 < 64 := by omega
    rw [if_pos hi] at ha
    have h8 : a.val < 8192 := by omega
    have hp : a.val = r.val % 8192 := by omega
    rw [if_pos (show r.val < 32768 ∧ n.val < 2048 from ⟨h0, by omega⟩)]
    by_cases h1 : n.val % 32 < 16
    · have h2 : d.val % 128 % 32 < 16 := by omega
      simp only [h8, h1, h2, dif_pos, if_true]
      rw [cs_congr ⟨a.val, h8⟩ ⟨r.val % 8192, by omega⟩ (d.val % 128) n.val hp (by omega),
        sn_congr ⟨a.val, h8⟩ ⟨r.val % 8192, by omega⟩ (d.val % 128) n.val hp (by omega), mul_neg, sub_eq_add_neg]
    · have h2 : ¬ d.val % 128 % 32 < 16 := by omega
      simp only [h8, h1, h2, dif_pos, if_false]
      rw [cs_congr ⟨a.val, h8⟩ ⟨r.val % 8192, by omega⟩ (d.val % 128) n.val hp (by omega),
        sn_congr ⟨a.val, h8⟩ ⟨r.val % 8192, by omega⟩ (d.val % 128) n.val hp (by omega)]
  · have hi : ¬ t.val / 3 < 64 := by omega
    rw [if_neg hi] at ha
    have h8 : ¬ a.val < 8192 := by omega
    rw [dif_neg h8, dif_neg h8, if_neg (show ¬ (r.val < 32768 ∧ n.val < 2048) from fun x => h0 x.1), mul_one, mul_zero, add_zero]

/-- What a step leaves of its block of the first result. -/
theorem out7_at (c : Dev nD) (t : Fin cfg0.N) (q : Fin 512) (d : Fin 1024) (r : Fin 33792) (n : Fin 3072) (hr : r.val = t.val / 3 * 512 + q.val) (hn : n.val = t.val % 3 * 1024 + d.val) :
    (outsAt0 m c t.val t.isLt).1 (ix2 q d) = ent (m ((c : Thread nD τ).loc main_arg0)) (m ((c : Thread nD τ).loc main_arg1)) (m ((c : Thread nD τ).loc main_arg2))
        (m ((c : Thread nD τ).loc main_arg3)) (m ((c : Thread nD τ).loc main_arg4)) r n := by
  by_cases h : t.val % 3 = 0
  · rw [outsAt0_A m c t h (by omega) (by omega) (by omega)]
    unfold out0_A_7
    dsimp only
    frame_out
    exact turned m c t _ q d r n (by omega) hr hn fun k => norm_at m c t q k r hr
  have kept (k : Fin 1024) := kept_at m c ⟨t.val - 1, Nat.lt_of_le_of_lt (Nat.sub_le _ _) t.isLt⟩ (by show (t.val - 1) % 3 ≤ 1; omega) q k r
      (by show r.val = (t.val - 1) / 3 * 512 + q.val; omega)
  by_cases h2 : t.val % 3 = 2
  · rw [outsAt0_C m c t h h2 (by omega) h2]
    unfold out0_C_7
    dsimp only
    frame_out
    refine (pay5_at _ _ q d).trans ((point m c t _ q d r n hn fun k => ?_).trans ?_)
    · rw [(Memref.isWhole_whole _).read_unread]
      exact kept k
    · unfold ent
      rw [if_neg (by omega)]
  · rw [outsAt0_B m c t h h2 (by omega) h2]
    unfold out0_B_7
    dsimp only
    frame_out
    refine turned m c t _ q d r n (by omega) hr hn fun k => ?_
    rw [(Memref.isWhole_whole _).read_unread]
    exact kept k

/-- What the third step of three leaves of its block of the second result. -/
theorem out8_at (c : Dev nD) (t : Fin cfg0.N) (h2 : t.val % 3 = 2) (q : Fin 512) (d : Fin 1024) (r : Fin 33792) (n : Fin 3072) (hr : r.val = t.val / 3 * 512 + q.val) (hn : n.val = 2048 + d.val) :
    (outsAt0 m c t.val t.isLt).2.1 (ix2 d q) = ent (m ((c : Thread nD τ).loc main_arg0)) (m ((c : Thread nD τ).loc main_arg1)) (m ((c : Thread nD τ).loc main_arg2))
        (m ((c : Thread nD τ).loc main_arg3)) (m ((c : Thread nD τ).loc main_arg4)) r n := by
  have h : ¬ t.val % 3 = 0 := by omega
  have kept (k : Fin 1024) := kept_at m c ⟨t.val - 1, Nat.lt_of_le_of_lt (Nat.sub_le _ _) t.isLt⟩ (by show (t.val - 1) % 3 ≤ 1; omega) q k r
      (by show r.val = (t.val - 1) / 3 * 512 + q.val; omega)
  rw [outsAt0_C m c t h h2 (by omega) h2]
  unfold out0_C_8
  dsimp only
  frame_out
  refine (pay3_at _ _ q d).trans ((point m c t _ q d r n (by omega) fun k => ?_).trans ?_)
  · rw [(Memref.isWhole_whole _).read_unread]
    exact kept k
  · unfold ent
    rw [if_neg (by omega)]

/-- The kernel's first array: queries and keys turned, values plain. -/
theorem final7 (c : Dev nD) : (dats m 0 c).arrAt 7 cfg0.N = (fun j : S33792x3072.Idx =>
    ent (m ((c : Thread nD τ).loc main_arg0)) (m ((c : Thread nD τ).loc main_arg1)) (m ((c : Thread nD τ).loc main_arg2))
      (m ((c : Thread nD τ).loc main_arg3)) (m ((c : Thread nD τ).loc main_arg4)) (j 0) (j 1)) := by
  refine (dats m 0 c).arrAt_eq_of_covers 7 _ (by decide +kernel) fun t hf y => ?_
  blk_simp
  rw [after0_7]
  obtain ⟨q, d, rfl⟩ : ∃ (q : Fin 512) (d : Fin 1024), (show S512x1024.Idx from y) = ix2 q d := ⟨_, _, (ix2_eta _).symm⟩
  have e7 := idx7 t
  have E : (((win0_7.blk t).view.emb (ix2 q d) 0 : Fin 33792) : ℕ) = t.val / 3 * 512 + q.val
      ∧ (((win0_7.blk t).view.emb (ix2 q d) 1 : Fin 3072) : ℕ) = t.val % 3 * 1024 + d.val := by
    constructor
    · blk_simp [e7]
    · blk_simp [e7]
  exact out7_at m c t q d _ _ E.1 E.2

/-- The kernel's second array: the values, transposed. -/
theorem final8 (c : Dev nD) : (dats m 0 c).arrAt 8 cfg0.N = (fun j : S1024x33792.Idx =>
    ent (m ((c : Thread nD τ).loc main_arg0)) (m ((c : Thread nD τ).loc main_arg1)) (m ((c : Thread nD τ).loc main_arg2))
      (m ((c : Thread nD τ).loc main_arg3)) (m ((c : Thread nD τ).loc main_arg4)) (j 1) (val (j 0))) := by
  refine (dats m 0 c).arrAt_eq_of_covers 8 _ (by decide +kernel) fun t hf y => ?_
  blk_simp
  rw [after0_8]
  obtain ⟨d, q, rfl⟩ : ∃ (d : Fin 1024) (q : Fin 512), (show S1024x512.Idx from y) = ix2 d q := ⟨_, _, (ix2_eta _).symm⟩
  have e8 := idx8 t
  have E : (((win0_8.blk t).view.emb (ix2 d q) 1 : Fin 33792) : ℕ) = t.val / 3 * 512 + q.val
      ∧ (((win0_8.blk t).view.emb (ix2 d q) 0 : Fin 1024) : ℕ) = d.val := by
    constructor
    · blk_simp [e8]
    · blk_simp [e8]
  exact out8_at m c t ((flush0_8 t).mp hf) q d _ _ E.1 (congrArg (2048 + ·) E.2 : (val ((win0_8.blk t).view.emb (ix2 d q) 0)).val = 2048 + d.val)

variable (ρ : Dev nD → PrngReg)

/-- The program's two results and its arguments when it ends. -/
theorem run_blocks : θ_run defs (onTc (τ := τ) (main (F := Ideal))) ⟨m, fun _ => 0, ρ⟩ fun r => ∀ c : Dev nD,
      r.2.mem ((c : Thread nD τ).loc main_v49_0) = (dats m 0 c).arrAt 7 cfg0.N
      ∧ r.2.mem ((c : Thread nD τ).loc main_v49_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 7, (h c).1 8,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.OddInIdeal.Hand
-- ==== Proof.OddInRef.lean ====
module

public import proofs.«01_k».proof.Proof.OddIn
public import proofs.«01_k».proof.Proof.Gen.OddInRefIdeal.Run
set_option maxRecDepth 16384
@[expose] public noncomputable section
open Idealize.ShloMosaic Idealize.ShloMosaic.TcCoe Idealize.SL.Sem Idealize.ShloMosaic.StableHlo
namespace Cert.OddInRefIdeal.Hand
open Cert.OddInRefIdeal Cert.OddInRefIdeal.Gen Cert.OddInRefIdeal.Value Cert.Norm
open Cert.OddInIdeal.Hand (ang rowI colI cs sn raw ent val)

/-- The latent rows against the whole weight. -/
def prod (L : FVec Ideal S4x8192x1024 .f32) (w : FVec Ideal S1024x3072 .f32) : FVec Ideal S4x8192x3072 .f32 :=
  Host.dotGeneral dot_S4x8192x1024_S1024x3072_S4x8192x3072_2_0_01_1_n_n none L w

theorem prod_at (L : FVec Ideal S4x8192x1024 .f32) (w : FVec Ideal S1024x3072 .f32) (b : Fin 4) (p : Fin 8192) (n : Fin 3072) :
    prod L w (ix3 b p n) = ∑ k : Fin 1024, (L (ix3 b p k) * w (ix2 k n) : EReal) := by
  pointwise [prod]

/-- Heads, components and axes of queries or keys, each with its two halves of sixteen columns. -/
def split (P : FVec Ideal S4x8192x1024 .f32) : FVec Ideal S4x8x2x8192x2x2x16 .f32 :=
  shapeCast S4x8x2x8192x2x2x16 (transpose S4x8x2x8192x64 [0, 2, 3, 1, 4] (shapeCast S4x8192x8x2x64 P shapeCasts_S4x8192x1024_S4x8192x8x2x64)
    transposes_S4x8192x8x2x64_S4x8x2x8192x64_0_2_3_1_4) shapeCasts_S4x8x2x8192x64_S4x8x2x8192x2x2x16

theorem split_at (P : FVec Ideal S4x8192x1024 .f32) (b : Fin 4) (h : Fin 8) (j : Fin 2) (p : Fin 8192) (a s : Fin 2) (f : Fin 16) (n : Fin 1024)
    (hn : n.val = h.val * 128 + j.val * 64 + a.val * 32 + s.val * 16 + f.val) : split P (ix7 b h j p a s f) = P (ix3 b p n) := by
  pointwise [split]
  exact congrArg (fun k => P (ix3 b p k)) (Fin.ext (by show _ = n.val; simp only []; omega))

/-- The first halves. -/
def lo (P : FVec Ideal S4x8x2x8192x2x2x16 .f32) : FVec Ideal S4x8x2x8192x2x16 .f32 :=
  shapeCast S4x8x2x8192x2x16 (extractStridedSlice S4x8x2x8192x2x1x16 ![0, 0, 0, 0, 0, 0, 0] P slices_S4x8x2x8192x2x2x16_S4x8x2x8192x2x1x16_0_0_0_0_0_0_0)
    shapeCasts_S4x8x2x8192x2x1x16_S4x8x2x8192x2x16
/-- The second halves. -/
def hi (P : FVec Ideal S4x8x2x8192x2x2x16 .f32) : FVec Ideal S4x8x2x8192x2x16 .f32 :=
  shapeCast S4x8x2x8192x2x16 (extractStridedSlice S4x8x2x8192x2x1x16 ![0, 0, 0, 0, 0, 1, 0] P slices_S4x8x2x8192x2x2x16_S4x8x2x8192x2x1x16_0_0_0_0_0_1_0)
    shapeCasts_S4x8x2x8192x2x1x16_S4x8x2x8192x2x16

theorem lo_at (P : FVec Ideal S4x8x2x8192x2x2x16 .f32) (b : Fin 4) (h : Fin 8) (j : Fin 2) (p : Fin 8192) (a : Fin 2) (f : Fin 16) :
    lo P (ix6 b h j p a f) = P (ix7 b h j p a 0 f) := by
  pointwise [lo]
theorem hi_at (P : FVec Ideal S4x8x2x8192x2x2x16 .f32) (b : Fin 4) (h : Fin 8) (j : Fin 2) (p : Fin 8192) (a : Fin 2) (f : Fin 16) :
    hi P (ix6 b h j p a f) = P (ix7 b h j p a 1 f) := by
  pointwise [hi]

/-- A table of the positions, for every latent, head and component. -/
def all (C : FVec Ideal S8192x2x16 .f32) : FVec Ideal S4x8x2x8192x2x16 .f32 :=
  broadcastInDim S4x8x2x8192x2x16 ![0, 1, 2, 3, 4, 5] bcast_S1x1x1x8192x2x16_S4x8x2x8192x2x16_0_1_2_3_4_5 (broadcastInDim S1x1x1x8192x2x16 ![3, 4, 5] bcast_S8192x2x16_S1x1x1x8192x2x16_3_4_5 C)

theorem all_at (C : FVec Ideal S8192x2x16 .f32) (b : Fin 4) (h : Fin 8) (j : Fin 2) (p : Fin 8192) (a : Fin 2) (f : Fin 16) :
    all C (ix6 b h j p a f) = C (ix3 p a f) := by
  pointwise [all]

/-- Two halves, one after the other, as columns of a head. -/
def join (A B : FVec Ideal S4x8x2x8192x2x16 .f32) : FVec Ideal S4x8x2x8192x2x2x16 .f32 :=
  concatenate S4x8x2x8192x2x2x16 5
      [⟨S4x8x2x8192x2x1x16, broadcastInDim S4x8x2x8192x2x1x16 ![0, 1, 2, 3, 4, 6] bcast_S4x8x2x8192x2x16_S4x8x2x8192x2x1x16_0_1_2_3_4_6 A⟩,
        ⟨S4x8x2x8192x2x1x16, broadcastInDim S4x8x2x8192x2x1x16 ![0, 1, 2, 3, 4, 6] bcast_S4x8x2x8192x2x16_S4x8x2x8192x2x1x16_0_1_2_3_4_6 B⟩]
      concatenates_S4x8x2x8192x2x1x16_S4x8x2x8192x2x1x16_S4x8x2x8192x2x2x16_d5

theorem join_at (A B : FVec Ideal S4x8x2x8192x2x16 .f32) (b : Fin 4) (h : Fin 8) (j : Fin 2) (p : Fin 8192) (a s : Fin 2) (f : Fin 16) :
    join A B (ix7 b h j p a s f) = if s.val < 1 then A (ix6 b h j p a f) else B (ix6 b h j p a f) := by
  pointwise [join]
  exact dite_eq_ite

/-- Heads and components put back into columns. -/
def back (G : FVec Ideal S4x8x2x8192x2x2x16 .f32) : FVec Ideal S4x8192x1024 .f32 :=
  shapeCast S4x8192x1024 (transpose S4x8192x8x2x64 [0, 3, 1, 2, 4] (shapeCast S4x8x2x8192x64 G shapeCasts_S4x8x2x8192x2x2x16_S4x8x2x8192x64)
    transposes_S4x8x2x8192x64_S4x8192x8x2x64_0_3_1_2_4) shapeCasts_S4x8192x8x2x64_S4x8192x1024

theorem back_at (G : FVec Ideal S4x8x2x8192x2x2x16 .f32) (b : Fin 4) (p : Fin 8192) (n : Fin 1024) :
    back G (ix3 b p n) = G (ix7 b ⟨n.val / 128, by omega⟩ ⟨n.val / 64 % 2, by omega⟩ p ⟨n.val % 64 / 32, by omega⟩ ⟨n.val % 64 / 16 % 2, by omega⟩
      ⟨n.val % 64 % 16, by omega⟩) := by
  pointwise [back]

/-- The angles of the positions, of rows and of columns. -/
def angs : FVec Ideal S8192x2x16 .f32 :=
  concatenate S8192x2x16 1 [⟨S8192x1x16, broadcastInDim S8192x1x16 ![0, 2] bcast_S8192x16_S8192x1x16_0_2 (ang rowI)⟩,
    ⟨S8192x1x16, broadcastInDim S8192x1x16 ![0, 2] bcast_S8192x16_S8192x1x16_0_2 (ang colI)⟩] concatenates_S8192x1x16_S8192x1x16_S8192x2x16_d1

/-- The angles at a position and an axis. -/
theorem angs_at (p : Fin 8192) (a : Fin 2) (f : Fin 16) : angs (ix3 p a f) = if a.val < 1 then ang rowI (ix2 p f) else ang colI (ix2 p f) := by
  unfold angs
  generalize ang rowI = A
  generalize ang colI = B
  pointwise []
  exact dite_eq_ite

theorem cos_at (p : Fin 8192) (a : Fin 2) (f : Fin 16) (n : ℕ) (ha : a.val = n % 64 / 32) (hf : f.val = n % 16) : Host.cos angs (ix3 p a f) = cs p n := by
  have e : (⟨n % 16, by omega⟩ : Fin 16) = f := Fin.ext hf.symm
  have h0 : Host.cos angs (ix3 p a f) = Ideal.cos (angs (ix3 p a f)) := rfl
  rw [h0, angs_at]
  unfold cs
  rw [e]
  by_cases h : n % 64 < 32
  · rw [if_pos h, if_pos (show a.val < 1 by omega)]; rfl
  · rw [if_neg h, if_neg (show ¬ a.val < 1 by omega)]; rfl
theorem sin_at (p : Fin 8192) (a : Fin 2) (f : Fin 16) (n : ℕ) (ha : a.val = n % 64 / 32) (hf : f.val = n % 16) : Host.sin angs (ix3 p a f) = sn p n := by
  have e : (⟨n % 16, by omega⟩ : Fin 16) = f := Fin.ext hf.symm
  have h0 : Host.sin angs (ix3 p a f) = Ideal.sin (angs (ix3 p a f)) := rfl
  rw [h0, angs_at]
  unfold sn
  rw [e]
  by_cases h : n % 64 < 32
  · rw [if_pos h, if_pos (show a.val < 1 by omega)]; rfl
  · rw [if_neg h, if_neg (show ¬ a.val < 1 by omega)]; rfl

/-- Queries or keys turned by their positions' angles. -/
def turn (P : FVec Ideal S4x8192x1024 .f32) : FVec Ideal S4x8192x1024 .f32 :=
  back (join (subf (mulf (lo (split P)) (all (Host.cos angs))) (mulf (hi (split P)) (all (Host.sin angs))))
    (addf (mulf (hi (split P)) (all (Host.cos angs))) (mulf (lo (split P)) (all (Host.sin angs)))))

/-- The turned columns, in the first half of an axis. -/
theorem turn_lo (P : FVec Ideal S4x8192x1024 .f32) (b : Fin 4) (p : Fin 8192) (n m : Fin 1024) (h : n.val % 32 < 16) (hm : m.val = n.val + 16) :
    turn P (ix3 b p n) = (P (ix3 b p n) * cs p n.val - P (ix3 b p m) * sn p n.val : EReal) := by
  refine (back_at _ b p n).trans ((join_at _ _ _ _ _ _ _ _ _).trans ((if_pos (by show n.val % 64 / 16 % 2 < 1; omega)).trans ?_))
  refine congrArg₂ (· - ·) (congrArg₂ (· * ·) ((lo_at _ _ _ _ _ _ _).trans (split_at P _ _ _ _ _ _ _ n ?_)) ((all_at _ _ _ _ _ _ _).trans (cos_at _ _ _ _ rfl ?_)))
    (congrArg₂ (· * ·) ((hi_at _ _ _ _ _ _ _).trans (split_at P _ _ _ _ _ _ _ m ?_)) ((all_at _ _ _ _ _ _ _).trans (sin_at _ _ _ _ rfl ?_)))
  · show n.val = n.val / 128 * 128 + n.val / 64 % 2 * 64 + n.val % 64 / 32 * 32 + 0 * 16 + n.val % 64 % 16
    omega
  · show n.val % 64 % 16 = n.val % 16
    omega
  · show m.val = n.val / 128 * 128 + n.val / 64 % 2 * 64 + n.val % 64 / 32 * 32 + 1 * 16 + n.val % 64 % 16
    omega
  · show n.val % 64 % 16 = n.val % 16
    omega

/-- The turned columns, in the second half of an axis. -/
theorem turn_hi (P : FVec Ideal S4x8192x1024 .f32) (b : Fin 4) (p : Fin 8192) (n m : Fin 1024) (h : ¬ n.val % 32 < 16) (hm : m.val = n.val - 16) :
    turn P (ix3 b p n) = (P (ix3 b p n) * cs p n.val + P (ix3 b p m) * sn p n.val : EReal) := by
  refine (back_at _ b p n).trans ((join_at _ _ _ _ _ _ _ _ _).trans ((if_neg (by show ¬ n.val % 64 / 16 % 2 < 1; omega)).trans ?_))
  refine congrArg₂ (· + ·) (congrArg₂ (· * ·) ((hi_at _ _ _ _ _ _ _).trans (split_at P _ _ _ _ _ _ _ n ?_)) ((all_at _ _ _ _ _ _ _).trans (cos_at _ _ _ _ rfl ?_)))
    (congrArg₂ (· * ·) ((lo_at _ _ _ _ _ _ _).trans (split_at P _ _ _ _ _ _ _ m ?_)) ((all_at _ _ _ _ _ _ _).trans (sin_at _ _ _ _ rfl ?_)))
  · show n.val = n.val / 128 * 128 + n.val / 64 % 2 * 64 + n.val % 64 / 32 * 32 + 1 * 16 + n.val % 64 % 16
    omega
  · show n.val % 64 % 16 = n.val % 16
    omega
  · show m.val = n.val / 128 * 128 + n.val / 64 % 2 * 64 + n.val % 64 / 32 * 32 + 0 * 16 + n.val % 64 % 16
    omega
  · show n.val % 64 % 16 = n.val % 16
    omega

/-- The queries, the keys and the values side by side. -/
def three (A B C : FVec Ideal S4x8192x1024 .f32) : FVec Ideal S32768x3072 .f32 :=
  shapeCast S32768x3072 (concatenate S4x8192x3072 2 [⟨S4x8192x1024, A⟩, ⟨S4x8192x1024, B⟩, ⟨S4x8192x1024, C⟩]
    concatenates_S4x8192x1024_S4x8192x1024_S4x8192x1024_S4x8192x3072_d2) shapeCasts_S4x8192x3072_S32768x3072

theorem three_at (A B C : FVec Ideal S4x8192x1024 .f32) (r : Fin 32768) (n : Fin 3072) :
    three A B C (ix2 r n) = if h : n.val < 1024 then A (ix3 ⟨r.val / 8192, by omega⟩ ⟨r.val % 8192, by omega⟩ ⟨n.val, h⟩)
      else if h' : n.val - 1024 < 1024 then B (ix3 ⟨r.val / 8192, by omega⟩ ⟨r.val % 8192, by omega⟩ ⟨n.val - 1024, h'⟩)
      else C (ix3 ⟨r.val / 8192, by omega⟩ ⟨r.val % 8192, by omega⟩ ⟨n.val - 1024 - 1024, by omega⟩) := by
  pointwise [three]

/-- The context rows against the weight. -/
def ctx (C : FVec Ideal S4x256x1024 .f32) (w : FVec Ideal S1024x3072 .f32) : FVec Ideal S1024x3072 .f32 :=
  shapeCast S1024x3072 (Host.dotGeneral dot_S4x256x1024_S1024x3072_S4x256x3072_2_0_01_1_n_n none C w) shapeCasts_S4x256x3072_S1024x3072

theorem ctx_at (C : FVec Ideal S4x256x1024 .f32) (w : FVec Ideal S1024x3072 .f32) (r : Fin 1024) (n : Fin 3072) :
    ctx C w (ix2 r n) = ∑ k : Fin 1024, (C (ix3 ⟨r.val / 256, by omega⟩ ⟨r.val % 256, by omega⟩ k) * w (ix2 k n) : EReal) := by
  pointwise [ctx]

/-- Two stretches of rows, one after the other. -/
def asm (A : FVec Ideal S32768x3072 .f32) (B : FVec Ideal S1024x3072 .f32) : FVec Ideal S33792x3072 .f32 :=
  concatenate S33792x3072 0 [⟨S32768x3072, A⟩, ⟨S1024x3072, B⟩] concatenates_S32768x3072_S1024x3072_S33792x3072_d0

theorem asm_at (A : FVec Ideal S32768x3072 .f32) (B : FVec Ideal S1024x3072 .f32) (r : Fin 33792) (n : Fin 3072) :
    asm A B (ix2 r n) = if h : r.val < 32768 then A (ix2 ⟨r.val, h⟩ n) else B (ix2 ⟨r.val - 32768, by omega⟩ n) := by
  pointwise [asm]

/-- The queries' columns. -/
def part0 (P : FVec Ideal S4x8192x3072 .f32) : FVec Ideal S4x8192x1024 .f32 := extractStridedSlice S4x8192x1024 ![0, 0, 0] P slices_S4x8192x3072_S4x8192x1024_0_0_0
/-- The keys' columns. -/
def part1 (P : FVec Ideal S4x8192x3072 .f32) : FVec Ideal S4x8192x1024 .f32 := extractStridedSlice S4x8192x1024 ![0, 0, 1024] P slices_S4x8192x3072_S4x8192x1024_0_0_1024
/-- The values' columns. -/
def part2 (P : FVec Ideal S4x8192x3072 .f32) : FVec Ideal S4x8192x1024 .f32 := extractStridedSlice S4x8192x1024 ![0, 0, 2048] P slices_S4x8192x3072_S4x8192x1024_0_0_2048

theorem part0_at (P : FVec Ideal S4x8192x3072 .f32) (b : Fin 4) (p : Fin 8192) (d : Fin 1024) : part0 P (ix3 b p d) = P (ix3 b p ⟨d.val, by omega⟩) := by
  pointwise [part0]
theorem part1_at (P : FVec Ideal S4x8192x3072 .f32) (b : Fin 4) (p : Fin 8192) (d : Fin 1024) : part1 P (ix3 b p d) = P (ix3 b p ⟨1024 + d.val, by omega⟩) := by
  pointwise [part1]
theorem part2_at (P : FVec Ideal S4x8192x3072 .f32) (b : Fin 4) (p : Fin 8192) (d : Fin 1024) : part2 P (ix3 b p d) = P (ix3 b p ⟨2048 + d.val, by omega⟩) := by
  pointwise [part2]

/-- The reference's projection before its last cast. -/
def whole (X : FVec Ideal S33792x1024 .f32) (g : FVec Ideal S1024 .f32) (sh sc : FVec Ideal S5x1024 .f32) (w : FVec Ideal S1024x3072 .f32) : FVec Ideal S33792x3072 .f32 :=
  asm (three (turn (part0 (prod (hl X g sh sc) w))) (turn (part1 (prod (hl X g sh sc) w))) (part2 (prod (hl X g sh sc) w))) (ctx (hc X g sh sc) w)

set_option maxHeartbeats 1000000 in
theorem res_eq (V0 : Valuation τ sig (Elt Ideal)) : res_main_v138 V0 = whole (V0 (Proc.devRef .tc main_arg0)) (V0 (Proc.devRef .tc main_arg1)) (V0 (Proc.devRef .tc main_arg2))
    (V0 (Proc.devRef .tc main_arg3)) (V0 (Proc.devRef .tc main_arg4)) := rfl

theorem prod_row (X : FVec Ideal S33792x1024 .f32) (g : FVec Ideal S1024 .f32) (sh sc : FVec Ideal S5x1024 .f32) (w : FVec Ideal S1024x3072 .f32)
    (r : Fin 33792) (hr : r.val < 32768) (n : Fin 3072) :
    prod (hl X g sh sc) w (ix3 ⟨r.val / 8192, by omega⟩ ⟨r.val % 8192, by omega⟩ n) = raw X g sh sc w r n := by
  rw [prod_at]
  refine Finset.sum_congr rfl fun k _ => congrArg (· * w (ix2 k n)) ((hl_at _ _ _ _ _ _ _).trans ?_)
  exact congrArg (fun q => nrow X g sh sc q k) (Fin.ext (by show r.val / 8192 * 8192 + r.val % 8192 = r.val; omega))

/-- A turned block of columns, read off the whole product's rows. -/
theorem turn_row (X : FVec Ideal S33792x1024 .f32) (g : FVec Ideal S1024 .f32) (sh sc : FVec Ideal S5x1024 .f32) (w : FVec Ideal S1024x3072 .f32)
    (P : FVec Ideal S4x8192x1024 .f32) (o : ℕ) (ho : o = 0 ∨ o = 1024)
    (hP : ∀ (b : Fin 4) (p : Fin 8192) (d : Fin 1024), P (ix3 b p d) = prod (hl X g sh sc) w (ix3 b p ⟨o + d.val, by omega⟩))
    (r : Fin 33792) (hr : r.val < 32768) (n : Fin 3072) (d : Fin 1024) (hd : n.val = o + d.val) :
    turn P (ix3 ⟨r.val / 8192, by omega⟩ ⟨r.val % 8192, by omega⟩ d) = ent X g sh sc w r n := by
  have hraw (e : Fin 1024) (k : Fin 3072) (hk : k.val = o + e.val) :
      P (ix3 ⟨r.val / 8192, by omega⟩ ⟨r.val % 8192, by omega⟩ e) = raw X g sh sc w r k := by
    refine (hP _ _ _).trans ((prod_row X g sh sc w r hr _).trans (congrArg (raw X g sh sc w r) (Fin.ext hk.symm)))
  unfold ent
  rw [if_pos (show r.val < 32768 ∧ n.val < 2048 by omega)]
  by_cases h : n.val % 32 < 16
  · rw [if_pos h]
    refine (turn_lo P _ _ d ⟨d.val + 16, by omega⟩ (by omega) rfl).trans ?_
    refine congrArg₂ (· - ·) (congrArg₂ (· * ·) (hraw d n hd) ?_) (congrArg₂ (· * ·) (hraw _ _ ?_) ?_)
    · exact Cert.OddInIdeal.Hand.cs_congr _ _ _ _ rfl (by omega)
    · show (n.val + 16) % 3072 = o + (d.val + 16)
      omega
    · exact Cert.OddInIdeal.Hand.sn_congr _ _ _ _ rfl (by omega)
  · rw [if_neg h]
    refine (turn_hi P _ _ d ⟨d.val - 16, by omega⟩ (by omega) rfl).trans ?_
    refine congrArg₂ (· + ·) (congrArg₂ (· * ·) (hraw d n hd) ?_) (congrArg₂ (· * ·) (hraw _ _ ?_) ?_)
    · exact Cert.OddInIdeal.Hand.cs_congr _ _ _ _ rfl (by omega)
    · show n.val - 16 = o + (d.val - 16)
      omega
    · exact Cert.OddInIdeal.Hand.sn_congr _ _ _ _ rfl (by omega)

/-- The reference's projection, entry by entry. -/
theorem whole_eq (X : FVec Ideal S33792x1024 .f32) (g : FVec Ideal S1024 .f32) (sh sc : FVec Ideal S5x1024 .f32) (w : FVec Ideal S1024x3072 .f32) :
    whole X g sh sc w = fun j : S33792x3072.Idx => ent X g sh sc w (j 0) (j 1) := by
  funext j
  obtain ⟨r, n, rfl⟩ : ∃ (r : Fin 33792) (n : Fin 3072), j = ix2 r n := ⟨j 0, j 1, (ix2_eta j).symm⟩
  show _ = ent X g sh sc w r n
  refine (asm_at _ _ r n).trans ?_
  by_cases hr : r.val < 32768
  · rw [dif_pos hr, three_at]
    by_cases h0 : n.val < 1024
    · rw [dif_pos h0]
      refine turn_row X g sh sc w _ 0 (Or.inl rfl) (fun b p d => (part0_at _ b p d).trans ?_) r hr n ⟨n.val, h0⟩ (by show n.val = 0 + n.val; omega)
      exact congrArg (fun k => prod (hl X g sh sc) w (ix3 b p k)) (Fin.ext (by show d.val = 0 + d.val; omega))
    · rw [dif_neg h0]
      by_cases h1 : n.val - 1024 < 1024
      · rw [dif_pos h1]
        exact turn_row X g sh sc w _ 1024 (Or.inr rfl) (fun b p d => part1_at _ b p d) r hr n ⟨n.val - 1024, h1⟩ (by show n.val = 1024 + (n.val - 1024); omega)
      · rw [dif_neg h1]
        unfold ent
        rw [if_neg (show ¬ (r.val < 32768 ∧ n.val < 2048) by omega)]
        refine (part2_at _ _ _ _).trans ((prod_row X g sh sc w r hr _).trans (congrArg (raw X g sh sc w r) (Fin.ext ?_)))
        show 2048 + (n.val - 1024 - 1024) = n.val
        omega
  · rw [dif_neg hr, ctx_at]
    unfold ent
    rw [if_neg (show ¬ (r.val < 32768 ∧ n.val < 2048) by omega)]
    refine Finset.sum_congr rfl fun k _ => congrArg (· * w (ix2 k n)) ((hc_at _ _ _ _ _ _ _).trans ?_)
    exact congrArg (fun q => nrow X g sh sc q k) (Fin.ext (by
      show 32768 + ((r.val - 32768) / 256 * 256 + (r.val - 32768) % 256) = r.val
      omega))

/-- The values' columns, turned to rows. -/
def vals (Y : FVec Ideal S33792x3072 .f32) : FVec Ideal S1024x33792 .f32 :=
  transpose S1024x33792 [1, 0] (extractStridedSlice S33792x1024 ![0, 2048] Y slices_S33792x3072_S33792x1024_0_2048) transposes_S33792x1024_S1024x33792_1_0

theorem vals_at (Y : FVec Ideal S33792x3072 .f32) (d : Fin 1024) (r : Fin 33792) : vals Y (ix2 d r) = Y (ix2 r (val d)) := by
  pointwise [vals]
  rfl

variable (m : (ℓ : Loc nD τ sig) → Buf (Elt Ideal) ℓ) (c : Dev nD)

theorem res_at : res_main_v138 (launchContents m c) = fun j : S33792x3072.Idx => ent (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (j 0) (j 1) :=
  (res_eq (launchContents m c)).trans (whole_eq _ _ _ _ _)

/-- The reference's first result: what the kernel's blocks hold. -/
theorem ref_at : (truncf .bf16 (res_main_v138 (launchContents m c)) bitsLt_bf16_f32 : FVec Ideal S33792x3072 .bf16) =
    fun j : S33792x3072.Idx => ent (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (j 0) (j 1) := res_at m c

/-- The reference's second result: the values' columns as rows. -/
theorem ref_vals_at : (truncf .bf16 (vals (res_main_v138 (launchContents m c))) bitsLt_bf16_f32 : FVec Ideal S1024x33792 .bf16) =
    fun j : S1024x33792.Idx => ent (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (j 1) (val (j 0)) := by
  funext j
  obtain ⟨d, r, rfl⟩ : ∃ (d : Fin 1024) (r : Fin 33792), j = ix2 d r := ⟨j 0, j 1, (ix2_eta j).symm⟩
  exact (vals_at _ d r).trans (congrFun (res_at m c) (ix2 r (val d)))
end Cert.OddInRefIdeal.Hand
-- ==== Proof.EvenQkv.lean ====
module

public import proofs.«01_k».proof.Proof.Norm
public import proofs.«01_k».proof.Proof.Gen.EvenQkvIdeal.Value
public import proofs.«01_k».proof.Proof.Gen.EvenQkvRefIdeal.Run
public import Idealize.ShloMosaic.Lib.Pipeline.ValueKit
public import Idealize.ShloMosaic.Lib.Claim
set_option maxRecDepth 16384
@[expose] public noncomputable section
open Idealize.ShloMosaic Idealize.ShloMosaic.TcCoe Idealize.SL.Sem
open Idealize.ShloMosaic.Pipeline (Dat)
namespace Cert.EvenQkvIdeal.Hand
open Cert.EvenQkvIdeal Cert.EvenQkvIdeal.Gen Cert.Norm
variable (m : (ℓ : Loc nD τ sig) → Buf (Elt Ideal) ℓ)

/-- An entry of the result: the row's modulated norm against one of the weight's first 1536 columns. -/
def ent (xs : FVec Ideal S33792x1024 .f32) (g : FVec Ideal S1024 .f32) (sh sc : FVec Ideal S5x1024 .f32) (w : FVec Ideal S1024x2048 .f32)
    (r : Fin 33792) (n : Fin 1536) : EReal :=
  pr xs g sh sc (fun k (d : Fin 1536) => w (ix2 k ⟨d.val, by omega⟩)) r n

theorem Vw (c : Dev nD) : V m c main_v1 = extractStridedSlice S1024x1536 ![0, 0]
    (truncf .bf16 (show FVec Ideal S1024x2048 .f32 from m ((c : Thread nD τ).loc main_arg4)) bitsLt_bf16_f32) slices_S1024x2048_S1024x1536_0_0 := by
  unfold V
  after_results

theorem Vg (c : Dev nD) : V m c main_v2 = broadcastInDim S1x1024 ![1] bcast_S1024_S1x1024_1 (m ((c : Thread nD τ).loc main_arg1)) := by
  unfold V
  after_results
theorem Vsh (c : Dev nD) : V m c main_v3 = broadcastInDim S5x1x1024 ![0, 2] bcast_S5x1024_S5x1x1024_0_2 (m ((c : Thread nD τ).loc main_arg2)) := by
  unfold V
  after_results
theorem Vsc (c : Dev nD) : V m c main_v4 = broadcastInDim S5x1x1024 ![0, 2] bcast_S5x1024_S5x1x1024_0_2 (m ((c : Thread nD τ).loc main_arg3)) := by
  unfold V
  after_results

theorem pay2_at (h : Vec Ideal S512x1024 .bf16) (w : Vec Ideal S1024x768 .bf16) (q : Fin 512) (n : Fin 768) :
    k0_pay2 h w (ix2 q n) = (∑ k : Fin 1024, (h (ix2 q k) * w (ix2 k n) : EReal) : EReal) := by
  pointwise [k0_pay2]

theorem idx0 : ∀ t : Fin cfg0.N, win0_0.index t = ![t.val / 2, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![min (t.val / 2 / 16) 4, 0, 0] := (by decide +kernel : ∀ t : Fin grid0.N, _)
theorem idx3 : ∀ t : Fin cfg0.N, win0_3.index t = ![min (t.val / 2 / 16) 4, 0, 0] := (by decide +kernel : ∀ t : Fin grid0.N, _)
theorem idx4 : ∀ t : Fin cfg0.N, win0_4.index t = ![0, t.val % 2] := (by decide +kernel : ∀ t : Fin grid0.N, _)
theorem idx5 : ∀ t : Fin cfg0.N, win0_5.index t = ![t.val / 2, t.val % 2] := (by decide +kernel : ∀ t : Fin grid0.N, _)

theorem b0_at (c : Dev nD) (t : Fin cfg0.N) (q : Fin 512) (k : Fin 1024) (i : S33792x1024.Idx)
    (h0 : (i 0 : ℕ) = t.val / 2 * 512 + q) (h1 : (i 1 : ℕ) = k) :
    (show FVec Ideal S512x1024 .f32 from iblk m c 0 t) (ix2 q k) = (show FVec Ideal S33792x1024 .f32 from m ((c : Thread nD τ).loc main_arg0)) i := by
  blk_point [iblk, V, idx0 t]
theorem b1_at (c : Dev nD) (t : Fin cfg0.N) (k : Fin 1024) :
    (show FVec Ideal S1x1024 .f32 from iblk m c 1 t) (ix2 0 k) = (show FVec Ideal S1x1024 .f32 from V m c main_v2) (ix2 0 k) := by
  blk_point [iblk, idx1 t]
theorem b2_at (c : Dev nD) (t : Fin cfg0.N) (k : Fin 1024) (i : S5x1x1024.Idx)
    (h0 : (i 0 : ℕ) = min (t.val / 2 / 16) 4) (h1 : (i 1 : ℕ) = 0) (h2 : (i 2 : ℕ) = k) :
    (show FVec Ideal S1x1x1024 .f32 from iblk m c 2 t) (ix3 0 0 k) = (show FVec Ideal S5x1x1024 .f32 from V m c main_v3) i := by
  blk_point [iblk, idx2 t]
theorem b3_at (c : Dev nD) (t : Fin cfg0.N) (k : Fin 1024) (i : S5x1x1024.Idx)
    (h0 : (i 0 : ℕ) = min (t.val / 2 / 16) 4) (h1 : (i 1 : ℕ) = 0) (h2 : (i 2 : ℕ) = k) :
    (show FVec Ideal S1x1x1024 .f32 from iblk m c 3 t) (ix3 0 0 k) = (show FVec Ideal S5x1x1024 .f32 from V m c main_v4) i := by
  blk_point [iblk, idx3 t]
theorem b4_at (c : Dev nD) (t : Fin cfg0.N) (k : Fin 1024) (d : Fin 768) (i : S1024x1536.Idx) (h0 : (i 0 : ℕ) = k) (h1 : (i 1 : ℕ) = t.val % 2 * 768 + d) :
    (show FVec Ideal S1024x768 .bf16 from iblk m c 4 t) (ix2 k d) = (show FVec Ideal S1024x1536 .bf16 from V m c main_v1) i := by
  blk_point [iblk, idx4 t]

/-- The normed rows a step keeps are those of its rows of the stream. -/
theorem norm_at (c : Dev nD) (t : Fin cfg0.N) (q : Fin 512) (k : Fin 1024) (r : Fin 33792) (hr : r.val = t.val / 2 * 512 + q.val) :
    k0_pay1 (F := Ideal) (iblk m c 0 t) (iblk m c 1 t) (iblk m c 3 t) (iblk m c 2 t) (ix2 q k)
      = nrow (m ((c : Thread nD τ).loc main_arg0)) (m ((c : Thread nD τ).loc main_arg1)) (m ((c : Thread nD τ).loc main_arg2))
        (m ((c : Thread nD τ).loc main_arg3)) r k := by
  have hs : r.val / 8192 = min (t.val / 2 / 16) 4 := by
    have := r.isLt
    omega
  refine pay1_row _ _ _ _ _ _ _ _ q k r (fun l => b0_at m c t q l _ hr rfl) ?_ (fun i h0 h1 => ?_) (fun i h0 h1 => ?_)
  · refine (b1_at m c t k).trans ?_
    rw [Vg]
    pointwise
  · obtain ⟨a, b, rfl⟩ : ∃ (a : Fin 5) (b : Fin 1024), i = ix2 a b := ⟨_, _, (ix2_eta _).symm⟩
    obtain rfl : b = k := h1
    refine (b3_at m c t b (ix3 a 0 b) (h0.trans hs) rfl rfl).trans ?_
    rw [Vsc]
    pointwise
  · obtain ⟨a, b, rfl⟩ : ∃ (a : Fin 5) (b : Fin 1024), i = ix2 a b := ⟨_, _, (ix2_eta _).symm⟩
    obtain rfl : b = k := h1
    refine (b2_at m c t b (ix3 a 0 b) (h0.trans hs) rfl rfl).trans ?_
    rw [Vsh]
    pointwise

/-- What a step leaves in the buffer it keeps: the normed rows of its block of the stream. -/
theorem kept_at (c : Dev nD) (t : Fin cfg0.N) (h : t.val % 2 = 0) (q : Fin 512) (k : Fin 1024) (r : Fin 33792) (hr : r.val = t.val / 2 * 512 + q.val) :
    (outsAt0 m c t.val t.isLt).2 (ix2 q k) = nrow (m ((c : Thread nD τ).loc main_arg0)) (m ((c : Thread nD τ).loc main_arg1)) (m ((c : Thread nD τ).loc main_arg2))
        (m ((c : Thread nD τ).loc main_arg3)) r k := by
  rw [outsAt0_A m c t h]
  unfold sout0_A_0
  dsimp only
  frame_out
  exact norm_at m c t q k r hr

/-- A product of normed rows with a block of the weight. -/
theorem point (c : Dev nD) (t : Fin cfg0.N) (h : Vec Ideal S512x1024 .bf16) (q : Fin 512) (d : Fin 768) (r : Fin 33792) (n : Fin 1536) (hn : n.val = t.val % 2 * 768 + d.val)
    (hh : ∀ k : Fin 1024, h (ix2 q k) = nrow (m ((c : Thread nD τ).loc main_arg0)) (m ((c : Thread nD τ).loc main_arg1)) (m ((c : Thread nD τ).loc main_arg2))
        (m ((c : Thread nD τ).loc main_arg3)) r k) :
    k0_pay2 (F := Ideal) h (iblk m c 4 t) (ix2 q d)
      = ent (m ((c : Thread nD τ).loc main_arg0)) (m ((c : Thread nD τ).loc main_arg1)) (m ((c : Thread nD τ).loc main_arg2))
        (m ((c : Thread nD τ).loc main_arg3)) (m ((c : Thread nD τ).loc main_arg4)) r n := by
  refine (pay2_at _ _ q d).trans ?_
  unfold ent pr
  refine Finset.sum_congr rfl fun k _ => congrArg₂ (· * ·) (hh k) ?_
  refine (b4_at m c t k d (ix2 k n) rfl hn).trans ?_
  rw [Vw]
  pointwise

/-- What a step leaves of its output block. -/
theorem out_at (c : Dev nD) (t : Fin cfg0.N) (q : Fin 512) (d : Fin 768) (r : Fin 33792) (n : Fin 1536) (hr : r.val = t.val / 2 * 512 + q.val) (hn : n.val = t.val % 2 * 768 + d.val) :
    (outsAt0 m c t.val t.isLt).1 (ix2 q d) = ent (m ((c : Thread nD τ).loc main_arg0)) (m ((c : Thread nD τ).loc main_arg1)) (m ((c : Thread nD τ).loc main_arg2))
        (m ((c : Thread nD τ).loc main_arg3)) (m ((c : Thread nD τ).loc main_arg4)) r n := by
  by_cases h : t.val % 2 = 0
  · rw [outsAt0_A m c t h]
    unfold out0_A_5
    dsimp only
    frame_out
    exact point m c t _ q d r n hn fun k => norm_at m c t q k r hr
  · rw [outsAt0_B m c t h]
    unfold out0_B_5
    dsimp only
    frame_out
    refine point m c t _ q d r n hn fun k => ?_
    rw [(Memref.isWhole_whole _).read_unread]
    exact kept_at m c ⟨t.val - 1, Nat.lt_of_le_of_lt (Nat.sub_le _ _) t.isLt⟩ (by show (t.val - 1) % 2 = 0; omega) q k r
      (by show r.val = (t.val - 1) / 2 * 512 + q.val; omega)

/-- The kernel's array is the projection of the modulated norm. -/
theorem final (c : Dev nD) : (dats m 0 c).arrAt 5 cfg0.N = (fun j : S33792x1536.Idx =>
    ent (m ((c : Thread nD τ).loc main_arg0)) (m ((c : Thread nD τ).loc main_arg1)) (m ((c : Thread nD τ).loc main_arg2))
      (m ((c : Thread nD τ).loc main_arg3)) (m ((c : Thread nD τ).loc main_arg4)) (j 0) (j 1)) := by
  refine (dats m 0 c).arrAt_eq_of_covers 5 _ (by decide +kernel) fun t hf y => ?_
  blk_simp
  rw [after0_5]
  obtain ⟨q, d, rfl⟩ : ∃ (q : Fin 512) (d : Fin 768), (show S512x768.Idx from y) = ix2 q d := ⟨_, _, (ix2_eta _).symm⟩
  have e5 := idx5 t
  have E : (((win0_5.blk t).view.emb (ix2 q d) 0 : Fin 33792) : ℕ) = t.val / 2 * 512 + q.val
      ∧ (((win0_5.blk t).view.emb (ix2 q d) 1 : Fin 1536) : ℕ) = t.val % 2 * 768 + d.val := by
    constructor
    · blk_simp [e5]
    · blk_simp [e5]
  exact out_at m c t q d _ _ E.1 E.2

end Cert.EvenQkvIdeal.Hand
namespace Cert.EvenQkvRefIdeal.Hand
open Cert.EvenQkvRefIdeal Cert.EvenQkvRefIdeal.Gen Cert.EvenQkvRefIdeal.Value Cert.Norm

/-- Two stretches of rows, one after the other. -/
def asm (A : FVec Ideal S32768x1536 .f32) (B : FVec Ideal S1024x1536 .f32) : FVec Ideal S33792x1536 .f32 :=
  concatenate S33792x1536 0 [⟨S32768x1536, A⟩, ⟨S1024x1536, B⟩] concatenates_S32768x1536_S1024x1536_S33792x1536_d0

theorem asm_at (A : FVec Ideal S32768x1536 .f32) (B : FVec Ideal S1024x1536 .f32) (r : Fin 33792) (n : Fin 1536) :
    asm A B (ix2 r n) = if h : r.val < 32768 then A (ix2 ⟨r.val, h⟩ n) else B (ix2 ⟨r.val - 32768, by omega⟩ n) := by
  pointwise [asm]

/-- The latent rows against the weight's first columns. -/
def lat (L : FVec Ideal S4x8192x1024 .f32) (w : FVec Ideal S1024x2048 .f32) : FVec Ideal S32768x1536 .f32 :=
  shapeCast S32768x1536 (extractStridedSlice S4x8192x1536 ![0, 0, 0]
      (Host.dotGeneral dot_S4x8192x1024_S1024x2048_S4x8192x2048_2_0_01_1_n_n none L w) slices_S4x8192x2048_S4x8192x1536_0_0_0) shapeCasts_S4x8192x1536_S32768x1536

theorem lat_at (L : FVec Ideal S4x8192x1024 .f32) (w : FVec Ideal S1024x2048 .f32) (r : Fin 32768) (n : Fin 1536) :
    lat L w (ix2 r n) = ∑ k : Fin 1024, (L (ix3 ⟨r.val / 8192, by omega⟩ ⟨r.val % 8192, by omega⟩ k) * w (ix2 k ⟨n.val, by omega⟩) : EReal) := by
  pointwise [lat]

/-- The context rows against the weight's first columns. -/
def ctx (C : FVec Ideal S4x256x1024 .f32) (w : FVec Ideal S1024x2048 .f32) : FVec Ideal S1024x1536 .f32 :=
  shapeCast S1024x1536 (extractStridedSlice S4x256x1536 ![0, 0, 0]
      (Host.dotGeneral dot_S4x256x1024_S1024x2048_S4x256x2048_2_0_01_1_n_n none C w) slices_S4x256x2048_S4x256x1536_0_0_0) shapeCasts_S4x256x1536_S1024x1536

theorem ctx_at (C : FVec Ideal S4x256x1024 .f32) (w : FVec Ideal S1024x2048 .f32) (r : Fin 1024) (n : Fin 1536) :
    ctx C w (ix2 r n) = ∑ k : Fin 1024, (C (ix3 ⟨r.val / 256, by omega⟩ ⟨r.val % 256, by omega⟩ k) * w (ix2 k ⟨n.val, by omega⟩) : EReal) := by
  pointwise [ctx]

set_option maxHeartbeats 1000000 in
/-- The reference's result is the projection of the modulated norm. -/
theorem ref_at (m : (ℓ : Loc nD τ sig) → Buf (Elt Ideal) ℓ) (c : Dev nD) : res_out0 (F := Ideal) m c = (fun j : S33792x1536.Idx =>
    Cert.EvenQkvIdeal.Hand.ent (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (j 0) (j 1)) := by
  have e : res_out0 (F := Ideal) m c = asm (lat (hl (m ((c.tc : Thread nD τ).loc main_arg0)) (m ((c.tc : Thread nD τ).loc main_arg1)) (m ((c.tc : Thread nD τ).loc main_arg2))
      (m ((c.tc : Thread nD τ).loc main_arg3))) (m ((c.tc : Thread nD τ).loc main_arg4))) (ctx (hc (m ((c.tc : Thread nD τ).loc main_arg0)) (m ((c.tc : Thread nD τ).loc main_arg1)) (m ((c.tc : Thread nD τ).loc main_arg2))
      (m ((c.tc : Thread nD τ).loc main_arg3))) (m ((c.tc : Thread nD τ).loc main_arg4))) := rfl
  rw [e]
  funext j
  obtain ⟨r, n, rfl⟩ : ∃ (r : Fin 33792) (n : Fin 1536), j = ix2 r n := ⟨_, _, (ix2_eta _).symm⟩
  unfold Cert.EvenQkvIdeal.Hand.ent pr
  rw [asm_at]
  by_cases h : r.val < 32768
  · rw [dif_pos h]
    refine (lat_at _ _ _ n).trans (Finset.sum_congr rfl fun k _ => congrArg (· * _) ((hl_at _ _ _ _ _ _ k).trans ?_))
    exact congrArg (nrow _ _ _ _ · k) (Fin.ext (by show r.val / 8192 * 8192 + r.val % 8192 = r.val; omega))
  · rw [dif_neg h]
    refine (ctx_at _ _ _ n).trans (Finset.sum_congr rfl fun k _ => congrArg (· * _) ((hc_at _ _ _ _ _ _ k).trans ?_))
    exact congrArg (nrow _ _ _ _ · k) (Fin.ext (by show 32768 + ((r.val - 32768) / 256 * 256 + (r.val - 32768) % 256) = r.val; omega))

end Cert.EvenQkvRefIdeal.Hand
-- ==== Proof.EvenF.lean ====
module

public import proofs.«01_k».proof.Proof.Norm
public import proofs.«01_k».proof.Proof.Gen.EvenFIdeal.Value
public import proofs.«01_k».proof.Proof.Gen.EvenFRefIdeal.Run
public import Idealize.ShloMosaic.Lib.Pipeline.ValueKit
public import Idealize.ShloMosaic.Lib.Claim
set_option maxRecDepth 16384
@[expose] public noncomputable section
open Idealize.ShloMosaic Idealize.ShloMosaic.TcCoe Idealize.SL.Sem
open Idealize.ShloMosaic.Pipeline (Dat)
namespace Cert.EvenFIdeal.Hand
open Cert.EvenFIdeal Cert.EvenFIdeal.Gen Cert.Norm
variable (m : (ℓ : Loc nD τ sig) → Buf (Elt Ideal) ℓ)

/-- An entry of the result: the row's modulated norm against a column past the first 1536 of the weight. -/
def ent (xs : FVec Ideal S33792x1024 .f32) (g : FVec Ideal S1024 .f32) (sh sc : FVec Ideal S5x1024 .f32) (w : FVec Ideal S1024x2048 .f32)
    (r : Fin 33792) (n : Fin 512) : EReal :=
  pr xs g sh sc (fun k (d : Fin 512) => w (ix2 k ⟨1536 + d.val, by omega⟩)) r n

theorem Vw (c : Dev nD) : V m c main_v1 = extractStridedSlice S1024x512 ![0, 1536]
    (truncf .bf16 (show FVec Ideal S1024x2048 .f32 from m ((c : Thread nD τ).loc main_arg4)) bitsLt_bf16_f32) slices_S1024x2048_S1024x512_0_1536 := by
  unfold V
  after_results

theorem Vg (c : Dev nD) : V m c main_v2 = broadcastInDim S1x1024 ![1] bcast_S1024_S1x1024_1 (m ((c : Thread nD τ).loc main_arg1)) := by
  unfold V
  after_results
theorem Vsh (c : Dev nD) : V m c main_v3 = broadcastInDim S5x1x1024 ![0, 2] bcast_S5x1024_S5x1x1024_0_2 (m ((c : Thread nD τ).loc main_arg2)) := by
  unfold V
  after_results
theorem Vsc (c : Dev nD) : V m c main_v4 = broadcastInDim S5x1x1024 ![0, 2] bcast_S5x1024_S5x1x1024_0_2 (m ((c : Thread nD τ).loc main_arg3)) := by
  unfold V
  after_results

theorem pay2_at (h : Vec Ideal S512x1024 .bf16) (w : Vec Ideal S1024x512 .bf16) (q : Fin 512) (n : Fin 512) :
    k0_pay2 h w (ix2 q n) = (∑ k : Fin 1024, (h (ix2 q k) * w (ix2 k n) : EReal) : EReal) := by
  pointwise [k0_pay2]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![min (t.val / 16) 4, 0, 0] := (by decide +kernel : ∀ t : Fin grid0.N, _)
theorem idx3 : ∀ t : Fin cfg0.N, win0_3.index t = ![min (t.val / 16) 4, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)

theorem b0_at (c : Dev nD) (t : Fin cfg0.N) (q : Fin 512) (k : Fin 1024) (i : S33792x1024.Idx)
    (h0 : (i 0 : ℕ) = t.val * 512 + q) (h1 : (i 1 : ℕ) = k) :
    (show FVec Ideal S512x1024 .f32 from iblk m c 0 t) (ix2 q k) = (show FVec Ideal S33792x1024 .f32 from m ((c : Thread nD τ).loc main_arg0)) i := by
  blk_point [iblk, V, idx0 t]
theorem b1_at (c : Dev nD) (t : Fin cfg0.N) (k : Fin 1024) :
    (show FVec Ideal S1x1024 .f32 from iblk m c 1 t) (ix2 0 k) = (show FVec Ideal S1x1024 .f32 from V m c main_v2) (ix2 0 k) := by
  blk_point [iblk, idx1 t]
theorem b2_at (c : Dev nD) (t : Fin cfg0.N) (k : Fin 1024) (i : S5x1x1024.Idx)
    (h0 : (i 0 : ℕ) = min (t.val / 16) 4) (h1 : (i 1 : ℕ) = 0) (h2 : (i 2 : ℕ) = k) :
    (show FVec Ideal S1x1x1024 .f32 from iblk m c 2 t) (ix3 0 0 k) = (show FVec Ideal S5x1x1024 .f32 from V m c main_v3) i := by
  blk_point [iblk, idx2 t]
theorem b3_at (c : Dev nD) (t : Fin cfg0.N) (k : Fin 1024) (i : S5x1x1024.Idx)
    (h0 : (i 0 : ℕ) = min (t.val / 16) 4) (h1 : (i 1 : ℕ) = 0) (h2 : (i 2 : ℕ) = k) :
    (show FVec Ideal S1x1x1024 .f32 from iblk m c 3 t) (ix3 0 0 k) = (show FVec Ideal S5x1x1024 .f32 from V m c main_v4) i := by
  blk_point [iblk, idx3 t]
theorem b4_at (c : Dev nD) (t : Fin cfg0.N) (k : Fin 1024) (n : Fin 512) :
    (show FVec Ideal S1024x512 .bf16 from iblk m c 4 t) (ix2 k n) = (show FVec Ideal S1024x512 .bf16 from V m c main_v1) (ix2 k n) := by
  blk_point [iblk, idx4 t]

/-- The normed rows a step keeps are those of its rows of the stream. -/
theorem norm_at (c : Dev nD) (t : Fin cfg0.N) (q : Fin 512) (k : Fin 1024) (r : Fin 33792) (hr : r.val = t.val * 512 + q.val) :
    k0_pay1 (F := Ideal) (iblk m c 0 t) (iblk m c 1 t) (iblk m c 3 t) (iblk m c 2 t) (ix2 q k)
      = nrow (m ((c : Thread nD τ).loc main_arg0)) (m ((c : Thread nD τ).loc main_arg1)) (m ((c : Thread nD τ).loc main_arg2))
        (m ((c : Thread nD τ).loc main_arg3)) r k := by
  have hs : r.val / 8192 = min (t.val / 16) 4 := by
    have := r.isLt
    omega
  refine pay1_row _ _ _ _ _ _ _ _ q k r (fun l => b0_at m c t q l _ hr rfl) ?_ (fun i h0 h1 => ?_) (fun i h0 h1 => ?_)
  · refine (b1_at m c t k).trans ?_
    rw [Vg]
    pointwise
  · obtain ⟨a, b, rfl⟩ : ∃ (a : Fin 5) (b : Fin 1024), i = ix2 a b := ⟨_, _, (ix2_eta _).symm⟩
    obtain rfl : b = k := h1
    refine (b3_at m c t b (ix3 a 0 b) (h0.trans hs) rfl rfl).trans ?_
    rw [Vsc]
    pointwise
  · obtain ⟨a, b, rfl⟩ : ∃ (a : Fin 5) (b : Fin 1024), i = ix2 a b := ⟨_, _, (ix2_eta _).symm⟩
    obtain rfl : b = k := h1
    refine (b2_at m c t b (ix3 a 0 b) (h0.trans hs) rfl rfl).trans ?_
    rw [Vsh]
    pointwise

/-- What a step stores at an index. -/
theorem point (c : Dev nD) (t : Fin cfg0.N) (q : Fin 512) (d : Fin 512) (r : Fin 33792) (n : Fin 512) (hr : r.val = t.val * 512 + q.val) (hn : n.val = d.val) :
    k0_pay2 (F := Ideal) (k0_pay1 (F := Ideal) (iblk m c 0 t) (iblk m c 1 t) (iblk m c 3 t) (iblk m c 2 t)) (iblk m c 4 t) (ix2 q d)
      = ent (m ((c : Thread nD τ).loc main_arg0)) (m ((c : Thread nD τ).loc main_arg1)) (m ((c : Thread nD τ).loc main_arg2))
        (m ((c : Thread nD τ).loc main_arg3)) (m ((c : Thread nD τ).loc main_arg4)) r n := by
  obtain rfl : n = d := Fin.ext hn
  refine (pay2_at _ _ q n).trans ?_
  unfold ent pr
  refine Finset.sum_congr rfl fun k _ => congrArg₂ (· * ·) (norm_at m c t q k r hr) ?_
  refine (b4_at m c t k n).trans ?_
  rw [Vw]
  pointwise

/-- The kernel's array is the projection of the modulated norm. -/
theorem final (c : Dev nD) : (dats m 0 c).arrAt 5 cfg0.N = (fun j : S33792x512.Idx =>
    ent (m ((c : Thread nD τ).loc main_arg0)) (m ((c : Thread nD τ).loc main_arg1)) (m ((c : Thread nD τ).loc main_arg2))
      (m ((c : Thread nD τ).loc main_arg3)) (m ((c : Thread nD τ).loc main_arg4)) (j 0) (j 1)) := by
  refine (dats m 0 c).arrAt_eq_of_covers 5 _ (by decide +kernel) fun t hf y => ?_
  blk_simp
  rw [after0_5]
  obtain ⟨q, d, rfl⟩ : ∃ (q : Fin 512) (d : Fin 512), (show S512x512.Idx from y) = ix2 q d := ⟨_, _, (ix2_eta _).symm⟩
  unfold outsAt0 out0_A_5
  frame_out
  have e5 := idx5 t
  have E : (((win0_5.blk t).view.emb (ix2 q d) 0 : Fin 33792) : ℕ) = t.val * 512 + q.val
      ∧ (((win0_5.blk t).view.emb (ix2 q d) 1 : Fin 512) : ℕ) = d.val := by
    constructor
    · blk_simp [e5]
    · blk_simp [e5]
  exact point m c t q d _ _ E.1 E.2

end Cert.EvenFIdeal.Hand
namespace Cert.EvenFRefIdeal.Hand
open Cert.EvenFRefIdeal Cert.EvenFRefIdeal.Gen Cert.EvenFRefIdeal.Value Cert.Norm

/-- Two stretches of rows, one after the other. -/
def asm (A : FVec Ideal S32768x512 .f32) (B : FVec Ideal S1024x512 .f32) : FVec Ideal S33792x512 .f32 :=
  concatenate S33792x512 0 [⟨S32768x512, A⟩, ⟨S1024x512, B⟩] concatenates_S32768x512_S1024x512_S33792x512_d0

theorem asm_at (A : FVec Ideal S32768x512 .f32) (B : FVec Ideal S1024x512 .f32) (r : Fin 33792) (n : Fin 512) :
    asm A B (ix2 r n) = if h : r.val < 32768 then A (ix2 ⟨r.val, h⟩ n) else B (ix2 ⟨r.val - 32768, by omega⟩ n) := by
  pointwise [asm]

/-- The latent rows against the weight's last columns. -/
def lat (L : FVec Ideal S4x8192x1024 .f32) (w : FVec Ideal S1024x2048 .f32) : FVec Ideal S32768x512 .f32 :=
  shapeCast S32768x512 (extractStridedSlice S4x8192x512 ![0, 0, 1536]
      (Host.dotGeneral dot_S4x8192x1024_S1024x2048_S4x8192x2048_2_0_01_1_n_n none L w) slices_S4x8192x2048_S4x8192x512_0_0_1536) shapeCasts_S4x8192x512_S32768x512

theorem lat_at (L : FVec Ideal S4x8192x1024 .f32) (w : FVec Ideal S1024x2048 .f32) (r : Fin 32768) (n : Fin 512) :
    lat L w (ix2 r n) = ∑ k : Fin 1024, (L (ix3 ⟨r.val / 8192, by omega⟩ ⟨r.val % 8192, by omega⟩ k) * w (ix2 k ⟨1536 + n.val, by omega⟩) : EReal) := by
  pointwise [lat]

/-- The context rows against the weight's last columns. -/
def ctx (C : FVec Ideal S4x256x1024 .f32) (w : FVec Ideal S1024x2048 .f32) : FVec Ideal S1024x512 .f32 :=
  shapeCast S1024x512 (extractStridedSlice S4x256x512 ![0, 0, 1536]
      (Host.dotGeneral dot_S4x256x1024_S1024x2048_S4x256x2048_2_0_01_1_n_n none C w) slices_S4x256x2048_S4x256x512_0_0_1536) shapeCasts_S4x256x512_S1024x512

theorem ctx_at (C : FVec Ideal S4x256x1024 .f32) (w : FVec Ideal S1024x2048 .f32) (r : Fin 1024) (n : Fin 512) :
    ctx C w (ix2 r n) = ∑ k : Fin 1024, (C (ix3 ⟨r.val / 256, by omega⟩ ⟨r.val % 256, by omega⟩ k) * w (ix2 k ⟨1536 + n.val, by omega⟩) : EReal) := by
  pointwise [ctx]

set_option maxHeartbeats 1000000 in
/-- The reference's result is the projection of the modulated norm. -/
theorem ref_at (m : (ℓ : Loc nD τ sig) → Buf (Elt Ideal) ℓ) (c : Dev nD) : res_out0 (F := Ideal) m c = (fun j : S33792x512.Idx =>
    Cert.EvenFIdeal.Hand.ent (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (j 0) (j 1)) := by
  have e : res_out0 (F := Ideal) m c = asm (lat (hl (m ((c.tc : Thread nD τ).loc main_arg0)) (m ((c.tc : Thread nD τ).loc main_arg1)) (m ((c.tc : Thread nD τ).loc main_arg2))
      (m ((c.tc : Thread nD τ).loc main_arg3))) (m ((c.tc : Thread nD τ).loc main_arg4))) (ctx (hc (m ((c.tc : Thread nD τ).loc main_arg0)) (m ((c.tc : Thread nD τ).loc main_arg1)) (m ((c.tc : Thread nD τ).loc main_arg2))
      (m ((c.tc : Thread nD τ).loc main_arg3))) (m ((c.tc : Thread nD τ).loc main_arg4))) := rfl
  rw [e]
  funext j
  obtain ⟨r, n, rfl⟩ : ∃ (r : Fin 33792) (n : Fin 512), j = ix2 r n := ⟨_, _, (ix2_eta _).symm⟩
  unfold Cert.EvenFIdeal.Hand.ent pr
  rw [asm_at]
  by_cases h : r.val < 32768
  · rw [dif_pos h]
    refine (lat_at _ _ _ n).trans (Finset.sum_congr rfl fun k _ => congrArg (· * _) ((hl_at _ _ _ _ _ _ k).trans ?_))
    exact congrArg (nrow _ _ _ _ · k) (Fin.ext (by show r.val / 8192 * 8192 + r.val % 8192 = r.val; omega))
  · rw [dif_neg h]
    refine (ctx_at _ _ _ n).trans (Finset.sum_congr rfl fun k _ => congrArg (· * _) ((hc_at _ _ _ _ _ _ k).trans ?_))
    exact congrArg (nrow _ _ _ _ · k) (Fin.ext (by show 32768 + ((r.val - 32768) / 256 * 256 + (r.val - 32768) % 256) = r.val; omega))

end Cert.EvenFRefIdeal.Hand
-- ==== Proof.OddOut.lean ====
module

public import proofs.«01_k».proof.Proof.Gen.OddOutIdeal.Value
public import proofs.«01_k».proof.Proof.Gen.OddOutRefIdeal.Run
public import Idealize.ShloMosaic.Lib.Pointwise
public import Idealize.ShloMosaic.Lib.Pipeline.ValueKit
public import Idealize.ShloMosaic.Lib.Claim
set_option maxRecDepth 16384
@[expose] public noncomputable section
open Idealize.ShloMosaic Idealize.ShloMosaic.TcCoe Idealize.SL.Sem
open Idealize.ShloMosaic.Pipeline (Dat)
namespace Cert.OddOutIdeal.Hand
open Cert.OddOutIdeal Cert.OddOutIdeal.Gen
variable (m : (ℓ : Loc nD τ sig) → Buf (Elt Ideal) ℓ)

/-- An entry of the gated residual: the stream's entry and the gate of the row's batch times the projected row's entry. -/
def ent (o : FVec Ideal S32768x1024 .bf16) (w : FVec Ideal S1024x1024 .f32) (xs : FVec Ideal S33792x1024 .f32)
    (g : FVec Ideal S5x1024 .f32) (r : Fin 32768) (n : Fin 1024) : EReal :=
  xs (ix2 ⟨r.val, by omega⟩ n) + g (ix2 ⟨r.val / 8192, by omega⟩ n) * (∑ k : Fin 1024, (o (ix2 r k) * w (ix2 k n) : EReal))

theorem Vw (c : Dev nD) : V m c main_v0 = truncf .bf16 (show FVec Ideal S1024x1024 .f32 from m ((c : Thread nD τ).loc main_arg1)) bitsLt_bf16_f32 := by
  unfold V
  after_results

theorem Vg (c : Dev nD) : V m c main_v1 = broadcastInDim S5x1x1024 ![0, 2] bcast_S5x1024_S5x1x1024_0_2 (m ((c : Thread nD τ).loc main_arg3)) := by
  unfold V
  after_results

theorem pay_at (v0 : Vec Ideal S512x1024 .bf16) (v1 : Vec Ideal S1024x1024 .bf16) (v4 : Vec Ideal S512x1024 .f32) (v5 : Vec Ideal S1x1x1024 .f32)
    (q : Fin 512) (n : Fin 1024) :
    k0_pay1 v0 v1 v4 v5 (ix2 q n) = (v4 (ix2 q n) + v5 (ix3 0 0 n) * (∑ k : Fin 1024, (v0 (ix2 q k) * v1 (ix2 k n) : EReal)) : EReal) := by
  pointwise [k0_pay1]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val / 16, 0, 0] := (by decide +kernel : ∀ t : Fin grid0.N, _)
theorem idx4 : ∀ t : Fin cfg0.N, win0_4.index t = ![t.val, 0] := (by decide +kernel : ∀ t : Fin grid0.N, _)

theorem b0_at (c : Dev nD) (t : Fin cfg0.N) (q : Fin 512) (k : Fin 1024) (i : S32768x1024.Idx)
    (h0 : (i 0 : ℕ) = t.val * 512 + q) (h1 : (i 1 : ℕ) = k) :
    (show FVec Ideal S512x1024 .bf16 from iblk m c 0 t) (ix2 q k) = (show FVec Ideal S32768x1024 .bf16 from m ((c : Thread nD τ).loc main_arg0)) i := by
  blk_point [iblk, V, idx0 t]
theorem b1_at (c : Dev nD) (t : Fin cfg0.N) (k n : Fin 1024) :
    (show FVec Ideal S1024x1024 .bf16 from iblk m c 1 t) (ix2 k n) = (show FVec Ideal S1024x1024 .bf16 from V m c main_v0) (ix2 k n) := by
  blk_point [iblk, idx1 t]
theorem b2_at (c : Dev nD) (t : Fin cfg0.N) (q : Fin 512) (k : Fin 1024) (i : S33792x1024.Idx)
    (h0 : (i 0 : ℕ) = t.val * 512 + q) (h1 : (i 1 : ℕ) = k) :
    (show FVec Ideal S512x1024 .f32 from iblk m c 2 t) (ix2 q k) = (show FVec Ideal S33792x1024 .f32 from m ((c : Thread nD τ).loc main_arg2)) i := by
  blk_point [iblk, V, idx2 t]
theorem b3_at (c : Dev nD) (t : Fin cfg0.N) (k : Fin 1024) (i : S5x1x1024.Idx)
    (h0 : (i 0 : ℕ) = t.val / 16) (h1 : (i 1 : ℕ) = 0) (h2 : (i 2 : ℕ) = k) :
    (show FVec Ideal S1x1x1024 .f32 from iblk m c 3 t) (ix3 0 0 k) = (show FVec Ideal S5x1x1024 .f32 from V m c main_v1) i := by
  blk_point [iblk, idx3 t]

/-- What a step stores at an index. -/
theorem point (c : Dev nD) (t : Fin cfg0.N) (q : Fin 512) (d : Fin 1024) (r : Fin 32768) (n : Fin 1024) (hr : r.val = t.val * 512 + q.val) (hn : n.val = d.val) :
    k0_pay1 (F := Ideal) (iblk m c 0 t) (iblk m c 1 t) (iblk m c 2 t) (iblk m c 3 t) (ix2 q d)
      = ent (m ((c : Thread nD τ).loc main_arg0)) (m ((c : Thread nD τ).loc main_arg1)) (m ((c : Thread nD τ).loc main_arg2))
        (m ((c : Thread nD τ).loc main_arg3)) r n := by
  obtain rfl : n = d := Fin.ext hn
  refine (pay_at _ _ _ _ q n).trans ?_
  unfold ent
  refine congrArg₂ (· + ·) (b2_at m c t q n _ hr rfl) (congrArg₂ (· * ·) ?_ (Finset.sum_congr rfl fun k _ => congrArg₂ (· * ·) (b0_at m c t q k _ hr rfl) ?_))
  · refine (b3_at m c t n (ix3 ⟨r.val / 8192, by omega⟩ 0 n) ?_ rfl rfl).trans ?_
    · show r.val / 8192 = t.val / 16
      omega
    · rw [Vg]
      pointwise
  · refine (b1_at m c t k n).trans ?_
    rw [Vw]
    rfl

/-- The kernel's array is the gated residual. -/
theorem final (c : Dev nD) : (dats m 0 c).arrAt 4 cfg0.N = (fun j : S32768x1024.Idx =>
    ent (m ((c : Thread nD τ).loc main_arg0)) (m ((c : Thread nD τ).loc main_arg1)) (m ((c : Thread nD τ).loc main_arg2))
      (m ((c : Thread nD τ).loc main_arg3)) (j 0) (j 1)) := by
  refine (dats m 0 c).arrAt_eq_of_covers 4 _ (by decide +kernel) fun t hf y => ?_
  blk_simp
  rw [after0_4]
  have hN : t.val < 64 := lt_of_lt_of_eq t.isLt N_0
  obtain ⟨q, d, rfl⟩ : ∃ (q : Fin 512) (d : Fin 1024), (show S512x1024.Idx from y) = ix2 q d := ⟨_, _, (ix2_eta _).symm⟩
  unfold out0_4
  frame_out
  have e4 := idx4 t
  have E : (((win0_4.blk t).view.emb (ix2 q d) 0 : Fin 32768) : ℕ) = t.val * 512 + q.val
      ∧ (((win0_4.blk t).view.emb (ix2 q d) 1 : Fin 1024) : ℕ) = d.val := by
    constructor
    · blk_simp [e4]
    · blk_simp [e4]
  exact point m c t q d _ _ E.1 E.2

end Cert.OddOutIdeal.Hand
namespace Cert.OddOutRefIdeal.Hand
open Cert.OddOutRefIdeal Cert.OddOutRefIdeal.Gen

/-- The reference's result is the gated residual. -/
theorem ref_at (o : FVec Ideal S32768x1024 .bf16) (w : FVec Ideal S1024x1024 .f32) (xs : FVec Ideal S33792x1024 .f32)
    (g : FVec Ideal S5x1024 .f32) :
    (shapeCast S32768x1024 (addf (shapeCast _ (extractStridedSlice S32768x1024 ![0, 0] xs slices_S33792x1024_S32768x1024_0_0) shapeCasts_S32768x1024_S4x8192x1024) (mulf (broadcastInDim S4x8192x1024 ![0, 1, 2] bcast_S4x1x1024_S4x8192x1024_0_1_2 (broadcastInDim S4x1x1024 ![0, 2] bcast_S4x1024_S4x1x1024_0_2 (extractStridedSlice S4x1024 ![0, 0] g slices_S5x1024_S4x1024_0_0))) (Host.dotGeneral dot_S4x8192x1024_S1024x1024_S4x8192x1024_2_0_01_1_n_n none (shapeCast _ (extf .f32 o bitsLt_bf16_f32) shapeCasts_S32768x1024_S4x8192x1024) w))) shapeCasts_S4x8192x1024_S32768x1024)
      = (fun j : S32768x1024.Idx => Cert.OddOutIdeal.Hand.ent o w xs g (j 0) (j 1)) := by
  funext j
  obtain ⟨r, n, rfl⟩ : ∃ (r : Fin 32768) (n : Fin 1024), j = ix2 r n := ⟨_, _, (ix2_eta _).symm⟩
  unfold Cert.OddOutIdeal.Hand.ent
  pointwise

end Cert.OddOutRefIdeal.Hand
-- ==== Proof.EvenOut.lean ====
module

public import proofs.«01_k».proof.Proof.Gen.EvenOutIdeal.Frame
public import Idealize.ShloMosaic.Lib.Pointwise
public import Idealize.ShloMosaic.Lib.Pipeline.ValueKit
public import Idealize.ShloMosaic.Lib.Claim
set_option maxRecDepth 16384
@[expose] public noncomputable section
open Idealize.ShloMosaic Idealize.ShloMosaic.TcCoe Idealize.SL.Sem
open Idealize.ShloMosaic.Pipeline (Dat)
namespace Cert.EvenOutIdeal.Hand
open Cert.EvenOutIdeal Cert.EvenOutIdeal.Gen
variable (m : (ℓ : Loc nD τ sig) → Buf (Elt Ideal) ℓ) (ρ : Dev nD → PrngReg)
variable (V : (c : Dev nD) → (b : Ref sig .tc) → Buf (Elt Ideal) ((c : Thread nD τ).loc b))

/-- A row of 512 entries against a column of the weight. -/
def dot {φ : FTy} (a : FVec Ideal S33792x512 φ) (w : FVec Ideal S512x1024 .bf16) (r : Fin 33792) (n : Fin 1024) : EReal :=
  ∑ k : Fin 512, (a (ix2 r k) * w (ix2 k n) : EReal)

/-- An entry one call leaves: the stream's entry and the gate of the row's group times the projected row's entry. -/
def gated {φ : FTy} (a : FVec Ideal S33792x512 φ) (w : FVec Ideal S512x1024 .bf16) (x : FVec Ideal S33792x1024 .f32)
    (g : FVec Ideal S5x1x1024 .f32) (r : Fin 33792) (n : Fin 1024) : EReal :=
  x (ix2 r n) + g (ix3 ⟨r.val / 8192, by omega⟩ 0 n) * dot a w r n

theorem pay0_at (v0 : Vec Ideal S512x512 .bf16) (v1 : Vec Ideal S512x1024 .bf16) (v4 : Vec Ideal S512x1024 .f32) (v5 : Vec Ideal S1x1x1024 .f32)
    (q : Fin 512) (n : Fin 1024) :
    k0_pay1 v0 v1 v4 v5 (ix2 q n) = (v4 (ix2 q n) + v5 (ix3 0 0 n) * (∑ k : Fin 512, (v0 (ix2 q k) * v1 (ix2 k n) : EReal)) : EReal) := by
  pointwise [k0_pay1]
theorem pay1_at (v0 : Vec Ideal S512x512 .f32) (v1 : Vec Ideal S512x1024 .bf16) (v4 : Vec Ideal S512x1024 .f32) (v5 : Vec Ideal S1x1x1024 .f32)
    (q : Fin 512) (n : Fin 1024) :
    k1_pay1 v0 v1 v4 v5 (ix2 q n) = (v4 (ix2 q n) + v5 (ix3 0 0 n) * (∑ k : Fin 512, (v0 (ix2 q k) * v1 (ix2 k n) : EReal)) : EReal) := by
  pointwise [k1_pay1]

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val, 0] := (by decide +kernel : ∀ t : Fin grid0.N, _)
theorem idx0_3 : ∀ t : Fin cfg0.N, win0_3.index t = ![min (t.val / 16) 4, 0, 0] := (by decide +kernel : ∀ t : Fin grid0.N, _)
theorem idx0_4 : ∀ t : Fin cfg0.N, win0_4.index t = ![t.val, 0] := (by decide +kernel : ∀ t : Fin grid0.N, _)
theorem idx1_0 : ∀ t : Fin cfg1.N, win1_0.index t = ![t.val, 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![t.val, 0] := (by decide +kernel : ∀ t : Fin grid1.N, _)
theorem idx1_3 : ∀ t : Fin cfg1.N, win1_3.index t = ![min (t.val / 16) 4, 0, 0] := (by decide +kernel : ∀ t : Fin grid1.N, _)
theorem idx1_4 : ∀ t : Fin cfg1.N, win1_4.index t = ![t.val, 0] := (by decide +kernel : ∀ t : Fin grid1.N, _)

theorem b0_0 (c : Dev nD) (t : Fin cfg0.N) (q : Fin 512) (k : Fin 512) (i : S33792x512.Idx)
    (h0 : (i 0 : ℕ) = t.val * 512 + q) (h1 : (i 1 : ℕ) = k) :
    (show FVec Ideal S512x512 .bf16 from iblk0 V c 0 t) (ix2 q k) = (show FVec Ideal S33792x512 .bf16 from V c main_arg0) i := by
  blk_point [iblk0, idx0_0 t]
theorem b0_1 (c : Dev nD) (t : Fin cfg0.N) (k : Fin 512) (n : Fin 1024) :
    (show FVec Ideal S512x1024 .bf16 from iblk0 V c 1 t) (ix2 k n) = (show FVec Ideal S512x1024 .bf16 from V c main_v1) (ix2 k n) := by
  blk_point [iblk0, idx0_1 t]
theorem b0_2 (c : Dev nD) (t : Fin cfg0.N) (q : Fin 512) (k : Fin 1024) (i : S33792x1024.Idx)
    (h0 : (i 0 : ℕ) = t.val * 512 + q) (h1 : (i 1 : ℕ) = k) :
    (show FVec Ideal S512x1024 .f32 from iblk0 V c 2 t) (ix2 q k) = (show FVec Ideal S33792x1024 .f32 from V c main_arg3) i := by
  blk_point [iblk0, idx0_2 t]
theorem b0_3 (c : Dev nD) (t : Fin cfg0.N) (k : Fin 1024) (i : S5x1x1024.Idx)
    (h0 : (i 0 : ℕ) = min (t.val / 16) 4) (h1 : (i 1 : ℕ) = 0) (h2 : (i 2 : ℕ) = k) :
    (show FVec Ideal S1x1x1024 .f32 from iblk0 V c 3 t) (ix3 0 0 k) = (show FVec Ideal S5x1x1024 .f32 from V c main_v2) i := by
  blk_point [iblk0, idx0_3 t]
theorem b1_0 (c : Dev nD) (t : Fin cfg1.N) (q : Fin 512) (k : Fin 512) (i : S33792x512.Idx)
    (h0 : (i 0 : ℕ) = t.val * 512 + q) (h1 : (i 1 : ℕ) = k) :
    (show FVec Ideal S512x512 .f32 from iblk1 V c 0 t) (ix2 q k) = (show FVec Ideal S33792x512 .f32 from V c main_arg1) i := by
  blk_point [iblk1, idx1_0 t]
theorem b1_1 (c : Dev nD) (t : Fin cfg1.N) (k : Fin 512) (n : Fin 1024) :
    (show FVec Ideal S512x1024 .bf16 from iblk1 V c 1 t) (ix2 k n) = (show FVec Ideal S512x1024 .bf16 from V c main_v4) (ix2 k n) := by
  blk_point [iblk1, idx1_1 t]
theorem b1_2 (c : Dev nD) (t : Fin cfg1.N) (q : Fin 512) (k : Fin 1024) (i : S33792x1024.Idx)
    (h0 : (i 0 : ℕ) = t.val * 512 + q) (h1 : (i 1 : ℕ) = k) :
    (show FVec Ideal S512x1024 .f32 from iblk1 V c 2 t) (ix2 q k) = (show FVec Ideal S33792x1024 .f32 from V c main_v3) i := by
  blk_point [iblk1, idx1_2 t]
theorem b1_3 (c : Dev nD) (t : Fin cfg1.N) (k : Fin 1024) (i : S5x1x1024.Idx)
    (h0 : (i 0 : ℕ) = min (t.val / 16) 4) (h1 : (i 1 : ℕ) = 0) (h2 : (i 2 : ℕ) = k) :
    (show FVec Ideal S1x1x1024 .f32 from iblk1 V c 3 t) (ix3 0 0 k) = (show FVec Ideal S5x1x1024 .f32 from V c main_v5) i := by
  blk_point [iblk1, idx1_3 t]

/-- A row of a block lies in the group its block is given the gate of. -/
theorem group (r : Fin 33792) (t q : ℕ) (hq : q < 512) (h : r.val = t * 512 + q) : r.val / 8192 = min (t / 16) 4 := by
  have := r.isLt
  omega

/-- What a step of the first call stores at an index. -/
theorem point0 (c : Dev nD) (t : Fin cfg0.N) (q : Fin 512) (d : Fin 1024) (r : Fin 33792) (n : Fin 1024) (hr : r.val = t.val * 512 + q.val) (hn : n.val = d.val) :
    k0_pay1 (F := Ideal) (iblk0 V c 0 t) (iblk0 V c 1 t) (iblk0 V c 2 t) (iblk0 V c 3 t) (ix2 q d)
      = gated (φ := .bf16) (V c main_arg0) (V c main_v1) (V c main_arg3) (V c main_v2) r n := by
  obtain rfl : n = d := Fin.ext hn
  refine (pay0_at _ _ _ _ q n).trans ?_
  unfold gated dot
  exact congrArg₂ (· + ·) (b0_2 V c t q n _ hr rfl) (congrArg₂ (· * ·) (b0_3 V c t n (ix3 ⟨r.val / 8192, by omega⟩ 0 n) (group r _ _ q.isLt hr) rfl rfl)
    (Finset.sum_congr rfl fun k _ => congrArg₂ (· * ·) (b0_0 V c t q k _ hr rfl) (b0_1 V c t k n)))
theorem point1 (c : Dev nD) (t : Fin cfg1.N) (q : Fin 512) (d : Fin 1024) (r : Fin 33792) (n : Fin 1024) (hr : r.val = t.val * 512 + q.val) (hn : n.val = d.val) :
    k1_pay1 (F := Ideal) (iblk1 V c 0 t) (iblk1 V c 1 t) (iblk1 V c 2 t) (iblk1 V c 3 t) (ix2 q d)
      = gated (φ := .f32) (V c main_arg1) (V c main_v4) (V c main_v3) (V c main_v5) r n := by
  obtain rfl : n = d := Fin.ext hn
  refine (pay1_at _ _ _ _ q n).trans ?_
  unfold gated dot
  exact congrArg₂ (· + ·) (b1_2 V c t q n _ hr rfl) (congrArg₂ (· * ·) (b1_3 V c t n (ix3 ⟨r.val / 8192, by omega⟩ 0 n) (group r _ _ q.isLt hr) rfl rfl)
    (Finset.sum_congr rfl fun k _ => congrArg₂ (· * ·) (b1_0 V c t q k _ hr rfl) (b1_1 V c t k n)))

/-- What the first call leaves, whatever it finds. -/
theorem final0 (c : Dev nD) : (dat0 V c).arrAt 4 cfg0.N = (fun j : S33792x1024.Idx =>
    gated (φ := .bf16) (V c main_arg0) (V c main_v1) (V c main_arg3) (V c main_v2) (j 0) (j 1)) := by
  refine (dat0 V c).arrAt_eq_of_covers 4 _ (by decide +kernel) fun t hf y => ?_
  blk_simp
  rw [after0_4]
  obtain ⟨q, d, rfl⟩ : ∃ (q : Fin 512) (d : Fin 1024), (show S512x1024.Idx from y) = ix2 q d := ⟨_, _, (ix2_eta _).symm⟩
  unfold out0_4
  frame_out
  have e4 := idx0_4 t
  have E : (((win0_4.blk t).view.emb (ix2 q d) 0 : Fin 33792) : ℕ) = t.val * 512 + q.val
      ∧ (((win0_4.blk t).view.emb (ix2 q d) 1 : Fin 1024) : ℕ) = d.val := by
    constructor
    · blk_simp [e4]
    · blk_simp [e4]
  exact point0 V c t q d _ _ E.1 E.2
theorem final1 (c : Dev nD) : (dat1 V c).arrAt 4 cfg1.N = (fun j : S33792x1024.Idx =>
    gated (φ := .f32) (V c main_arg1) (V c main_v4) (V c main_v3) (V c main_v5) (j 0) (j 1)) := by
  refine (dat1 V c).arrAt_eq_of_covers 4 _ (by decide +kernel) fun t hf y => ?_
  blk_simp
  rw [after1_4]
  obtain ⟨q, d, rfl⟩ : ∃ (q : Fin 512) (d : Fin 1024), (show S512x1024.Idx from y) = ix2 q d := ⟨_, _, (ix2_eta _).symm⟩
  unfold out1_4
  frame_out
  have e4 := idx1_4 t
  have E : (((win1_4.blk t).view.emb (ix2 q d) 0 : Fin 33792) : ℕ) = t.val * 512 + q.val
      ∧ (((win1_4.blk t).view.emb (ix2 q d) 1 : Fin 1024) : ℕ) = d.val := by
    constructor
    · blk_simp [e4]
    · blk_simp [e4]
  exact point1 V c t q d _ _ E.1 E.2

/-! What each call finds. -/
/-- The weight, converted. -/
abbrev wt (c : Dev nD) : FVec Ideal S1024x1024 .bf16 :=
  truncf .bf16 (show FVec Ideal S1024x1024 .f32 from m ((c : Thread nD τ).loc main_arg2)) bitsLt_bf16_f32
/-- The gate, with an axis of extent one. -/
abbrev gt (c : Dev nD) : FVec Ideal S5x1x1024 .f32 := broadcastInDim S5x1x1024 ![0, 2] bcast_S5x1024_S5x1x1024_0_2 (m ((c : Thread nD τ).loc main_arg4))

theorem at1_w (c : Dev nD) : W1 m ρ c (Proc.devRef .tc main_v0) = wt m c := by
  unfold W1
  after_results
theorem at1_1 (c : Dev nD) : V1 m ρ c main_v1 = extractStridedSlice S512x1024 ![0, 0] (wt m c) slices_S1024x1024_S512x1024_0_0 := by
  unfold V1 W1
  after_results
theorem at1_2 (c : Dev nD) : V1 m ρ c main_v2 = gt m c := by
  unfold V1 W1
  after_results
theorem at1_arg (c : Dev nD) (a : Ref sig .tc) (h : a ∈ argRefs) : V1 m ρ c a = m ((c : Thread nD τ).loc a) := W1_args m ρ c a h
theorem at3_arg (c : Dev nD) (a : Ref sig .tc) (h : a ∈ argRefs) : V3 m ρ c a = m ((c : Thread nD τ).loc a) := W3_args m ρ c a h

theorem at2_w (c : Dev nD) : W2 m ρ c (Proc.devRef .tc main_v0) = wt m c :=
  (W2_of_ne m ρ c main_v0 (by decide)).trans (at1_w m ρ c)
theorem at3_4 (c : Dev nD) : V3 m ρ c main_v4 = extractStridedSlice S512x1024 ![512, 0] (wt m c) slices_S1024x1024_S512x1024_512_0 := by
  rw [← at2_w m ρ c]
  unfold V3 W3
  after_results
theorem at3_5 (c : Dev nD) : V3 m ρ c main_v5 = gt m c := by
  have e : W2 m ρ c (Proc.devRef .tc main_arg4) = m ((c : Thread nD τ).loc main_arg4) := W2_args m ρ c main_arg4 (by decide)
  unfold gt
  rw [← e]
  unfold V3 W3
  after_results
theorem at3_3 (c : Dev nD) : V3 m ρ c main_v3 = (fun j : S33792x1024.Idx => gated (φ := .bf16) (m ((c : Thread nD τ).loc main_arg0))
    (extractStridedSlice S512x1024 ![0, 0] (wt m c) slices_S1024x1024_S512x1024_0_0) (m ((c : Thread nD τ).loc main_arg3)) (gt m c) (j 0) (j 1)) := by
  refine (W3_of m ρ c main_v3 (by decide)).trans ((W2_arr m ρ c 4).trans ((final0 (V1 m ρ) c).trans ?_))
  rw [at1_1, at1_2, at1_arg m ρ c main_arg0 (by decide), at1_arg m ρ c main_arg3 (by decide)]

/-- An entry of the two halves' projections under their gate, added to the stream one after the other. -/
def ent (a : FVec Ideal S33792x512 .bf16) (f : FVec Ideal S33792x512 .f32) (w : FVec Ideal S1024x1024 .f32) (xs : FVec Ideal S33792x1024 .f32)
    (g : FVec Ideal S5x1024 .f32) (r : Fin 33792) (n : Fin 1024) : EReal :=
  xs (ix2 r n) + g (ix2 ⟨r.val / 8192, by omega⟩ n) * (∑ k : Fin 512, (a (ix2 r k) * w (ix2 ⟨k.val, by omega⟩ n) : EReal))
    + g (ix2 ⟨r.val / 8192, by omega⟩ n) * (∑ k : Fin 512, (f (ix2 r k) * w (ix2 ⟨512 + k.val, by omega⟩ n) : EReal))

/-- The kernel's array. -/
theorem final (c : Dev nD) : W4 m ρ c (Proc.devRef .tc main_v6) = (fun j : S33792x1024.Idx =>
    ent (m ((c : Thread nD τ).loc main_arg0)) (m ((c : Thread nD τ).loc main_arg1)) (m ((c : Thread nD τ).loc main_arg2))
      (m ((c : Thread nD τ).loc main_arg3)) (m ((c : Thread nD τ).loc main_arg4)) (j 0) (j 1)) := by
  refine (W4_arr m ρ c 4).trans ((final1 (V3 m ρ) c).trans ?_)
  rw [at3_4, at3_5, at3_3, at3_arg m ρ c main_arg1 (by decide)]
  funext j
  obtain ⟨r, n, rfl⟩ : ∃ (r : Fin 33792) (n : Fin 1024), j = ix2 r n := ⟨_, _, (ix2_eta _).symm⟩
  have eg : gt m c (ix3 ⟨r.val / 8192, by omega⟩ 0 n) = (show FVec Ideal S5x1024 .f32 from m ((c : Thread nD τ).loc main_arg4)) (ix2 ⟨r.val / 8192, by omega⟩ n) := by
    pointwise [gt]
  have e1 : ∀ k : Fin 512, extractStridedSlice S512x1024 ![0, 0] (wt m c) slices_S1024x1024_S512x1024_0_0 (ix2 k n)
      = (show FVec Ideal S1024x1024 .f32 from m ((c : Thread nD τ).loc main_arg2)) (ix2 ⟨k.val, by omega⟩ n) := fun k => by pointwise [wt]
  have e2 : ∀ k : Fin 512, extractStridedSlice S512x1024 ![512, 0] (wt m c) slices_S1024x1024_S512x1024_512_0 (ix2 k n)
      = (show FVec Ideal S1024x1024 .f32 from m ((c : Thread nD τ).loc main_arg2)) (ix2 ⟨512 + k.val, by omega⟩ n) := fun k => by pointwise [wt]
  unfold ent gated dot
  refine congrArg₂ (· + ·) (congrArg₂ (· + ·) rfl (congrArg₂ (· * ·) eg (Finset.sum_congr rfl fun k _ => congrArg₂ (· * ·) rfl (e1 k))))
    (congrArg₂ (· * ·) eg (Finset.sum_congr rfl fun k _ => congrArg₂ (· * ·) rfl (e2 k)))

end Cert.EvenOutIdeal.Hand
-- ==== Proof.EvenOutRun.lean ====
module

public import proofs.«01_k».proof.Proof.Gen.EvenOutIdeal.Frame
public import Idealize.ShloMosaic.Lib.Pointwise
set_option maxRecDepth 16384
@[expose] public noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
namespace Cert.EvenOutIdeal.Hand
open Cert.EvenOutIdeal Cert.EvenOutIdeal.Gen

/-- The propositions about a machine running the two calls. -/
abbrev Pr : Type := sProp (MT nD τ sig Unit (Elt Ideal) ℕ (UR sig nD τ) ℕ)

variable (m : (ℓ : Loc nD τ sig) → Buf (Elt Ideal) ℓ) (ρ : Dev nD → PrngReg)

/-- The tokens both calls start from. -/
abbrev u0 : UR sig nD τ := initOf (Pipeline.cells cfgs cellOf_inj) (Pipeline.launchToks cfgs cellOf_inj)

theorem own_start : (ownU u0 : Pr) ⊢ BI.own (emb₁ u0) := .rfl
theorem no_start : (BI.emp : Pr) ⊢ bigSep Finset.univ (fun _ : Dev nD => (BI.emp : Pr)) := by
  rw [BI.bigSep_emp_const]

set_option backward.isDefEq.respectTransparency.types false in
/-- Every run ends with each array at what the fold over the four stretches says. -/
theorem ends : θ_run (defs (F := Ideal)) (onTc (τ := τ) (main (F := Ideal))) ⟨m, fun _ => 0, ρ⟩
    (fun r => ∀ c : Dev nD, ∀ b ∈ Pipeline.ucRefs τ sig, r.2.mem ((c : Thread nD τ).1, b) = W4 m ρ c b) := by
  refine Pipeline.θ_run_regions_kit_sems (pcfgs (F := Ideal)) adm (pdats m ρ) () cellOf_inj emb₁ defs₀ 𝒱₀ L lv m ρ main (segs m ρ)
    (fun c Q => by rw [main_run m ρ c]) ?_
    (O₀ := 0) (hL := fun _ _ => rfl) (G := fun _ => iprop(emp)) (u₀ := u0) (hu₀ := ?_)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := Pipeline.initEach L lv fun c => ?_)
    (QY := fun c s => ∀ b ∈ Pipeline.ucRefs τ sig, s.mem ((c : Thread nD τ).1, b) = W4 m ρ c b)
    (hfin := fun c s => ?_) (hQ := fun _ h _ => h)
  · simp only [segs, Pipeline.Seg.pipes_host, Pipeline.Seg.pipes_region, Pipeline.Seg.pipes_nil]
    decide
  · iintro H
    imodintro
    isplitl [H]
    · iapply own_start
      iexact H
    · iapply no_start
      iempintro
  · have e : (unscopedBufs c (fun b => m ((c : Thread nD τ).loc b)) : Pr) = StableHlo.held (c : Thread nD τ) (Pipeline.ucRefs τ sig) (W0 m ρ c) :=
      Pipeline.unscopedBufs_held c (W0 m ρ c)
    rw [e]
    iintro ⟨⟨Hb, -, Ho, -, Hp, -⟩, -⟩
    imodintro
    isplitl [Hb]
    · iexact Hb
    · isplitl [Hp]
      · iexists _
        iexact Hp
      · iexists ∅
        iexact Ho
  · iintro ⟨⟨Hb, -⟩, Hs⟩
    unfold StableHlo.held
    imodintro
    iapply (pointsTo_read_all (Pipeline.ucRefs τ sig) (fun b => ((c : Thread nD τ).1, b)) (W4 m ρ c) s)
    isplitl [Hb] <;> iassumption

/-- Every run ends with the result at what the second call leaves, the arguments as launched. -/
theorem run : θ_run (defs (F := Ideal)) (onTc (τ := τ) (main (F := Ideal))) ⟨m, fun _ => 0, ρ⟩
    (fun r => ∀ c : Dev nD, r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (ends m ρ)
  have a : ∀ b ∈ argRefs, r.2.mem ((c.tc : Thread nD τ).loc b) = m ((c.tc : Thread nD τ).loc b) := fun b hb =>
    (h c _ (mem_uc b (by revert b; decide))).trans (W4_args m ρ c b hb)
  exact ⟨h c _ (mem_uc main_v6 (by decide)), a _ (by decide), a _ (by decide), a _ (by decide), a _ (by decide), a _ (by decide)⟩

end Cert.EvenOutIdeal.Hand
-- ==== Proof.EvenOutRef.lean ====
module

public import proofs.«01_k».proof.Proof.PreFin
public import proofs.«01_k».proof.Proof.Attn
public import proofs.«01_k».proof.Pre_finite_mix
public import proofs.«01_k».proof.Proof.EvenOut
public import proofs.«01_k».proof.Proof.Gen.EvenOutRefIdeal.Run
set_option maxRecDepth 16384
@[expose] public noncomputable section
open Idealize.ShloMosaic Idealize.ShloMosaic.TcCoe Idealize.SL.Sem
namespace Cert.Pre_finite_mix
open Facts

/-- The side conditions of the precondition's operations. -/
instance facts : Cert.Pre_finite_mix.Facts where
  bcast_S_S33792x512 := by decide
  reducesTo_S33792x512_S_d0_1 := by decide
  h_S_ := by decide
  slices_S1024x1024_S512x1024_512_0 := by decide
  bcast_S_S512x1024 := by decide
  reducesTo_S512x1024_S_d0_1 := by decide
  bcast_S_S5x1024 := by decide
  reducesTo_S5x1024_S_d0_1 := by decide

/-- The weight's rows of the second half. -/
theorem low_at (w : FVec Ideal S1024x1024 .f32) (k : Fin 512) (n : Fin 1024) :
    extractStridedSlice S512x1024 ![512, 0] w slices_S1024x1024_S512x1024_512_0 (ix2 k n) = w (ix2 ⟨512 + k.val, by omega⟩ n) := by
  pointwise

/-- The precondition says that the second half, its rows of the weight and the gate are real numbers. -/
theorem mix_real (a : FVec Ideal S33792x512 .bf16) (f : FVec Ideal S33792x512 .f32) (w : FVec Ideal S1024x1024 .f32) (xs : FVec Ideal S33792x1024 .f32)
    (g : FVec Ideal S5x1024 .f32) (e : fn (F := Ideal) a f w xs g = fun _ => 1#1) :
    (∀ i, ∃ r : ℝ, f i = r) ∧ (∀ (k : Fin 512) (n : Fin 1024), ∃ r : ℝ, w (ix2 ⟨512 + k.val, by omega⟩ n) = r) ∧ (∀ i, ∃ r : ℝ, g i = r) := by
  have e0 := congrFun e ix0
  unfold fn fn_part1 at e0
  dsimp only at e0
  obtain ⟨e1, h2⟩ := IntOp.andi_eq_one.1 e0
  clear e0
  obtain ⟨h0, h1⟩ := IntOp.andi_eq_one.1 e1
  clear e1
  refine ⟨fun i => ?_, fun k n => ?_, fun i => ?_⟩
  · exact Cert.Pre_finite.real_all f _ _ _ _ h0 i
  · obtain ⟨r, hr⟩ := Cert.Pre_finite.real_all _ _ _ _ _ h1 (ix2 k n)
    exact ⟨r, (low_at w k n).symm.trans hr⟩
  · exact Cert.Pre_finite.real_all g _ _ _ _ h2 i

end Cert.Pre_finite_mix
namespace Cert.EvenOutRefIdeal.Hand
open Cert.EvenOutRefIdeal Cert.EvenOutRefIdeal.Gen Cert.EvenOutRefIdeal.Value

/-- A real gate distributes over a sum with a real term. -/
theorem real_mul_add (g b : ℝ) (a : EReal) : (g : EReal) * (a + b) = g * a + g * b := by
  induction a with
  | coe x =>
    rw [← EReal.coe_add, ← EReal.coe_mul, ← EReal.coe_mul, ← EReal.coe_mul, ← EReal.coe_add, mul_add]
  | bot =>
    rw [EReal.bot_add, ← EReal.coe_mul]
    rcases lt_trichotomy g 0 with h | h | h
    · rw [EReal.coe_mul_bot_of_neg h, EReal.top_add_coe]
    · subst h
      simp
    · rw [EReal.coe_mul_bot_of_pos h, EReal.bot_add]
  | top =>
    rw [EReal.top_add_coe, ← EReal.coe_mul]
    rcases lt_trichotomy g 0 with h | h | h
    · rw [EReal.coe_mul_top_of_neg h, EReal.bot_add]
    · subst h
      simp
    · rw [EReal.coe_mul_top_of_pos h, EReal.top_add_coe]

theorem sum_real {ι : Type} (s : Finset ι) (f : ι → EReal) (h : ∀ k, ∃ r : ℝ, f k = r) : ∃ r : ℝ, ∑ k ∈ s, f k = r := by
  choose u hu using h
  exact ⟨∑ k ∈ s, u k, (Finset.sum_congr rfl fun k _ => hu k).trans (Cert.Attn.coe_sum s u).symm⟩

/-- The two halves side by side. -/
def mix (a : FVec Ideal S33792x512 .bf16) (f : FVec Ideal S33792x512 .f32) : FVec Ideal S33792x1024 .f32 :=
  concatenate S33792x1024 1 [⟨S33792x512, extf .f32 a bitsLt_bf16_f32⟩, ⟨S33792x512, f⟩] concatenates_S33792x512_S33792x512_S33792x1024_d1

theorem mix_at (a : FVec Ideal S33792x512 .bf16) (f : FVec Ideal S33792x512 .f32) (r : Fin 33792) (k : Fin 1024) :
    mix a f (ix2 r k) = if h : k.val < 512 then a (ix2 r ⟨k.val, h⟩) else f (ix2 r ⟨k.val - 512, by omega⟩) := by
  pointwise [mix]

/-- A row of the two halves side by side against a column of the weight. -/
theorem mix_sum (a : FVec Ideal S33792x512 .bf16) (f : FVec Ideal S33792x512 .f32) (w : FVec Ideal S1024x1024 .f32) (r : Fin 33792) (n : Fin 1024) :
    (∑ k : Fin 1024, (mix a f (ix2 r k) * w (ix2 k n) : EReal))
      = (∑ k : Fin 512, (a (ix2 r k) * w (ix2 ⟨k.val, by omega⟩ n) : EReal)) + (∑ k : Fin 512, (f (ix2 r k) * w (ix2 ⟨512 + k.val, by omega⟩ n) : EReal)) := by
  refine (Fin.sum_univ_add (a := 512) (b := 512) fun k : Fin (512 + 512) => (mix a f (ix2 r k) * w (ix2 k n) : EReal)).trans
    (congrArg₂ (· + ·) (Finset.sum_congr rfl fun k _ => congrArg (· * _) ?_) (Finset.sum_congr rfl fun k _ => congrArg (· * _) ?_))
  · exact (mix_at a f r _).trans (dif_pos k.isLt)
  · refine (mix_at a f r _).trans ((dif_neg (by show ¬ (512 + k.val < 512); omega)).trans ?_)
    exact congrArg (fun d => f (ix2 r d)) (Fin.ext (by show 512 + k.val - 512 = k.val; omega))

/-- Two stretches of rows, one after the other. -/
def asm (A : FVec Ideal S32768x1024 .f32) (B : FVec Ideal S1024x1024 .f32) : FVec Ideal S33792x1024 .f32 :=
  concatenate S33792x1024 0 [⟨S32768x1024, A⟩, ⟨S1024x1024, B⟩] concatenates_S32768x1024_S1024x1024_S33792x1024_d0

theorem asm_at (A : FVec Ideal S32768x1024 .f32) (B : FVec Ideal S1024x1024 .f32) (r : Fin 33792) (n : Fin 1024) :
    asm A B (ix2 r n) = if h : r.val < 32768 then A (ix2 ⟨r.val, h⟩ n) else B (ix2 ⟨r.val - 32768, by omega⟩ n) := by
  pointwise [asm]

/-- The latent rows' gated residual. -/
def lat (x : FVec Ideal S33792x1024 .f32) (w : FVec Ideal S1024x1024 .f32) (xs : FVec Ideal S33792x1024 .f32) (g : FVec Ideal S5x1024 .f32) : FVec Ideal S32768x1024 .f32 :=
  shapeCast S32768x1024 (addf (shapeCast S4x8192x1024 (extractStridedSlice S32768x1024 ![0, 0] xs slices_S33792x1024_S32768x1024_0_0) shapeCasts_S32768x1024_S4x8192x1024)
    (mulf (broadcastInDim S4x8192x1024 ![0, 1, 2] bcast_S4x1x1024_S4x8192x1024_0_1_2 (broadcastInDim S4x1x1024 ![0, 2] bcast_S4x1024_S4x1x1024_0_2
        (extractStridedSlice S4x1024 ![0, 0] g slices_S5x1024_S4x1024_0_0)))
      (Host.dotGeneral dot_S4x8192x1024_S1024x1024_S4x8192x1024_2_0_01_1_n_n none
        (shapeCast S4x8192x1024 (extractStridedSlice S32768x1024 ![0, 0] x slices_S33792x1024_S32768x1024_0_0) shapeCasts_S32768x1024_S4x8192x1024) w)))
    shapeCasts_S4x8192x1024_S32768x1024

theorem lat_at (x : FVec Ideal S33792x1024 .f32) (w : FVec Ideal S1024x1024 .f32) (xs : FVec Ideal S33792x1024 .f32) (g : FVec Ideal S5x1024 .f32)
    (r : Fin 32768) (n : Fin 1024) :
    lat x w xs g (ix2 r n) = (xs (ix2 ⟨r.val, by omega⟩ n) + g (ix2 ⟨r.val / 8192, by omega⟩ n)
      * (∑ k : Fin 1024, (x (ix2 ⟨r.val, by omega⟩ k) * w (ix2 k n) : EReal)) : EReal) := by
  pointwise [lat]

/-- The context rows' gated residual. -/
def ctx (x : FVec Ideal S33792x1024 .f32) (w : FVec Ideal S1024x1024 .f32) (xs : FVec Ideal S33792x1024 .f32) (g : FVec Ideal S5x1024 .f32) : FVec Ideal S1024x1024 .f32 :=
  shapeCast S1024x1024 (addf (shapeCast S4x256x1024 (extractStridedSlice S1024x1024 ![32768, 0] xs slices_S33792x1024_S1024x1024_32768_0) shapeCasts_S1024x1024_S4x256x1024)
    (mulf (broadcastInDim S4x256x1024 ![0, 1, 2] bcast_S1x1x1024_S4x256x1024_0_1_2 (broadcastInDim S1x1x1024 ![0, 2] bcast_S1x1024_S1x1x1024_0_2
        (extractStridedSlice S1x1024 ![4, 0] g slices_S5x1024_S1x1024_4_0)))
      (Host.dotGeneral dot_S4x256x1024_S1024x1024_S4x256x1024_2_0_01_1_n_n none
        (shapeCast S4x256x1024 (extractStridedSlice S1024x1024 ![32768, 0] x slices_S33792x1024_S1024x1024_32768_0) shapeCasts_S1024x1024_S4x256x1024) w)))
    shapeCasts_S4x256x1024_S1024x1024

theorem ctx_at (x : FVec Ideal S33792x1024 .f32) (w : FVec Ideal S1024x1024 .f32) (xs : FVec Ideal S33792x1024 .f32) (g : FVec Ideal S5x1024 .f32)
    (r : Fin 1024) (n : Fin 1024) :
    ctx x w xs g (ix2 r n) = (xs (ix2 ⟨32768 + r.val, by omega⟩ n) + g (ix2 4 n)
      * (∑ k : Fin 1024, (x (ix2 ⟨32768 + r.val, by omega⟩ k) * w (ix2 k n) : EReal)) : EReal) := by
  pointwise [ctx]

/-- Every row's gated residual. -/
theorem rows_at (x : FVec Ideal S33792x1024 .f32) (w : FVec Ideal S1024x1024 .f32) (xs : FVec Ideal S33792x1024 .f32) (g : FVec Ideal S5x1024 .f32)
    (r : Fin 33792) (n : Fin 1024) :
    asm (lat x w xs g) (ctx x w xs g) (ix2 r n) = (xs (ix2 r n) + g (ix2 ⟨r.val / 8192, by omega⟩ n)
      * (∑ k : Fin 1024, (x (ix2 r k) * w (ix2 k n) : EReal)) : EReal) := by
  rw [asm_at]
  by_cases h : r.val < 32768
  · rw [dif_pos h]
    exact lat_at x w xs g ⟨r.val, h⟩ n
  · rw [dif_neg h]
    refine (ctx_at x w xs g _ n).trans ?_
    have er : (⟨32768 + (r.val - 32768), by omega⟩ : Fin 33792) = r := Fin.ext (by show 32768 + (r.val - 32768) = r.val; omega)
    have eg : (⟨r.val / 8192, by omega⟩ : Fin 5) = 4 := Fin.ext (by show r.val / 8192 = 4; omega)
    rw [eg]
    exact congrArg (fun q : Fin 33792 => (xs (ix2 q n) + g (ix2 4 n) * (∑ k : Fin 1024, (x (ix2 q k) * w (ix2 k n) : EReal)) : EReal)) er

/-- The reference's result is the kernel's array. -/
theorem ref_at (a : FVec Ideal S33792x512 .bf16) (f : FVec Ideal S33792x512 .f32) (w : FVec Ideal S1024x1024 .f32) (xs : FVec Ideal S33792x1024 .f32)
    (g : FVec Ideal S5x1024 .f32) (e : Cert.Pre_finite_mix.fn (F := Ideal) a f w xs g = fun _ => 1#1) :
    asm (lat (mix a f) w xs g) (ctx (mix a f) w xs g) = (fun j : S33792x1024.Idx => Cert.EvenOutIdeal.Hand.ent a f w xs g (j 0) (j 1)) := by
  obtain ⟨hf, hw, hg⟩ := Cert.Pre_finite_mix.mix_real a f w xs g e
  funext j
  obtain ⟨r, n, rfl⟩ : ∃ (r : Fin 33792) (n : Fin 1024), j = ix2 r n := ⟨_, _, (ix2_eta _).symm⟩
  refine (rows_at _ w xs g r n).trans ?_
  rw [mix_sum]
  show _ = Cert.EvenOutIdeal.Hand.ent a f w xs g r n
  unfold Cert.EvenOutIdeal.Hand.ent
  obtain ⟨u, hu⟩ := hg (ix2 ⟨r.val / 8192, by omega⟩ n)
  obtain ⟨v, hv⟩ := sum_real Finset.univ (fun k : Fin 512 => (f (ix2 r k) * w (ix2 ⟨512 + k.val, by omega⟩ n) : EReal)) fun k => by
    obtain ⟨p, hp⟩ := hf (ix2 r k)
    obtain ⟨q, hq⟩ := hw k n
    exact ⟨p * q, by rw [hp, hq, EReal.coe_mul]⟩
  rw [hu, hv, real_mul_add, add_assoc]

end Cert.EvenOutRefIdeal.Hand
-- ==== Proof.Final.lean ====
module

public import proofs.«01_k».proof.Proof.Gen.FinalIdeal.Value
public import proofs.«01_k».proof.Proof.Gen.FinalRefIdeal.Run
public import Idealize.ShloMosaic.Lib.Pointwise
public import Idealize.ShloMosaic.Lib.Pipeline.ValueKit
public import Idealize.ShloMosaic.Lib.Claim
set_option maxRecDepth 16384
@[expose] public noncomputable section
open Idealize.ShloMosaic Idealize.ShloMosaic.TcCoe Idealize.SL.Sem
open Idealize.ShloMosaic.Pipeline (Dat)
namespace Cert.FinalIdeal.Hand
open Cert.FinalIdeal Cert.FinalIdeal.Gen
variable (m : (ℓ : Loc nD τ sig) → Buf (Elt Ideal) ℓ)

/-- An entry of the norm of a row: the entry over the root of the row's mean square, times its gain. -/
def ent (xs : FVec Ideal S32768x1024 .f32) (g : FVec Ideal S1024 .f32) (r : Fin 32768) (n : Fin 1024) : EReal :=
  xs (ix2 r n) * Ideal.rsqrt (Ideal.div (∑ l : Fin 1024, (xs (ix2 r l) * xs (ix2 r l) : EReal)) (Ideal.ofBits .f32 0x44800000#32)
    + Ideal.ofBits .f32 0x358637BD#32) * g (ix1 n)

theorem Vg (c : Dev nD) : V m c main_v0 = broadcastInDim S1x1024 ![1] bcast_S1024_S1x1024_1 (m ((c : Thread nD τ).loc main_arg1)) := by
  unfold V
  after_results

theorem pay_at (x : Vec Ideal S1024x1024 .f32) (g : Vec Ideal S1x1024 .f32) (q n : Fin 1024) :
    k0_pay1 x g (ix2 q n) = (x (ix2 q n) * Ideal.rsqrt (Ideal.div (∑ l : Fin 1024, (x (ix2 q l) * x (ix2 q l) : EReal)) (Ideal.ofBits .f32 0x44800000#32)
      + Ideal.ofBits .f32 0x358637BD#32) * g (ix2 0 n) : EReal) := by
  pointwise [k0_pay1]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem b0_at (c : Dev nD) (t : Fin cfg0.N) (q k : Fin 1024) (i : S32768x1024.Idx)
    (h0 : (i 0 : ℕ) = t.val * 1024 + q) (h1 : (i 1 : ℕ) = k) :
    (show FVec Ideal S1024x1024 .f32 from iblk m c 0 t) (ix2 q k) = (show FVec Ideal S32768x1024 .f32 from m ((c : Thread nD τ).loc main_arg0)) i := by
  blk_point [iblk, V, idx0 t]
theorem b1_at (c : Dev nD) (t : Fin cfg0.N) (n : Fin 1024) :
    (show FVec Ideal S1x1024 .f32 from iblk m c 1 t) (ix2 0 n) = (show FVec Ideal S1x1024 .f32 from V m c main_v0) (ix2 0 n) := by
  blk_point [iblk, idx1 t]

/-- What a step stores at an index. -/
theorem point (c : Dev nD) (t : Fin cfg0.N) (q d : Fin 1024) (r : Fin 32768) (n : Fin 1024) (hr : r.val = t.val * 1024 + q.val) (hn : n.val = d.val) :
    k0_pay1 (F := Ideal) (iblk m c 0 t) (iblk m c 1 t) (ix2 q d)
      = ent (m ((c : Thread nD τ).loc main_arg0)) (m ((c : Thread nD τ).loc main_arg1)) r n := by
  obtain rfl : n = d := Fin.ext hn
  refine (pay_at _ _ q n).trans ?_
  unfold ent
  have hx : ∀ l : Fin 1024, (show FVec Ideal S1024x1024 .f32 from iblk m c 0 t) (ix2 q l)
      = (show FVec Ideal S32768x1024 .f32 from m ((c : Thread nD τ).loc main_arg0)) (ix2 r l) := fun l => b0_at m c t q l _ hr rfl
  have hg : (show FVec Ideal S1x1024 .f32 from iblk m c 1 t) (ix2 0 n)
      = (show FVec Ideal S1024 .f32 from m ((c : Thread nD τ).loc main_arg1)) (ix1 n) := by
    refine (b1_at m c t n).trans ?_
    rw [Vg]
    pointwise
  exact congrArg₂ (· * ·) (congrArg₂ (· * ·) (hx n) (congrArg (fun s : EReal => Ideal.rsqrt (Ideal.div s (Ideal.ofBits .f32 0x44800000#32)
    + Ideal.ofBits .f32 0x358637BD#32)) (Finset.sum_congr rfl fun l _ => congrArg₂ (· * ·) (hx l) (hx l)))) hg

/-- The kernel's array is the norm of each row. -/
theorem final (c : Dev nD) : (dats m 0 c).arrAt 2 cfg0.N = (fun j : S32768x1024.Idx =>
    ent (m ((c : Thread nD τ).loc main_arg0)) (m ((c : Thread nD τ).loc main_arg1)) (j 0) (j 1)) := by
  refine (dats m 0 c).arrAt_eq_of_covers 2 _ (by decide +kernel) fun t hf y => ?_
  blk_simp
  rw [after0_2]
  obtain ⟨q, d, rfl⟩ : ∃ (q : Fin 1024) (d : Fin 1024), (show S1024x1024.Idx from y) = ix2 q d := ⟨_, _, (ix2_eta _).symm⟩
  unfold out0_2
  frame_out
  have e2 := idx2 t
  have E : (((win0_2.blk t).view.emb (ix2 q d) 0 : Fin 32768) : ℕ) = t.val * 1024 + q.val
      ∧ (((win0_2.blk t).view.emb (ix2 q d) 1 : Fin 1024) : ℕ) = d.val := by
    constructor
    · blk_simp [e2]
    · blk_simp [e2]
  exact point m c t q d _ _ E.1 E.2

end Cert.FinalIdeal.Hand
namespace Cert.FinalRefIdeal.Hand
open Cert.FinalRefIdeal Cert.FinalRefIdeal.Gen

/-- The reference's result is the norm of each row. -/
theorem ref_at (xs : FVec Ideal S32768x1024 .f32) (g : FVec Ideal S1024 .f32) :
    (shapeCast S32768x1024 (mulf (mulf (shapeCast S4x8192x1024 xs shapeCasts_S32768x1024_S4x8192x1024) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (shapeCast S4x8192x1024 xs shapeCasts_S32768x1024_S4x8192x1024) (shapeCast S4x8192x1024 xs shapeCasts_S32768x1024_S4x8192x1024)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))) shapeCasts_S4x8192x1024_S32768x1024)
      = (fun j : S32768x1024.Idx => Cert.FinalIdeal.Hand.ent xs g (j 0) (j 1)) := by
  funext j
  obtain ⟨r, n, rfl⟩ : ∃ (r : Fin 32768) (n : Fin 1024), j = ix2 r n := ⟨_, _, (ix2_eta _).symm⟩
  unfold Cert.FinalIdeal.Hand.ent
  pointwise

end Cert.FinalRefIdeal.Hand
-- ==== Proof.Mod.lean ====
module

public import proofs.«01_k».proof.Proof.Gen.ModIdeal.Frame
public import proofs.«01_k».proof.Proof.Gen.ModRefIdeal.Run
public import Idealize.ShloMosaic.Lib.Pointwise
public import Idealize.ShloMosaic.Lib.Pipeline.ValueKit
public import Idealize.ShloMosaic.Lib.Claim
set_option maxRecDepth 16384
@[expose] public noncomputable section
open Idealize.ShloMosaic Idealize.ShloMosaic.TcCoe Idealize.SL.Sem
open Idealize.ShloMosaic.Pipeline (Dat)
namespace Cert.ModIdeal.Hand
open Cert.ModIdeal Cert.ModIdeal.Gen
variable (m : (ℓ : Loc nD τ sig) → Buf (Elt Ideal) ℓ) (ρ : Dev nD → PrngReg)

/-- The sigmoid linear unit of a number. -/
def silu (x : EReal) : EReal :=
  x * Ideal.div (Ideal.ofBits .f32 0x3F800000#32) (Ideal.ofBits .f32 0x3F800000#32 + Ideal.exp (-x))

/-- An entry of the conditioning rows: the four batches' vectors, then the context's. -/
def cnd (x : FVec Ideal S4x1024 .f32) (xc : FVec Ideal S1024 .f32) (r : Fin 5) (k : Fin 1024) : EReal :=
  if h : r.val < 4 then x (ix2 ⟨r.val, h⟩ k) else xc (ix1 k)

/-- An entry of the modulation: the row's unit against the weight's column, and the bias. -/
def ent (x : FVec Ideal S4x1024 .f32) (xc : FVec Ideal S1024 .f32) (w : FVec Ideal S1024x6144 .f32) (b : FVec Ideal S6144 .f32)
    (r : Fin 5) (n : Fin 6144) : EReal :=
  (∑ k : Fin 1024, (silu (cnd x xc r k) * w (ix2 k n) : EReal)) + b (ix1 n)

/-- The eight conditioning rows as the host makes them: batches, context, zeros. -/
def rows (x : FVec Ideal S4x1024 .f32) (xc : FVec Ideal S1024 .f32) : FVec Ideal S8x1024 .f32 :=
  concatenate S8x1024 0 [⟨S4x1024, x⟩, ⟨S1x1024, broadcastInDim S1x1024 ![1] bcast_S1024_S1x1024_1 xc⟩,
    ⟨S3x1024, broadcastInDim S3x1024 ![] bcast_S_S3x1024 (constant S_ .f32 0x00000000#32)⟩] concatenates_S4x1024_S1x1024_S3x1024_S8x1024_d0

/-- Their units. -/
def units (X : FVec Ideal S8x1024 .f32) : FVec Ideal S8x1024 .f32 :=
  mulf X (Host.divf (broadcastInDim S8x1024 ![] bcast_S_S8x1024 (constant S_ .f32 0x3F800000#32))
    (addf (broadcastInDim S8x1024 ![] bcast_S_S8x1024 (constant S_ .f32 0x3F800000#32)) (Host.exp (Host.negf X))))

theorem Vx (c : Dev nD) : V m c main_v3 = units (rows (m ((c : Thread nD τ).loc main_arg0)) (m ((c : Thread nD τ).loc main_arg1))) := by
  unfold V V0 units rows
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl

theorem Vw (c : Dev nD) : V m c main_v4 = truncf .bf16 (show FVec Ideal S1024x6144 .f32 from m ((c : Thread nD τ).loc main_arg2)) bitsLt_bf16_f32 := by
  unfold V V0
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results

theorem units_at (X : FVec Ideal S8x1024 .f32) (r : Fin 8) (k : Fin 1024) : units X (ix2 r k) = silu (X (ix2 r k)) := by
  unfold silu
  pointwise [units]

theorem rows_lat (x : FVec Ideal S4x1024 .f32) (xc : FVec Ideal S1024 .f32) (r : Fin 8) (h : r.val < 4) (k : Fin 1024) :
    rows x xc (ix2 r k) = x (ix2 ⟨r.val, h⟩ k) := by
  pointwise [rows]
  exact dif_pos h
theorem rows_ctx (x : FVec Ideal S4x1024 .f32) (xc : FVec Ideal S1024 .f32) (k : Fin 1024) :
    rows x xc (ix2 4 k) = xc (ix1 k) := by
  pointwise [rows]

theorem rows_at (x : FVec Ideal S4x1024 .f32) (xc : FVec Ideal S1024 .f32) (r : Fin 5) (k : Fin 1024) :
    rows x xc (ix2 ⟨r.val, by omega⟩ k) = cnd x xc r k := by
  unfold cnd
  split_ifs with h
  · exact rows_lat x xc ⟨r.val, by omega⟩ h k
  · obtain rfl : r = 4 := Fin.ext (by show r.val = 4; omega)
    exact rows_ctx x xc k

theorem pay_at (v0 : Vec Ideal S8x1024 .f32) (v3 : Vec Ideal S1024x1024 .bf16) (q : Fin 8) (n : Fin 1024) :
    k0_pay1 v0 v3 (ix2 q n) = (∑ k : Fin 1024, (v0 (ix2 q k) * v3 (ix2 k n) : EReal) : EReal) := by
  pointwise [k0_pay1]

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

theorem b0_at (c : Dev nD) (t : Fin cfg0.N) (q : Fin 8) (k : Fin 1024) :
    (show FVec Ideal S8x1024 .f32 from iblk m c 0 t) (ix2 q k) = (show FVec Ideal S8x1024 .f32 from V m c main_v3) (ix2 q k) := by
  blk_point [iblk, idx0 t]
theorem b1_at (c : Dev nD) (t : Fin cfg0.N) (k n : Fin 1024) (i : S1024x6144.Idx) (h0 : (i 0 : ℕ) = k) (h1 : (i 1 : ℕ) = t.val * 1024 + n) :
    (show FVec Ideal S1024x1024 .bf16 from iblk m c 1 t) (ix2 k n) = (show FVec Ideal S1024x6144 .bf16 from V m c main_v4) i := by
  blk_point [iblk, idx1 t]

/-- An entry of the call's array of eight rows. -/
def prod (X : FVec Ideal S8x1024 .f32) (w : FVec Ideal S1024x6144 .f32) (r : Fin 8) (n : Fin 6144) : EReal :=
  ∑ k : Fin 1024, (silu (X (ix2 r k)) * w (ix2 k n) : EReal)

/-- What a step stores at an index. -/
theorem point (c : Dev nD) (t : Fin cfg0.N) (q : Fin 8) (d : Fin 1024) (r : Fin 8) (n : Fin 6144) (hr : r.val = q.val) (hn : n.val = t.val * 1024 + d.val) :
    k0_pay1 (F := Ideal) (iblk m c 0 t) (iblk m c 1 t) (ix2 q d)
      = prod (rows (m ((c : Thread nD τ).loc main_arg0)) (m ((c : Thread nD τ).loc main_arg1))) (m ((c : Thread nD τ).loc main_arg2)) r n := by
  obtain rfl : r = q := Fin.ext hr
  refine (pay_at _ _ r d).trans ?_
  unfold prod
  refine Finset.sum_congr rfl fun k _ => congrArg₂ (· * ·) ?_ ?_
  · refine (b0_at m c t r k).trans ?_
    rw [Vx]
    exact units_at _ r k
  · refine (b1_at m c t k d (ix2 k n) rfl hn).trans ?_
    rw [Vw]
    rfl

/-- The call's array is the product of the rows' units with the weight. -/
theorem final (c : Dev nD) : (dats m 0 c).arrAt 2 cfg0.N = (fun j : S8x6144.Idx =>
    prod (rows (m ((c : Thread nD τ).loc main_arg0)) (m ((c : Thread nD τ).loc main_arg1))) (m ((c : Thread nD τ).loc main_arg2)) (j 0) (j 1)) := by
  refine (dats m 0 c).arrAt_eq_of_covers 2 _ (by decide +kernel) fun t hf y => ?_
  blk_simp
  rw [after0_2]
  obtain ⟨q, d, rfl⟩ : ∃ (q : Fin 8) (d : Fin 1024), (show S8x1024.Idx from y) = ix2 q d := ⟨_, _, (ix2_eta _).symm⟩
  unfold out0_2
  frame_out
  have e2 := idx2 t
  have E : (((win0_2.blk t).view.emb (ix2 q d) 0 : Fin 8) : ℕ) = q.val
      ∧ (((win0_2.blk t).view.emb (ix2 q d) 1 : Fin 6144) : ℕ) = t.val * 1024 + d.val := by
    constructor
    · blk_simp [e2]
    · blk_simp [e2]
  exact point m c t q d _ _ E.1 E.2

/-- What the lines after the call make of its array: its first five rows and the bias. -/
def tail (A : FVec Ideal S8x6144 .f32) (b : FVec Ideal S6144 .f32) : FVec Ideal S5x6144 .f32 :=
  addf (extractStridedSlice S5x6144 ![0, 0] A slices_S8x6144_S5x6144_0_0)
    (broadcastInDim S5x6144 ![0, 1] bcast_S1x6144_S5x6144_0_1 (broadcastInDim S1x6144 ![1] bcast_S6144_S1x6144_1 b))

theorem tail_at (A : FVec Ideal S8x6144 .f32) (b : FVec Ideal S6144 .f32) (r : Fin 5) (n : Fin 6144) :
    tail A b (ix2 r n) = (A (ix2 ⟨r.val, by omega⟩ n) + b (ix1 n) : EReal) := by
  pointwise [tail]

/-- The result buffer after the lines that follow the call. -/
theorem after_call (c : Dev nD) : Pipeline.afterTail₀ cfgs (dats m) 0 (V0 m) [hostOps1] c main_v9
    = tail ((dats m 0 c).arrAt 2 cfg0.N) (m ((c : Thread nD τ).loc main_arg3)) := by
  unfold Pipeline.afterTail₀ tail
  simp only [hostOps1, List.flatten_cons, List.flatten_nil, List.append_nil, List.cons_append, List.nil_append]
  after_results
  exact congrArg₂ (fun A b => addf (F := Ideal) (extractStridedSlice S5x6144 ![0, 0] A slices_S8x6144_S5x6144_0_0)
      (broadcastInDim S5x6144 ![0, 1] bcast_S1x6144_S5x6144_0_1 (broadcastInDim S1x6144 ![1] bcast_S6144_S1x6144_1 b)))
    (Pipeline.withArrays_arr spec0 (by decide) c (V0 m c) (fun w => (dats m 0 c).arrAt w cfg0.N) 2)
    ((Pipeline.withArrays_of_ne spec0 c (V0 m c) (fun w => (dats m 0 c).arrAt w cfg0.N) main_arg3 (by exact (by decide : ∀ w, Pipeline.arrRef spec0 w ≠ main_arg3))).trans
      (V_main_arg3 m c))

/-- The result is the modulation. -/
theorem value (c : Dev nD) : tail ((dats m 0 c).arrAt 2 cfg0.N) (m ((c : Thread nD τ).loc main_arg3)) = (fun j : S5x6144.Idx =>
    ent (m ((c : Thread nD τ).loc main_arg0)) (m ((c : Thread nD τ).loc main_arg1)) (m ((c : Thread nD τ).loc main_arg2))
      (m ((c : Thread nD τ).loc main_arg3)) (j 0) (j 1)) := by
  funext j
  obtain ⟨r, n, rfl⟩ : ∃ (r : Fin 5) (n : Fin 6144), j = ix2 r n := ⟨_, _, (ix2_eta _).symm⟩
  refine (tail_at _ _ r n).trans ?_
  rw [final]
  unfold ent
  refine congrArg (fun s : EReal => s + _) (Finset.sum_congr rfl fun k _ => congrArg (fun s : EReal => silu s * _) ?_)
  exact rows_at _ _ r k

/-- Every run ends with the result at that and the arguments as they were. -/
theorem run : θ_run (defs (F := Ideal)) (onTc (τ := τ) (main (F := Ideal))) ⟨m, fun _ => 0, ρ⟩ (fun r => ∀ c : Dev nD,
    r.2.mem ((c.tc : Thread nD τ).loc main_v9) = tail ((dats m 0 c).arrAt 2 cfg0.N) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨((h.1 c).2 main_v9 (Pipeline.mem_restRefs_of main_v9 (by decide) (by decide))).trans (after_call m c), h.2 c⟩)
    (θ_run_and (run_main m ρ) (unchanged m ρ))

end Cert.ModIdeal.Hand
namespace Cert.ModRefIdeal.Hand
open Cert.ModRefIdeal Cert.ModRefIdeal.Gen
open Cert.ModIdeal.Hand (silu cnd ent)

/-- The latent rows of the modulation, as the reference says it. -/
def lat (x : FVec Ideal S4x1024 .f32) (w : FVec Ideal S1024x6144 .f32) (b : FVec Ideal S6144 .f32) : FVec Ideal S4x6144 .f32 :=
  addf (Host.dotGeneral dot_S4x1024_S1024x6144_S4x6144_1_0_0_1_n_n none (mulf x (Host.divf (broadcastInDim S4x1024 ![] bcast_S_S4x1024 (constant S_ .f32 0x3F800000#32)) (addf (broadcastInDim S4x1024 ![] bcast_S_S4x1024 (constant S_ .f32 0x3F800000#32)) (Host.exp (Host.negf x))))) w) (broadcastInDim S4x6144 ![0, 1] bcast_S1x6144_S4x6144_0_1 (broadcastInDim S1x6144 ![1] bcast_S6144_S1x6144_1 b))

/-- And the context's row. -/
def ctx (x : FVec Ideal S1024 .f32) (w : FVec Ideal S1024x6144 .f32) (b : FVec Ideal S6144 .f32) : FVec Ideal S1x6144 .f32 :=
  broadcastInDim S1x6144 ![1] bcast_S6144_S1x6144_1 (addf (Host.dotGeneral dot_S1024_S1024x6144_S6144_0_0_n_1_n_n none (mulf x (Host.divf (broadcastInDim S1024 ![] bcast_S_S1024 (constant S_ .f32 0x3F800000#32)) (addf (broadcastInDim S1024 ![] bcast_S_S1024 (constant S_ .f32 0x3F800000#32)) (Host.exp (Host.negf x))))) w) b)

theorem lat_at (x : FVec Ideal S4x1024 .f32) (w : FVec Ideal S1024x6144 .f32) (b : FVec Ideal S6144 .f32) (r : Fin 4) (n : Fin 6144) :
    lat x w b (ix2 r n) = ((∑ k : Fin 1024, (silu (x (ix2 r k)) * w (ix2 k n) : EReal)) + b (ix1 n) : EReal) := by
  unfold silu
  pointwise [lat]

theorem ctx_at (x : FVec Ideal S1024 .f32) (w : FVec Ideal S1024x6144 .f32) (b : FVec Ideal S6144 .f32) (n : Fin 6144) :
    ctx x w b (ix2 0 n) = ((∑ k : Fin 1024, (silu (x (ix1 k)) * w (ix2 k n) : EReal)) + b (ix1 n) : EReal) := by
  unfold silu
  pointwise [ctx]

theorem up (A : FVec Ideal S4x6144 .f32) (B : FVec Ideal S1x6144 .f32) (r : Fin 5) (h : r.val < 4) (n : Fin 6144) :
    concatenate S5x6144 0 [⟨S4x6144, A⟩, ⟨S1x6144, B⟩] concatenates_S4x6144_S1x6144_S5x6144_d0 (ix2 r n) = A (ix2 ⟨r.val, h⟩ n) := by
  pointwise
  exact dif_pos h
theorem down (A : FVec Ideal S4x6144 .f32) (B : FVec Ideal S1x6144 .f32) (n : Fin 6144) :
    concatenate S5x6144 0 [⟨S4x6144, A⟩, ⟨S1x6144, B⟩] concatenates_S4x6144_S1x6144_S5x6144_d0 (ix2 4 n) = B (ix2 0 n) := by
  pointwise

/-- The reference's result is the modulation. -/
theorem ref_at (x : FVec Ideal S4x1024 .f32) (xc : FVec Ideal S1024 .f32) (w : FVec Ideal S1024x6144 .f32) (b : FVec Ideal S6144 .f32) :
    concatenate S5x6144 0 [⟨S4x6144, lat x w b⟩, ⟨S1x6144, ctx xc w b⟩] concatenates_S4x6144_S1x6144_S5x6144_d0
      = (fun j : S5x6144.Idx => ent x xc w b (j 0) (j 1)) := by
  funext j
  obtain ⟨r, n, rfl⟩ : ∃ (r : Fin 5) (n : Fin 6144), j = ix2 r n := ⟨_, _, (ix2_eta _).symm⟩
  show _ = ent x xc w b r n
  unfold ent cnd
  by_cases h : r.val < 4
  · refine (up _ _ r h n).trans ((lat_at x w b _ n).trans ?_)
    simp only [dif_pos h]
  · obtain rfl : r = 4 := Fin.ext (by show r.val = 4; omega)
    refine (down _ _ n).trans ((ctx_at xc w b n).trans ?_)
    simp only [dif_neg h]

end Cert.ModRefIdeal.Hand
-- ==== Proof.PeerInRun.lean ====
module

public import proofs.«01_k».proof.Proof.Gen.PeerInIdeal.Frame
public import proofs.«01_k».proof.Proof.Gen.PeerInIdeal.Skeleton
public import Idealize.ShloMosaic.Lib.Claim
set_option maxRecDepth 16384
@[expose] public noncomputable section
namespace Cert.PeerInIdeal.Hand
open Cert.PeerInIdeal Cert.PeerInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]
local notation "𝕄" => MT nD τ sig Unit (Elt F) ℕ (UR sig nD τ) ℕ

/-- The body's condition: the step is the first of its row block. -/
abbrev first (i : grid0.Coords) : Prop := (Scalar.cmpi .ne (Scalar.extui (Scalar.cmpi .eq (BitVec.ofNat 32 (i 1).val) 0#32)) 0#32) = 1#1

/-- These are the even steps. -/
theorem first_iff (t : Fin cfg0.N) : first (grid0.coords t) ↔ t.val % 2 = 0 := by
  have ht : t.val < 132 := Nat.lt_of_lt_of_eq t.isLt N_0
  have e1 : (grid0.coords t 1).val = t.val / 1 % 2 := Pipeline.Grid.coords_val t 1 (by decide) rfl
  simp only [first, e1]
  word_cmp

set_option maxHeartbeats 1000000 in
/-- The body at an even step: what its stores leave in the two outputs' buffers and in the one it keeps, whatever they held. -/
def runA (c : Dev nD) (i : grid0.Coords) (a2 : Memref sig .tc .vmem S512x1024 .f32) (h2 : a2.IsWhole) (a3 : Memref sig .tc .vmem S1x1024 .f32) (h3 : a3.IsWhole) (a4 : Memref sig .tc .vmem S1x1x1024 .f32) (h4 : a4.IsWhole) (a5 : Memref sig .tc .vmem S1x1x1024 .f32) (h5 : a5.IsWhole) (a6 : Memref sig .tc .vmem S1024x1024 .bf16) (h6 : a6.IsWhole) (a7 : Memref sig .tc .vmem S512x1024 .f32) (h7 : a7.IsWhole) (a8 : Memref sig .tc .vmem S1024x512 .bf16) (h8 : a8.IsWhole) (a9 : Memref sig .tc .vmem S512x1024 .bf16) (h9 : a9.IsWhole) (hc : first i)
    (x0 : Vec F S512x1024 .f32) (x1 : Vec F S1x1024 .f32) (x2 x3 : Vec F S1x1x1024 .f32) (x4 : Vec F S1024x1024 .bf16) :
    Σ' (L5 : List (View.Piece (Elt F) S512x1024 .f32)) (L6 : List (View.Piece (Elt F) S1024x512 .bf16)), { LS : List (View.Piece (Elt F) S512x1024 .bf16) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d) ∗ (∃ d, owns (c : Thread nD τ) a8 fullShare d) ∗ (∃ d, owns (c : Thread nD τ) a9 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ f, a7.view.loc (c : Thread nD τ) ↦[a7.view.set]{fullShare} a7.view.writes (Elt F) f L5) ∗ (∃ f, a8.view.loc (c : Thread nD τ) ↦[a8.view.set]{fullShare} a8.view.writes (Elt F) f L6) ∗ (∃ f, a9.view.loc (c : Thread nD τ) ↦[a9.view.set]{fullShare} a9.view.writes (Elt F) f LS)) -∗ K ⟨⟩))
          ⊢ wp frame (wpE (defs₀ (F := F)) Variants.none c none) E (cc0_fused_matmul i a2 h2 a3 h3 a4 h4 a5 h5 a6 h6 a7 h7 a8 h8 a9 h9) K } := by
  refine ⟨?_, ?_, ?_, fun E K => ?run⟩
  case run =>
    simp only [cc0_fused_matmul_eq_skeleton]; unfold cc0_fused_matmul_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, Hk⟩
    obtain rfl := h2.eq_unread hf0; obtain rfl := h3.eq_unread hf1; obtain rfl := h4.eq_unread hf2; obtain rfl := h5.eq_unread hf3; obtain rfl := h6.eq_unread hf4
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]; · iexists _; iexact H5
    isplitl [H6]; · iexists _; iexact H6
    iexists _; iexact HS

set_option maxHeartbeats 1000000 in
/-- The body at an odd step: it reads what it kept and stores into the first output alone. -/
def runB (c : Dev nD) (i : grid0.Coords) (a2 : Memref sig .tc .vmem S512x1024 .f32) (h2 : a2.IsWhole) (a3 : Memref sig .tc .vmem S1x1024 .f32) (h3 : a3.IsWhole) (a4 : Memref sig .tc .vmem S1x1x1024 .f32) (h4 : a4.IsWhole) (a5 : Memref sig .tc .vmem S1x1x1024 .f32) (h5 : a5.IsWhole) (a6 : Memref sig .tc .vmem S1024x1024 .bf16) (h6 : a6.IsWhole) (a7 : Memref sig .tc .vmem S512x1024 .f32) (h7 : a7.IsWhole) (a8 : Memref sig .tc .vmem S1024x512 .bf16) (h8 : a8.IsWhole) (a9 : Memref sig .tc .vmem S512x1024 .bf16) (h9 : a9.IsWhole) (hc : ¬ first i)
    (x0 : Vec F S512x1024 .f32) (x1 : Vec F S1x1024 .f32) (x2 x3 : Vec F S1x1x1024 .f32) (x4 : Vec F S1024x1024 .bf16) (y : Vec F S1024x512 .bf16) (s : Vec F S512x1024 .bf16) :
    { L5 : List (View.Piece (Elt F) S512x1024 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d) ∗ owns (c : Thread nD τ) a8 fullShare y ∗ owns (c : Thread nD τ) a9 fullShare s
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ f, a7.view.loc (c : Thread nD τ) ↦[a7.view.set]{fullShare} a7.view.writes (Elt F) f L5) ∗ owns (c : Thread nD τ) a8 fullShare y ∗ owns (c : Thread nD τ) a9 fullShare s) -∗ K ⟨⟩))
          ⊢ wp frame (wpE (defs₀ (F := F)) Variants.none c none) E (cc0_fused_matmul i a2 h2 a3 h3 a4 h4 a5 h5 a6 h6 a7 h7 a8 h8 a9 h9) K } := by
  refine ⟨?_, fun E K => ?run⟩
  case run =>
    simp only [cc0_fused_matmul_eq_skeleton]; unfold cc0_fused_matmul_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, H6, ⟨%fs, %hfs, HS⟩, Hk⟩
    obtain rfl := h2.eq_unread hf0; obtain rfl := h3.eq_unread hf1; obtain rfl := h4.eq_unread hf2; obtain rfl := h5.eq_unread hf3; obtain rfl := h6.eq_unread hf4
    obtain rfl := h9.eq_unread hfs
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]; · iexists _; iexact H5
    isplitl [H6]; · iexact H6
    iexists _; isplitr; · ipureintro; exact h9.read_unread _
    iexact HS

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x512 .bf16 := win0_6.stage (cfg0.slots t 6)
abbrev hs6 (t : Fin cfg0.N) : (ms6 t).IsWhole := hstage0_6 ((cfg0.slots t 6).cast nbuf0_6)
/-- The buffer of normed rows that is kept from a step to the next. -/
abbrev kept : Memref sig .tc .vmem S512x1024 .bf16 := Memref.whole cc0_scratch0
abbrev VO5 : View sig .tc .vmem S512x1024 .f32 := (Memref.whole cc0_stg5_0 : Memref sig .tc .vmem S512x1024 .f32).view
abbrev VO6 : View sig .tc .vmem S1024x512 .bf16 := (Memref.whole cc0_stg6_0 : Memref sig .tc .vmem S1024x512 .bf16).view

variable (m : (ℓ : Loc nD τ sig) → Buf (Elt F) ℓ) (ρ : Dev nD → PrngReg)

/-- The even step's run at the buffers and blocks of step `t`. -/
abbrev atA (c : Dev nD) (t : Fin cfg0.N) (h : t.val % 2 = 0) := runA c (grid0.coords t) (ms0 t) (hs0 t) (ms1 t) (hs1 t) (ms2 t) (hs2 t) (ms3 t) (hs3 t) (ms4 t) (hs4 t) (ms5 t) (hs5 t) (ms6 t) (hs6 t) kept (Memref.isWhole_whole _)
  ((first_iff t).mpr h) (iblk m c 0 t) (iblk m c 1 t) (iblk m c 2 t) (iblk m c 3 t) (iblk m c 4 t)

/-- What the even step leaves: a block of products, the normed rows turned over, and the normed rows. -/
def qA (c : Dev nD) (t : Fin cfg0.N) (h : t.val % 2 = 0) : Vec F S512x1024 .f32 := VO5.read (Elt F) (VO5.writes (Elt F) VO5.junk (atA m c t h).1)
def hA (c : Dev nD) (t : Fin cfg0.N) (h : t.val % 2 = 0) : Vec F S1024x512 .bf16 := VO6.read (Elt F) (VO6.writes (Elt F) VO6.junk (atA m c t h).2.1)
def sA (c : Dev nD) (t : Fin cfg0.N) (h : t.val % 2 = 0) : Vec F S512x1024 .bf16 := kept.view.read (Elt F) (kept.view.writes (Elt F) kept.view.junk (atA m c t h).2.2.1)

/-- The stores of an even step fill their buffers. -/
theorem fillA5 (c : Dev nD) (t : Fin cfg0.N) (h : t.val % 2 = 0) (y : S512x1024.Idx) : ∃ pc ∈ (atA m c t h).1, y ∈ pc.1.set :=
  View.cover_of_tiledL (atA m c t h).1 S512x1024.size (by sl_kernel_rfl) y
theorem fillA6 (c : Dev nD) (t : Fin cfg0.N) (h : t.val % 2 = 0) (y : S1024x512.Idx) : ∃ pc ∈ (atA m c t h).2.1, y ∈ pc.1.set :=
  View.cover_of_tiledL (atA m c t h).2.1 S1024x512.size (by sl_kernel_rfl) y
theorem fillAS (c : Dev nD) (t : Fin cfg0.N) (h : t.val % 2 = 0) (y : S512x1024.Idx) : ∃ pc ∈ (atA m c t h).2.2.1, y ∈ pc.1.set :=
  View.cover_of_tiledL (atA m c t h).2.2.1 S512x1024.size (by sl_kernel_rfl) y

/-- The first step of a step's row block. -/
def ev (t : Fin cfg0.N) : Fin cfg0.N := ⟨t.val / 2 * 2, Nat.lt_of_le_of_lt (Nat.div_mul_le_self _ _) t.isLt⟩
theorem ev_even (t : Fin cfg0.N) : (ev t).val % 2 = 0 := Nat.mul_mod_left _ _
theorem ev_self (t : Fin cfg0.N) (h : t.val % 2 = 0) : ev t = t := Fin.ext (by show t.val / 2 * 2 = t.val; omega)
theorem ev_pred (t : Fin cfg0.N) (h : ¬ t.val % 2 = 0) (h' : t.val - 1 < cfg0.N) : ev ⟨t.val - 1, h'⟩ = ev t :=
  Fin.ext (by show (t.val - 1) / 2 * 2 = t.val / 2 * 2; omega)

/-- What the kept buffer and the second output's hold after a step: what the first step of the row block put there. -/
def keep (c : Dev nD) (t : Fin cfg0.N) : Vec F S512x1024 .bf16 := sA m c (ev t) (ev_even t)
def turned (c : Dev nD) (t : Fin cfg0.N) : Vec F S1024x512 .bf16 := hA m c (ev t) (ev_even t)

theorem keep_even (c : Dev nD) (t : Fin cfg0.N) (h : t.val % 2 = 0) : keep m c t = sA m c t h := by
  have e : ∀ (s : Fin cfg0.N) (hs : s.val % 2 = 0), s = t → sA m c s hs = sA m c t h := by rintro _ _ rfl; rfl
  exact e _ _ (ev_self t h)
theorem turned_even (c : Dev nD) (t : Fin cfg0.N) (h : t.val % 2 = 0) : turned m c t = hA m c t h := by
  have e : ∀ (s : Fin cfg0.N) (hs : s.val % 2 = 0), s = t → hA m c s hs = hA m c t h := by rintro _ _ rfl; rfl
  exact e _ _ (ev_self t h)
theorem keep_pred (c : Dev nD) (t : Fin cfg0.N) (h : ¬ t.val % 2 = 0) (h' : t.val - 1 < cfg0.N) : keep m c ⟨t.val - 1, h'⟩ = keep m c t := by
  have e : ∀ (s u : Fin cfg0.N) (hs : s.val % 2 = 0) (hu : u.val % 2 = 0), s = u → sA m c s hs = sA m c u hu := by rintro _ _ _ _ rfl; rfl
  exact e _ _ _ _ (ev_pred t h h')
theorem turned_pred (c : Dev nD) (t : Fin cfg0.N) (h : ¬ t.val % 2 = 0) (h' : t.val - 1 < cfg0.N) : turned m c ⟨t.val - 1, h'⟩ = turned m c t := by
  have e : ∀ (s u : Fin cfg0.N) (hs : s.val % 2 = 0) (hu : u.val % 2 = 0), s = u → hA m c s hs = hA m c u hu := by rintro _ _ _ _ rfl; rfl
  exact e _ _ _ _ (ev_pred t h h')

/-- The odd step's run at the buffers and blocks of step `t`, over what the step before left. -/
abbrev atB (c : Dev nD) (t : Fin cfg0.N) (h : ¬ t.val % 2 = 0) := runB c (grid0.coords t) (ms0 t) (hs0 t) (ms1 t) (hs1 t) (ms2 t) (hs2 t) (ms3 t) (hs3 t) (ms4 t) (hs4 t) (ms5 t) (hs5 t) (ms6 t) (hs6 t) kept (Memref.isWhole_whole _)
  (fun e => h ((first_iff t).mp e)) (iblk m c 0 t) (iblk m c 1 t) (iblk m c 2 t) (iblk m c 3 t) (iblk m c 4 t) (turned m c t) (keep m c t)
def qB (c : Dev nD) (t : Fin cfg0.N) (h : ¬ t.val % 2 = 0) : Vec F S512x1024 .f32 := VO5.read (Elt F) (VO5.writes (Elt F) VO5.junk (atB m c t h).1)
theorem fillB5 (c : Dev nD) (t : Fin cfg0.N) (h : ¬ t.val % 2 = 0) (y : S512x1024.Idx) : ∃ pc ∈ (atB m c t h).1, y ∈ pc.1.set :=
  View.cover_of_tiledL (atB m c t h).1 S512x1024.size (by sl_kernel_rfl) y

/-- What the first output's buffer holds after a step. -/
def prod (c : Dev nD) (t : Fin cfg0.N) : Vec F S512x1024 .f32 := if h : t.val % 2 = 0 then qA m c t h else qB m c t h

/-- Between the steps: the kept buffer at what the step before left in it. -/
def PhiS (c : Dev nD) : (n : ℕ) → n ≤ cfg0.N → sProp 𝕄
  | 0, _ => Pipeline.ΦA spec0 c
  | n + 1, hn => iprop(owns (c : Thread nD τ) kept fullShare (keep m c ⟨n, hn⟩) ∗ (∃ r, prngReg c r))

theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) :
    PhiS m c n h = iprop(owns (c : Thread nD τ) kept fullShare (keep m c ⟨n - 1, by omega⟩) ∗ (∃ r, prngReg c r)) := by
  cases n with
  | zero => exact absurd rfl hz
  | succ n => rfl

theorem PhiA_eq (c : Dev nD) : (Pipeline.ΦA spec0 c : sProp 𝕄) = iprop((∃ d, owns (c : Thread nD τ) kept fullShare d) ∗ (∃ r, prngReg c r)) := by
  unfold Pipeline.ΦA; rw [scopedRest0_eq]; simp only [kept, owns_whole]; try rfl

/-- What each buffer holds after a step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => prod m c t
    | ⟨6, _⟩ => turned m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_at (c : Dev nD) (t : Fin cfg0.N) : (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = prod m c t := by dsimp only [dats]
theorem after6 (c : Dev nD) (t : Fin cfg0.N) : (dats m 0 c).after 6 t = turned m c t := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d

/-- An even step stores into the second output's buffer. -/
theorem idle_even (t : Fin cfg0.N) (h : t.val % 2 = 0) : cfg0.idle 6 (cfg0.grid.coords t) = false := by
  have e : k0_cond1 (grid0.coords t) = 1#1 := (first_iff t).mpr h
  show (!(k0_cond1 (grid0.coords t) == 1#1)) = false
  rw [e]
  rfl

/-- At an odd step the second output's buffer still holds what the step before left, for it is written back after odd steps only. -/
theorem before6 (c : Dev nD) (t : Fin cfg0.N) (h : ¬ t.val % 2 = 0) (d) : (dats m 0 c).before 6 t d = turned m c t := by
  have h' : t.val - 1 < cfg0.N := Nat.lt_of_le_of_lt (Nat.sub_le _ _) t.isLt
  have hf : (cfg0.win 6).flush ⟨t.val - 1, h'⟩ = false := Bool.eq_false_iff.mpr fun e => by
    have := (flush0_6 ⟨t.val - 1, h'⟩).mp e
    simp only at this
    omega
  rw [(dats m 0 c).before_of_pos 6 t (by omega) (Pipeline.Window.fetch_out _ rfl t) d, hf, if_neg Bool.false_ne_true]
  unfold Dat.left
  rw [idle_even _ (by show (t.val - 1) % 2 = 0; omega)]
  dsimp only
  unfold Dat.kept
  rw [Pipeline.fill_of_clip_none 6 _ (fun _ => rfl) d ((dats m 0 c).after 6 _), Pipeline.Window.fill_cut]
  exact (after6 m c _).trans (turned_pred m c t h h')

/-- What a step leaves in the second output's buffer: it stores there at even steps and writes back at odd ones. -/
theorem leaves6 (c : Dev nD) (t : Fin cfg0.N) : (dats m 0 c).leavesExact 6 t = (owns (c : Thread nD τ) (ms6 t) fullShare (turned m c t) : sProp 𝕄) := by
  have e : (owns (c : Thread nD τ) (ms6 t) fullShare ((dats m 0 c).after 6 t) : sProp 𝕄) = owns (c : Thread nD τ) (ms6 t) fullShare (turned m c t) := by
    rw [after6]
  refine Eq.trans ?_ e
  unfold Dat.leavesExact
  by_cases h : t.val % 2 = 0
  · rw [idle_even t h]
  · have hf : (cfg0.win 6).flush t = true := (flush0_6 t).mpr (by omega)
    rw [hf]
    generalize cfg0.idle 6 (cfg0.grid.coords t) = b
    cases b <;> rfl

/-- What the body is given and what it returns. -/
def given (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))
def returned (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (dats m 0 c).leavesExact 6 t)

/-- An even step, whatever was kept. -/
theorem stepA (c : Dev nD) (t : Fin cfg0.N) (h : t.val % 2 = 0) (O : sProp 𝕄) :
    iprop(iprop((∃ d, owns (c : Thread nD τ) kept fullShare d) ∗ (∃ r, prngReg c r)) ∗ O
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ (∃ d, owns (c : Thread nD τ) (ms5 t) fullShare d) ∗ (∃ d, owns (c : Thread nD τ) (ms6 t) fullShare d))
    ⊢ wp frame (wpE (defs₀ (F := F)) Variants.none c none) Set.univ (bodyAt0 t) (fun _ =>
    iprop(iprop(owns (c : Thread nD τ) kept fullShare (sA m c t h) ∗ (∃ r, prngReg c r)) ∗ O
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (qA m c t h) ∗ owns (c : Thread nD τ) (ms6 t) fullShare (hA m c t h))) := by
  unfold bodyAt0 qA hA sA
  iintro ⟨⟨HS, Hg⟩, Ho, H0, H1, H2, H3, H4, H5, H6⟩
  iapply ((atA m c t h).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, ⟨%e5, H5⟩, ⟨%e6, H6⟩, ⟨%es, HS⟩⟩
  isplitl [HS Hg]
  · isplitl [HS]
    · unfold owns; iexists _; isplitr
      swap; · iexact HS
      ipureintro; exact View.read_writes_of_cover _ _ _ _ _ (fillAS m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (fillA5 m c t h)
  unfold owns; iexists _; isplitr
  swap; · iexact H6
  ipureintro; exact View.read_writes_of_cover _ _ _ _ _ (fillA6 m c t h)

/-- An odd step, over what the even step before it left. -/
theorem stepB (c : Dev nD) (t : Fin cfg0.N) (h : ¬ t.val % 2 = 0) (O : sProp 𝕄) :
    iprop(iprop(owns (c : Thread nD τ) kept fullShare (keep m c t) ∗ (∃ r, prngReg c r)) ∗ O
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ (∃ d, owns (c : Thread nD τ) (ms5 t) fullShare d) ∗ owns (c : Thread nD τ) (ms6 t) fullShare (turned m c t))
    ⊢ wp frame (wpE (defs₀ (F := F)) Variants.none c none) Set.univ (bodyAt0 t) (fun _ =>
    iprop(iprop(owns (c : Thread nD τ) kept fullShare (keep m c t) ∗ (∃ r, prngReg c r)) ∗ O
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (qB m c t h) ∗ owns (c : Thread nD τ) (ms6 t) fullShare (turned m c t))) := by
  unfold bodyAt0 qB
  iintro ⟨⟨HS, Hg⟩, Ho, H0, H1, H2, H3, H4, H5, H6⟩
  iapply ((atB m c t h).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, ⟨%e5, H5⟩, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (fillB5 m c t h)
  iexact H6

set_option maxHeartbeats 3200000 in
/-- The body at any step. -/
theorem step (c : Dev nD) (t : Fin cfg0.N) :
    given m c t ⊢ wp frame (wpE (defs₀ (F := F)) Variants.none c none) Set.univ (bodyAt0 t) (fun _ => returned m c t) := by
  unfold given returned
  simp only [before0, before1, before2, before3, before4]
  rw [show (dats m 0 c).owesAt () t.succ = (dats m 0 c).owesAt () t.castSucc from rfl, after0, after1, after2, after3, after4, after5, leaves6,
    show (dats m 0 c).Φ t.succ = iprop(owns (c : Thread nD τ) kept fullShare (keep m c t) ∗ (∃ r, prngReg c r)) from rfl, Phi_at m c t]
  unfold prod
  by_cases h : t.val % 2 = 0
  · rw [dif_pos h, keep_even m c t h, turned_even m c t h]
    have hR : PhiS m c t.val (Nat.le_of_lt t.isLt) ⊢ iprop((∃ d, owns (c : Thread nD τ) kept fullShare d) ∗ (∃ r, prngReg c r)) := by
      by_cases hz : t.val = 0
      · rw [PhiS_zero m c _ _ hz, PhiA_eq]
      · rw [PhiS_pos m c _ _ hz]
        iintro ⟨HS, Hg⟩
        isplitl [HS]; · iexists _; iexact HS
        iexact Hg
    refine BIClass.entails_trans ?_ (stepA m c t h ((dats m 0 c).owesAt () t.castSucc))
    iintro ⟨HS, Ho, ⟨%d0, H0⟩, ⟨%d1, H1⟩, ⟨%d2, H2⟩, ⟨%d3, H3⟩, ⟨%d4, H4⟩, ⟨%d5, H5⟩, ⟨%d6, H6⟩⟩
    isplitl [HS]; · iapply hR; iexact HS
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · rw [dif_neg h, PhiS_pos m c _ _ (by omega), keep_pred m c t h]
    simp only [before6 m c t h]
    refine BIClass.entails_trans ?_ (stepB m c t h ((dats m 0 c).owesAt () t.castSucc))
    iintro ⟨HS, Ho, ⟨%d0, H0⟩, ⟨%d1, H1⟩, ⟨%d2, H2⟩, ⟨%d3, H3⟩, ⟨%d4, H4⟩, ⟨%d5, H5⟩, ⟨%d6, H6⟩⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexact H6

theorem row (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, row]
  exact triple_restated (step m c t) rfl .rfl fun _ => .rfl

theorem enter (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem leave (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 132 := N_0; omega), PhiA_eq]
  iintro ⟨HS, Hg⟩
  isplitl [HS]
  · iexists _; iexact HS
  iexact Hg

set_option backward.isDefEq.respectTransparency.types false in
/-- Every run ends, with the arrays at what the steps left and the counters at zero. -/
theorem ends : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hin := enter m) (hout := leave m)

/-- The arguments are left as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (ends m ρ))

/-- The frame, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (unchanged m ρ) ((θ_run defs _ _).mono (fun _ h => h.2) (ends m ρ))

/-- The run with its two arrays named. -/
theorem run : θ_run defs (onTc (τ := τ) (main (F := F))) ⟨m, fun _ => 0, ρ⟩ (fun r => ∀ c : Dev nD,
      r.2.mem ((c.tc : Thread nD τ).loc main_v4_0) = (dats m 0 c).arrAt 5 cfg0.N ∧ r.2.mem ((c.tc : Thread nD τ).loc main_v4_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1.1 c).1 5, (h.1.1 c).1 6, h.2 c⟩) (θ_run_and (ends m ρ) (unchanged m ρ))

end Cert.PeerInIdeal.Hand
-- ==== Proof.PeerIn.lean ====
module

public import proofs.«01_k».proof.Proof.Norm
public import proofs.«01_k».proof.Proof.PeerInRun
public import proofs.«01_k».proof.Proof.Gen.PeerInRefIdeal
public import Idealize.ShloMosaic.Lib.Pipeline.ValueKit
public import Idealize.ShloMosaic.Lib.Pointwise
public import Idealize.ShloMosaic.Lib.Claim
set_option maxRecDepth 16384
@[expose] public noncomputable section
open Idealize.ShloMosaic Idealize.ShloMosaic.TcCoe Idealize.SL.Sem
open Idealize.ShloMosaic.Pipeline (Dat)
namespace Cert.PeerInIdeal.Hand
open Cert.PeerInIdeal Cert.PeerInIdeal.Gen Cert.Norm
variable (m : (ℓ : Loc nD τ sig) → Buf (Elt Ideal) ℓ)

/-- An entry of the queries: the row's modulated norm against a column of the weight. -/
def ent (xs : FVec Ideal S33792x1024 .f32) (g : FVec Ideal S1024 .f32) (sh sc : FVec Ideal S5x1024 .f32) (w : FVec Ideal S1024x2048 .f32)
    (r : Fin 33792) (n : Fin 2048) : EReal :=
  pr xs g sh sc (fun k (d : Fin 2048) => w (ix2 k d)) r n

theorem Vw (c : Dev nD) : V m c main_v0 = (truncf .bf16 (show FVec Ideal S1024x2048 .f32 from m ((c : Thread nD τ).loc main_arg4)) bitsLt_bf16_f32 : FVec Ideal S1024x2048 .bf16) := by
  unfold V
  after_results
theorem Vg (c : Dev nD) : V m c main_v1 = broadcastInDim S1x1024 ![1] bcast_S1024_S1x1024_1 (m ((c : Thread nD τ).loc main_arg1)) := by
  unfold V
  after_results
theorem Vsh (c : Dev nD) : V m c main_v2 = broadcastInDim S5x1x1024 ![0, 2] bcast_S5x1024_S5x1x1024_0_2 (m ((c : Thread nD τ).loc main_arg2)) := by
  unfold V
  after_results
theorem Vsc (c : Dev nD) : V m c main_v3 = broadcastInDim S5x1x1024 ![0, 2] bcast_S5x1024_S5x1x1024_0_2 (m ((c : Thread nD τ).loc main_arg3)) := by
  unfold V
  after_results

/-- The normed block is kept as it is, and turned over in the second output. -/
theorem pay2_eq (x : Vec Ideal S512x1024 .f32) (g : Vec Ideal S1x1024 .f32) (sc sh : Vec Ideal S1x1x1024 .f32) :
    k0_pay2 (F := Ideal) x g sc sh = Cert.EvenQkvIdeal.Gen.k0_pay1 (F := Ideal) x g sc sh := rfl
theorem pay3_at (x : Vec Ideal S512x1024 .f32) (g : Vec Ideal S1x1024 .f32) (sc sh : Vec Ideal S1x1x1024 .f32) (k : Fin 1024) (q : Fin 512) :
    k0_pay3 (F := Ideal) x g sc sh (ix2 k q) = k0_pay2 (F := Ideal) x g sc sh (ix2 q k) := by
  unfold k0_pay2 k0_pay3
  generalize k0_pay1 (F := Ideal) x g sc sh = y
  pointwise
theorem pay4_at (h : Vec Ideal S512x1024 .bf16) (w : Vec Ideal S1024x1024 .bf16) (q : Fin 512) (n : Fin 1024) :
    k0_pay4 h w (ix2 q n) = (∑ k : Fin 1024, (h (ix2 q k) * w (ix2 k n) : EReal) : EReal) := by
  pointwise [k0_pay4]

theorem idx0 : ∀ t : Fin cfg0.N, win0_0.index t = ![t.val / 2, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![min (t.val / 2 / 16) 4, 0, 0] := (by decide +kernel : ∀ t : Fin grid0.N, _)
theorem idx3 : ∀ t : Fin cfg0.N, win0_3.index t = ![min (t.val / 2 / 16) 4, 0, 0] := (by decide +kernel : ∀ t : Fin grid0.N, _)
theorem idx4 : ∀ t : Fin cfg0.N, win0_4.index t = ![0, t.val % 2] := (by decide +kernel : ∀ t : Fin grid0.N, _)
theorem idx5 : ∀ t : Fin cfg0.N, win0_5.index t = ![t.val / 2, t.val % 2] := (by decide +kernel : ∀ t : Fin grid0.N, _)

theorem idx6 : ∀ t : Fin cfg0.N, win0_6.index t = ![0, t.val / 2] := (by decide +kernel : ∀ t : Fin grid0.N, _)
theorem b0_at (c : Dev nD) (t : Fin cfg0.N) (q : Fin 512) (k : Fin 1024) (i : S33792x1024.Idx)
    (h0 : (i 0 : ℕ) = t.val / 2 * 512 + q) (h1 : (i 1 : ℕ) = k) :
    (show FVec Ideal S512x1024 .f32 from iblk m c 0 t) (ix2 q k) = (show FVec Ideal S33792x1024 .f32 from m ((c : Thread nD τ).loc main_arg0)) i := by
  blk_point [iblk, V, idx0 t]
theorem b1_at (c : Dev nD) (t : Fin cfg0.N) (k : Fin 1024) :
    (show FVec Ideal S1x1024 .f32 from iblk m c 1 t) (ix2 0 k) = (show FVec Ideal S1x1024 .f32 from V m c main_v1) (ix2 0 k) := by
  blk_point [iblk, idx1 t]
theorem b2_at (c : Dev nD) (t : Fin cfg0.N) (k : Fin 1024) (i : S5x1x1024.Idx)
    (h0 : (i 0 : ℕ) = min (t.val / 2 / 16) 4) (h1 : (i 1 : ℕ) = 0) (h2 : (i 2 : ℕ) = k) :
    (show FVec Ideal S1x1x1024 .f32 from iblk m c 2 t) (ix3 0 0 k) = (show FVec Ideal S5x1x1024 .f32 from V m c main_v2) i := by
  blk_point [iblk, idx2 t]
theorem b3_at (c : Dev nD) (t : Fin cfg0.N) (k : Fin 1024) (i : S5x1x1024.Idx)
    (h0 : (i 0 : ℕ) = min (t.val / 2 / 16) 4) (h1 : (i 1 : ℕ) = 0) (h2 : (i 2 : ℕ) = k) :
    (show FVec Ideal S1x1x1024 .f32 from iblk m c 3 t) (ix3 0 0 k) = (show FVec Ideal S5x1x1024 .f32 from V m c main_v3) i := by
  blk_point [iblk, idx3 t]
theorem b4_at (c : Dev nD) (t : Fin cfg0.N) (k : Fin 1024) (d : Fin 1024) (i : S1024x2048.Idx) (h0 : (i 0 : ℕ) = k) (h1 : (i 1 : ℕ) = t.val % 2 * 1024 + d) :
    (show FVec Ideal S1024x1024 .bf16 from iblk m c 4 t) (ix2 k d) = (show FVec Ideal S1024x2048 .bf16 from V m c main_v0) i := by
  blk_point [iblk, idx4 t]

/-- The normed rows a step keeps are those of its rows of the stream. -/
theorem norm_at (c : Dev nD) (t : Fin cfg0.N) (q : Fin 512) (k : Fin 1024) (r : Fin 33792) (hr : r.val = t.val / 2 * 512 + q.val) :
    k0_pay2 (F := Ideal) (iblk m c 0 t) (iblk m c 1 t) (iblk m c 3 t) (iblk m c 2 t) (ix2 q k)
      = nrow (m ((c : Thread nD τ).loc main_arg0)) (m ((c : Thread nD τ).loc main_arg1)) (m ((c : Thread nD τ).loc main_arg2))
        (m ((c : Thread nD τ).loc main_arg3)) r k := by
  have hs : r.val / 8192 = min (t.val / 2 / 16) 4 := by
    have := r.isLt
    omega
  rw [pay2_eq]
  refine pay1_row _ _ _ _ _ _ _ _ q k r (fun l => b0_at m c t q l _ hr rfl) ?_ (fun i h0 h1 => ?_) (fun i h0 h1 => ?_)
  · refine (b1_at m c t k).trans ?_
    rw [Vg]
    pointwise
  · obtain ⟨a, b, rfl⟩ : ∃ (a : Fin 5) (b : Fin 1024), i = ix2 a b := ⟨_, _, (ix2_eta _).symm⟩
    obtain rfl : b = k := h1
    refine (b3_at m c t b (ix3 a 0 b) (h0.trans hs) rfl rfl).trans ?_
    rw [Vsc]
    pointwise
  · obtain ⟨a, b, rfl⟩ : ∃ (a : Fin 5) (b : Fin 1024), i = ix2 a b := ⟨_, _, (ix2_eta _).symm⟩
    obtain rfl : b = k := h1
    refine (b2_at m c t b (ix3 a 0 b) (h0.trans hs) rfl rfl).trans ?_
    rw [Vsh]
    pointwise

/-- What is kept after a step: the normed rows of its block of the stream. -/
theorem keep_at (c : Dev nD) (t : Fin cfg0.N) (q : Fin 512) (k : Fin 1024) (r : Fin 33792) (hr : r.val = t.val / 2 * 512 + q.val) :
    keep m c t (ix2 q k) = nrow (m ((c : Thread nD τ).loc main_arg0)) (m ((c : Thread nD τ).loc main_arg1)) (m ((c : Thread nD τ).loc main_arg2)) (m ((c : Thread nD τ).loc main_arg3)) r k := by
  unfold keep sA atA
  frame_out
  exact norm_at m c (ev t) q k r (by show r.val = t.val / 2 * 2 / 2 * 512 + q.val; omega)

/-- What the second output's buffer holds after a step: the same, turned over. -/
theorem turned_at (c : Dev nD) (t : Fin cfg0.N) (q : Fin 512) (k : Fin 1024) (r : Fin 33792) (hr : r.val = t.val / 2 * 512 + q.val) :
    turned m c t (ix2 k q) = nrow (m ((c : Thread nD τ).loc main_arg0)) (m ((c : Thread nD τ).loc main_arg1)) (m ((c : Thread nD τ).loc main_arg2)) (m ((c : Thread nD τ).loc main_arg3)) r k := by
  unfold turned hA atA
  frame_out
  exact (pay3_at _ _ _ _ k q).trans (norm_at m c (ev t) q k r (by show r.val = t.val / 2 * 2 / 2 * 512 + q.val; omega))

/-- A product of normed rows with a block of the weight. -/
theorem point (c : Dev nD) (t : Fin cfg0.N) (h : Vec Ideal S512x1024 .bf16) (q : Fin 512) (d : Fin 1024) (r : Fin 33792) (n : Fin 2048) (hn : n.val = t.val % 2 * 1024 + d.val)
    (hh : ∀ k : Fin 1024, h (ix2 q k) = nrow (m ((c : Thread nD τ).loc main_arg0)) (m ((c : Thread nD τ).loc main_arg1)) (m ((c : Thread nD τ).loc main_arg2)) (m ((c : Thread nD τ).loc main_arg3)) r k) :
    k0_pay4 (F := Ideal) h (iblk m c 4 t) (ix2 q d) = ent (m ((c : Thread nD τ).loc main_arg0)) (m ((c : Thread nD τ).loc main_arg1)) (m ((c : Thread nD τ).loc main_arg2)) (m ((c : Thread nD τ).loc main_arg3)) (m ((c : Thread nD τ).loc main_arg4)) r n := by
  refine (pay4_at _ _ q d).trans ?_
  unfold ent pr
  refine Finset.sum_congr rfl fun k _ => congrArg₂ (· * ·) (hh k) ?_
  refine (b4_at m c t k d (ix2 k n) rfl hn).trans ?_
  rw [Vw]
  pointwise

/-- What a step leaves of its block of queries. -/
theorem prod_at (c : Dev nD) (t : Fin cfg0.N) (q : Fin 512) (d : Fin 1024) (r : Fin 33792) (n : Fin 2048) (hr : r.val = t.val / 2 * 512 + q.val) (hn : n.val = t.val % 2 * 1024 + d.val) :
    prod m c t (ix2 q d) = ent (m ((c : Thread nD τ).loc main_arg0)) (m ((c : Thread nD τ).loc main_arg1)) (m ((c : Thread nD τ).loc main_arg2)) (m ((c : Thread nD τ).loc main_arg3)) (m ((c : Thread nD τ).loc main_arg4)) r n := by
  unfold prod
  by_cases h : t.val % 2 = 0
  · rw [dif_pos h]
    unfold qA atA
    frame_out
    exact point m c t _ q d r n hn fun k => norm_at m c t q k r hr
  · rw [dif_neg h]
    unfold qB atB
    frame_out
    refine point m c t _ q d r n hn fun k => ?_
    rw [(Memref.isWhole_whole _).read_unread]
    exact keep_at m c t q k r hr

/-- The first array: the queries. -/
theorem final5 (c : Dev nD) : (dats m 0 c).arrAt 5 cfg0.N = (fun j : S33792x2048.Idx => ent (m ((c : Thread nD τ).loc main_arg0)) (m ((c : Thread nD τ).loc main_arg1)) (m ((c : Thread nD τ).loc main_arg2)) (m ((c : Thread nD τ).loc main_arg3)) (m ((c : Thread nD τ).loc main_arg4)) (j 0) (j 1)) := by
  refine (dats m 0 c).arrAt_eq_of_covers 5 _ (by decide +kernel) fun t hf y => ?_
  blk_simp
  rw [after5]
  obtain ⟨q, d, rfl⟩ : ∃ (q : Fin 512) (d : Fin 1024), (show S512x1024.Idx from y) = ix2 q d := ⟨_, _, (ix2_eta _).symm⟩
  have e5 := idx5 t
  have E : (((win0_5.blk t).view.emb (ix2 q d) 0 : Fin 33792) : ℕ) = t.val / 2 * 512 + q.val
      ∧ (((win0_5.blk t).view.emb (ix2 q d) 1 : Fin 2048) : ℕ) = t.val % 2 * 1024 + d.val := by
    constructor
    · blk_simp [e5]
    · blk_simp [e5]
  exact prod_at m c t q d _ _ E.1 E.2

/-- The second array: the normed rows, turned over. -/
theorem final6 (c : Dev nD) : (dats m 0 c).arrAt 6 cfg0.N = (fun j : S1024x33792.Idx => nrow (m ((c : Thread nD τ).loc main_arg0)) (m ((c : Thread nD τ).loc main_arg1)) (m ((c : Thread nD τ).loc main_arg2)) (m ((c : Thread nD τ).loc main_arg3)) (j 1) (j 0)) := by
  refine (dats m 0 c).arrAt_eq_of_covers 6 _ (by decide +kernel) fun t hf y => ?_
  blk_simp
  rw [after6]
  obtain ⟨k, q, rfl⟩ : ∃ (k : Fin 1024) (q : Fin 512), (show S1024x512.Idx from y) = ix2 k q := ⟨_, _, (ix2_eta _).symm⟩
  have e6 := idx6 t
  have E : (((win0_6.blk t).view.emb (ix2 k q) 0 : Fin 1024) : ℕ) = k.val
      ∧ (((win0_6.blk t).view.emb (ix2 k q) 1 : Fin 33792) : ℕ) = t.val / 2 * 512 + q.val := by
    constructor
    · blk_simp [e6]
    · blk_simp [e6]
  exact (turned_at m c t q k _ E.2).trans (congrArg (nrow (m ((c : Thread nD τ).loc main_arg0)) (m ((c : Thread nD τ).loc main_arg1)) (m ((c : Thread nD τ).loc main_arg2)) (m ((c : Thread nD τ).loc main_arg3)) _) (Fin.ext E.1.symm))

end Cert.PeerInIdeal.Hand
namespace Cert.PeerInRefIdeal.Hand
open Cert.PeerInRefIdeal Cert.PeerInRefIdeal.Gen Cert.Norm

/-- Two stretches of rows of queries, one after the other. -/
def asm (A : FVec Ideal S32768x2048 .f32) (B : FVec Ideal S1024x2048 .f32) : FVec Ideal S33792x2048 .f32 :=
  concatenate S33792x2048 0 [⟨S32768x2048, A⟩, ⟨S1024x2048, B⟩] concatenates_S32768x2048_S1024x2048_S33792x2048_d0
theorem asm_at (A : FVec Ideal S32768x2048 .f32) (B : FVec Ideal S1024x2048 .f32) (r : Fin 33792) (n : Fin 2048) :
    asm A B (ix2 r n) = if h : r.val < 32768 then A (ix2 ⟨r.val, h⟩ n) else B (ix2 ⟨r.val - 32768, by omega⟩ n) := by
  pointwise [asm]

/-- The latent rows against the weight. -/
def lat (L : FVec Ideal S4x8192x1024 .f32) (w : FVec Ideal S1024x2048 .f32) : FVec Ideal S32768x2048 .f32 :=
  shapeCast S32768x2048 (Host.dotGeneral dot_S4x8192x1024_S1024x2048_S4x8192x2048_2_0_01_1_n_n none L w) shapeCasts_S4x8192x2048_S32768x2048
theorem lat_at (L : FVec Ideal S4x8192x1024 .f32) (w : FVec Ideal S1024x2048 .f32) (r : Fin 32768) (n : Fin 2048) :
    lat L w (ix2 r n) = ∑ k : Fin 1024, (L (ix3 ⟨r.val / 8192, by omega⟩ ⟨r.val % 8192, by omega⟩ k) * w (ix2 k n) : EReal) := by
  pointwise [lat]

/-- The context rows against the weight. -/
def ctx (C : FVec Ideal S4x256x1024 .f32) (w : FVec Ideal S1024x2048 .f32) : FVec Ideal S1024x2048 .f32 :=
  shapeCast S1024x2048 (Host.dotGeneral dot_S4x256x1024_S1024x2048_S4x256x2048_2_0_01_1_n_n none C w) shapeCasts_S4x256x2048_S1024x2048
theorem ctx_at (C : FVec Ideal S4x256x1024 .f32) (w : FVec Ideal S1024x2048 .f32) (r : Fin 1024) (n : Fin 2048) :
    ctx C w (ix2 r n) = ∑ k : Fin 1024, (C (ix3 ⟨r.val / 256, by omega⟩ ⟨r.val % 256, by omega⟩ k) * w (ix2 k n) : EReal) := by
  pointwise [ctx]

/-- The normed rows, latent and context, turned over. -/
def over (L : FVec Ideal S4x8192x1024 .f32) (C : FVec Ideal S4x256x1024 .f32) : FVec Ideal S1024x33792 .bf16 :=
  truncf .bf16 (transpose S1024x33792 [1, 0] (concatenate S33792x1024 0 [⟨S32768x1024, shapeCast S32768x1024 L shapeCasts_S4x8192x1024_S32768x1024⟩,
    ⟨S1024x1024, shapeCast S1024x1024 C shapeCasts_S4x256x1024_S1024x1024⟩] concatenates_S32768x1024_S1024x1024_S33792x1024_d0)
    transposes_S33792x1024_S1024x33792_1_0) bitsLt_bf16_f32
theorem over_at (L : FVec Ideal S4x8192x1024 .f32) (C : FVec Ideal S4x256x1024 .f32) (k : Fin 1024) (r : Fin 33792) :
    over L C (ix2 k r) = if h : r.val < 32768 then L (ix3 ⟨r.val / 8192, by omega⟩ ⟨r.val % 8192, by omega⟩ k)
      else C (ix3 ⟨(r.val - 32768) / 256, by omega⟩ ⟨(r.val - 32768) % 256, by omega⟩ k) := by
  pointwise [over]

variable (X : FVec Ideal S33792x1024 .f32) (g : FVec Ideal S1024 .f32) (sh sc : FVec Ideal S5x1024 .f32) (w : FVec Ideal S1024x2048 .f32)

/-- The reference's queries. -/
theorem queries_at : asm (lat (hl X g sh sc) w) (ctx (hc X g sh sc) w) = fun j : S33792x2048.Idx => Cert.PeerInIdeal.Hand.ent X g sh sc w (j 0) (j 1) := by
  funext j
  obtain ⟨r, n, rfl⟩ : ∃ (r : Fin 33792) (n : Fin 2048), j = ix2 r n := ⟨_, _, (ix2_eta _).symm⟩
  unfold Cert.PeerInIdeal.Hand.ent pr
  rw [asm_at]
  by_cases h : r.val < 32768
  · rw [dif_pos h]
    refine (lat_at _ _ _ n).trans (Finset.sum_congr rfl fun k _ => congrArg (· * _) ((hl_at _ _ _ _ _ _ k).trans ?_))
    exact congrArg (nrow _ _ _ _ · k) (Fin.ext (by show r.val / 8192 * 8192 + r.val % 8192 = r.val; omega))
  · rw [dif_neg h]
    refine (ctx_at _ _ _ n).trans (Finset.sum_congr rfl fun k _ => congrArg (· * _) ((hc_at _ _ _ _ _ _ k).trans ?_))
    exact congrArg (nrow _ _ _ _ · k) (Fin.ext (by show 32768 + ((r.val - 32768) / 256 * 256 + (r.val - 32768) % 256) = r.val; omega))

/-- The reference's normed rows, turned over. -/
theorem turned_at : over (hl X g sh sc) (hc X g sh sc) = fun j : S1024x33792.Idx => nrow X g sh sc (j 1) (j 0) := by
  funext j
  obtain ⟨k, r, rfl⟩ : ∃ (k : Fin 1024) (r : Fin 33792), j = ix2 k r := ⟨_, _, (ix2_eta _).symm⟩
  refine (over_at _ _ k r).trans ?_
  by_cases h : r.val < 32768
  · rw [dif_pos h]
    refine (hl_at _ _ _ _ _ _ k).trans ?_
    exact congrArg (nrow X g sh sc · k) (Fin.ext (by show r.val / 8192 * 8192 + r.val % 8192 = r.val; omega))
  · rw [dif_neg h]
    refine (hc_at _ _ _ _ _ _ k).trans ?_
    exact congrArg (nrow X g sh sc · k) (Fin.ext (by show 32768 + ((r.val - 32768) / 256 * 256 + (r.val - 32768) % 256) = r.val; omega))

end Cert.PeerInRefIdeal.Hand
-- ==== Proof.PeerLastRun.lean ====
module

public import proofs.«01_k».proof.Proof.Gen.PeerLastIdeal.Frame
public import proofs.«01_k».proof.Proof.Gen.PeerLastIdeal.Skeleton
public import Idealize.ShloMosaic.Lib.Claim
set_option maxRecDepth 16384
@[expose] public noncomputable section
namespace Cert.PeerLastIdeal.Hand
open Cert.PeerLastIdeal Cert.PeerLastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]
local notation "𝕄" => MT nD τ sig Unit (Elt F) ℕ (UR sig nD τ) ℕ

/-- The body's condition: the step is the first of its row block. -/
abbrev first (i : grid0.Coords) : Prop := (Scalar.cmpi .ne (Scalar.extui (Scalar.cmpi .eq (BitVec.ofNat 32 (i 1).val) 0#32)) 0#32) = 1#1

/-- These are the even steps. -/
theorem first_iff (t : Fin cfg0.N) : first (grid0.coords t) ↔ t.val % 2 = 0 := by
  have ht : t.val < 128 := Nat.lt_of_lt_of_eq t.isLt N_0
  have e1 : (grid0.coords t 1).val = t.val / 1 % 2 := Pipeline.Grid.coords_val t 1 (by decide) rfl
  simp only [first, e1]
  word_cmp

set_option maxHeartbeats 1000000 in
/-- The body at an even step: what its stores leave in the two outputs' buffers and in the one it keeps, whatever they held. -/
def runA (c : Dev nD) (i : grid0.Coords) (a2 : Memref sig .tc .vmem S512x1024 .f32) (h2 : a2.IsWhole) (a3 : Memref sig .tc .vmem S1x1024 .f32) (h3 : a3.IsWhole) (a4 : Memref sig .tc .vmem S1x1x1024 .f32) (h4 : a4.IsWhole) (a5 : Memref sig .tc .vmem S1x1x1024 .f32) (h5 : a5.IsWhole) (a6 : Memref sig .tc .vmem S1024x1024 .bf16) (h6 : a6.IsWhole) (a7 : Memref sig .tc .vmem S512x1024 .f32) (h7 : a7.IsWhole) (a8 : Memref sig .tc .vmem S1024x512 .bf16) (h8 : a8.IsWhole) (a9 : Memref sig .tc .vmem S512x1024 .bf16) (h9 : a9.IsWhole) (hc : first i)
    (x0 : Vec F S512x1024 .f32) (x1 : Vec F S1x1024 .f32) (x2 x3 : Vec F S1x1x1024 .f32) (x4 : Vec F S1024x1024 .bf16) :
    Σ' (L5 : List (View.Piece (Elt F) S512x1024 .f32)) (L6 : List (View.Piece (Elt F) S1024x512 .bf16)), { LS : List (View.Piece (Elt F) S512x1024 .bf16) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d) ∗ (∃ d, owns (c : Thread nD τ) a8 fullShare d) ∗ (∃ d, owns (c : Thread nD τ) a9 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ f, a7.view.loc (c : Thread nD τ) ↦[a7.view.set]{fullShare} a7.view.writes (Elt F) f L5) ∗ (∃ f, a8.view.loc (c : Thread nD τ) ↦[a8.view.set]{fullShare} a8.view.writes (Elt F) f L6) ∗ (∃ f, a9.view.loc (c : Thread nD τ) ↦[a9.view.set]{fullShare} a9.view.writes (Elt F) f LS)) -∗ K ⟨⟩))
          ⊢ wp frame (wpE (defs₀ (F := F)) Variants.none c none) E (cc0_fused_matmul i a2 h2 a3 h3 a4 h4 a5 h5 a6 h6 a7 h7 a8 h8 a9 h9) K } := by
  refine ⟨?_, ?_, ?_, fun E K => ?run⟩
  case run =>
    simp only [cc0_fused_matmul_eq_skeleton]; unfold cc0_fused_matmul_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, Hk⟩
    obtain rfl := h2.eq_unread hf0; obtain rfl := h3.eq_unread hf1; obtain rfl := h4.eq_unread hf2; obtain rfl := h5.eq_unread hf3; obtain rfl := h6.eq_unread hf4
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]; · iexists _; iexact H5
    isplitl [H6]; · iexists _; iexact H6
    iexists _; iexact HS

set_option maxHeartbeats 1000000 in
/-- The body at an odd step: it reads what it kept and stores into the first output alone. -/
def runB (c : Dev nD) (i : grid0.Coords) (a2 : Memref sig .tc .vmem S512x1024 .f32) (h2 : a2.IsWhole) (a3 : Memref sig .tc .vmem S1x1024 .f32) (h3 : a3.IsWhole) (a4 : Memref sig .tc .vmem S1x1x1024 .f32) (h4 : a4.IsWhole) (a5 : Memref sig .tc .vmem S1x1x1024 .f32) (h5 : a5.IsWhole) (a6 : Memref sig .tc .vmem S1024x1024 .bf16) (h6 : a6.IsWhole) (a7 : Memref sig .tc .vmem S512x1024 .f32) (h7 : a7.IsWhole) (a8 : Memref sig .tc .vmem S1024x512 .bf16) (h8 : a8.IsWhole) (a9 : Memref sig .tc .vmem S512x1024 .bf16) (h9 : a9.IsWhole) (hc : ¬ first i)
    (x0 : Vec F S512x1024 .f32) (x1 : Vec F S1x1024 .f32) (x2 x3 : Vec F S1x1x1024 .f32) (x4 : Vec F S1024x1024 .bf16) (y : Vec F S1024x512 .bf16) (s : Vec F S512x1024 .bf16) :
    { L5 : List (View.Piece (Elt F) S512x1024 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d) ∗ owns (c : Thread nD τ) a8 fullShare y ∗ owns (c : Thread nD τ) a9 fullShare s
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ f, a7.view.loc (c : Thread nD τ) ↦[a7.view.set]{fullShare} a7.view.writes (Elt F) f L5) ∗ owns (c : Thread nD τ) a8 fullShare y ∗ owns (c : Thread nD τ) a9 fullShare s) -∗ K ⟨⟩))
          ⊢ wp frame (wpE (defs₀ (F := F)) Variants.none c none) E (cc0_fused_matmul i a2 h2 a3 h3 a4 h4 a5 h5 a6 h6 a7 h7 a8 h8 a9 h9) K } := by
  refine ⟨?_, fun E K => ?run⟩
  case run =>
    simp only [cc0_fused_matmul_eq_skeleton]; unfold cc0_fused_matmul_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, H6, ⟨%fs, %hfs, HS⟩, Hk⟩
    obtain rfl := h2.eq_unread hf0; obtain rfl := h3.eq_unread hf1; obtain rfl := h4.eq_unread hf2; obtain rfl := h5.eq_unread hf3; obtain rfl := h6.eq_unread hf4
    obtain rfl := h9.eq_unread hfs
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]; · iexists _; iexact H5
    isplitl [H6]; · iexact H6
    iexists _; isplitr; · ipureintro; exact h9.read_unread _
    iexact HS

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x512 .bf16 := win0_6.stage (cfg0.slots t 6)
abbrev hs6 (t : Fin cfg0.N) : (ms6 t).IsWhole := hstage0_6 ((cfg0.slots t 6).cast nbuf0_6)
/-- The buffer of normed rows that is kept from a step to the next. -/
abbrev kept : Memref sig .tc .vmem S512x1024 .bf16 := Memref.whole cc0_scratch0
abbrev VO5 : View sig .tc .vmem S512x1024 .f32 := (Memref.whole cc0_stg5_0 : Memref sig .tc .vmem S512x1024 .f32).view
abbrev VO6 : View sig .tc .vmem S1024x512 .bf16 := (Memref.whole cc0_stg6_0 : Memref sig .tc .vmem S1024x512 .bf16).view

variable (m : (ℓ : Loc nD τ sig) → Buf (Elt F) ℓ) (ρ : Dev nD → PrngReg)

/-- The even step's run at the buffers and blocks of step `t`. -/
abbrev atA (c : Dev nD) (t : Fin cfg0.N) (h : t.val % 2 = 0) := runA c (grid0.coords t) (ms0 t) (hs0 t) (ms1 t) (hs1 t) (ms2 t) (hs2 t) (ms3 t) (hs3 t) (ms4 t) (hs4 t) (ms5 t) (hs5 t) (ms6 t) (hs6 t) kept (Memref.isWhole_whole _)
  ((first_iff t).mpr h) (iblk m c 0 t) (iblk m c 1 t) (iblk m c 2 t) (iblk m c 3 t) (iblk m c 4 t)

/-- What the even step leaves: a block of products, the normed rows turned over, and the normed rows. -/
def qA (c : Dev nD) (t : Fin cfg0.N) (h : t.val % 2 = 0) : Vec F S512x1024 .f32 := VO5.read (Elt F) (VO5.writes (Elt F) VO5.junk (atA m c t h).1)
def hA (c : Dev nD) (t : Fin cfg0.N) (h : t.val % 2 = 0) : Vec F S1024x512 .bf16 := VO6.read (Elt F) (VO6.writes (Elt F) VO6.junk (atA m c t h).2.1)
def sA (c : Dev nD) (t : Fin cfg0.N) (h : t.val % 2 = 0) : Vec F S512x1024 .bf16 := kept.view.read (Elt F) (kept.view.writes (Elt F) kept.view.junk (atA m c t h).2.2.1)

/-- The stores of an even step fill their buffers. -/
theorem fillA5 (c : Dev nD) (t : Fin cfg0.N) (h : t.val % 2 = 0) (y : S512x1024.Idx) : ∃ pc ∈ (atA m c t h).1, y ∈ pc.1.set :=
  View.cover_of_tiledL (atA m c t h).1 S512x1024.size (by sl_kernel_rfl) y
theorem fillA6 (c : Dev nD) (t : Fin cfg0.N) (h : t.val % 2 = 0) (y : S1024x512.Idx) : ∃ pc ∈ (atA m c t h).2.1, y ∈ pc.1.set :=
  View.cover_of_tiledL (atA m c t h).2.1 S1024x512.size (by sl_kernel_rfl) y
theorem fillAS (c : Dev nD) (t : Fin cfg0.N) (h : t.val % 2 = 0) (y : S512x1024.Idx) : ∃ pc ∈ (atA m c t h).2.2.1, y ∈ pc.1.set :=
  View.cover_of_tiledL (atA m c t h).2.2.1 S512x1024.size (by sl_kernel_rfl) y

/-- The first step of a step's row block. -/
def ev (t : Fin cfg0.N) : Fin cfg0.N := ⟨t.val / 2 * 2, Nat.lt_of_le_of_lt (Nat.div_mul_le_self _ _) t.isLt⟩
theorem ev_even (t : Fin cfg0.N) : (ev t).val % 2 = 0 := Nat.mul_mod_left _ _
theorem ev_self (t : Fin cfg0.N) (h : t.val % 2 = 0) : ev t = t := Fin.ext (by show t.val / 2 * 2 = t.val; omega)
theorem ev_pred (t : Fin cfg0.N) (h : ¬ t.val % 2 = 0) (h' : t.val - 1 < cfg0.N) : ev ⟨t.val - 1, h'⟩ = ev t :=
  Fin.ext (by show (t.val - 1) / 2 * 2 = t.val / 2 * 2; omega)

/-- What the kept buffer and the second output's hold after a step: what the first step of the row block put there. -/
def keep (c : Dev nD) (t : Fin cfg0.N) : Vec F S512x1024 .bf16 := sA m c (ev t) (ev_even t)
def turned (c : Dev nD) (t : Fin cfg0.N) : Vec F S1024x512 .bf16 := hA m c (ev t) (ev_even t)

theorem keep_even (c : Dev nD) (t : Fin cfg0.N) (h : t.val % 2 = 0) : keep m c t = sA m c t h := by
  have e : ∀ (s : Fin cfg0.N) (hs : s.val % 2 = 0), s = t → sA m c s hs = sA m c t h := by rintro _ _ rfl; rfl
  exact e _ _ (ev_self t h)
theorem turned_even (c : Dev nD) (t : Fin cfg0.N) (h : t.val % 2 = 0) : turned m c t = hA m c t h := by
  have e : ∀ (s : Fin cfg0.N) (hs : s.val % 2 = 0), s = t → hA m c s hs = hA m c t h := by rintro _ _ rfl; rfl
  exact e _ _ (ev_self t h)
theorem keep_pred (c : Dev nD) (t : Fin cfg0.N) (h : ¬ t.val % 2 = 0) (h' : t.val - 1 < cfg0.N) : keep m c ⟨t.val - 1, h'⟩ = keep m c t := by
  have e : ∀ (s u : Fin cfg0.N) (hs : s.val % 2 = 0) (hu : u.val % 2 = 0), s = u → sA m c s hs = sA m c u hu := by rintro _ _ _ _ rfl; rfl
  exact e _ _ _ _ (ev_pred t h h')
theorem turned_pred (c : Dev nD) (t : Fin cfg0.N) (h : ¬ t.val % 2 = 0) (h' : t.val - 1 < cfg0.N) : turned m c ⟨t.val - 1, h'⟩ = turned m c t := by
  have e : ∀ (s u : Fin cfg0.N) (hs : s.val % 2 = 0) (hu : u.val % 2 = 0), s = u → hA m c s hs = hA m c u hu := by rintro _ _ _ _ rfl; rfl
  exact e _ _ _ _ (ev_pred t h h')

/-- The odd step's run at the buffers and blocks of step `t`, over what the step before left. -/
abbrev atB (c : Dev nD) (t : Fin cfg0.N) (h : ¬ t.val % 2 = 0) := runB c (grid0.coords t) (ms0 t) (hs0 t) (ms1 t) (hs1 t) (ms2 t) (hs2 t) (ms3 t) (hs3 t) (ms4 t) (hs4 t) (ms5 t) (hs5 t) (ms6 t) (hs6 t) kept (Memref.isWhole_whole _)
  (fun e => h ((first_iff t).mp e)) (iblk m c 0 t) (iblk m c 1 t) (iblk m c 2 t) (iblk m c 3 t) (iblk m c 4 t) (turned m c t) (keep m c t)
def qB (c : Dev nD) (t : Fin cfg0.N) (h : ¬ t.val % 2 = 0) : Vec F S512x1024 .f32 := VO5.read (Elt F) (VO5.writes (Elt F) VO5.junk (atB m c t h).1)
theorem fillB5 (c : Dev nD) (t : Fin cfg0.N) (h : ¬ t.val % 2 = 0) (y : S512x1024.Idx) : ∃ pc ∈ (atB m c t h).1, y ∈ pc.1.set :=
  View.cover_of_tiledL (atB m c t h).1 S512x1024.size (by sl_kernel_rfl) y

/-- What the first output's buffer holds after a step. -/
def prod (c : Dev nD) (t : Fin cfg0.N) : Vec F S512x1024 .f32 := if h : t.val % 2 = 0 then qA m c t h else qB m c t h

/-- Between the steps: the kept buffer at what the step before left in it. -/
def PhiS (c : Dev nD) : (n : ℕ) → n ≤ cfg0.N → sProp 𝕄
  | 0, _ => Pipeline.ΦA spec0 c
  | n + 1, hn => iprop(owns (c : Thread nD τ) kept fullShare (keep m c ⟨n, hn⟩) ∗ (∃ r, prngReg c r))

theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) :
    PhiS m c n h = iprop(owns (c : Thread nD τ) kept fullShare (keep m c ⟨n - 1, by omega⟩) ∗ (∃ r, prngReg c r)) := by
  cases n with
  | zero => exact absurd rfl hz
  | succ n => rfl

theorem PhiA_eq (c : Dev nD) : (Pipeline.ΦA spec0 c : sProp 𝕄) = iprop((∃ d, owns (c : Thread nD τ) kept fullShare d) ∗ (∃ r, prngReg c r)) := by
  unfold Pipeline.ΦA; rw [scopedRest0_eq]; simp only [kept, owns_whole]; try rfl

/-- What each buffer holds after a step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => prod m c t
    | ⟨6, _⟩ => turned m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_at (c : Dev nD) (t : Fin cfg0.N) : (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = prod m c t := by dsimp only [dats]
theorem after6 (c : Dev nD) (t : Fin cfg0.N) : (dats m 0 c).after 6 t = turned m c t := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d

/-- An even step stores into the second output's buffer. -/
theorem idle_even (t : Fin cfg0.N) (h : t.val % 2 = 0) : cfg0.idle 6 (cfg0.grid.coords t) = false := by
  have e : k0_cond1 (grid0.coords t) = 1#1 := (first_iff t).mpr h
  show (!(k0_cond1 (grid0.coords t) == 1#1)) = false
  rw [e]
  rfl

/-- At an odd step the second output's buffer still holds what the step before left, for it is written back after odd steps only. -/
theorem before6 (c : Dev nD) (t : Fin cfg0.N) (h : ¬ t.val % 2 = 0) (d) : (dats m 0 c).before 6 t d = turned m c t := by
  have h' : t.val - 1 < cfg0.N := Nat.lt_of_le_of_lt (Nat.sub_le _ _) t.isLt
  have hf : (cfg0.win 6).flush ⟨t.val - 1, h'⟩ = false := Bool.eq_false_iff.mpr fun e => by
    have := (flush0_6 ⟨t.val - 1, h'⟩).mp e
    simp only at this
    omega
  rw [(dats m 0 c).before_of_pos 6 t (by omega) (Pipeline.Window.fetch_out _ rfl t) d, hf, if_neg Bool.false_ne_true]
  unfold Dat.left
  rw [idle_even _ (by show (t.val - 1) % 2 = 0; omega)]
  dsimp only
  unfold Dat.kept
  rw [Pipeline.fill_of_clip_none 6 _ (fun _ => rfl) d ((dats m 0 c).after 6 _), Pipeline.Window.fill_cut]
  exact (after6 m c _).trans (turned_pred m c t h h')

/-- What a step leaves in the second output's buffer: it stores there at even steps and writes back at odd ones. -/
theorem leaves6 (c : Dev nD) (t : Fin cfg0.N) : (dats m 0 c).leavesExact 6 t = (owns (c : Thread nD τ) (ms6 t) fullShare (turned m c t) : sProp 𝕄) := by
  have e : (owns (c : Thread nD τ) (ms6 t) fullShare ((dats m 0 c).after 6 t) : sProp 𝕄) = owns (c : Thread nD τ) (ms6 t) fullShare (turned m c t) := by
    rw [after6]
  refine Eq.trans ?_ e
  unfold Dat.leavesExact
  by_cases h : t.val % 2 = 0
  · rw [idle_even t h]
  · have hf : (cfg0.win 6).flush t = true := (flush0_6 t).mpr (by omega)
    rw [hf]
    generalize cfg0.idle 6 (cfg0.grid.coords t) = b
    cases b <;> rfl

/-- What the body is given and what it returns. -/
def given (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))
def returned (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (dats m 0 c).leavesExact 6 t)

/-- An even step, whatever was kept. -/
theorem stepA (c : Dev nD) (t : Fin cfg0.N) (h : t.val % 2 = 0) (O : sProp 𝕄) :
    iprop(iprop((∃ d, owns (c : Thread nD τ) kept fullShare d) ∗ (∃ r, prngReg c r)) ∗ O
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ (∃ d, owns (c : Thread nD τ) (ms5 t) fullShare d) ∗ (∃ d, owns (c : Thread nD τ) (ms6 t) fullShare d))
    ⊢ wp frame (wpE (defs₀ (F := F)) Variants.none c none) Set.univ (bodyAt0 t) (fun _ =>
    iprop(iprop(owns (c : Thread nD τ) kept fullShare (sA m c t h) ∗ (∃ r, prngReg c r)) ∗ O
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (qA m c t h) ∗ owns (c : Thread nD τ) (ms6 t) fullShare (hA m c t h))) := by
  unfold bodyAt0 qA hA sA
  iintro ⟨⟨HS, Hg⟩, Ho, H0, H1, H2, H3, H4, H5, H6⟩
  iapply ((atA m c t h).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, ⟨%e5, H5⟩, ⟨%e6, H6⟩, ⟨%es, HS⟩⟩
  isplitl [HS Hg]
  · isplitl [HS]
    · unfold owns; iexists _; isplitr
      swap; · iexact HS
      ipureintro; exact View.read_writes_of_cover _ _ _ _ _ (fillAS m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (fillA5 m c t h)
  unfold owns; iexists _; isplitr
  swap; · iexact H6
  ipureintro; exact View.read_writes_of_cover _ _ _ _ _ (fillA6 m c t h)

/-- An odd step, over what the even step before it left. -/
theorem stepB (c : Dev nD) (t : Fin cfg0.N) (h : ¬ t.val % 2 = 0) (O : sProp 𝕄) :
    iprop(iprop(owns (c : Thread nD τ) kept fullShare (keep m c t) ∗ (∃ r, prngReg c r)) ∗ O
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ (∃ d, owns (c : Thread nD τ) (ms5 t) fullShare d) ∗ owns (c : Thread nD τ) (ms6 t) fullShare (turned m c t))
    ⊢ wp frame (wpE (defs₀ (F := F)) Variants.none c none) Set.univ (bodyAt0 t) (fun _ =>
    iprop(iprop(owns (c : Thread nD τ) kept fullShare (keep m c t) ∗ (∃ r, prngReg c r)) ∗ O
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (qB m c t h) ∗ owns (c : Thread nD τ) (ms6 t) fullShare (turned m c t))) := by
  unfold bodyAt0 qB
  iintro ⟨⟨HS, Hg⟩, Ho, H0, H1, H2, H3, H4, H5, H6⟩
  iapply ((atB m c t h).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, ⟨%e5, H5⟩, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (fillB5 m c t h)
  iexact H6

set_option maxHeartbeats 3200000 in
/-- The body at any step. -/
theorem step (c : Dev nD) (t : Fin cfg0.N) :
    given m c t ⊢ wp frame (wpE (defs₀ (F := F)) Variants.none c none) Set.univ (bodyAt0 t) (fun _ => returned m c t) := by
  unfold given returned
  simp only [before0, before1, before2, before3, before4]
  rw [show (dats m 0 c).owesAt () t.succ = (dats m 0 c).owesAt () t.castSucc from rfl, after0, after1, after2, after3, after4, after5, leaves6,
    show (dats m 0 c).Φ t.succ = iprop(owns (c : Thread nD τ) kept fullShare (keep m c t) ∗ (∃ r, prngReg c r)) from rfl, Phi_at m c t]
  unfold prod
  by_cases h : t.val % 2 = 0
  · rw [dif_pos h, keep_even m c t h, turned_even m c t h]
    have hR : PhiS m c t.val (Nat.le_of_lt t.isLt) ⊢ iprop((∃ d, owns (c : Thread nD τ) kept fullShare d) ∗ (∃ r, prngReg c r)) := by
      by_cases hz : t.val = 0
      · rw [PhiS_zero m c _ _ hz, PhiA_eq]
      · rw [PhiS_pos m c _ _ hz]
        iintro ⟨HS, Hg⟩
        isplitl [HS]; · iexists _; iexact HS
        iexact Hg
    refine BIClass.entails_trans ?_ (stepA m c t h ((dats m 0 c).owesAt () t.castSucc))
    iintro ⟨HS, Ho, ⟨%d0, H0⟩, ⟨%d1, H1⟩, ⟨%d2, H2⟩, ⟨%d3, H3⟩, ⟨%d4, H4⟩, ⟨%d5, H5⟩, ⟨%d6, H6⟩⟩
    isplitl [HS]; · iapply hR; iexact HS
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · rw [dif_neg h, PhiS_pos m c _ _ (by omega), keep_pred m c t h]
    simp only [before6 m c t h]
    refine BIClass.entails_trans ?_ (stepB m c t h ((dats m 0 c).owesAt () t.castSucc))
    iintro ⟨HS, Ho, ⟨%d0, H0⟩, ⟨%d1, H1⟩, ⟨%d2, H2⟩, ⟨%d3, H3⟩, ⟨%d4, H4⟩, ⟨%d5, H5⟩, ⟨%d6, H6⟩⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexact H6

theorem row (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, row]
  exact triple_restated (step m c t) rfl .rfl fun _ => .rfl

theorem enter (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem leave (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 128 := N_0; omega), PhiA_eq]
  iintro ⟨HS, Hg⟩
  isplitl [HS]
  · iexists _; iexact HS
  iexact Hg

set_option backward.isDefEq.respectTransparency.types false in
/-- Every run ends, with the arrays at what the steps left and the counters at zero. -/
theorem ends : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hin := enter m) (hout := leave m)

/-- The arguments are left as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (ends m ρ))

/-- The frame, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (unchanged m ρ) ((θ_run defs _ _).mono (fun _ h => h.2) (ends m ρ))

/-- The run with its two arrays named. -/
theorem run : θ_run defs (onTc (τ := τ) (main (F := F))) ⟨m, fun _ => 0, ρ⟩ (fun r => ∀ c : Dev nD,
      r.2.mem ((c.tc : Thread nD τ).loc main_v4_0) = (dats m 0 c).arrAt 5 cfg0.N ∧ r.2.mem ((c.tc : Thread nD τ).loc main_v4_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1.1 c).1 5, (h.1.1 c).1 6, h.2 c⟩) (θ_run_and (ends m ρ) (unchanged m ρ))

end Cert.PeerLastIdeal.Hand
-- ==== Proof.PeerLast.lean ====
module

public import proofs.«01_k».proof.Proof.Norm
public import proofs.«01_k».proof.Proof.PeerLastRun
public import proofs.«01_k».proof.Proof.Gen.PeerLastRefIdeal
public import Idealize.ShloMosaic.Lib.Pipeline.ValueKit
public import Idealize.ShloMosaic.Lib.Pointwise
public import Idealize.ShloMosaic.Lib.Claim
set_option maxRecDepth 16384
@[expose] public noncomputable section
open Idealize.ShloMosaic Idealize.ShloMosaic.TcCoe Idealize.SL.Sem
open Idealize.ShloMosaic.Pipeline (Dat)
namespace Cert.PeerLastIdeal.Hand
open Cert.PeerLastIdeal Cert.PeerLastIdeal.Gen Cert.Norm
variable (m : (ℓ : Loc nD τ sig) → Buf (Elt Ideal) ℓ)

/-- The latent rows, with zeros for the context's rows that follow them in the other layer. -/
def ext (X : FVec Ideal S32768x1024 .f32) : FVec Ideal Cert.EvenQkvRefIdeal.S33792x1024 .f32 := fun i => if h : (i 0).val < 32768 then X (ix2 ⟨(i 0).val, h⟩ (i 1)) else 0

/-- A latent row's place among all rows. -/
def up (r : Fin 32768) : Fin 33792 := ⟨r.val, by omega⟩

theorem ext_at (X : FVec Ideal S32768x1024 .f32) (r : Fin 32768) (k : Fin 1024) : ext X (ix2 (up r) k) = X (ix2 r k) := dif_pos r.isLt

/-- An entry of the queries: the row's modulated norm against a column of the weight. -/
def ent (xs : FVec Ideal S32768x1024 .f32) (g : FVec Ideal S1024 .f32) (sh sc : FVec Ideal S5x1024 .f32) (w : FVec Ideal S1024x2048 .f32)
    (r : Fin 32768) (n : Fin 2048) : EReal :=
  pr (ext xs) g sh sc (fun k (d : Fin 2048) => w (ix2 k d)) (up r) n

theorem Vw (c : Dev nD) : V m c main_v0 = (truncf .bf16 (show FVec Ideal S1024x2048 .f32 from m ((c : Thread nD τ).loc main_arg4)) bitsLt_bf16_f32 : FVec Ideal S1024x2048 .bf16) := by
  unfold V
  after_results
theorem Vg (c : Dev nD) : V m c main_v1 = broadcastInDim S1x1024 ![1] bcast_S1024_S1x1024_1 (m ((c : Thread nD τ).loc main_arg1)) := by
  unfold V
  after_results
theorem Vsh (c : Dev nD) : V m c main_v2 = broadcastInDim S5x1x1024 ![0, 2] bcast_S5x1024_S5x1x1024_0_2 (m ((c : Thread nD τ).loc main_arg2)) := by
  unfold V
  after_results
theorem Vsc (c : Dev nD) : V m c main_v3 = broadcastInDim S5x1x1024 ![0, 2] bcast_S5x1024_S5x1x1024_0_2 (m ((c : Thread nD τ).loc main_arg3)) := by
  unfold V
  after_results

/-- The normed block is kept as it is, and turned over in the second output. -/
theorem pay2_eq (x : Vec Ideal S512x1024 .f32) (g : Vec Ideal S1x1024 .f32) (sc sh : Vec Ideal S1x1x1024 .f32) :
    k0_pay2 (F := Ideal) x g sc sh = Cert.EvenQkvIdeal.Gen.k0_pay1 (F := Ideal) x g sc sh := rfl
theorem pay3_at (x : Vec Ideal S512x1024 .f32) (g : Vec Ideal S1x1024 .f32) (sc sh : Vec Ideal S1x1x1024 .f32) (k : Fin 1024) (q : Fin 512) :
    k0_pay3 (F := Ideal) x g sc sh (ix2 k q) = k0_pay2 (F := Ideal) x g sc sh (ix2 q k) := by
  unfold k0_pay2 k0_pay3
  generalize k0_pay1 (F := Ideal) x g sc sh = y
  pointwise
theorem pay4_at (h : Vec Ideal S512x1024 .bf16) (w : Vec Ideal S1024x1024 .bf16) (q : Fin 512) (n : Fin 1024) :
    k0_pay4 h w (ix2 q n) = (∑ k : Fin 1024, (h (ix2 q k) * w (ix2 k n) : EReal) : EReal) := by
  pointwise [k0_pay4]

theorem idx0 : ∀ t : Fin cfg0.N, win0_0.index t = ![t.val / 2, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![min (t.val / 2 / 16) 4, 0, 0] := (by decide +kernel : ∀ t : Fin grid0.N, _)
theorem idx3 : ∀ t : Fin cfg0.N, win0_3.index t = ![min (t.val / 2 / 16) 4, 0, 0] := (by decide +kernel : ∀ t : Fin grid0.N, _)
theorem idx4 : ∀ t : Fin cfg0.N, win0_4.index t = ![0, t.val % 2] := (by decide +kernel : ∀ t : Fin grid0.N, _)
theorem idx5 : ∀ t : Fin cfg0.N, win0_5.index t = ![t.val / 2, t.val % 2] := (by decide +kernel : ∀ t : Fin grid0.N, _)

theorem idx6 : ∀ t : Fin cfg0.N, win0_6.index t = ![0, t.val / 2] := (by decide +kernel : ∀ t : Fin grid0.N, _)
theorem b0_at (c : Dev nD) (t : Fin cfg0.N) (q : Fin 512) (k : Fin 1024) (i : S32768x1024.Idx)
    (h0 : (i 0 : ℕ) = t.val / 2 * 512 + q) (h1 : (i 1 : ℕ) = k) :
    (show FVec Ideal S512x1024 .f32 from iblk m c 0 t) (ix2 q k) = (show FVec Ideal S32768x1024 .f32 from m ((c : Thread nD τ).loc main_arg0)) i := by
  blk_point [iblk, V, idx0 t]
theorem b1_at (c : Dev nD) (t : Fin cfg0.N) (k : Fin 1024) :
    (show FVec Ideal S1x1024 .f32 from iblk m c 1 t) (ix2 0 k) = (show FVec Ideal S1x1024 .f32 from V m c main_v1) (ix2 0 k) := by
  blk_point [iblk, idx1 t]
theorem b2_at (c : Dev nD) (t : Fin cfg0.N) (k : Fin 1024) (i : S5x1x1024.Idx)
    (h0 : (i 0 : ℕ) = min (t.val / 2 / 16) 4) (h1 : (i 1 : ℕ) = 0) (h2 : (i 2 : ℕ) = k) :
    (show FVec Ideal S1x1x1024 .f32 from iblk m c 2 t) (ix3 0 0 k) = (show FVec Ideal S5x1x1024 .f32 from V m c main_v2) i := by
  blk_point [iblk, idx2 t]
theorem b3_at (c : Dev nD) (t : Fin cfg0.N) (k : Fin 1024) (i : S5x1x1024.Idx)
    (h0 : (i 0 : ℕ) = min (t.val / 2 / 16) 4) (h1 : (i 1 : ℕ) = 0) (h2 : (i 2 : ℕ) = k) :
    (show FVec Ideal S1x1x1024 .f32 from iblk m c 3 t) (ix3 0 0 k) = (show FVec Ideal S5x1x1024 .f32 from V m c main_v3) i := by
  blk_point [iblk, idx3 t]
theorem b4_at (c : Dev nD) (t : Fin cfg0.N) (k : Fin 1024) (d : Fin 1024) (i : S1024x2048.Idx) (h0 : (i 0 : ℕ) = k) (h1 : (i 1 : ℕ) = t.val % 2 * 1024 + d) :
    (show FVec Ideal S1024x1024 .bf16 from iblk m c 4 t) (ix2 k d) = (show FVec Ideal S1024x2048 .bf16 from V m c main_v0) i := by
  blk_point [iblk, idx4 t]

/-- The normed rows a step keeps are those of its rows of the stream. -/
theorem norm_at (c : Dev nD) (t : Fin cfg0.N) (q : Fin 512) (k : Fin 1024) (r : Fin 32768) (hr : r.val = t.val / 2 * 512 + q.val) :
    k0_pay2 (F := Ideal) (iblk m c 0 t) (iblk m c 1 t) (iblk m c 3 t) (iblk m c 2 t) (ix2 q k)
      = nrow (ext (m ((c : Thread nD τ).loc main_arg0))) (m ((c : Thread nD τ).loc main_arg1)) (m ((c : Thread nD τ).loc main_arg2))
        (m ((c : Thread nD τ).loc main_arg3)) (up r) k := by
  have hs : r.val / 8192 = min (t.val / 2 / 16) 4 := by
    have := r.isLt
    omega
  rw [pay2_eq]
  refine pay1_row _ _ _ _ _ _ _ _ q k (up r) (fun l => (b0_at m c t q l (ix2 r l) hr rfl).trans (ext_at _ r l).symm) ?_ (fun i h0 h1 => ?_) (fun i h0 h1 => ?_)
  · refine (b1_at m c t k).trans ?_
    rw [Vg]
    pointwise
  · obtain ⟨a, b, rfl⟩ : ∃ (a : Fin 5) (b : Fin 1024), i = ix2 a b := ⟨_, _, (ix2_eta _).symm⟩
    obtain rfl : b = k := h1
    refine (b3_at m c t b (ix3 a 0 b) (h0.trans hs) rfl rfl).trans ?_
    rw [Vsc]
    pointwise
  · obtain ⟨a, b, rfl⟩ : ∃ (a : Fin 5) (b : Fin 1024), i = ix2 a b := ⟨_, _, (ix2_eta _).symm⟩
    obtain rfl : b = k := h1
    refine (b2_at m c t b (ix3 a 0 b) (h0.trans hs) rfl rfl).trans ?_
    rw [Vsh]
    pointwise

/-- What is kept after a step: the normed rows of its block of the stream. -/
theorem keep_at (c : Dev nD) (t : Fin cfg0.N) (q : Fin 512) (k : Fin 1024) (r : Fin 32768) (hr : r.val = t.val / 2 * 512 + q.val) :
    keep m c t (ix2 q k) = nrow (ext (m ((c : Thread nD τ).loc main_arg0))) (m ((c : Thread nD τ).loc main_arg1)) (m ((c : Thread nD τ).loc main_arg2)) (m ((c : Thread nD τ).loc main_arg3)) (up r) k := by
  unfold keep sA atA
  frame_out
  exact norm_at m c (ev t) q k r (by show r.val = t.val / 2 * 2 / 2 * 512 + q.val; omega)

/-- What the second output's buffer holds after a step: the same, turned over. -/
theorem turned_at (c : Dev nD) (t : Fin cfg0.N) (q : Fin 512) (k : Fin 1024) (r : Fin 32768) (hr : r.val = t.val / 2 * 512 + q.val) :
    turned m c t (ix2 k q) = nrow (ext (m ((c : Thread nD τ).loc main_arg0))) (m ((c : Thread nD τ).loc main_arg1)) (m ((c : Thread nD τ).loc main_arg2)) (m ((c : Thread nD τ).loc main_arg3)) (up r) k := by
  unfold turned hA atA
  frame_out
  exact (pay3_at _ _ _ _ k q).trans (norm_at m c (ev t) q k r (by show r.val = t.val / 2 * 2 / 2 * 512 + q.val; omega))

/-- A product of normed rows with a block of the weight. -/
theorem point (c : Dev nD) (t : Fin cfg0.N) (h : Vec Ideal S512x1024 .bf16) (q : Fin 512) (d : Fin 1024) (r : Fin 32768) (n : Fin 2048) (hn : n.val = t.val % 2 * 1024 + d.val)
    (hh : ∀ k : Fin 1024, h (ix2 q k) = nrow (ext (m ((c : Thread nD τ).loc main_arg0))) (m ((c : Thread nD τ).loc main_arg1)) (m ((c : Thread nD τ).loc main_arg2)) (m ((c : Thread nD τ).loc main_arg3)) (up r) k) :
    k0_pay4 (F := Ideal) h (iblk m c 4 t) (ix2 q d) = ent (m ((c : Thread nD τ).loc main_arg0)) (m ((c : Thread nD τ).loc main_arg1)) (m ((c : Thread nD τ).loc main_arg2)) (m ((c : Thread nD τ).loc main_arg3)) (m ((c : Thread nD τ).loc main_arg4)) r n := by
  refine (pay4_at _ _ q d).trans ?_
  unfold ent pr
  refine Finset.sum_congr rfl fun k _ => congrArg₂ (· * ·) (hh k) ?_
  refine (b4_at m c t k d (ix2 k n) rfl hn).trans ?_
  rw [Vw]
  pointwise

/-- What a step leaves of its block of queries. -/
theorem prod_at (c : Dev nD) (t : Fin cfg0.N) (q : Fin 512) (d : Fin 1024) (r : Fin 32768) (n : Fin 2048) (hr : r.val = t.val / 2 * 512 + q.val) (hn : n.val = t.val % 2 * 1024 + d.val) :
    prod m c t (ix2 q d) = ent (m ((c : Thread nD τ).loc main_arg0)) (m ((c : Thread nD τ).loc main_arg1)) (m ((c : Thread nD τ).loc main_arg2)) (m ((c : Thread nD τ).loc main_arg3)) (m ((c : Thread nD τ).loc main_arg4)) r n := by
  unfold prod
  by_cases h : t.val % 2 = 0
  · rw [dif_pos h]
    unfold qA atA
    frame_out
    exact point m c t _ q d r n hn fun k => norm_at m c t q k r hr
  · rw [dif_neg h]
    unfold qB atB
    frame_out
    refine point m c t _ q d r n hn fun k => ?_
    rw [(Memref.isWhole_whole _).read_unread]
    exact keep_at m c t q k r hr

/-- The first array: the queries. -/
theorem final5 (c : Dev nD) : (dats m 0 c).arrAt 5 cfg0.N = (fun j : S32768x2048.Idx => ent (m ((c : Thread nD τ).loc main_arg0)) (m ((c : Thread nD τ).loc main_arg1)) (m ((c : Thread nD τ).loc main_arg2)) (m ((c : Thread nD τ).loc main_arg3)) (m ((c : Thread nD τ).loc main_arg4)) (j 0) (j 1)) := by
  refine (dats m 0 c).arrAt_eq_of_covers 5 _ (by decide +kernel) fun t hf y => ?_
  blk_simp
  rw [after5]
  obtain ⟨q, d, rfl⟩ : ∃ (q : Fin 512) (d : Fin 1024), (show S512x1024.Idx from y) = ix2 q d := ⟨_, _, (ix2_eta _).symm⟩
  have e5 := idx5 t
  have E : (((win0_5.blk t).view.emb (ix2 q d) 0 : Fin 32768) : ℕ) = t.val / 2 * 512 + q.val
      ∧ (((win0_5.blk t).view.emb (ix2 q d) 1 : Fin 2048) : ℕ) = t.val % 2 * 1024 + d.val := by
    constructor
    · blk_simp [e5]
    · blk_simp [e5]
  exact prod_at m c t q d _ _ E.1 E.2

/-- The second array: the normed rows, turned over. -/
theorem final6 (c : Dev nD) : (dats m 0 c).arrAt 6 cfg0.N = (fun j : S1024x32768.Idx => nrow (ext (m ((c : Thread nD τ).loc main_arg0))) (m ((c : Thread nD τ).loc main_arg1)) (m ((c : Thread nD τ).loc main_arg2)) (m ((c : Thread nD τ).loc main_arg3)) (up (j 1)) (j 0)) := by
  refine (dats m 0 c).arrAt_eq_of_covers 6 _ (by decide +kernel) fun t hf y => ?_
  blk_simp
  rw [after6]
  obtain ⟨k, q, rfl⟩ : ∃ (k : Fin 1024) (q : Fin 512), (show S1024x512.Idx from y) = ix2 k q := ⟨_, _, (ix2_eta _).symm⟩
  have e6 := idx6 t
  have E : (((win0_6.blk t).view.emb (ix2 k q) 0 : Fin 1024) : ℕ) = k.val
      ∧ (((win0_6.blk t).view.emb (ix2 k q) 1 : Fin 32768) : ℕ) = t.val / 2 * 512 + q.val := by
    constructor
    · blk_simp [e6]
    · blk_simp [e6]
  exact (turned_at m c t q k _ E.2).trans (congrArg (nrow (ext (m ((c : Thread nD τ).loc main_arg0))) (m ((c : Thread nD τ).loc main_arg1)) (m ((c : Thread nD τ).loc main_arg2)) (m ((c : Thread nD τ).loc main_arg3)) _) (Fin.ext E.1.symm))

end Cert.PeerLastIdeal.Hand
namespace Cert.PeerLastRefIdeal.Hand
open Cert.PeerLastRefIdeal Cert.PeerLastRefIdeal.Gen Cert.Norm
open Cert.PeerLastIdeal.Hand (ext up ext_at)
variable (X : FVec Ideal S32768x1024 .f32) (g : FVec Ideal S1024 .f32) (sh sc : FVec Ideal S5x1024 .f32) (w : FVec Ideal S1024x2048 .f32)

/-- The modulated norm of the latent rows. -/
def hlat : FVec Ideal S4x8192x1024 .f32 :=
  addf (mulf (mulf (mulf (shapeCast S4x8192x1024 X shapeCasts_S32768x1024_S4x8192x1024)
    (broadcastInDim S4x8192x1024 ![0, 1, 2] bcast_S4x8192x1_S4x8192x1024_0_1_2 (Host.rsqrt (addf (Host.divf (broadcastInDim S4x8192x1 ![0, 1] bcast_S4x8192_S4x8192x1_0_1
      (Host.reduceAdd (mulf (shapeCast S4x8192x1024 X shapeCasts_S32768x1024_S4x8192x1024)
        (shapeCast S4x8192x1024 X shapeCasts_S32768x1024_S4x8192x1024))
        (constant S_ .f32 0x00000000#32) reducesTo_S4x8192x1024_S4x8192_d2 h_S_))
      (broadcastInDim S4x8192x1 ![] bcast_S_S4x8192x1 (constant S_ .f32 0x44800000#32))) (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g)))
    (broadcastInDim S4x8192x1024 ![0, 1, 2] bcast_S4x1x1024_S4x8192x1024_0_1_2 (addf (broadcastInDim S4x1x1024 ![] bcast_S_S4x1x1024 (constant S_ .f32 0x3F800000#32))
      (broadcastInDim S4x1x1024 ![0, 2] bcast_S4x1024_S4x1x1024_0_2 (extractStridedSlice S4x1024 ![0, 0] sc slices_S5x1024_S4x1024_0_0)))))
    (broadcastInDim S4x8192x1024 ![0, 1, 2] bcast_S4x1x1024_S4x8192x1024_0_1_2 (broadcastInDim S4x1x1024 ![0, 2] bcast_S4x1024_S4x1x1024_0_2
      (extractStridedSlice S4x1024 ![0, 0] sh slices_S5x1024_S4x1024_0_0)))

theorem hlat_at (b : Fin 4) (q : Fin 8192) (k : Fin 1024) :
    hlat X g sh sc (ix3 b q k) = nrow (ext X) g sh sc (up ⟨b.val * 8192 + q.val, by omega⟩) k := by
  rw [nrow_of (ext X) g sh sc _ ⟨b.val, by omega⟩ (by show (b.val * 8192 + q.val) / 8192 = b.val; omega),
    show (fun l => ext X (ix2 (up ⟨b.val * 8192 + q.val, by omega⟩) l)) = fun l => X (ix2 ⟨b.val * 8192 + q.val, by omega⟩ l) from funext fun l => ext_at X _ l]
  unfold nr
  pointwise [hlat]

/-- The latent rows against the weight. -/
def lat (L : FVec Ideal S4x8192x1024 .f32) (w : FVec Ideal S1024x2048 .f32) : FVec Ideal S32768x2048 .f32 :=
  shapeCast S32768x2048 (Host.dotGeneral dot_S4x8192x1024_S1024x2048_S4x8192x2048_2_0_01_1_n_n none L w) shapeCasts_S4x8192x2048_S32768x2048
theorem lat_at (L : FVec Ideal S4x8192x1024 .f32) (w : FVec Ideal S1024x2048 .f32) (r : Fin 32768) (n : Fin 2048) :
    lat L w (ix2 r n) = ∑ k : Fin 1024, (L (ix3 ⟨r.val / 8192, by omega⟩ ⟨r.val % 8192, by omega⟩ k) * w (ix2 k n) : EReal) := by
  pointwise [lat]

/-- The normed rows, turned over. -/
def over (L : FVec Ideal S4x8192x1024 .f32) : FVec Ideal S1024x32768 .bf16 :=
  truncf .bf16 (transpose S1024x32768 [1, 0] (shapeCast S32768x1024 L shapeCasts_S4x8192x1024_S32768x1024) transposes_S32768x1024_S1024x32768_1_0) bitsLt_bf16_f32
theorem over_at (L : FVec Ideal S4x8192x1024 .f32) (k : Fin 1024) (r : Fin 32768) :
    over L (ix2 k r) = L (ix3 ⟨r.val / 8192, by omega⟩ ⟨r.val % 8192, by omega⟩ k) := by
  pointwise [over]

/-- The reference's queries. -/
theorem queries_at : lat (hlat X g sh sc) w = fun j : S32768x2048.Idx => Cert.PeerLastIdeal.Hand.ent X g sh sc w (j 0) (j 1) := by
  funext j
  obtain ⟨r, n, rfl⟩ : ∃ (r : Fin 32768) (n : Fin 2048), j = ix2 r n := ⟨_, _, (ix2_eta _).symm⟩
  unfold Cert.PeerLastIdeal.Hand.ent pr
  refine (lat_at _ _ r n).trans (Finset.sum_congr rfl fun k _ => congrArg (· * _) ((hlat_at _ _ _ _ _ _ k).trans ?_))
  exact congrArg (nrow _ _ _ _ · k) (Fin.ext (by show r.val / 8192 * 8192 + r.val % 8192 = r.val; omega))

/-- The reference's normed rows, turned over. -/
theorem turned_at : over (hlat X g sh sc) = fun j : S1024x32768.Idx => nrow (ext X) g sh sc (up (j 1)) (j 0) := by
  funext j
  obtain ⟨k, r, rfl⟩ : ∃ (k : Fin 1024) (r : Fin 32768), j = ix2 k r := ⟨_, _, (ix2_eta _).symm⟩
  refine (over_at _ k r).trans ((hlat_at _ _ _ _ _ _ k).trans ?_)
  exact congrArg (nrow (ext X) g sh sc · k) (Fin.ext (by show r.val / 8192 * 8192 + r.val % 8192 = r.val; omega))

end Cert.PeerLastRefIdeal.Hand
-- ==== Proof.CtxAttn.lean ====
module

public import proofs.«01_k».proof.Proof.Gen.CtxAttnIdeal.Value
public import proofs.«01_k».proof.Proof.Attn
public import proofs.«01_k».proof.Proof.MaxFold
public import Idealize.ShloMosaic.Lib.Pointwise
public import Idealize.ShloMosaic.Lib.Pipeline.ValueKit
public import Idealize.ShloMosaic.Lib.Claim
set_option maxRecDepth 16384
@[expose] public noncomputable section
open Idealize.ShloMosaic Idealize.ShloMosaic.TcCoe Idealize.SL.Sem
open Idealize.ShloMosaic.Pipeline (Dat)
namespace Cert.CtxAttnIdeal.Hand
open Cert.CtxAttnIdeal Cert.CtxAttnIdeal.Gen

/-- The largest of a row of scores. -/
def top (s : Fin 256 → EReal) : EReal := (Finset.univ : Finset (Fin 256)).fold max (Ideal.ofBits .f32 0xFF800000#32) s

/-- A score's unnormalised weight. -/
def wt (s : Fin 256 → EReal) (k : Fin 256) : EReal := Ideal.exp (s k - top s)

/-- The weighted values over the sum of the weights. -/
def att (s v : Fin 256 → EReal) : EReal := Ideal.div (∑ k, wt s k * v k) (∑ k, wt s k)

/-- The maximum along the rows of a table, for any table size. -/
theorem rowMax_at (n0 n1 : ℕ) (v : FVec Ideal ⟨2, ![n0, n1]⟩ .f32)
    (h : (⟨2, ![n0, n1]⟩ : Shape).Reduces [1] ⟨1, ![n0]⟩) (hφ : FKind.Formats .f32)
    (hacc : (0xFF800000#32 : BitVec FTy.f32.bits) = FKind.maximumf.neutral .f32 hφ) (q : Fin n0) :
    multiReduction .maximumf [1] ⟨1, ![n0]⟩ v 0xFF800000#32 h hφ hacc (ix1 q)
      = (Finset.univ : Finset (Fin n1)).fold max (Ideal.ofBits .f32 0xFF800000#32) (fun k => v (ix2 q k)) :=
  (multiReduction_maximumf_eq_fold v _ h hφ hacc (ix1 q)).trans (h.fold_fiber_r2_a1 (ix1 q) _ _ v)

/-- The queries of the pair's first head, zero elsewhere. -/
def sel0 (Q : FVec Ideal S256x128 .bf16) : FVec Ideal S256x128 .bf16 :=
  select (cmpi .slt (iota .tc S256x128 32 [1] iota_S256x128_d1_w32) (broadcast S256x128 64#32)) Q (broadcast S256x128 (Scalar.ofBits .bf16 0x0000#16))

/-- The queries of the pair's second head, zero elsewhere. -/
def sel1 (Q : FVec Ideal S256x128 .bf16) : FVec Ideal S256x128 .bf16 :=
  select (cmpi .sge (iota .tc S256x128 32 [1] iota_S256x128_d1_w32) (broadcast S256x128 64#32)) Q (broadcast S256x128 (Scalar.ofBits .bf16 0x0000#16))

theorem sel0_at (Q : FVec Ideal S256x128 .bf16) (q : Fin 256) (l : Fin 128) : sel0 Q (ix2 q l) = if l.val < 64 then Q (ix2 q l) else 0 := by
  pointwise [sel0]
  rw [Cert.KernelIdeal.Hand.ltSel]
  split <;> rfl

theorem sel1_at (Q : FVec Ideal S256x128 .bf16) (q : Fin 256) (l : Fin 128) : sel1 Q (ix2 q l) = if l.val < 64 then 0 else Q (ix2 q l) := by
  pointwise [sel1]
  rw [Cert.KernelIdeal.Hand.geSel]
  split <;> rfl

/-- The scaled scores of a block. -/
def scs (Q K : FVec Ideal S256x128 .bf16) : FVec Ideal S256x256 .f32 :=
  mulf (matmul dot_S256x128_S256x128_S256x256_1_1_0_0_n_n none Q K (constant S256x256 .f32 0x00000000#32)) (broadcast S256x256 (Scalar.ofBits .f32 0x3E000000#32))

theorem scs_at (Q K : FVec Ideal S256x128 .bf16) (q k : Fin 256) :
    scs Q K (ix2 q k) = (∑ l : Fin 128, (Q (ix2 q l) * K (ix2 k l) : EReal)) * Ideal.ofBits .f32 0x3E000000#32 := by
  pointwise [scs]

/-- A block's row maxima. -/
def mxs (S : FVec Ideal S256x256 .f32) : FVec Ideal S256 .f32 := multiReduction .maximumf [1] S256 S 0xFF800000#32 reduces_S256x256_S256 (.inl rfl) rfl

theorem mxs_at (S : FVec Ideal S256x256 .f32) (q : Fin 256) : mxs S (ix1 q) = top fun k => S (ix2 q k) := rowMax_at 256 256 S _ _ _ q

/-- The exponentials of a block's scores less given row maxima. -/
def exs (S : FVec Ideal S256x256 .f32) (M : FVec Ideal S256 .f32) : FVec Ideal S256x256 .f32 :=
  exp (subf S (broadcastTo S256x256 (shapeCast S256x1 M shapeCasts_S256_S256x1) broadcasts_S256x1_S256x256))

theorem exs_at (S : FVec Ideal S256x256 .f32) (M : FVec Ideal S256 .f32) (q k : Fin 256) :
    exs S M (ix2 q k) = Ideal.exp (S (ix2 q k) - M (ix1 q)) := by
  pointwise [exs]

theorem ws_at (Q K : FVec Ideal S256x128 .bf16) (q k : Fin 256) :
    exs (scs Q K) (mxs (scs Q K)) (ix2 q k) = wt (fun k => scs Q K (ix2 q k)) k := by
  rw [exs_at, mxs_at]
  rfl

/-- The weighted values of a block. -/
def wv (E : FVec Ideal S256x256 .f32) (V : FVec Ideal S256x128 .bf16) : FVec Ideal S256x128 .f32 :=
  matmul dot_S256x256_S256x128_S256x128_1_0_0_1_n_n none (truncf .bf16 E bitsLt_bf16_f32) V (constant S256x128 .f32 0x00000000#32)

theorem wv_at (E : FVec Ideal S256x256 .f32) (V : FVec Ideal S256x128 .bf16) (q : Fin 256) (d : Fin 128) :
    wv E V (ix2 q d) = ∑ k : Fin 256, (E (ix2 q k) * V (ix2 k d) : EReal) := by
  pointwise [wv]

/-- The sums of a block's weights. -/
def sm (E : FVec Ideal S256x256 .f32) : FVec Ideal S256x1 .f32 :=
  shapeCast S256x1 (multiReduction .add [1] S256 E 0x00000000#32 reduces_S256x256_S256 (.inl rfl) rfl) shapeCasts_S256_S256x1

theorem sm_at (E : FVec Ideal S256x256 .f32) (q : Fin 256) : sm E (ix2 q 0) = ∑ k : Fin 256, E (ix2 q k) := by
  pointwise [sm]

/-- One over the other, row by row. -/
def quo (O : FVec Ideal S256x128 .f32) (L : FVec Ideal S256x1 .f32) : FVec Ideal S256x128 .f32 :=
  divf O (broadcastTo S256x128 L broadcasts_S256x1_S256x128)

theorem quo_at (O : FVec Ideal S256x128 .f32) (L : FVec Ideal S256x1 .f32) (q : Fin 256) (d : Fin 128) :
    quo O L (ix2 q d) = Ideal.div (O (ix2 q d)) (L (ix2 q 0)) := by
  pointwise [quo]

/-- A head's attention in a block. -/
theorem head_at (Q K V : FVec Ideal S256x128 .bf16) (q : Fin 256) (d : Fin 128) :
    quo (wv (exs (scs Q K) (mxs (scs Q K))) V) (sm (exs (scs Q K) (mxs (scs Q K)))) (ix2 q d)
      = att (fun k => scs Q K (ix2 q k)) (fun k => V (ix2 k d)) := by
  rw [quo_at, wv_at, sm_at]
  simp only [ws_at]
  rfl

theorem pay2_eq (Q K V : FVec Ideal S256x128 .bf16) : k0_pay2 (F := Ideal) Q K V
    = quo (wv (exs (scs (sel0 Q) K) (mxs (scs (sel0 Q) K))) V) (sm (exs (scs (sel0 Q) K) (mxs (scs (sel0 Q) K)))) := rfl

theorem pay4_eq (Q K : FVec Ideal S256x128 .bf16) : k0_pay4 (F := Ideal) Q K = sm (exs (scs (sel1 Q) K) (mxs (scs (sel1 Q) K))) := rfl

theorem pay5_eq (Q K V : FVec Ideal S256x128 .bf16) : k0_pay5 (F := Ideal) Q K V = wv (exs (scs (sel1 Q) K) (mxs (scs (sel1 Q) K))) V := rfl

theorem pay1_at (a : FVec Ideal S256x128 .f32) (L : FVec Ideal S256x1 .f32) (O : FVec Ideal S256x128 .f32) (q : Fin 256) (d : Fin 128) :
    k0_pay1 (F := Ideal) (iota .tc S256x128 32 [1] iota_S256x128_d1_w32) a L O (ix2 q d) = if d.val < 64 then a (ix2 q d) else quo O L (ix2 q d) := by
  rw [quo_at]
  pointwise [k0_pay1]
  rw [Cert.KernelIdeal.Hand.ltSel]
  split <;> rfl

/-- The first head's scores, over its own 64 lanes. -/
theorem lanes0 (f : Fin 128 → EReal) : (∑ l : Fin 128, if l.val < 64 then f l else 0) = ∑ e : Fin 64, f ⟨e.val, by omega⟩ := by
  refine (Fin.sum_univ_add (a := 64) (b := 64) fun l : Fin (64 + 64) => if l.val < 64 then f l else (0 : EReal)).trans ?_
  rw [show (∑ e : Fin 64, if (Fin.natAdd 64 e : Fin (64 + 64)).val < 64 then f (Fin.natAdd 64 e) else (0 : EReal)) = 0 from
    Finset.sum_eq_zero fun e _ => if_neg (by show ¬ (64 + e.val < 64); omega), add_zero]
  exact Finset.sum_congr rfl fun e _ => if_pos e.isLt

/-- The second head's scores, over its own 64 lanes. -/
theorem lanes1 (f : Fin 128 → EReal) : (∑ l : Fin 128, if l.val < 64 then 0 else f l) = ∑ e : Fin 64, f ⟨64 + e.val, by omega⟩ := by
  refine (Fin.sum_univ_add (a := 64) (b := 64) fun l : Fin (64 + 64) => if l.val < 64 then (0 : EReal) else f l).trans ?_
  rw [show (∑ e : Fin 64, if (Fin.castAdd 64 e : Fin (64 + 64)).val < 64 then (0 : EReal) else f (Fin.castAdd 64 e)) = 0 from
    Finset.sum_eq_zero fun e _ => if_pos e.isLt, zero_add]
  exact Finset.sum_congr rfl fun e _ => if_neg (by show ¬ (64 + e.val < 64); omega)

theorem scs0_at (Q K : FVec Ideal S256x128 .bf16) (q k : Fin 256) : scs (sel0 Q) K (ix2 q k)
    = (∑ e : Fin 64, (Q (ix2 q ⟨e.val, by omega⟩) * K (ix2 k ⟨e.val, by omega⟩) : EReal)) * Ideal.ofBits .f32 0x3E000000#32 := by
  rw [scs_at]
  refine congrArg (· * _) (Eq.trans (Finset.sum_congr rfl fun l _ => ?_) (lanes0 fun l => (Q (ix2 q l) * K (ix2 k l) : EReal)))
  rw [sel0_at]
  split
  · rfl
  · exact zero_mul _

theorem scs1_at (Q K : FVec Ideal S256x128 .bf16) (q k : Fin 256) : scs (sel1 Q) K (ix2 q k)
    = (∑ e : Fin 64, (Q (ix2 q ⟨64 + e.val, by omega⟩) * K (ix2 k ⟨64 + e.val, by omega⟩) : EReal)) * Ideal.ofBits .f32 0x3E000000#32 := by
  rw [scs_at]
  refine congrArg (· * _) (Eq.trans (Finset.sum_congr rfl fun l _ => ?_) (lanes1 fun l => (Q (ix2 q l) * K (ix2 k l) : EReal)))
  rw [sel1_at]
  split
  · exact zero_mul _
  · rfl

/-- What a step stores: the attention of the head that the lane belongs to. -/
theorem pay_at (Q K V : FVec Ideal S256x128 .bf16) (q : Fin 256) (d : Fin 128) :
    k0_pay1 (F := Ideal) (iota .tc S256x128 32 [1] iota_S256x128_d1_w32) (k0_pay2 Q K V) (k0_pay4 Q K) (k0_pay5 Q K V) (ix2 q d)
      = att (fun k => (∑ e : Fin 64, (Q (ix2 q ⟨d.val / 64 * 64 + e.val, by omega⟩) * K (ix2 k ⟨d.val / 64 * 64 + e.val, by omega⟩) : EReal))
          * Ideal.ofBits .f32 0x3E000000#32) (fun k => V (ix2 k d)) := by
  rw [pay1_at, pay2_eq, pay4_eq, pay5_eq, head_at, head_at]
  simp only [scs0_at, scs1_at]
  split
  · have h : ∀ e : Fin 64, (⟨d.val / 64 * 64 + e.val, by omega⟩ : Fin 128) = ⟨e.val, by omega⟩ := fun e => Fin.ext (by show d.val / 64 * 64 + e.val = e.val; omega)
    simp only [h]
  · have h : ∀ e : Fin 64, (⟨d.val / 64 * 64 + e.val, by omega⟩ : Fin 128) = ⟨64 + e.val, by omega⟩ :=
      fun e => Fin.ext (by show d.val / 64 * 64 + e.val = 64 + e.val; omega)
    simp only [h]

/-- An entry of the context attention: the softmax attention of the entry's row over the context rows of its batch, in the
    entry's head. -/
def ent (X : FVec Ideal S33792x1536 .bf16) (r : Fin 1024) (l : Fin 512) : EReal :=
  att (fun k => (∑ e : Fin 64, (X (ix2 ⟨32768 + r.val, by omega⟩ ⟨l.val / 64 * 64 + e.val, by omega⟩)
      * X (ix2 ⟨32768 + (r.val / 256 * 256 + k.val), by omega⟩ ⟨512 + (l.val / 64 * 64 + e.val), by omega⟩) : EReal)) * Ideal.ofBits .f32 0x3E000000#32)
    (fun k => X (ix2 ⟨32768 + (r.val / 256 * 256 + k.val), by omega⟩ ⟨1024 + l.val, by omega⟩))

variable (m : (ℓ : Loc nD τ sig) → Buf (Elt Ideal) ℓ)

theorem idx0 : ∀ t : Fin cfg0.N, win0_0.index t = ![128 + t.val / 4, t.val % 4] := (by decide +kernel : ∀ t : Fin grid0.N, _)
theorem idx1 : ∀ t : Fin cfg0.N, win0_1.index t = ![128 + t.val / 4, 4 + t.val % 4] := (by decide +kernel : ∀ t : Fin grid0.N, _)
theorem idx2 : ∀ t : Fin cfg0.N, win0_2.index t = ![128 + t.val / 4, 8 + t.val % 4] := (by decide +kernel : ∀ t : Fin grid0.N, _)
theorem idx3 : ∀ t : Fin cfg0.N, win0_3.index t = ![t.val / 4, t.val % 4] := (by decide +kernel : ∀ t : Fin grid0.N, _)

theorem b0_at (c : Dev nD) (t : Fin cfg0.N) (q : Fin 256) (d : Fin 128) (i : S33792x1536.Idx)
    (h0 : (i 0 : ℕ) = (128 + t.val / 4) * 256 + q) (h1 : (i 1 : ℕ) = (t.val % 4) * 128 + d) :
    (show FVec Ideal S256x128 .bf16 from iblk m c 0 t) (ix2 q d) = (show FVec Ideal S33792x1536 .bf16 from m ((c : Thread nD τ).loc main_arg0)) i := by
  blk_point [iblk, V, idx0 t]
theorem b1_at (c : Dev nD) (t : Fin cfg0.N) (q : Fin 256) (d : Fin 128) (i : S33792x1536.Idx)
    (h0 : (i 0 : ℕ) = (128 + t.val / 4) * 256 + q) (h1 : (i 1 : ℕ) = (4 + t.val % 4) * 128 + d) :
    (show FVec Ideal S256x128 .bf16 from iblk m c 1 t) (ix2 q d) = (show FVec Ideal S33792x1536 .bf16 from m ((c : Thread nD τ).loc main_arg0)) i := by
  blk_point [iblk, V, idx1 t]
theorem b2_at (c : Dev nD) (t : Fin cfg0.N) (q : Fin 256) (d : Fin 128) (i : S33792x1536.Idx)
    (h0 : (i 0 : ℕ) = (128 + t.val / 4) * 256 + q) (h1 : (i 1 : ℕ) = (8 + t.val % 4) * 128 + d) :
    (show FVec Ideal S256x128 .bf16 from iblk m c 2 t) (ix2 q d) = (show FVec Ideal S33792x1536 .bf16 from m ((c : Thread nD τ).loc main_arg0)) i := by
  blk_point [iblk, V, idx2 t]

/-- What a step stores at an index. -/
theorem point (c : Dev nD) (t : Fin cfg0.N) (q : Fin 256) (d : Fin 128) (r : Fin 1024) (l : Fin 512)
    (hr : r.val = t.val / 4 * 256 + q.val) (hl : l.val = t.val % 4 * 128 + d.val) :
    k0_pay1 (F := Ideal) (iota .tc S256x128 32 [1] iota_S256x128_d1_w32) (k0_pay2 (iblk m c 0 t) (iblk m c 1 t) (iblk m c 2 t))
        (k0_pay4 (iblk m c 0 t) (iblk m c 1 t)) (k0_pay5 (iblk m c 0 t) (iblk m c 1 t) (iblk m c 2 t)) (ix2 q d)
      = ent (m ((c : Thread nD τ).loc main_arg0)) r l := by
  refine (pay_at _ _ _ q d).trans ?_
  unfold ent
  refine congrArg₂ att (funext fun k => congrArg (· * _) (Finset.sum_congr rfl fun e _ => congrArg₂ (· * ·) (b0_at m c t q _ _ ?_ ?_) (b1_at m c t k _ _ ?_ ?_)))
    (funext fun k => b2_at m c t k d _ ?_ ?_)
  · show 32768 + r.val = _
    omega
  · show l.val / 64 * 64 + e.val = t.val % 4 * 128 + (d.val / 64 * 64 + e.val)
    omega
  · show 32768 + (r.val / 256 * 256 + k.val) = _
    omega
  · show 512 + (l.val / 64 * 64 + e.val) = (4 + t.val % 4) * 128 + (d.val / 64 * 64 + e.val)
    omega
  · show 32768 + (r.val / 256 * 256 + k.val) = _
    omega
  · show 1024 + l.val = (8 + t.val % 4) * 128 + d.val
    omega

/-- The kernel's array is the context attention. -/
theorem final (c : Dev nD) : (dats m 0 c).arrAt 3 cfg0.N = (fun j : S1024x512.Idx => ent (m ((c : Thread nD τ).loc main_arg0)) (j 0) (j 1)) := by
  refine (dats m 0 c).arrAt_eq_of_covers 3 _ (by decide +kernel) fun t hf y => ?_
  blk_simp
  rw [after0_3]
  obtain ⟨q, d, rfl⟩ : ∃ (q : Fin 256) (d : Fin 128), (show S256x128.Idx from y) = ix2 q d := ⟨_, _, (ix2_eta _).symm⟩
  unfold out0_3
  frame_out
  have e3 := idx3 t
  have E : (((win0_3.blk t).view.emb (ix2 q d) 0 : Fin 1024) : ℕ) = t.val / 4 * 256 + q.val
      ∧ (((win0_3.blk t).view.emb (ix2 q d) 1 : Fin 512) : ℕ) = t.val % 4 * 128 + d.val := by
    constructor
    · blk_simp [e3]
    · blk_simp [e3]
  exact point m c t q d _ _ E.1 E.2

end Cert.CtxAttnIdeal.Hand
-- ==== Proof.CtxAttnRef.lean ====
module

public import proofs.«01_k».proof.Proof.PreFin
public import proofs.«01_k».proof.Pre_finite_ctx
public import proofs.«01_k».proof.Proof.CtxAttn
public import proofs.«01_k».proof.Proof.EvenOutRef
public import proofs.«01_k».proof.Proof.Gen.CtxAttnRefIdeal.Run
set_option maxRecDepth 16384
@[expose] public noncomputable section
open Idealize.ShloMosaic Idealize.ShloMosaic.TcCoe Idealize.SL.Sem
namespace Cert.Pre_finite_ctx
open Facts

/-- The side conditions of the precondition's operations. -/
instance facts : Cert.Pre_finite_ctx.Facts where
  slices_S33792x1536_S1024x1024_32768_0 := by decide
  bitsLt_bf16_f32 := by decide
  bcast_S_S1024x1024 := by decide
  reducesTo_S1024x1024_S_d0_1 := by decide
  h_S_ := by decide

/-- The context's queries and keys. -/
theorem qk_at (X : FVec Ideal S33792x1536 .bf16) (r n : Fin 1024) :
    extf .f32 (extractStridedSlice S1024x1024 ![32768, 0] X slices_S33792x1536_S1024x1024_32768_0) bitsLt_bf16_f32 (ix2 r n)
      = X (ix2 ⟨32768 + r.val, by omega⟩ ⟨n.val, by omega⟩) := by
  pointwise

/-- The precondition says that the context's queries and keys are real numbers. -/
theorem ctx_real (X : FVec Ideal S33792x1536 .bf16) (e : fn (F := Ideal) X = fun _ => 1#1) (r n : Fin 1024) :
    ∃ x : ℝ, X (ix2 ⟨32768 + r.val, by omega⟩ ⟨n.val, by omega⟩) = x := by
  have e0 := congrFun e ix0
  unfold fn at e0
  dsimp only at e0
  obtain ⟨x, hx⟩ := Cert.Pre_finite.real_all _ _ _ _ _ e0 (ix2 r n)
  exact ⟨x, (qk_at X r n).symm.trans hx⟩

end Cert.Pre_finite_ctx
namespace Cert.CtxAttnRefIdeal.Hand
open Cert.CtxAttnRefIdeal Cert.CtxAttnRefIdeal.Gen Cert.CtxAttnRefIdeal.Value
open Cert.CtxAttnIdeal.Hand (top wt att ent)

/-- The maximum along the last of four axes, for any sizes. -/
theorem lastMax4_at (n0 n1 n2 n3 : ℕ) {u : Shape} (v : FVec Ideal ⟨4, ![n0, n1, n2, n3]⟩ .f32) (b : FVec Ideal u .f32)
    (h : (⟨4, ![n0, n1, n2, n3]⟩ : Shape).ReducesTo [3] ⟨3, ![n0, n1, n2]⟩) (hu : 0 < u.numel)
    (a0 : Fin n0) (a1 : Fin n1) (a2 : Fin n2) :
    Host.reduce (FloatOps.maximumf (F := Ideal) (φ := .f32)) v b h hu (ix3 a0 a1 a2)
      = (Finset.univ : Finset (Fin n3)).fold max (b (Shape.Idx.first hu)) (fun k => v (ix4 a0 a1 a2 k)) :=
  (Host.reduce_eq_fold _ v b h hu _).trans (h.fold_fiber_r4_a3 _ _ _ v)

/-- The context rows, per batch. -/
def rX (X : FVec Ideal S33792x1536 .bf16) : FVec Ideal S4x256x1536 .f32 :=
  shapeCast S4x256x1536 (extf .f32 (extractStridedSlice S1024x1536 ![32768, 0] X slices_S33792x1536_S1024x1536_32768_0) bitsLt_bf16_f32) shapeCasts_S1024x1536_S4x256x1536

/-- A third of the columns as heads. -/
def rH (Y : FVec Ideal S4x256x512 .f32) : FVec Ideal S4x8x256x64 .f32 :=
  transpose S4x8x256x64 [0, 2, 1, 3] (shapeCast S4x256x8x64 Y shapeCasts_S4x256x512_S4x256x8x64) transposes_S4x256x8x64_S4x8x256x64_0_2_1_3

def rQ (X : FVec Ideal S33792x1536 .bf16) : FVec Ideal S4x8x256x64 .f32 := rH (extractStridedSlice S4x256x512 ![0, 0, 0] (rX X) slices_S4x256x1536_S4x256x512_0_0_0)
def rK (X : FVec Ideal S33792x1536 .bf16) : FVec Ideal S4x8x256x64 .f32 := rH (extractStridedSlice S4x256x512 ![0, 0, 512] (rX X) slices_S4x256x1536_S4x256x512_0_0_512)
def rV (X : FVec Ideal S33792x1536 .bf16) : FVec Ideal S4x8x256x64 .f32 := rH (extractStridedSlice S4x256x512 ![0, 0, 1024] (rX X) slices_S4x256x1536_S4x256x512_0_0_1024)

/-- The scaled scores. -/
def rS (Q K : FVec Ideal S4x8x256x64 .f32) : FVec Ideal S4x8x256x256 .f32 :=
  mulf (Host.dotGeneral dot_S4x8x256x64_S4x8x256x64_S4x8x256x256_3_3_2_2_01_01 none Q K) (broadcastInDim S4x8x256x256 ![] bcast_S_S4x8x256x256 (constant S_ .f32 0x3E000000#32))

/-- The rows' largest scores. -/
def rM (S : FVec Ideal S4x8x256x256 .f32) : FVec Ideal S4x8x256 .f32 :=
  Host.reduce FloatOps.maximumf S (constant S_ .f32 0xFF800000#32) reducesTo_S4x8x256x256_S4x8x256_d3 h_S_

/-- The exponentials of the scores less given row maxima. -/
def rE (S : FVec Ideal S4x8x256x256 .f32) (M : FVec Ideal S4x8x256 .f32) : FVec Ideal S4x8x256x256 .f32 :=
  Host.exp (subf S (broadcastInDim S4x8x256x256 ![0, 1, 2, 3] bcast_S4x8x256x1_S4x8x256x256_0_1_2_3 (broadcastInDim S4x8x256x1 ![0, 1, 2] bcast_S4x8x256_S4x8x256x1_0_1_2
    (maximumf (broadcastInDim S4x8x256 ![] bcast_S_S4x8x256 (constant S_ .f32 0xFF800000#32)) M))))

/-- The weights over their sums. -/
def rP (E : FVec Ideal S4x8x256x256 .f32) : FVec Ideal S4x8x256x256 .f32 :=
  Host.divf E (broadcastInDim S4x8x256x256 ![0, 1, 2, 3] bcast_S4x8x256x1_S4x8x256x256_0_1_2_3 (broadcastInDim S4x8x256x1 ![0, 1, 2] bcast_S4x8x256_S4x8x256x1_0_1_2
    (Host.reduceAdd E (constant S_ .f32 0x00000000#32) reducesTo_S4x8x256x256_S4x8x256_d3 h_S_)))

/-- The weighted values, all batches in one table of rows. -/
def rO (P : FVec Ideal S4x8x256x256 .f32) (V : FVec Ideal S4x8x256x64 .f32) : FVec Ideal S1024x512 .bf16 :=
  truncf .bf16 (shapeCast S1024x512 (shapeCast S4x256x512 (transpose S4x256x8x64 [0, 2, 1, 3]
    (Host.dotGeneral dot_S4x8x256x256_S4x8x256x64_S4x8x256x64_3_2_2_3_01_01 none P V) transposes_S4x8x256x64_S4x256x8x64_0_2_1_3)
    shapeCasts_S4x256x8x64_S4x256x512) shapeCasts_S4x256x512_S1024x512) bitsLt_bf16_f32

theorem rQ_at (X : FVec Ideal S33792x1536 .bf16) (b : Fin 4) (h : Fin 8) (q : Fin 256) (e : Fin 64) :
    rQ X (ix4 b h q e) = X (ix2 ⟨32768 + (b.val * 256 + q.val), by omega⟩ ⟨h.val * 64 + e.val, by omega⟩) := by
  pointwise [rQ, rH, rX]

theorem rK_at (X : FVec Ideal S33792x1536 .bf16) (b : Fin 4) (h : Fin 8) (q : Fin 256) (e : Fin 64) :
    rK X (ix4 b h q e) = X (ix2 ⟨32768 + (b.val * 256 + q.val), by omega⟩ ⟨512 + (h.val * 64 + e.val), by omega⟩) := by
  pointwise [rK, rH, rX]

theorem rV_at (X : FVec Ideal S33792x1536 .bf16) (b : Fin 4) (h : Fin 8) (q : Fin 256) (e : Fin 64) :
    rV X (ix4 b h q e) = X (ix2 ⟨32768 + (b.val * 256 + q.val), by omega⟩ ⟨1024 + (h.val * 64 + e.val), by omega⟩) := by
  pointwise [rV, rH, rX]

theorem rS_at (Q K : FVec Ideal S4x8x256x64 .f32) (b : Fin 4) (h : Fin 8) (q k : Fin 256) :
    rS Q K (ix4 b h q k) = (∑ e : Fin 64, (Q (ix4 b h q e) * K (ix4 b h k e) : EReal)) * Ideal.ofBits .f32 0x3E000000#32 := by
  pointwise [rS]

theorem rM_at (S : FVec Ideal S4x8x256x256 .f32) (b : Fin 4) (h : Fin 8) (q : Fin 256) : rM S (ix3 b h q) = top fun k => S (ix4 b h q k) :=
  lastMax4_at 4 8 256 256 S _ _ _ b h q

theorem rE_at (S : FVec Ideal S4x8x256x256 .f32) (M : FVec Ideal S4x8x256 .f32) (b : Fin 4) (h : Fin 8) (q k : Fin 256) :
    rE S M (ix4 b h q k) = Ideal.exp (S (ix4 b h q k) - max (Ideal.ofBits .f32 0xFF800000#32) (M (ix3 b h q))) := by
  pointwise [rE]

theorem rW_at (S : FVec Ideal S4x8x256x256 .f32) (b : Fin 4) (h : Fin 8) (q k : Fin 256) : rE S (rM S) (ix4 b h q k) = wt (fun k => S (ix4 b h q k)) k := by
  have hb : Ideal.ofBits .f32 0xFF800000#32 = ⊥ := by simp [Ideal.ofBits, Ideal.ieee]
  rw [rE_at, rM_at, hb, max_eq_right bot_le]
  rfl

theorem rP_at (E : FVec Ideal S4x8x256x256 .f32) (b : Fin 4) (h : Fin 8) (q k : Fin 256) :
    rP E (ix4 b h q k) = Ideal.div (E (ix4 b h q k)) (∑ x : Fin 256, E (ix4 b h q x)) := by
  pointwise [rP]

theorem rO_at (P : FVec Ideal S4x8x256x256 .f32) (V : FVec Ideal S4x8x256x64 .f32) (r : Fin 1024) (l : Fin 512) :
    rO P V (ix2 r l) = ∑ k : Fin 256, (P (ix4 ⟨r.val / 256, by omega⟩ ⟨l.val / 64, by omega⟩ ⟨r.val % 256, by omega⟩ k)
      * V (ix4 ⟨r.val / 256, by omega⟩ ⟨l.val / 64, by omega⟩ k ⟨l.val % 64, by omega⟩) : EReal) := by
  pointwise [rO]

/-- The reference's result, in stages. -/
theorem stages (m : (ℓ : Loc nD τ sig) → Buf (Elt Ideal) ℓ) (c : Dev nD) : res_out0 m c
    = rO (rP (rE (rS (rQ (m ((c.tc : Thread nD τ).loc main_arg0))) (rK (m ((c.tc : Thread nD τ).loc main_arg0))))
        (rM (rS (rQ (m ((c.tc : Thread nD τ).loc main_arg0))) (rK (m ((c.tc : Thread nD τ).loc main_arg0)))))))
      (rV (m ((c.tc : Thread nD τ).loc main_arg0))) := by
  unfold res_out0 res_main_v30 rO rP rE rM rS rQ rK rV rH rX
  rfl

/-- A positive real factor of every term of a sum. -/
theorem pos_mul_sum {ι : Type} (s : Finset ι) (c : ℝ) (hc : 0 < c) (f : ι → EReal) : (∑ k ∈ s, (c : EReal) * f k) = (c : EReal) * ∑ k ∈ s, f k := by
  classical
  induction s using Finset.induction_on with
  | empty => simp
  | insert a s ha ih => rw [Finset.sum_insert ha, Finset.sum_insert ha, ih,
      EReal.left_distrib_of_nonneg_of_ne_top (EReal.coe_nonneg.2 hc.le) (EReal.coe_ne_top c)]

/-- Over real scores, the weights may be divided by their sum before or after they meet the values, whatever the values are. -/
theorem att_eq (s v : Fin 256 → EReal) (hs : ∀ k, ∃ x : ℝ, s k = x) :
    (∑ k, (Ideal.div (wt s k) (∑ x, wt s x) * v k : EReal)) = att s v := by
  choose σ hσ using hs
  obtain rfl : s = fun k => (σ k : EReal) := funext hσ
  obtain ⟨μ, hμ⟩ := Cert.Attn.fold_real (n := 256) (by decide) σ
  have hw : ∀ k, wt (fun k => (σ k : EReal)) k = (Real.exp (σ k - μ) : EReal) := by
    intro k
    show Ideal.exp ((σ k : EReal) - top _) = _
    unfold top
    rw [hμ, ← EReal.coe_sub, Ideal.exp_coe]
  have hpos : 0 < ∑ k : Fin 256, Real.exp (σ k - μ) := Finset.sum_pos (fun _ _ => Real.exp_pos _) ⟨0, Finset.mem_univ _⟩
  unfold att
  simp only [hw]
  rw [← Cert.Attn.coe_sum, Ideal.div_coe hpos.ne', mul_comm _ (((1 / _ : ℝ)) : EReal), ← pos_mul_sum _ _ (one_div_pos.2 hpos)]
  refine Finset.sum_congr rfl fun k _ => ?_
  rw [Ideal.div_coe hpos.ne', mul_comm _ (((1 / _ : ℝ)) : EReal), mul_assoc]

/-- The stages together are the context attention. -/
theorem val_at (X : FVec Ideal S33792x1536 .bf16) (e : Cert.Pre_finite_ctx.fn (F := Ideal) X = fun _ => 1#1) :
    rO (rP (rE (rS (rQ X) (rK X)) (rM (rS (rQ X) (rK X))))) (rV X) = (fun j : S1024x512.Idx => ent X (j 0) (j 1)) := by
  funext j
  obtain ⟨r, l, rfl⟩ : ∃ (r : Fin 1024) (l : Fin 512), j = ix2 r l := ⟨_, _, (ix2_eta _).symm⟩
  rw [rO_at]
  simp only [rP_at, rW_at, rS_at, rQ_at, rK_at, rV_at]
  refine (att_eq _ _ fun k => ?_).trans ?_
  · have h8 : Ideal.ofBits .f32 0x3E000000#32 = ((1 / 8 : ℝ) : EReal) := by
      simp [Ideal.ofBits, Ideal.ieee, -EReal.coe_mul]
      norm_num
    obtain ⟨y, hy⟩ := Cert.EvenOutRefIdeal.Hand.sum_real (Finset.univ : Finset (Fin 64)) (fun e' => (X (ix2 ⟨32768 + (r.val / 256 * 256 + r.val % 256), by omega⟩ ⟨l.val / 64 * 64 + e'.val, by omega⟩)
      * X (ix2 ⟨32768 + (r.val / 256 * 256 + k.val), by omega⟩ ⟨512 + (l.val / 64 * 64 + e'.val), by omega⟩) : EReal)) fun e' => by
        obtain ⟨a, ha⟩ := Cert.Pre_finite_ctx.ctx_real X e ⟨r.val / 256 * 256 + r.val % 256, by omega⟩ ⟨l.val / 64 * 64 + e'.val, by omega⟩
        obtain ⟨b, hb⟩ := Cert.Pre_finite_ctx.ctx_real X e ⟨r.val / 256 * 256 + k.val, by omega⟩ ⟨512 + (l.val / 64 * 64 + e'.val), by omega⟩
        exact ⟨a * b, (congrArg₂ (· * ·) ha hb).trans (EReal.coe_mul a b).symm⟩
    exact ⟨y * (1 / 8), (congrArg₂ (· * ·) hy h8).trans (EReal.coe_mul y _).symm⟩
  · have h1 : (⟨32768 + (r.val / 256 * 256 + r.val % 256), by omega⟩ : Fin 33792) = ⟨32768 + r.val, by omega⟩ :=
      Fin.ext (by show 32768 + (r.val / 256 * 256 + r.val % 256) = 32768 + r.val; omega)
    have h2 : (⟨1024 + (l.val / 64 * 64 + l.val % 64), by omega⟩ : Fin 1536) = ⟨1024 + l.val, by omega⟩ :=
      Fin.ext (by show 1024 + (l.val / 64 * 64 + l.val % 64) = 1024 + l.val; omega)
    simp only [h1, h2]
    rfl

/-- The reference's result is the context attention. -/
theorem ref_at (m : (ℓ : Loc nD τ sig) → Buf (Elt Ideal) ℓ) (c : Dev nD)
    (e : Cert.Pre_finite_ctx.fn (F := Ideal) (m ((c.tc : Thread nD τ).loc main_arg0)) = fun _ => 1#1) :
    res_out0 m c = (fun j : S1024x512.Idx => ent (m ((c.tc : Thread nD τ).loc main_arg0)) (j 0) (j 1)) :=
  (stages m c).trans (val_at _ e)

end Cert.CtxAttnRefIdeal.Hand
-- ==== Proof.lean ====
/- The certificate: the frames of the kernel, its idealization and the reference, the one named constant, and the equality of
   the kernel's array with the reference's under the precondition `finite`. The mathematics is in the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.OddIn
public import proofs.«01_k».proof.Proof.Gen.OddIn.Skeleton
public import proofs.«01_k».proof.Proof.Gen.OddIn.Launch
public import proofs.«01_k».proof.Proof.Gen.OddIn.Points
public import proofs.«01_k».proof.Proof.Gen.OddIn.Frame
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame
public import proofs.«01_k».proof.Proof.Gen.OddInRefIdeal
public import proofs.«01_k».proof.Proof.Gen.OddInRefIdeal.Run
public import proofs.«01_k».proof.Proof.Gen.EvenQkv
public import proofs.«01_k».proof.Proof.Gen.EvenQkv.Skeleton
public import proofs.«01_k».proof.Proof.Gen.EvenQkv.Launch
public import proofs.«01_k».proof.Proof.Gen.EvenQkv.Points
public import proofs.«01_k».proof.Proof.Gen.EvenQkv.Frame
public import proofs.«01_k».proof.Proof.Gen.EvenQkvIdeal
public import proofs.«01_k».proof.Proof.Gen.EvenQkvIdeal.Skeleton
public import proofs.«01_k».proof.Proof.Gen.EvenQkvIdeal.Launch
public import proofs.«01_k».proof.Proof.Gen.EvenQkvIdeal.Points
public import proofs.«01_k».proof.Proof.Gen.EvenQkvIdeal.Frame
public import proofs.«01_k».proof.Proof.Gen.EvenQkvIdeal.Value
public import proofs.«01_k».proof.Proof.Gen.EvenQkvRefIdeal
public import proofs.«01_k».proof.Proof.Gen.EvenQkvRefIdeal.Run
public import proofs.«01_k».proof.Proof.Gen.EvenF
public import proofs.«01_k».proof.Proof.Gen.EvenF.Skeleton
public import proofs.«01_k».proof.Proof.Gen.EvenF.Launch
public import proofs.«01_k».proof.Proof.Gen.EvenF.Points
public import proofs.«01_k».proof.Proof.Gen.EvenF.Frame
public import proofs.«01_k».proof.Proof.Gen.EvenFIdeal
public import proofs.«01_k».proof.Proof.Gen.EvenFIdeal.Skeleton
public import proofs.«01_k».proof.Proof.Gen.EvenFIdeal.Launch
public import proofs.«01_k».proof.Proof.Gen.EvenFIdeal.Points
public import proofs.«01_k».proof.Proof.Gen.EvenFIdeal.Frame
public import proofs.«01_k».proof.Proof.Gen.EvenFIdeal.Value
public import proofs.«01_k».proof.Proof.Gen.EvenFRefIdeal
public import proofs.«01_k».proof.Proof.Gen.EvenFRefIdeal.Run
public import proofs.«01_k».proof.Proof.Gen.OddOut
public import proofs.«01_k».proof.Proof.Gen.OddOut.Skeleton
public import proofs.«01_k».proof.Proof.Gen.OddOut.Launch
public import proofs.«01_k».proof.Proof.Gen.OddOut.Points
public import proofs.«01_k».proof.Proof.Gen.OddOut.Frame
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutIdeal.Value
public import proofs.«01_k».proof.Proof.Gen.OddOutRefIdeal
public import proofs.«01_k».proof.Proof.Gen.OddOutRefIdeal.Run
public import proofs.«01_k».proof.Proof.Gen.EvenOut
public import proofs.«01_k».proof.Proof.Gen.EvenOut.Skeleton
public import proofs.«01_k».proof.Proof.Gen.EvenOut.Launch
public import proofs.«01_k».proof.Proof.Gen.EvenOut.Points
public import proofs.«01_k».proof.Proof.Gen.EvenOut.Frame
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.EvenOutRefIdeal
public import proofs.«01_k».proof.Proof.Gen.EvenOutRefIdeal.Run
public import proofs.«01_k».proof.Proof.Gen.CtxAttn
public import proofs.«01_k».proof.Proof.Gen.CtxAttn.Skeleton
public import proofs.«01_k».proof.Proof.Gen.CtxAttn.Launch
public import proofs.«01_k».proof.Proof.Gen.CtxAttn.Points
public import proofs.«01_k».proof.Proof.Gen.CtxAttn.Frame
public import proofs.«01_k».proof.Proof.Gen.CtxAttnIdeal
public import proofs.«01_k».proof.Proof.Gen.CtxAttnIdeal.Skeleton
public import proofs.«01_k».proof.Proof.Gen.CtxAttnIdeal.Launch
public import proofs.«01_k».proof.Proof.Gen.CtxAttnIdeal.Points
public import proofs.«01_k».proof.Proof.Gen.CtxAttnIdeal.Frame
public import proofs.«01_k».proof.Proof.Gen.CtxAttnIdeal.Value
public import proofs.«01_k».proof.Proof.Gen.CtxAttnRefIdeal
public import proofs.«01_k».proof.Proof.Gen.CtxAttnRefIdeal.Run
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalIdeal.Value
public import proofs.«01_k».proof.Proof.Gen.FinalRefIdeal
public import proofs.«01_k».proof.Proof.Gen.FinalRefIdeal.Run
public import proofs.«01_k».proof.Proof.Gen.PeerIn
public import proofs.«01_k».proof.Proof.Gen.PeerInIdeal
public import proofs.«01_k».proof.Proof.Gen.PeerInIdeal.Skeleton
public import proofs.«01_k».proof.Proof.Gen.PeerInIdeal.Launch
public import proofs.«01_k».proof.Proof.Gen.PeerInIdeal.Points
public import proofs.«01_k».proof.Proof.Gen.PeerInIdeal.Frame
public import proofs.«01_k».proof.Proof.Gen.PeerInRefIdeal
public import proofs.«01_k».proof.Proof.Gen.PeerInRefIdeal.Run
public import proofs.«01_k».proof.Proof.Gen.PeerLast
public import proofs.«01_k».proof.Proof.Gen.PeerLastIdeal
public import proofs.«01_k».proof.Proof.Gen.PeerLastIdeal.Skeleton
public import proofs.«01_k».proof.Proof.Gen.PeerLastIdeal.Launch
public import proofs.«01_k».proof.Proof.Gen.PeerLastIdeal.Points
public import proofs.«01_k».proof.Proof.Gen.PeerLastIdeal.Frame
public import proofs.«01_k».proof.Proof.Gen.PeerLastRefIdeal
public import proofs.«01_k».proof.Proof.Gen.PeerLastRefIdeal.Run
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModRefIdeal
public import proofs.«01_k».proof.Proof.Gen.ModRefIdeal.Run
public import proofs.«01_k».proof.Proof.Meet
public import proofs.«01_k».proof.Proof.OddIn
public import proofs.«01_k».proof.Proof.OddInRef
public import proofs.«01_k».proof.Proof.EvenQkv
public import proofs.«01_k».proof.Proof.EvenF
public import proofs.«01_k».proof.Proof.OddOut
public import proofs.«01_k».proof.Proof.EvenOut
public import proofs.«01_k».proof.Proof.EvenOutRun
public import proofs.«01_k».proof.Proof.EvenOutRef
public import proofs.«01_k».proof.Proof.Final
public import proofs.«01_k».proof.Proof.Mod
public import proofs.«01_k».proof.Proof.PeerInRun
public import proofs.«01_k».proof.Proof.PeerIn
public import proofs.«01_k».proof.Proof.PeerLastRun
public import proofs.«01_k».proof.Proof.PeerLast
public import proofs.«01_k».proof.Proof.CtxAttn
public import proofs.«01_k».proof.Proof.CtxAttnRef
public import Idealize.ShloMosaic.Lib.Claim
public import Idealize.ShloMosaic.Adequacy
public import Idealize.ShloMosaic.Init

@[expose] public noncomputable section

namespace Cert.Proof

open Idealize.ShloMosaic Idealize.SL.Sem Cert.Kernel

/-- The reference's run with its arguments kept; it declares no semaphore. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
        ∧ r.2.sem = fun _ => 0) :=
  (θ_run _ _ _).mono (fun r h => ⟨fun c => (h c).2, Idealize.ShloMosaic.sem_eq_zero_of_no_sems (by decide) r.2⟩)
    (Cert.ReferenceIdeal.Value.run m g)

theorem frame_OddInRef : Cert.quiescent_OddInRefIdeal (hOddInRefIdeal := Cert.OddInRefIdeal.Gen.facts) := fun m g _ =>
  (θ_run _ _ _).mono (fun r h => ⟨fun c => (h c).2.2, Idealize.ShloMosaic.sem_eq_zero_of_no_sems (by decide) r.2⟩)
    (Cert.OddInRefIdeal.Value.run m g)

theorem frame_EvenQkvRef : Cert.quiescent_EvenQkvRefIdeal (hEvenQkvRefIdeal := Cert.EvenQkvRefIdeal.Gen.facts) := fun m g _ =>
  (θ_run _ _ _).mono (fun r h => ⟨fun c => (h c).2, Idealize.ShloMosaic.sem_eq_zero_of_no_sems (by decide) r.2⟩)
    (Cert.EvenQkvRefIdeal.Value.run m g)

theorem frame_EvenFRef : Cert.quiescent_EvenFRefIdeal (hEvenFRefIdeal := Cert.EvenFRefIdeal.Gen.facts) := fun m g _ =>
  (θ_run _ _ _).mono (fun r h => ⟨fun c => (h c).2, Idealize.ShloMosaic.sem_eq_zero_of_no_sems (by decide) r.2⟩)
    (Cert.EvenFRefIdeal.Value.run m g)

theorem frame_OddOutRef : Cert.quiescent_OddOutRefIdeal (hOddOutRefIdeal := Cert.OddOutRefIdeal.Gen.facts) := fun m g _ =>
  (θ_run _ _ _).mono (fun r h => ⟨fun c => (h c).2, Idealize.ShloMosaic.sem_eq_zero_of_no_sems (by decide) r.2⟩)
    (Cert.OddOutRefIdeal.Value.run m g)

theorem equal_OddIn : Cert.algebraic_OddInIdeal_OddInRefIdeal (hOddInIdeal := Cert.OddInIdeal.Gen.facts) (hOddInRefIdeal := Cert.OddInRefIdeal.Gen.facts) := by
  intro m g m' g' _ hagree
  refine ⟨fun c => (Cert.OddInIdeal.Gen.dats m 0 c).arrAt 7 Cert.OddInIdeal.cfg0.N, fun c => (Cert.OddInIdeal.Gen.dats m 0 c).arrAt 8 Cert.OddInIdeal.cfg0.N,
    Cert.OddInIdeal.Hand.run_blocks m g, ?_⟩
  refine (θ_run _ _ _).mono (fun r h c => ⟨(h c).1.trans ?_, (h c).2.1.trans ?_, (h c).2.2⟩) (Cert.OddInRefIdeal.Value.run m' g')
  · refine (Cert.OddInRefIdeal.Hand.ref_at m' c).trans ?_
    obtain ⟨a0, a1, a2, a3, a4⟩ := hagree c
    rw [a0, a1, a2, a3, a4]
    exact (Cert.OddInIdeal.Hand.final7 m c).symm
  · refine (Cert.OddInRefIdeal.Hand.ref_vals_at m' c).trans ?_
    obtain ⟨a0, a1, a2, a3, a4⟩ := hagree c
    rw [a0, a1, a2, a3, a4]
    exact (Cert.OddInIdeal.Hand.final8 m c).symm

theorem equal_EvenQkv : Cert.algebraic_EvenQkvIdeal_EvenQkvRefIdeal (hEvenQkvIdeal := Cert.EvenQkvIdeal.Gen.facts) (hEvenQkvRefIdeal := Cert.EvenQkvRefIdeal.Gen.facts) := by
  intro m g m' g' _ hagree
  refine ⟨fun c => (Cert.EvenQkvIdeal.Gen.dats m 0 c).arrAt 5 Cert.EvenQkvIdeal.cfg0.N, Cert.EvenQkvIdeal.Value.run_blocks m g, ?_⟩
  refine (θ_run _ _ _).mono (fun r h c => ⟨(h c).1.trans ?_, (h c).2⟩) (Cert.EvenQkvRefIdeal.Value.run m' g')
  refine (Cert.EvenQkvRefIdeal.Hand.ref_at m' c).trans ?_
  obtain ⟨a0, a1, a2, a3, a4⟩ := hagree c
  rw [a0, a1, a2, a3, a4]
  exact (Cert.EvenQkvIdeal.Hand.final m c).symm

theorem equal_EvenF : Cert.algebraic_EvenFIdeal_EvenFRefIdeal (hEvenFIdeal := Cert.EvenFIdeal.Gen.facts) (hEvenFRefIdeal := Cert.EvenFRefIdeal.Gen.facts) := by
  intro m g m' g' _ hagree
  refine ⟨fun c => (Cert.EvenFIdeal.Gen.dats m 0 c).arrAt 5 Cert.EvenFIdeal.cfg0.N, Cert.EvenFIdeal.Value.run_blocks m g, ?_⟩
  refine (θ_run _ _ _).mono (fun r h c => ⟨(h c).1.trans ?_, (h c).2⟩) (Cert.EvenFRefIdeal.Value.run m' g')
  refine (Cert.EvenFRefIdeal.Hand.ref_at m' c).trans ?_
  obtain ⟨a0, a1, a2, a3, a4⟩ := hagree c
  rw [a0, a1, a2, a3, a4]
  exact (Cert.EvenFIdeal.Hand.final m c).symm

theorem equal_OddOut : Cert.algebraic_OddOutIdeal_OddOutRefIdeal (hOddOutIdeal := Cert.OddOutIdeal.Gen.facts) (hOddOutRefIdeal := Cert.OddOutRefIdeal.Gen.facts) := by
  intro m g m' g' _ hagree
  refine ⟨fun c => (Cert.OddOutIdeal.Gen.dats m 0 c).arrAt 4 Cert.OddOutIdeal.cfg0.N, Cert.OddOutIdeal.Value.run_blocks m g, ?_⟩
  refine (θ_run _ _ _).mono (fun r h c => ⟨(h c).1.trans ?_, (h c).2⟩) (Cert.OddOutRefIdeal.Value.run m' g')
  refine (Cert.OddOutRefIdeal.Hand.ref_at _ _ _ _).trans ?_
  obtain ⟨a0, a1, a2, a3⟩ := hagree c
  rw [a0, a1, a2, a3]
  exact (Cert.OddOutIdeal.Hand.final m c).symm

theorem frame_FinalRef : Cert.quiescent_FinalRefIdeal (hFinalRefIdeal := Cert.FinalRefIdeal.Gen.facts) := fun m g _ =>
  (θ_run _ _ _).mono (fun r h => ⟨fun c => (h c).2, Idealize.ShloMosaic.sem_eq_zero_of_no_sems (by decide) r.2⟩)
    (Cert.FinalRefIdeal.Value.run m g)

theorem equal_Final : Cert.algebraic_FinalIdeal_FinalRefIdeal (hFinalIdeal := Cert.FinalIdeal.Gen.facts) (hFinalRefIdeal := Cert.FinalRefIdeal.Gen.facts) := by
  intro m g m' g' _ hagree
  refine ⟨fun c => (Cert.FinalIdeal.Gen.dats m 0 c).arrAt 2 Cert.FinalIdeal.cfg0.N, Cert.FinalIdeal.Value.run_blocks m g, ?_⟩
  refine (θ_run _ _ _).mono (fun r h c => ⟨(h c).1.trans ?_, (h c).2⟩) (Cert.FinalRefIdeal.Value.run m' g')
  refine (Cert.FinalRefIdeal.Hand.ref_at _ _).trans ?_
  obtain ⟨a0, a1⟩ := hagree c
  rw [a0, a1]
  exact (Cert.FinalIdeal.Hand.final m c).symm

theorem frame_ModRef : Cert.quiescent_ModRefIdeal (hModRefIdeal := Cert.ModRefIdeal.Gen.facts) := fun m g _ =>
  (θ_run _ _ _).mono (fun r h => ⟨fun c => (h c).2, Idealize.ShloMosaic.sem_eq_zero_of_no_sems (by decide) r.2⟩)
    (Cert.ModRefIdeal.Value.run m g)

theorem equal_Mod : Cert.algebraic_ModIdeal_ModRefIdeal (hModIdeal := Cert.ModIdeal.Gen.facts) (hModRefIdeal := Cert.ModRefIdeal.Gen.facts) := by
  intro m g m' g' _ hagree
  refine ⟨fun c => Cert.ModIdeal.Hand.tail ((Cert.ModIdeal.Gen.dats m 0 c).arrAt 2 Cert.ModIdeal.cfg0.N)
    (m ((c.tc : Thread Cert.ModIdeal.nD Cert.ModIdeal.τ).loc Cert.ModIdeal.main_arg3)), Cert.ModIdeal.Hand.run m g, ?_⟩
  refine (θ_run _ _ _).mono (fun r h c => ⟨(h c).1.trans ?_, (h c).2⟩) (Cert.ModRefIdeal.Value.run m' g')
  refine (Cert.ModRefIdeal.Hand.ref_at _ _ _ _).trans ?_
  obtain ⟨a0, a1, a2, a3⟩ := hagree c
  rw [a0, a1, a2, a3]
  exact (Cert.ModIdeal.Hand.value m c).symm

/-- The PEER projection and its idealization have the same text. -/
theorem same_PeerIn : Cert.PeerIn.defs (F := Bits) = Cert.PeerInIdeal.defs (F := Bits) := by
  have e : Cert.PeerIn.defs₀ (F := Bits) = Cert.PeerInIdeal.defs₀ (F := Bits) := by
    unfold Cert.PeerIn.defs₀ Cert.PeerInIdeal.defs₀
    refine congrArg _ (funext fun n => funext fun p => ?_)
    match n, p with
    | 0, (t, s) => rfl
  exact congrArg (Pipeline.defs Cert.PeerInIdeal.pcfgs) e

/-- So its frame in words is that of the idealization, which holds for any float values. -/
theorem frame_PeerIn : Cert.quiescent_PeerIn (hPeerIn := Cert.PeerIn.Gen.facts) := fun m g _ => by
  rw [same_PeerIn]
  exact Cert.PeerInIdeal.Hand.frame (F := Bits) m g

theorem frame_PeerInRef : Cert.quiescent_PeerInRefIdeal (hPeerInRefIdeal := Cert.PeerInRefIdeal.Gen.facts) := fun m g _ =>
  (θ_run _ _ _).mono (fun r h => ⟨fun c => (h c).2.2, Idealize.ShloMosaic.sem_eq_zero_of_no_sems (by decide) r.2⟩)
    (Cert.PeerInRefIdeal.Value.run m g)

/-- The equality of the PEER routing's projection: its queries, and the normed rows turned over. -/
theorem equal_PeerIn : Cert.algebraic_PeerInIdeal_PeerInRefIdeal (hPeerInIdeal := Cert.PeerInIdeal.Gen.facts) (hPeerInRefIdeal := Cert.PeerInRefIdeal.Gen.facts) := by
  intro m g m' g' _ hagree
  refine ⟨fun c => (Cert.PeerInIdeal.Hand.dats m 0 c).arrAt 5 Cert.PeerInIdeal.cfg0.N, fun c => (Cert.PeerInIdeal.Hand.dats m 0 c).arrAt 6 Cert.PeerInIdeal.cfg0.N,
    Cert.PeerInIdeal.Hand.run m g, ?_⟩
  refine (θ_run _ _ _).mono (fun r h c => ⟨(h c).1.trans ?_, (h c).2.1.trans ?_, (h c).2.2⟩) (Cert.PeerInRefIdeal.Value.run m' g')
  · refine (Cert.PeerInRefIdeal.Hand.queries_at _ _ _ _ _).trans ?_
    obtain ⟨a0, a1, a2, a3, a4⟩ := hagree c
    rw [a0, a1, a2, a3, a4]
    exact (Cert.PeerInIdeal.Hand.final5 m c).symm
  · refine (Cert.PeerInRefIdeal.Hand.turned_at _ _ _ _).trans ?_
    obtain ⟨a0, a1, a2, a3, a4⟩ := hagree c
    rw [a0, a1, a2, a3]
    exact (Cert.PeerInIdeal.Hand.final6 m c).symm

/-- The last PEER projection and its idealization have the same text. -/
theorem same_PeerLast : Cert.PeerLast.defs (F := Bits) = Cert.PeerLastIdeal.defs (F := Bits) := by
  have e : Cert.PeerLast.defs₀ (F := Bits) = Cert.PeerLastIdeal.defs₀ (F := Bits) := by
    unfold Cert.PeerLast.defs₀ Cert.PeerLastIdeal.defs₀
    refine congrArg _ (funext fun n => funext fun p => ?_)
    match n, p with
    | 0, (t, s) => rfl
  exact congrArg (Pipeline.defs Cert.PeerLastIdeal.pcfgs) e

/-- So its frame in words is that of the idealization, which holds for any float values. -/
theorem frame_PeerLast : Cert.quiescent_PeerLast (hPeerLast := Cert.PeerLast.Gen.facts) := fun m g _ => by
  rw [same_PeerLast]
  exact Cert.PeerLastIdeal.Hand.frame (F := Bits) m g

theorem frame_PeerLastRef : Cert.quiescent_PeerLastRefIdeal (hPeerLastRefIdeal := Cert.PeerLastRefIdeal.Gen.facts) := fun m g _ =>
  (θ_run _ _ _).mono (fun r h => ⟨fun c => (h c).2.2, Idealize.ShloMosaic.sem_eq_zero_of_no_sems (by decide) r.2⟩)
    (Cert.PeerLastRefIdeal.Value.run m g)

/-- The equality of the last layer's PEER projection, on the latent rows alone: its queries, and the normed rows turned over. -/
theorem equal_PeerLast : Cert.algebraic_PeerLastIdeal_PeerLastRefIdeal (hPeerLastIdeal := Cert.PeerLastIdeal.Gen.facts) (hPeerLastRefIdeal := Cert.PeerLastRefIdeal.Gen.facts) := by
  intro m g m' g' _ hagree
  refine ⟨fun c => (Cert.PeerLastIdeal.Hand.dats m 0 c).arrAt 5 Cert.PeerLastIdeal.cfg0.N, fun c => (Cert.PeerLastIdeal.Hand.dats m 0 c).arrAt 6 Cert.PeerLastIdeal.cfg0.N,
    Cert.PeerLastIdeal.Hand.run m g, ?_⟩
  refine (θ_run _ _ _).mono (fun r h c => ⟨(h c).1.trans ?_, (h c).2.1.trans ?_, (h c).2.2⟩) (Cert.PeerLastRefIdeal.Value.run m' g')
  · refine (Cert.PeerLastRefIdeal.Hand.queries_at _ _ _ _ _).trans ?_
    obtain ⟨a0, a1, a2, a3, a4⟩ := hagree c
    rw [a0, a1, a2, a3, a4]
    exact (Cert.PeerLastIdeal.Hand.final5 m c).symm
  · refine (Cert.PeerLastRefIdeal.Hand.turned_at _ _ _ _).trans ?_
    obtain ⟨a0, a1, a2, a3, a4⟩ := hagree c
    rw [a0, a1, a2, a3]
    exact (Cert.PeerLastIdeal.Hand.final6 m c).symm

theorem frame_EvenOutRef (m : (ℓ : Loc Cert.EvenOutRefIdeal.nD Cert.EvenOutRefIdeal.τ Cert.EvenOutRefIdeal.sig) → Buf (Elt Ideal) ℓ)
    (g : Dev Cert.EvenOutRefIdeal.nD → PrngReg) :
    θ_run (Cert.EvenOutRefIdeal.defs (F := Ideal)) (onTc (τ := Cert.EvenOutRefIdeal.τ) (Cert.EvenOutRefIdeal.main (F := Ideal))) ⟨m, fun _ => 0, g⟩
      (fun r => (∀ c : Dev Cert.EvenOutRefIdeal.nD,
        r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
        ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
        ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
        ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
        ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4))
        ∧ r.2.sem = fun _ => 0) :=
  (θ_run _ _ _).mono (fun r h => ⟨fun c => (h c).2, Idealize.ShloMosaic.sem_eq_zero_of_no_sems (by decide) r.2⟩)
    (Cert.EvenOutRefIdeal.Value.run m g)

/-- The equality of the even layers' out-projection: its two calls one after the other against the reference's one product. -/
theorem equal_EvenOut : Cert.algebraic_EvenOutIdeal_EvenOutRefIdeal_pre_finite_mix (hEvenOutIdeal := Cert.EvenOutIdeal.Gen.facts)
    (hEvenOutRefIdeal := Cert.EvenOutRefIdeal.Gen.facts) (hPre_finite_mix := Cert.Pre_finite_mix.facts) := by
  intro m g m' g' hpre hagree
  refine ⟨fun c => Cert.EvenOutIdeal.Gen.W4 m g c (Proc.devRef .tc Cert.EvenOutIdeal.main_v6), Cert.EvenOutIdeal.Hand.run m g, ?_⟩
  refine (θ_run _ _ _).mono (fun r h c => ⟨(h c).1.trans ?_, (h c).2⟩) (Cert.EvenOutRefIdeal.Value.run m' g')
  obtain ⟨a0, a1, a2, a3, a4⟩ := hagree c
  rw [a0, a1, a2, a3, a4]
  exact (Cert.EvenOutRefIdeal.Hand.ref_at _ _ _ _ _ (hpre c)).trans (Cert.EvenOutIdeal.Hand.final m g c).symm

theorem frame_CtxAttnRef (m : (ℓ : Loc Cert.CtxAttnRefIdeal.nD Cert.CtxAttnRefIdeal.τ Cert.CtxAttnRefIdeal.sig) → Buf (Elt Ideal) ℓ)
    (g : Dev Cert.CtxAttnRefIdeal.nD → PrngReg) :
    θ_run (Cert.CtxAttnRefIdeal.defs (F := Ideal)) (onTc (τ := Cert.CtxAttnRefIdeal.τ) (Cert.CtxAttnRefIdeal.main (F := Ideal))) ⟨m, fun _ => 0, g⟩
      (fun r => (∀ c : Dev Cert.CtxAttnRefIdeal.nD,
        r.2.mem ((c.tc : Thread Cert.CtxAttnRefIdeal.nD Cert.CtxAttnRefIdeal.τ).loc Cert.CtxAttnRefIdeal.main_arg0) = m ((c.tc : Thread Cert.CtxAttnRefIdeal.nD Cert.CtxAttnRefIdeal.τ).loc Cert.CtxAttnRefIdeal.main_arg0))
        ∧ r.2.sem = fun _ => 0) :=
  (θ_run _ _ _).mono (fun r h => ⟨fun c => (h c).2, Idealize.ShloMosaic.sem_eq_zero_of_no_sems (by decide) r.2⟩)
    (Cert.CtxAttnRefIdeal.Value.run m g)

/-- The equality of the context attention. -/
theorem equal_CtxAttn : Cert.algebraic_CtxAttnIdeal_CtxAttnRefIdeal_pre_finite_ctx (hCtxAttnIdeal := Cert.CtxAttnIdeal.Gen.facts)
    (hCtxAttnRefIdeal := Cert.CtxAttnRefIdeal.Gen.facts) (hPre_finite_ctx := Cert.Pre_finite_ctx.facts) := by
  intro m g m' g' hpre hagree
  refine ⟨fun c => (Cert.CtxAttnIdeal.Gen.dats m 0 c).arrAt 3 Cert.CtxAttnIdeal.cfg0.N, Cert.CtxAttnIdeal.Value.run_blocks m g, ?_⟩
  refine (θ_run _ _ _).mono (fun r h c => ⟨(h c).1.trans ?_, (h c).2⟩) (Cert.CtxAttnRefIdeal.Value.run m' g')
  refine (Cert.CtxAttnRefIdeal.Hand.ref_at m' c (by rw [hagree c]; exact hpre c)).trans ?_
  rw [hagree c]
  exact (Cert.CtxAttnIdeal.Hand.final m c).symm

/-- The differential attention's equality. -/
theorem equal_Kernel : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  refine ⟨fun c => (Cert.KernelIdeal.Gen.dats m 0 c).arrAt 8 Cert.KernelIdeal.cfg0.N, ?_, ?_⟩
  · exact Cert.KernelIdeal.Value.run_blocks m g
  · refine (θ_run _ _ _).mono (fun r h c => ⟨(h c).1.trans ?_, (h c).2⟩) (Cert.ReferenceIdeal.Value.run m' g')
    refine (Cert.ReferenceIdeal.Value.res_stages m' c).trans ?_
    obtain ⟨a0, a1, a2, a3, a4, a5⟩ := hagree c
    rw [a0, a1, a2, a3, a4, a5]
    exact (Cert.KernelIdeal.Hand.meet m c (hpre c)).symm

/-- Everything the certificate claims. -/
theorem claim : Cert.Claim := by
  refine ⟨Cert.Kernel.Gen.facts, Cert.KernelIdeal.Gen.facts, Cert.ReferenceIdeal.Gen.facts,
    Cert.OddIn.Gen.facts, Cert.OddInIdeal.Gen.facts, Cert.OddInRefIdeal.Gen.facts,
    Cert.EvenQkv.Gen.facts, Cert.EvenQkvIdeal.Gen.facts, Cert.EvenQkvRefIdeal.Gen.facts,
    Cert.EvenF.Gen.facts, Cert.EvenFIdeal.Gen.facts, Cert.EvenFRefIdeal.Gen.facts,
    Cert.OddOut.Gen.facts, Cert.OddOutIdeal.Gen.facts, Cert.OddOutRefIdeal.Gen.facts,
    Cert.Final.Gen.facts, Cert.FinalIdeal.Gen.facts, Cert.FinalRefIdeal.Gen.facts,
    Cert.Mod.Gen.facts, Cert.ModIdeal.Gen.facts, Cert.ModRefIdeal.Gen.facts,
    Cert.PeerIn.Gen.facts, Cert.PeerInIdeal.Gen.facts, Cert.PeerInRefIdeal.Gen.facts,
    Cert.PeerLast.Gen.facts, Cert.PeerLastIdeal.Gen.facts, Cert.PeerLastRefIdeal.Gen.facts,
    Cert.EvenOut.Gen.facts, Cert.EvenOutIdeal.Gen.facts, Cert.EvenOutRefIdeal.Gen.facts,
    Cert.CtxAttn.Gen.facts, Cert.CtxAttnIdeal.Gen.facts, Cert.CtxAttnRefIdeal.Gen.facts,
    Cert.Pre_finite.facts, Cert.Pre_finite_mix.facts, Cert.Pre_finite_ctx.facts,
    fun m g _ => Cert.Kernel.Gen.frame m g, fun m g _ => Cert.KernelIdeal.Gen.frame m g,
    fun m g _ => Cert.KernelIdeal.Gen.frame m g, fun m g _ => frame_ref m g, fun m g _ => frame_ref m g,
    fun m g _ => Cert.OddIn.Gen.frame m g, fun m g _ => Cert.OddInIdeal.Gen.frame m g, frame_OddInRef,
    fun m g _ => Cert.EvenQkv.Gen.frame m g, fun m g _ => Cert.EvenQkvIdeal.Gen.frame m g, frame_EvenQkvRef,
    fun m g _ => Cert.EvenF.Gen.frame m g, fun m g _ => Cert.EvenFIdeal.Gen.frame m g, frame_EvenFRef,
    fun m g _ => Cert.OddOut.Gen.frame m g, fun m g _ => Cert.OddOutIdeal.Gen.frame m g, frame_OddOutRef,
    fun m g _ => Cert.Final.Gen.frame m g, fun m g _ => Cert.FinalIdeal.Gen.frame m g, frame_FinalRef,
    fun m g _ => Cert.Mod.Gen.frame m g, fun m g _ => Cert.ModIdeal.Gen.frame m g, frame_ModRef,
    frame_PeerIn, fun m g _ => Cert.PeerInIdeal.Hand.frame m g, frame_PeerInRef,
    frame_PeerLast, fun m g _ => Cert.PeerLastIdeal.Hand.frame m g, frame_PeerLastRef,
    fun m g _ => Cert.EvenOut.Gen.frame m g, fun m g _ => Cert.EvenOutIdeal.Gen.frame m g, fun m g _ => Cert.EvenOutIdeal.Gen.frame m g,
    fun m g _ => frame_EvenOutRef m g, fun m g _ => frame_EvenOutRef m g,
    fun m g _ => Cert.CtxAttn.Gen.frame m g, fun m g _ => Cert.CtxAttnIdeal.Gen.frame m g, fun m g _ => Cert.CtxAttnIdeal.Gen.frame m g,
    fun m g _ => frame_CtxAttnRef m g, fun m g _ => frame_CtxAttnRef m g,
    IdealRules.named_const.statement _ _ _ _ _ rfl, equal_Kernel, trivial, equal_OddIn, trivial, equal_EvenQkv, trivial, equal_EvenF, trivial, equal_OddOut,
    trivial, equal_Final, trivial, equal_Mod, trivial, equal_PeerIn, trivial, equal_PeerLast, trivial, equal_EvenOut, trivial, equal_CtxAttn⟩

end Cert.Proof
